-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  IdealRules.named_const.Statement Cert.KernelIdeal.κ "q_scale" .f32 0x3DD53B95#32 (((Real.sqrt 192)⁻¹ * (Real.log 2)⁻¹ : ℝ) : EReal)
  ∧ IdealRules.named_const.Statement Cert.KernelIdeal.κ "neg_log2e" .f32 0xBFB8AA3B#32 ((-((Real.log 2)⁻¹) : ℝ) : EReal)
  ∧ IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  IdealRules.named_const.Statement Cert.Kernel2Ideal.κ "neg_log2e" .f32 0xBFB8AA3B#32 ((-((Real.log 2)⁻¹) : ℝ) : EReal)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
-- ==== Pre_scores_finite.lean ====
abbrev S16x2048x1024 : Shape := ⟨3, ![16, 2048, 1024]⟩
abbrev S1024 : Shape := ⟨1, ![1024]⟩
abbrev S1024x320 : Shape := ⟨2, ![1024, 320]⟩
abbrev S256 : Shape := ⟨1, ![256]⟩
abbrev S256x8x128 : Shape := ⟨3, ![256, 8, 128]⟩
abbrev S1024x1408 : Shape := ⟨2, ![1024, 1408]⟩
abbrev S384 : Shape := ⟨1, ![384]⟩
abbrev S384x8x192 : Shape := ⟨3, ![384, 8, 192]⟩
abbrev S1024x1024 : Shape := ⟨2, ![1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x320 : S_.BroadcastsInDim S1024x320 (![] : Fin 0 → Fin S1024x320.rank)
  reducesTo_S1024x320_S_d0_1 : S1024x320.ReducesTo [0, 1] S_
  bcast_S_S256 : S_.BroadcastsInDim S256 (![] : Fin 0 → Fin S256.rank)
  reducesTo_S256_S_d0 : S256.ReducesTo [0] S_
  bcast_S_S256x8x128 : S_.BroadcastsInDim S256x8x128 (![] : Fin 0 → Fin S256x8x128.rank)
  reducesTo_S256x8x128_S_d0_1_2 : S256x8x128.ReducesTo [0, 1, 2] S_
  bcast_S_S1024x1408 : S_.BroadcastsInDim S1024x1408 (![] : Fin 0 → Fin S1024x1408.rank)
  reducesTo_S1024x1408_S_d0_1 : S1024x1408.ReducesTo [0, 1] S_
  bcast_S_S384 : S_.BroadcastsInDim S384 (![] : Fin 0 → Fin S384.rank)
  reducesTo_S384_S_d0 : S384.ReducesTo [0] S_
  bcast_S_S384x8x192 : S_.BroadcastsInDim S384x8x192 (![] : Fin 0 → Fin S384x8x192.rank)
  reducesTo_S384x8x192_S_d0_1_2 : S384x8x192.ReducesTo [0, 1, 2] S_

variable [Facts]

def fn_part2 {F : FTy → Type} [FloatOps F] (main_arg8 : FVec F S384 .f32) (main_arg9 : FVec F S384x8x192 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384x8x192 .f32 := Host.absf main_arg9
  let main_cst_14 : FVec F S_ .f32 := constant S_ .f32 0x7F800000#32
  let main_v40 : FVec F S384x8x192 .f32 := broadcastInDim S384x8x192 ![] bcast_S_S384x8x192 main_cst_14
  let main_v41 : IVec S384x8x192 1 := cmpf .olt main_v39 main_v40
  let main_c_15 : IVec S_ 1 := constantI S_ 1 1#1
  let main_v42 : IVec S_ 1 := (fun x v => Host.reduce IntOp.andi x v reducesTo_S384x8x192_S_d0_1_2 h_S_) main_v41 main_c_15
  let main_v43 : IVec S_ 1 := andi main_v38 main_v42
  main_v43

def fn_part1 {F : FTy → Type} [FloatOps F] (main_arg4 : FVec F S256x8x128 .f32) (main_arg6 : FVec F S1024 .f32) (main_arg7 : FVec F S1024x1408 .f32) (main_arg8 : FVec F S384 .f32) (main_arg9 : FVec F S384x8x192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x8x128 .f32 := Host.absf main_arg4
  let main_cst_6 : FVec F S_ .f32 := constant S_ .f32 0x7F800000#32
  let main_v20 : FVec F S256x8x128 .f32 := broadcastInDim S256x8x128 ![] bcast_S_S256x8x128 main_cst_6
  let main_v21 : IVec S256x8x128 1 := cmpf .olt main_v19 main_v20
  let main_c_7 : IVec S_ 1 := constantI S_ 1 1#1
  let main_v22 : IVec S_ 1 := (fun x v => Host.reduce IntOp.andi x v reducesTo_S256x8x128_S_d0_1_2 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1408 .f32 := Host.absf main_arg7
  let main_cst_10 : FVec F S_ .f32 := constant S_ .f32 0x7F800000#32
  let main_v30 : FVec F S1024x1408 .f32 := broadcastInDim S1024x1408 ![] bcast_S_S1024x1408 main_cst_10
  let main_v31 : IVec S1024x1408 1 := cmpf .olt main_v29 main_v30
  let main_c_11 : IVec S_ 1 := constantI S_ 1 1#1
  let main_v32 : IVec S_ 1 := (fun x v => Host.reduce IntOp.andi x v reducesTo_S1024x1408_S_d0_1 h_S_) main_v31 main_c_11
  let main_v33 : IVec S_ 1 := andi main_v28 main_v32
  fn_part2 (F := F) main_arg8 main_arg9 main_v33

def fn {F : FTy → Type} [FloatOps F] (main_arg0 : FVec F S16x2048x1024 .f32) (main_arg1 : FVec F S1024 .f32) (main_arg2 : FVec F S1024x320 .f32) (main_arg3 : FVec F S256 .f32) (main_arg4 : FVec F S256x8x128 .f32) (main_arg5 : FVec F S256x8x128 .f32) (main_arg6 : FVec F S1024 .f32) (main_arg7 : FVec F S1024x1408 .f32) (main_arg8 : FVec F S384 .f32) (main_arg9 : FVec F S384x8x192 .f32) (main_arg10 : FVec F S1024x1024 .f32) (main_arg11 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x320 .f32 := Host.absf main_arg2
  let main_cst_2 : FVec F S_ .f32 := constant S_ .f32 0x7F800000#32
  let main_v10 : FVec F S1024x320 .f32 := broadcastInDim S1024x320 ![] bcast_S_S1024x320 main_cst_2
  let main_v11 : IVec S1024x320 1 := cmpf .olt main_v9 main_v10
  let main_c_3 : IVec S_ 1 := constantI S_ 1 1#1
  let main_v12 : IVec S_ 1 := (fun x v => Host.reduce IntOp.andi x v reducesTo_S1024x320_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg6 main_arg7 main_arg8 main_arg9 main_v13 main_v16
-- ==== Kernel.lean ====
abbrev S16x2048x1024 : Shape := ⟨3, ![16, 2048, 1024]⟩
abbrev S1024 : Shape := ⟨1, ![1024]⟩
abbrev S1024x320 : Shape := ⟨2, ![1024, 320]⟩
abbrev S256 : Shape := ⟨1, ![256]⟩
abbrev S256x8x128 : Shape := ⟨3, ![256, 8, 128]⟩
abbrev S1024x1408 : Shape := ⟨2, ![1024, 1408]⟩
abbrev S384 : Shape := ⟨1, ![384]⟩
abbrev S384x8x192 : Shape := ⟨3, ![384, 8, 192]⟩
abbrev S1024x1024 : Shape := ⟨2, ![1024, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1024x64 : Shape := ⟨2, ![1024, 64]⟩
abbrev S1024x256 : Shape := ⟨2, ![1024, 256]⟩
abbrev S1024x32 : Shape := ⟨2, ![1024, 32]⟩
abbrev S1024x128 : Shape := ⟨2, ![1024, 128]⟩
abbrev S128x1024 : Shape := ⟨2, ![128, 1024]⟩
abbrev S256x1024 : Shape := ⟨2, ![256, 1024]⟩
abbrev S1024x384 : Shape := ⟨2, ![1024, 384]⟩
abbrev S384x8x64 : Shape := ⟨3, ![384, 8, 64]⟩
abbrev S384x8x128 : Shape := ⟨3, ![384, 8, 128]⟩
abbrev S384x8x32 : Shape := ⟨3, ![384, 8, 32]⟩
abbrev S384x8x256 : Shape := ⟨3, ![384, 8, 256]⟩
abbrev S384x2048 : Shape := ⟨2, ![384, 2048]⟩
abbrev S128x2048 : Shape := ⟨2, ![128, 2048]⟩
abbrev S1x1024 : Shape := ⟨2, ![1, 1024]⟩
abbrev S1x256 : Shape := ⟨2, ![1, 256]⟩
abbrev S1x384 : Shape := ⟨2, ![1, 384]⟩
abbrev S16x8x2048x192 : Shape := ⟨4, ![16, 8, 2048, 192]⟩
abbrev S16x8x192x2048 : Shape := ⟨4, ![16, 8, 192, 2048]⟩
abbrev S16x8x2048x128 : Shape := ⟨4, ![16, 8, 2048, 128]⟩
abbrev S1x1024x1024 : Shape := ⟨3, ![1, 1024, 1024]⟩
abbrev S1x8x1024x192 : Shape := ⟨4, ![1, 8, 1024, 192]⟩
abbrev S1x8x192x1024 : Shape := ⟨4, ![1, 8, 192, 1024]⟩
abbrev S1x8x1024x128 : Shape := ⟨4, ![1, 8, 1024, 128]⟩
abbrev S1024x1 : Shape := ⟨2, ![1024, 1]⟩
abbrev S64x1024 : Shape := ⟨2, ![64, 1024]⟩
abbrev S1x1x128x1024 : Shape := ⟨4, ![1, 1, 128, 1024]⟩
abbrev S1x1x64x1024 : Shape := ⟨4, ![1, 1, 64, 1024]⟩
abbrev S1x1x1024x128 : Shape := ⟨4, ![1, 1, 1024, 128]⟩
abbrev S384x256 : Shape := ⟨2, ![384, 256]⟩
abbrev S1x1x1024x64 : Shape := ⟨4, ![1, 1, 1024, 64]⟩
abbrev S1x8x512x192 : Shape := ⟨4, ![1, 8, 512, 192]⟩
abbrev S1x8x192x2048 : Shape := ⟨4, ![1, 8, 192, 2048]⟩
abbrev S1x8x2048x128 : Shape := ⟨4, ![1, 8, 2048, 128]⟩
abbrev S1x512x1024 : Shape := ⟨3, ![1, 512, 1024]⟩
abbrev S8x512x128 : Shape := ⟨3, ![8, 512, 128]⟩
abbrev S8x512x256 : Shape := ⟨3, ![8, 512, 256]⟩
abbrev S512x256 : Shape := ⟨2, ![512, 256]⟩
abbrev S256x128 : Shape := ⟨2, ![256, 128]⟩
abbrev S1x1x512x192 : Shape := ⟨4, ![1, 1, 512, 192]⟩
abbrev S512x192 : Shape := ⟨2, ![512, 192]⟩
abbrev S1x1x192x256 : Shape := ⟨4, ![1, 1, 192, 256]⟩
abbrev S192x256 : Shape := ⟨2, ![192, 256]⟩
abbrev S1x1x256x128 : Shape := ⟨4, ![1, 1, 256, 128]⟩
abbrev S256x256 : Shape := ⟨2, ![256, 256]⟩
abbrev S512 : Shape := ⟨1, ![512]⟩
abbrev S512x1 : Shape := ⟨2, ![512, 1]⟩
abbrev S512x128 : Shape := ⟨2, ![512, 128]⟩
abbrev S1x512x256 : Shape := ⟨3, ![1, 512, 256]⟩
abbrev S1x512x128 : Shape := ⟨3, ![1, 512, 128]⟩
abbrev S1x1x256x192 : Shape := ⟨4, ![1, 1, 256, 192]⟩
abbrev S256x192 : Shape := ⟨2, ![256, 192]⟩
abbrev S256x1 : Shape := ⟨2, ![256, 1]⟩
abbrev S1x256x128 : Shape := ⟨3, ![1, 256, 128]⟩
abbrev S1x256x256 : Shape := ⟨3, ![1, 256, 256]⟩
abbrev S1x1x192x512 : Shape := ⟨4, ![1, 1, 192, 512]⟩
abbrev S192x512 : Shape := ⟨2, ![192, 512]⟩
abbrev S1x1x512x128 : Shape := ⟨4, ![1, 1, 512, 128]⟩
abbrev S512x512 : Shape := ⟨2, ![512, 512]⟩
abbrev S512x1024 : Shape := ⟨2, ![512, 1024]⟩

abbrev nBuf : Space → Nat
  | .hbm => 74
  | .vmem => 41
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x320, .f32⟩
  | .hbm, ⟨3, _⟩ => ⟨S256, .f32⟩
  | .hbm, ⟨4, _⟩ => ⟨S256x8x128, .f32⟩
  | .hbm, ⟨5, _⟩ => ⟨S256x8x128, .f32⟩
  | .hbm, ⟨6, _⟩ => ⟨S1024, .f32⟩
  | .hbm, ⟨7, _⟩ => ⟨S1024x1408, .f32⟩
  | .hbm, ⟨8, _⟩ => ⟨S384, .f32⟩
  | .hbm, ⟨9, _⟩ => ⟨S384x8x192, .f32⟩
  | .hbm, ⟨10, _⟩ => ⟨S1024x1024, .f32⟩
  | .hbm, ⟨11, _⟩ => ⟨S1024, .f32⟩
  | .hbm, ⟨12, _⟩ => ⟨S2048, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S2048x1, .f32⟩
  | .hbm, ⟨28, _⟩ => ⟨S1x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x128, .f32⟩
  | .hbm, ⟨36, _⟩ => ⟨S1024x64, .f32⟩
  | .hbm, ⟨37, _⟩ => ⟨S1024x256, .f32⟩
  | .hbm, ⟨38, _⟩ => ⟨S1024x256, .bf16⟩
  | .hbm, ⟨39, _⟩ => ⟨S1024x32, .f32⟩
  | .hbm, ⟨40, _⟩ => ⟨S1024x32, .f32⟩
  | .hbm, ⟨41, _⟩ => ⟨S1024x64, .f32⟩
  | .hbm, ⟨42, _⟩ => ⟨S1024x128, .f32⟩
  | .hbm, ⟨43, _⟩ => ⟨S128x1024, .f32⟩
  | .hbm, ⟨44, _⟩ => ⟨S128x1024, .bf16⟩
  | .hbm, ⟨45, _⟩ => ⟨S256x1024, .f32⟩
  | .hbm, ⟨46, _⟩ => ⟨S1024x256, .f32⟩
  | .hbm, ⟨47, _⟩ => ⟨S1024x256, .bf16⟩
  | .hbm, ⟨48, _⟩ => ⟨S256x1024, .f32⟩
  | .hbm, ⟨49, _⟩ => ⟨S256x1024, .bf16⟩
  | .hbm, ⟨50, _⟩ => ⟨S1024x384, .f32⟩
  | .hbm, ⟨51, _⟩ => ⟨S1024x384, .bf16⟩
  | .hbm, ⟨52, _⟩ => ⟨S1024x1024, .f32⟩
  | .hbm, ⟨53, _⟩ => ⟨S1024x1024, .bf16⟩
  | .hbm, ⟨54, _⟩ => ⟨S384x8x64, .f32⟩
  | .hbm, ⟨55, _⟩ => ⟨S384x8x128, .f32⟩
  | .hbm, ⟨56, _⟩ => ⟨S384x8x32, .f32⟩
  | .hbm, ⟨57, _⟩ => ⟨S384x8x32, .f32⟩
  | .hbm, ⟨58, _⟩ => ⟨S384x8x64, .f32⟩
  | .hbm, ⟨59, _⟩ => ⟨S384x8x256, .f32⟩
  | .hbm, ⟨60, _⟩ => ⟨S384x2048, .f32⟩
  | .hbm, ⟨61, _⟩ => ⟨S384x2048, .bf16⟩
  | .hbm, ⟨62, _⟩ => ⟨S128x2048, .f32⟩
  | .hbm, ⟨63, _⟩ => ⟨S1x1024, .f32⟩
  | .hbm, ⟨64, _⟩ => ⟨S1x1024, .f32⟩
  | .hbm, ⟨65, _⟩ => ⟨S1x256, .f32⟩
  | .hbm, ⟨66, _⟩ => ⟨S1x384, .f32⟩
  | .hbm, ⟨67, _⟩ => ⟨S16x8x2048x192, .bf16⟩
  | .hbm, ⟨68, _⟩ => ⟨S16x8x192x2048, .bf16⟩
  | .hbm, ⟨69, _⟩ => ⟨S16x8x2048x128, .bf16⟩
  | .hbm, ⟨70, _⟩ => ⟨S16x2048x1024, .bf16⟩
  | .hbm, ⟨71, _⟩ => ⟨S1024x1024, .bf16⟩
  | .hbm, ⟨72, _⟩ => ⟨S1x1024, .f32⟩
  | .hbm, ⟨73, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .f32⟩
  | .local _ .vmem, ⟨3, _⟩ => ⟨S1024x128, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S1024x256, .bf16⟩
  | .local _ .vmem, ⟨9, _⟩ => ⟨S128x1024, .bf16⟩
  | .local _ .vmem, ⟨10, _⟩ => ⟨S1x256, .f32⟩
  | .local _ .vmem, ⟨11, _⟩ => ⟨S1024x256, .bf16⟩
  | .local _ .vmem, ⟨12, _⟩ => ⟨S256x1024, .bf16⟩
  | .local _ .vmem, ⟨13, _⟩ => ⟨S1024x384, .bf16⟩
  | .local _ .vmem, ⟨14, _⟩ => ⟨S1024x1024, .bf16⟩
  | .local _ .vmem, ⟨15, _⟩ => ⟨S1x384, .f32⟩
  | .local _ .vmem, ⟨16, _⟩ => ⟨S384x2048, .bf16⟩
  | .local _ .vmem, ⟨17, _⟩ => ⟨S1x8x1024x192, .bf16⟩
  | .local _ .vmem, ⟨18, _⟩ => ⟨S1x8x1024x192, .bf16⟩
  | .local _ .vmem, ⟨19, _⟩ => ⟨S1x8x192x1024, .bf16⟩
  | .local _ .vmem, ⟨20, _⟩ => ⟨S1x8x192x1024, .bf16⟩
  | .local _ .vmem, ⟨21, _⟩ => ⟨S1x8x1024x128, .bf16⟩
  | .local _ .vmem, ⟨22, _⟩ => ⟨S1x8x1024x128, .bf16⟩
  | .local _ .vmem, ⟨23, _⟩ => ⟨S1x1024x1024, .bf16⟩
  | .local _ .vmem, ⟨24, _⟩ => ⟨S1x1024x1024, .bf16⟩
  | .local _ .vmem, ⟨25, _⟩ => ⟨S1x8x512x192, .bf16⟩
  | .local _ .vmem, ⟨26, _⟩ => ⟨S1x8x512x192, .bf16⟩
  | .local _ .vmem, ⟨27, _⟩ => ⟨S1x8x192x2048, .bf16⟩
  | .local _ .vmem, ⟨28, _⟩ => ⟨S1x8x192x2048, .bf16⟩
  | .local _ .vmem, ⟨29, _⟩ => ⟨S1x8x2048x128, .bf16⟩
  | .local _ .vmem, ⟨30, _⟩ => ⟨S1x8x2048x128, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .f32⟩
  | .local _ .vmem, ⟨34, _⟩ => ⟨S1x512x1024, .f32⟩
  | .local _ .vmem, ⟨35, _⟩ => ⟨S1024x1024, .bf16⟩
  | .local _ .vmem, ⟨36, _⟩ => ⟨S1x1024, .f32⟩
  | .local _ .vmem, ⟨37, _⟩ => ⟨S1x512x1024, .f32⟩
  | .local _ .vmem, ⟨38, _⟩ => ⟨S1x512x1024, .f32⟩
  | .local _ .vmem, ⟨39, _⟩ => ⟨S8x512x128, .f32⟩
  | .local _ .vmem, ⟨40, _⟩ => ⟨S8x512x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51_0 : Ref sig .tc := ⟨.hbm, 67, rfl⟩
abbrev main_v51_1 : Ref sig .tc := ⟨.hbm, 68, rfl⟩
abbrev main_v51_2 : Ref sig .tc := ⟨.hbm, 69, rfl⟩
abbrev main_v51_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg7_1 : Ref sig .tc := ⟨.vmem, 38, rfl⟩
abbrev cc1_scratch0 : Ref sig .tc := ⟨.vmem, 39, rfl⟩
abbrev cc1_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34
abbrev cc1_sem5_0 : DmaSem sig := 35
abbrev cc1_sem6_0 : DmaSem sig := 36
abbrev cc1_sem7_0 : DmaSem sig := 37
abbrev cc1_sem7_1 : DmaSem sig := 38

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S384x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x8x1024x192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x192x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev grid1 : Pipeline.Grid := ⟨2, ![16, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8x512x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x192x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "mask" => some ⊥
  | "neg_log2e" => some ((-((Real.log 2)⁻¹) : ℝ) : EReal)
  | "q_scale" => some (((Real.sqrt 192)⁻¹ * (Real.log 2)⁻¹ : ℝ) : EReal)
  | _ => none
-- ==== ReferenceIdeal.lean ====
abbrev S16x2048x1024 : Shape := ⟨3, ![16, 2048, 1024]⟩
abbrev S1024 : Shape := ⟨1, ![1024]⟩
abbrev S1024x320 : Shape := ⟨2, ![1024, 320]⟩
abbrev S256 : Shape := ⟨1, ![256]⟩
abbrev S256x8x128 : Shape := ⟨3, ![256, 8, 128]⟩
abbrev S1024x1408 : Shape := ⟨2, ![1024, 1408]⟩
abbrev S384 : Shape := ⟨1, ![384]⟩
abbrev S384x8x192 : Shape := ⟨3, ![384, 8, 192]⟩
abbrev S1024x1024 : Shape := ⟨2, ![1024, 1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S16x2048 : Shape := ⟨2, ![16, 2048]⟩
abbrev S16x2048x1 : Shape := ⟨3, ![16, 2048, 1]⟩
abbrev S1x1x1024 : Shape := ⟨3, ![1, 1, 1024]⟩
abbrev S16x2048x320 : Shape := ⟨3, ![16, 2048, 320]⟩
abbrev S16x2048x256 : Shape := ⟨3, ![16, 2048, 256]⟩
abbrev S1x1x256 : Shape := ⟨3, ![1, 1, 256]⟩
abbrev S16x2048x64 : Shape := ⟨3, ![16, 2048, 64]⟩
abbrev S1x2048x32 : Shape := ⟨3, ![1, 2048, 32]⟩
abbrev S16x2048x32 : Shape := ⟨3, ![16, 2048, 32]⟩
abbrev S16x2048x8x128 : Shape := ⟨4, ![16, 2048, 8, 128]⟩
abbrev S16x2048x1408 : Shape := ⟨3, ![16, 2048, 1408]⟩
abbrev S16x2048x384 : Shape := ⟨3, ![16, 2048, 384]⟩
abbrev S1x1x384 : Shape := ⟨3, ![1, 1, 384]⟩
abbrev S16x2048x8x192 : Shape := ⟨4, ![16, 2048, 8, 192]⟩
abbrev S16x2048x8x64 : Shape := ⟨4, ![16, 2048, 8, 64]⟩
abbrev S1x2048x1x32 : Shape := ⟨4, ![1, 2048, 1, 32]⟩
abbrev S16x2048x8x32 : Shape := ⟨4, ![16, 2048, 8, 32]⟩
abbrev S16x8x2048x2048 : Shape := ⟨4, ![16, 8, 2048, 2048]⟩
abbrev S16x2048x2048x8 : Shape := ⟨4, ![16, 2048, 2048, 8]⟩
abbrev S1x2048 : Shape := ⟨2, ![1, 2048]⟩
abbrev S2048x2048 : Shape := ⟨2, ![2048, 2048]⟩
abbrev S1x1x2048x2048 : Shape := ⟨4, ![1, 1, 2048, 2048]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩

abbrev nBuf : Space → Nat
  | .hbm => 204
  | .vmem => 0
  | .smem => 0
  | _ => 0

abbrev hbmTy0_0 (i : Nat) : BufTy := match i % 128 with
  | 0 => ⟨S16x2048x1024, .f32⟩
  | 1 => ⟨S1024, .f32⟩
  | 2 => ⟨S1024x320, .f32⟩
  | 3 => ⟨S256, .f32⟩
  | 4 => ⟨S256x8x128, .f32⟩
  | 5 => ⟨S256x8x128, .f32⟩
  | 6 => ⟨S1024, .f32⟩
  | 7 => ⟨S1024x1408, .f32⟩
  | 8 => ⟨S384, .f32⟩
  | 9 => ⟨S384x8x192, .f32⟩
  | 10 => ⟨S1024x1024, .f32⟩
  | 11 => ⟨S1024, .f32⟩
  | 12 => ⟨S2048, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2048x1, .f32⟩
  | 28 => ⟨S1x32, .f32⟩
  | 29 => ⟨S2048x32, .f32⟩
  | 30 => ⟨S2048x32, .f32⟩
  | 31 => ⟨S2048x32, .f32⟩
  | 32 => ⟨S2048x32, .f32⟩
  | 33 => ⟨S2048x32, .f32⟩
  | 34 => ⟨S16x2048x1024, .f32⟩
  | 35 => ⟨S_, .f32⟩
  | 36 => ⟨S16x2048, .f32⟩
  | 37 => ⟨S16x2048x1, .f32⟩
  | 38 => ⟨S_, .f32⟩
  | 39 => ⟨S16x2048x1, .f32⟩
  | 40 => ⟨S16x2048x1, .f32⟩
  | 41 => ⟨S_, .f32⟩
  | 42 => ⟨S16x2048x1, .f32⟩
  | 43 => ⟨S16x2048x1, .f32⟩
  | 44 => ⟨S16x2048x1, .f32⟩
  | 45 => ⟨S16x2048x1024, .f32⟩
  | 46 => ⟨S16x2048x1024, .f32⟩
  | 47 => ⟨S1x1x1024, .f32⟩
  | 48 => ⟨S16x2048x1024, .f32⟩
  | 49 => ⟨S16x2048x1024, .f32⟩
  | 50 => ⟨S16x2048x320, .f32⟩
  | 51 => ⟨S16x2048x256, .f32⟩
  | 52 => ⟨S16x2048x256, .f32⟩
  | 53 => ⟨S_, .f32⟩
  | 54 => ⟨S16x2048, .f32⟩
  | 55 => ⟨S16x2048x1, .f32⟩
  | 56 => ⟨S_, .f32⟩
  | 57 => ⟨S16x2048x1, .f32⟩
  | 58 => ⟨S16x2048x1, .f32⟩
  | 59 => ⟨S_, .f32⟩
  | 60 => ⟨S16x2048x1, .f32⟩
  | 61 => ⟨S16x2048x1, .f32⟩
  | 62 => ⟨S16x2048x1, .f32⟩
  | 63 => ⟨S16x2048x256, .f32⟩
  | 64 => ⟨S16x2048x256, .f32⟩
  | 65 => ⟨S1x1x256, .f32⟩
  | 66 => ⟨S16x2048x256, .f32⟩
  | 67 => ⟨S16x2048x256, .f32⟩
  | 68 => ⟨S16x2048x64, .f32⟩
  | 69 => ⟨S1x2048x32, .f32⟩
  | 70 => ⟨S1x2048x32, .f32⟩
  | 71 => ⟨S16x2048x32, .f32⟩
  | 72 => ⟨S16x2048x32, .f32⟩
  | 73 => ⟨S16x2048x32, .f32⟩
  | 74 => ⟨S16x2048x32, .f32⟩
  | 75 => ⟨S16x2048x32, .f32⟩
  | 76 => ⟨S16x2048x32, .f32⟩
  | 77 => ⟨S16x2048x32, .f32⟩
  | 78 => ⟨S16x2048x32, .f32⟩
  | 79 => ⟨S16x2048x32, .f32⟩
  | 80 => ⟨S16x2048x32, .f32⟩
  | 81 => ⟨S16x2048x32, .f32⟩
  | 82 => ⟨S16x2048x32, .f32⟩
  | 83 => ⟨S16x2048x64, .f32⟩
  | 84 => ⟨S16x2048x8x128, .f32⟩
  | 85 => ⟨S16x2048x8x128, .f32⟩
  | 86 => ⟨S16x2048x1024, .f32⟩
  | 87 => ⟨S_, .f32⟩
  | 88 => ⟨S16x2048, .f32⟩
  | 89 => ⟨S16x2048x1, .f32⟩
  | 90 => ⟨S_, .f32⟩
  | 91 => ⟨S16x2048x1, .f32⟩
  | 92 => ⟨S16x2048x1, .f32⟩
  | 93 => ⟨S_, .f32⟩
  | 94 => ⟨S16x2048x1, .f32⟩
  | 95 => ⟨S16x2048x1, .f32⟩
  | 96 => ⟨S16x2048x1, .f32⟩
  | 97 => ⟨S16x2048x1024, .f32⟩
  | 98 => ⟨S16x2048x1024, .f32⟩
  | 99 => ⟨S1x1x1024, .f32⟩
  | 100 => ⟨S16x2048x1024, .f32⟩
  | 101 => ⟨S16x2048x1024, .f32⟩
  | 102 => ⟨S16x2048x1408, .f32⟩
  | 103 => ⟨S16x2048x384, .f32⟩
  | 104 => ⟨S16x2048x384, .f32⟩
  | 105 => ⟨S_, .f32⟩
  | 106 => ⟨S16x2048, .f32⟩
  | 107 => ⟨S16x2048x1, .f32⟩
  | 108 => ⟨S_, .f32⟩
  | 109 => ⟨S16x2048x1, .f32⟩
  | 110 => ⟨S16x2048x1, .f32⟩
  | 111 => ⟨S_, .f32⟩
  | 112 => ⟨S16x2048x1, .f32⟩
  | 113 => ⟨S16x2048x1, .f32⟩
  | 114 => ⟨S16x2048x1, .f32⟩
  | 115 => ⟨S16x2048x384, .f32⟩
  | 116 => ⟨S16x2048x384, .f32⟩
  | 117 => ⟨S1x1x384, .f32⟩
  | 118 => ⟨S16x2048x384, .f32⟩
  | 119 => ⟨S16x2048x384, .f32⟩
  | 120 => ⟨S16x2048x1024, .f32⟩
  | 121 => ⟨S16x2048x8x192, .f32⟩
  | 122 => ⟨S16x2048x8x128, .f32⟩
  | 123 => ⟨S16x2048x8x64, .f32⟩
  | 124 => ⟨S1x2048x1x32, .f32⟩
  | 125 => ⟨S1x2048x1x32, .f32⟩
  | 126 => ⟨S16x2048x8x32, .f32⟩
  | 127 => ⟨S16x2048x8x32, .f32⟩
  | _ => ⟨S16x2048x1024, .f32⟩

abbrev hbmTy0_1 (i : Nat) : BufTy := match i % 128 with
  | 0 => ⟨S16x2048x8x32, .f32⟩
  | 1 => ⟨S16x2048x8x32, .f32⟩
  | 2 => ⟨S16x2048x8x32, .f32⟩
  | 3 => ⟨S16x2048x8x32, .f32⟩
  | 4 => ⟨S16x2048x8x32, .f32⟩
  | 5 => ⟨S16x2048x8x32, .f32⟩
  | 6 => ⟨S16x2048x8x32, .f32⟩
  | 7 => ⟨S16x2048x8x32, .f32⟩
  | 8 => ⟨S16x2048x8x32, .f32⟩
  | 9 => ⟨S16x2048x8x32, .f32⟩
  | 10 => ⟨S16x2048x8x64, .f32⟩
  | 11 => ⟨S16x8x2048x2048, .f32⟩
  | 12 => ⟨S16x2048x2048x8, .f32⟩
  | 13 => ⟨S16x8x2048x2048, .f32⟩
  | 14 => ⟨S16x8x2048x2048, .f32⟩
  | 15 => ⟨S_, .f32⟩
  | 16 => ⟨S_, .f32⟩
  | 17 => ⟨S16x8x2048x2048, .f32⟩
  | 18 => ⟨S16x8x2048x2048, .f32⟩
  | 19 => ⟨S2048, .i32⟩
  | 20 => ⟨S1x2048, .i32⟩
  | 21 => ⟨S2048x1, .i32⟩
  | 22 => ⟨S2048x2048, .i32⟩
  | 23 => ⟨S2048x2048, .i32⟩
  | 24 => ⟨S2048x2048, .i1⟩
  | 25 => ⟨S1x1x2048x2048, .i1⟩
  | 26 => ⟨S_, .f32⟩
  | 27 => ⟨S_, .f32⟩
  | 28 => ⟨S16x8x2048x2048, .i1⟩
  | 29 => ⟨S16x8x2048x2048, .f32⟩
  | 30 => ⟨S16x8x2048x2048, .f32⟩
  | 31 => ⟨S_, .f32⟩
  | 32 => ⟨S16x8x2048, .f32⟩
  | 33 => ⟨S_, .f32⟩
  | 34 => ⟨S16x8x2048, .f32⟩
  | 35 => ⟨S16x8x2048, .f32⟩
  | 36 => ⟨S16x8x2048x1, .f32⟩
  | 37 => ⟨S16x8x2048x2048, .f32⟩
  | 38 => ⟨S16x8x2048x2048, .f32⟩
  | 39 => ⟨S16x8x2048x2048, .f32⟩
  | 40 => ⟨S_, .f32⟩
  | 41 => ⟨S16x8x2048, .f32⟩
  | 42 => ⟨S16x8x2048x1, .f32⟩
  | 43 => ⟨S16x8x2048x2048, .f32⟩
  | 44 => ⟨S16x8x2048x2048, .f32⟩
  | 45 => ⟨S16x8x128x2048, .f32⟩
  | 46 => ⟨S16x2048x8x128, .f32⟩
  | 47 => ⟨S16x2048x1024, .f32⟩
  | 48 => ⟨S16x2048x1024, .f32⟩
  | 49 => ⟨S16x2048x1024, .f32⟩
  | 50 => ⟨S_, .f32⟩
  | 51 => ⟨S16x2048x1024, .f32⟩
  | 52 => ⟨S16x2048x1024, .f32⟩
  | 53 => ⟨S_, .f32⟩
  | 54 => ⟨S16x2048x1024, .f32⟩
  | 55 => ⟨S16x2048x1024, .f32⟩
  | 56 => ⟨S16x2048x1024, .f32⟩
  | 57 => ⟨S16x2048x1024, .f32⟩
  | 58 => ⟨S16x2048x1024, .f32⟩
  | 59 => ⟨S16x2048x1024, .f32⟩
  | 60 => ⟨S16x2048x1024, .f32⟩
  | 61 => ⟨S_, .f32⟩
  | 62 => ⟨S16x2048, .f32⟩
  | 63 => ⟨S16x2048x1, .f32⟩
  | 64 => ⟨S_, .f32⟩
  | 65 => ⟨S16x2048x1, .f32⟩
  | 66 => ⟨S16x2048x1, .f32⟩
  | 67 => ⟨S_, .f32⟩
  | 68 => ⟨S16x2048x1, .f32⟩
  | 69 => ⟨S16x2048x1, .f32⟩
  | 70 => ⟨S16x2048x1, .f32⟩
  | 71 => ⟨S16x2048x1024, .f32⟩
  | 72 => ⟨S16x2048x1024, .f32⟩
  | 73 => ⟨S1x1x1024, .f32⟩
  | 74 => ⟨S16x2048x1024, .f32⟩
  | 75 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_12 : Ref sig .tc := ⟨.hbm, 105, rfl⟩
abbrev main_v80 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_15 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_16 : Ref sig .tc := ⟨.hbm, 154, rfl⟩
abbrev main_call0_v0 : Ref sig .tc := ⟨.hbm, 155, rfl⟩
abbrev main_call0_v1 : Ref sig .tc := ⟨.hbm, 156, rfl⟩
abbrev main_call0_v2 : Ref sig .tc := ⟨.hbm, 157, rfl⟩
abbrev main_v125 : Ref sig .tc := ⟨.hbm, 158, rfl⟩
abbrev main_cst_17 : Ref sig .tc := ⟨.hbm, 159, rfl⟩
abbrev main_v126 : Ref sig .tc := ⟨.hbm, 160, rfl⟩
abbrev main_cst_18 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_19 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_call1_v0 : Ref sig .tc := ⟨.hbm, 176, rfl⟩
abbrev main_call1_v1 : Ref sig .tc := ⟨.hbm, 177, rfl⟩
abbrev main_call1_cst : Ref sig .tc := ⟨.hbm, 178, rfl⟩
abbrev main_call1_v2 : Ref sig .tc := ⟨.hbm, 179, rfl⟩
abbrev main_call1_v3 : Ref sig .tc := ⟨.hbm, 180, rfl⟩
abbrev main_call1_cst_0 : Ref sig .tc := ⟨.hbm, 181, rfl⟩
abbrev main_call1_v4 : Ref sig .tc := ⟨.hbm, 182, rfl⟩
abbrev main_call1_v5 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_20 : Ref sig .tc := ⟨.hbm, 189, rfl⟩
abbrev main_v145 : Ref sig .tc := ⟨.hbm, 190, rfl⟩
abbrev main_v146 : Ref sig .tc := ⟨.hbm, 191, rfl⟩
abbrev main_cst_21 : Ref sig .tc := ⟨.hbm, 192, rfl⟩
abbrev main_v147 : Ref sig .tc := ⟨.hbm, 193, rfl⟩
abbrev main_v148 : Ref sig .tc := ⟨.hbm, 194, rfl⟩
abbrev main_cst_22 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S10x128x128 : Shape := ⟨3, ![10, 128, 128]⟩
abbrev S1280x1024 : Shape := ⟨2, ![1280, 1024]⟩
abbrev S1x1024 : Shape := ⟨2, ![1, 1024]⟩
abbrev S4x5x256 : Shape := ⟨3, ![4, 5, 256]⟩
abbrev S5x4x256 : Shape := ⟨3, ![5, 4, 256]⟩
abbrev S1x1280 : Shape := ⟨2, ![1, 1280]⟩
abbrev S1x5x256 : Shape := ⟨3, ![1, 5, 256]⟩
abbrev S5x1x256 : Shape := ⟨3, ![5, 1, 256]⟩
abbrev S10x128x256 : Shape := ⟨3, ![10, 128, 256]⟩
abbrev S5x256x1024 : Shape := ⟨3, ![5, 256, 1024]⟩
abbrev S2x32x16x1024 : Shape := ⟨4, ![2, 32, 16, 1024]⟩
abbrev S2 : Shape := ⟨1, ![2]⟩
abbrev S512x1024 : Shape := ⟨2, ![512, 1024]⟩
abbrev S560x256 : Shape := ⟨2, ![560, 256]⟩
abbrev S5x512x256 : Shape := ⟨3, ![5, 512, 256]⟩
abbrev S5x48x256 : Shape := ⟨3, ![5, 48, 256]⟩
abbrev S5x16x256 : Shape := ⟨3, ![5, 16, 256]⟩
abbrev S1 : Shape := ⟨1, ![1]⟩
abbrev S_ : Shape := ⟨0, ![]⟩
abbrev S1x32x1x1024 : Shape := ⟨4, ![1, 32, 1, 1024]⟩
abbrev S32x1024 : Shape := ⟨2, ![32, 1024]⟩
abbrev S1x32x1024 : Shape := ⟨3, ![1, 32, 1024]⟩
abbrev S1x32x16x1024 : Shape := ⟨4, ![1, 32, 16, 1024]⟩
abbrev S32x16x1024 : Shape := ⟨3, ![32, 16, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x48x256 : Shape := ⟨3, ![1, 48, 256]⟩
abbrev S48x256 : Shape := ⟨2, ![48, 256]⟩
abbrev S1x4x256 : Shape := ⟨3, ![1, 4, 256]⟩
abbrev S4x256 : Shape := ⟨2, ![4, 256]⟩
abbrev S1x1x256 : Shape := ⟨3, ![1, 1, 256]⟩
abbrev S1x256 : Shape := ⟨2, ![1, 256]⟩
abbrev S512x128 : Shape := ⟨2, ![512, 128]⟩
abbrev S1x128x256 : Shape := ⟨3, ![1, 128, 256]⟩
abbrev S128x256 : Shape := ⟨2, ![128, 256]⟩
abbrev S1x16x256 : Shape := ⟨3, ![1, 16, 256]⟩
abbrev S16x256 : Shape := ⟨2, ![16, 256]⟩
abbrev S1x512x256 : Shape := ⟨3, ![1, 512, 256]⟩
abbrev S512x512 : Shape := ⟨2, ![512, 512]⟩
abbrev S1x256x512 : Shape := ⟨3, ![1, 256, 512]⟩
abbrev S256x512 : Shape := ⟨2, ![256, 512]⟩
abbrev S32x16x512 : Shape := ⟨3, ![32, 16, 512]⟩
abbrev S1x32x16x512 : Shape := ⟨4, ![1, 32, 16, 512]⟩

abbrev nBuf : Space → Nat
  | .hbm => 32
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2560, .f32⟩
  | .hbm, ⟨3, _⟩ => ⟨S4x1280, .f32⟩
  | .hbm, ⟨4, _⟩ => ⟨S1280, .f32⟩
  | .hbm, ⟨5, _⟩ => ⟨S10x128x128, .f32⟩
  | .hbm, ⟨6, _⟩ => ⟨S1280, .f32⟩
  | .hbm, ⟨7, _⟩ => ⟨S10x128x128, .f32⟩
  | .hbm, ⟨8, _⟩ => ⟨S1280, .f32⟩
  | .hbm, ⟨9, _⟩ => ⟨S1280, .f32⟩
  | .hbm, ⟨10, _⟩ => ⟨S1280x1024, .f32⟩
  | .hbm, ⟨11, _⟩ => ⟨S1x1024, .f32⟩
  | .hbm, ⟨12, _⟩ => ⟨S1024x2560, .bf16⟩
  | .hbm, ⟨13, _⟩ => ⟨S4x5x256, .f32⟩
  | .hbm, ⟨14, _⟩ => ⟨S5x4x256, .f32⟩
  | .hbm, ⟨15, _⟩ => ⟨S1x1280, .f32⟩
  | .hbm, ⟨16, _⟩ => ⟨S1x5x256, .f32⟩
  | .hbm, ⟨17, _⟩ => ⟨S5x1x256, .f32⟩
  | .hbm, ⟨18, _⟩ => ⟨S10x128x256, .f32⟩
  | .hbm, ⟨19, _⟩ => ⟨S10x128x256, .bf16⟩
  | .hbm, ⟨20, _⟩ => ⟨S1x1280, .f32⟩
  | .hbm, ⟨21, _⟩ => ⟨S1x5x256, .f32⟩
  | .hbm, ⟨22, _⟩ => ⟨S5x1x256, .f32⟩
  | .hbm, ⟨23, _⟩ => ⟨S1x1280, .f32⟩
  | .hbm, ⟨24, _⟩ => ⟨S1x5x256, .f32⟩
  | .hbm, ⟨25, _⟩ => ⟨S5x1x256, .f32⟩
  | .hbm, ⟨26, _⟩ => ⟨S1x1280, .f32⟩
  | .hbm, ⟨27, _⟩ => ⟨S1x5x256, .f32⟩
  | .hbm, ⟨28, _⟩ => ⟨S5x1x256, .f32⟩
  | .hbm, ⟨29, _⟩ => ⟨S5x256x1024, .f32⟩
  | .hbm, ⟨30, _⟩ => ⟨S5x256x1024, .bf16⟩
  | .hbm, ⟨31, _⟩ => ⟨S16x2048x1024, .f32⟩
  | .local _ .vmem, ⟨0, _⟩ => ⟨S1x1024, .f32⟩
  | .local _ .vmem, ⟨1, _⟩ => ⟨S1024x2560, .bf16⟩
  | .local _ .vmem, ⟨2, _⟩ => ⟨S5x4x256, .f32⟩
  | .local _ .vmem, ⟨3, _⟩ => ⟨S5x1x256, .f32⟩
  | .local _ .vmem, ⟨4, _⟩ => ⟨S10x128x256, .bf16⟩
  | .local _ .vmem, ⟨5, _⟩ => ⟨S5x1x256, .f32⟩
  | .local _ .vmem, ⟨6, _⟩ => ⟨S5x1x256, .f32⟩
  | .local _ .vmem, ⟨7, _⟩ => ⟨S5x1x256, .f32⟩
  | .local _ .vmem, ⟨8, _⟩ => ⟨S5x256x1024, .bf16⟩
  | .local _ .vmem, ⟨9, _⟩ => ⟨S2x32x16x1024, .f32⟩
  | .local _ .vmem, ⟨10, _⟩ => ⟨S2x32x16x1024, .f32⟩
  | .local _ .vmem, ⟨11, _⟩ => ⟨S512x1024, .bf16⟩
  | .local _ .vmem, ⟨12, _⟩ => ⟨S560x256, .f32⟩
  | .local _ .vmem, ⟨13, _⟩ => ⟨S5x512x256, .bf16⟩
  | .local _ .vmem, ⟨14, _⟩ => ⟨S5x48x256, .f32⟩
  | .local _ .vmem, ⟨15, _⟩ => ⟨S5x16x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c1_i32 : BitVec 32 := 1#32
  let v4 : BitVec 32 := Scalar.addi arg0 c1_i32
  let c64_i32 : BitVec 32 := 64#32
  let v5 : BitVec 1 := Scalar.cmpi .slt v4 c64_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  ![v1608.toNat]
def k0_off2 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_626 : BitVec 32 := 0#32
  let c0_i32_625 : BitVec 32 := 0#32
  let c0_i32_627 : BitVec 32 := 0#32
  ![v1608.toNat, 0, 0, 0]
def k0_off3 (i : grid0.Coords) : Fin 3 → Nat :=
  let c0_i32_624 : BitVec 32 := 0#32
  let arg0 : BitVec 32 := BitVec.ofNat 32 (i 0).val
  let c1_i32_606 : BitVec 32 := 1#32
  let v1607 : BitVec 32 := Scalar.addi arg0 c1_i32_606
  let c32_i32_608 : BitVec 32 := 32#32
  let v1609 : BitVec 32 := Scalar.muli v1607 c32_i32_608
  let c0_i32_628 : BitVec 32 := 0#32
  ![0, v1609.toNat, 0]
def k0_off4 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_631 : BitVec 32 := 0#32
  let c1_i32_630 : BitVec 32 := 1#32
  let c0_i32_632 : BitVec 32 := 0#32
  ![v1608.toNat, 0, 1, 0]
def k0_off5 (i : grid0.Coords) : Fin 3 → Nat :=
  let c1_i32_629 : BitVec 32 := 1#32
  let arg0 : BitVec 32 := BitVec.ofNat 32 (i 0).val
  let c1_i32_606 : BitVec 32 := 1#32
  let v1607 : BitVec 32 := Scalar.addi arg0 c1_i32_606
  let c32_i32_609 : BitVec 32 := 32#32
  let v1610 : BitVec 32 := Scalar.muli v1607 c32_i32_609
  let c0_i32_633 : BitVec 32 := 0#32
  ![1, v1610.toNat, 0]
def k0_off6 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_636 : BitVec 32 := 0#32
  let c2_i32_635 : BitVec 32 := 2#32
  let c0_i32_637 : BitVec 32 := 0#32
  ![v1608.toNat, 0, 2, 0]
def k0_off7 (i : grid0.Coords) : Fin 3 → Nat :=
  let c2_i32_634 : BitVec 32 := 2#32
  let arg0 : BitVec 32 := BitVec.ofNat 32 (i 0).val
  let c1_i32_606 : BitVec 32 := 1#32
  let v1607 : BitVec 32 := Scalar.addi arg0 c1_i32_606
  let c32_i32_610 : BitVec 32 := 32#32
  let v1611 : BitVec 32 := Scalar.muli v1607 c32_i32_610
  let c0_i32_638 : BitVec 32 := 0#32
  ![2, v1611.toNat, 0]
def k0_off8 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_641 : BitVec 32 := 0#32
  let c3_i32_640 : BitVec 32 := 3#32
  let c0_i32_642 : BitVec 32 := 0#32
  ![v1608.toNat, 0, 3, 0]
def k0_off9 (i : grid0.Coords) : Fin 3 → Nat :=
  let c3_i32_639 : BitVec 32 := 3#32
  let arg0 : BitVec 32 := BitVec.ofNat 32 (i 0).val
  let c1_i32_606 : BitVec 32 := 1#32
  let v1607 : BitVec 32 := Scalar.addi arg0 c1_i32_606
  let c32_i32_611 : BitVec 32 := 32#32
  let v1612 : BitVec 32 := Scalar.muli v1607 c32_i32_611
  let c0_i32_643 : BitVec 32 := 0#32
  ![3, v1612.toNat, 0]
def k0_off10 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_646 : BitVec 32 := 0#32
  let c4_i32_645 : BitVec 32 := 4#32
  let c0_i32_647 : BitVec 32 := 0#32
  ![v1608.toNat, 0, 4, 0]
def k0_off11 (i : grid0.Coords) : Fin 3 → Nat :=
  let c4_i32_644 : BitVec 32 := 4#32
  let arg0 : BitVec 32 := BitVec.ofNat 32 (i 0).val
  let c1_i32_606 : BitVec 32 := 1#32
  let v1607 : BitVec 32 := Scalar.addi arg0 c1_i32_606
  let c32_i32_612 : BitVec 32 := 32#32
  let v1613 : BitVec 32 := Scalar.muli v1607 c32_i32_612
  let c0_i32_648 : BitVec 32 := 0#32
  ![4, v1613.toNat, 0]
def k0_off12 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_651 : BitVec 32 := 0#32
  let c5_i32_650 : BitVec 32 := 5#32
  let c0_i32_652 : BitVec 32 := 0#32
  ![v1608.toNat, 0, 5, 0]
def k0_off13 (i : grid0.Coords) : Fin 3 → Nat :=
  let c5_i32_649 : BitVec 32 := 5#32
  let arg0 : BitVec 32 := BitVec.ofNat 32 (i 0).val
  let c1_i32_606 : BitVec 32 := 1#32
  let v1607 : BitVec 32 := Scalar.addi arg0 c1_i32_606
  let c32_i32_613 : BitVec 32 := 32#32
  let v1614 : BitVec 32 := Scalar.muli v1607 c32_i32_613
  let c0_i32_653 : BitVec 32 := 0#32
  ![5, v1614.toNat, 0]
def k0_off14 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_656 : BitVec 32 := 0#32
  let c6_i32_655 : BitVec 32 := 6#32
  let c0_i32_657 : BitVec 32 := 0#32
  ![v1608.toNat, 0, 6, 0]
def k0_off15 (i : grid0.Coords) : Fin 3 → Nat :=
  let c6_i32_654 : BitVec 32 := 6#32
  let arg0 : BitVec 32 := BitVec.ofNat 32 (i 0).val
  let c1_i32_606 : BitVec 32 := 1#32
  let v1607 : BitVec 32 := Scalar.addi arg0 c1_i32_606
  let c32_i32_614 : BitVec 32 := 32#32
  let v1615 : BitVec 32 := Scalar.muli v1607 c32_i32_614
  let c0_i32_658 : BitVec 32 := 0#32
  ![6, v1615.toNat, 0]
def k0_off16 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_661 : BitVec 32 := 0#32
  let c7_i32_660 : BitVec 32 := 7#32
  let c0_i32_662 : BitVec 32 := 0#32
  ![v1608.toNat, 0, 7, 0]
def k0_off17 (i : grid0.Coords) : Fin 3 → Nat :=
  let c7_i32_659 : BitVec 32 := 7#32
  let arg0 : BitVec 32 := BitVec.ofNat 32 (i 0).val
  let c1_i32_606 : BitVec 32 := 1#32
  let v1607 : BitVec 32 := Scalar.addi arg0 c1_i32_606
  let c32_i32_615 : BitVec 32 := 32#32
  let v1616 : BitVec 32 := Scalar.muli v1607 c32_i32_615
  let c0_i32_663 : BitVec 32 := 0#32
  ![7, v1616.toNat, 0]
def k0_off18 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_666 : BitVec 32 := 0#32
  let c8_i32_665 : BitVec 32 := 8#32
  let c0_i32_667 : BitVec 32 := 0#32
  ![v1608.toNat, 0, 8, 0]
def k0_off19 (i : grid0.Coords) : Fin 3 → Nat :=
  let c8_i32_664 : BitVec 32 := 8#32
  let arg0 : BitVec 32 := BitVec.ofNat 32 (i 0).val
  let c1_i32_606 : BitVec 32 := 1#32
  let v1607 : BitVec 32 := Scalar.addi arg0 c1_i32_606
  let c32_i32_616 : BitVec 32 := 32#32
  let v1617 : BitVec 32 := Scalar.muli v1607 c32_i32_616
  let c0_i32_668 : BitVec 32 := 0#32
  ![8, v1617.toNat, 0]
def k0_off20 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_671 : BitVec 32 := 0#32
  let c9_i32_670 : BitVec 32 := 9#32
  let c0_i32_672 : BitVec 32 := 0#32
  ![v1608.toNat, 0, 9, 0]
def k0_off21 (i : grid0.Coords) : Fin 3 → Nat :=
  let c9_i32_669 : BitVec 32 := 9#32
  let arg0 : BitVec 32 := BitVec.ofNat 32 (i 0).val
  let c1_i32_606 : BitVec 32 := 1#32
  let v1607 : BitVec 32 := Scalar.addi arg0 c1_i32_606
  let c32_i32_617 : BitVec 32 := 32#32
  let v1618 : BitVec 32 := Scalar.muli v1607 c32_i32_617
  let c0_i32_673 : BitVec 32 := 0#32
  ![9, v1618.toNat, 0]
def k0_off22 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_676 : BitVec 32 := 0#32
  let c10_i32_675 : BitVec 32 := 10#32
  let c0_i32_677 : BitVec 32 := 0#32
  ![v1608.toNat, 0, 10, 0]
def k0_off23 (i : grid0.Coords) : Fin 3 → Nat :=
  let c10_i32_674 : BitVec 32 := 10#32
  let arg0 : BitVec 32 := BitVec.ofNat 32 (i 0).val
  let c1_i32_606 : BitVec 32 := 1#32
  let v1607 : BitVec 32 := Scalar.addi arg0 c1_i32_606
  let c32_i32_618 : BitVec 32 := 32#32
  let v1619 : BitVec 32 := Scalar.muli v1607 c32_i32_618
  let c0_i32_678 : BitVec 32 := 0#32
  ![10, v1619.toNat, 0]
def k0_off24 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_681 : BitVec 32 := 0#32
  let c11_i32_680 : BitVec 32 := 11#32
  let c0_i32_682 : BitVec 32 := 0#32
  ![v1608.toNat, 0, 11, 0]
def k0_off25 (i : grid0.Coords) : Fin 3 → Nat :=
  let c11_i32_679 : BitVec 32 := 11#32
  let arg0 : BitVec 32 := BitVec.ofNat 32 (i 0).val
  let c1_i32_606 : BitVec 32 := 1#32
  let v1607 : BitVec 32 := Scalar.addi arg0 c1_i32_606
  let c32_i32_619 : BitVec 32 := 32#32
  let v1620 : BitVec 32 := Scalar.muli v1607 c32_i32_619
  let c0_i32_683 : BitVec 32 := 0#32
  ![11, v1620.toNat, 0]
def k0_off26 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_686 : BitVec 32 := 0#32
  let c12_i32_685 : BitVec 32 := 12#32
  let c0_i32_687 : BitVec 32 := 0#32
  ![v1608.toNat, 0, 12, 0]
def k0_off27 (i : grid0.Coords) : Fin 3 → Nat :=
  let c12_i32_684 : BitVec 32 := 12#32
  let arg0 : BitVec 32 := BitVec.ofNat 32 (i 0).val
  let c1_i32_606 : BitVec 32 := 1#32
  let v1607 : BitVec 32 := Scalar.addi arg0 c1_i32_606
  let c32_i32_620 : BitVec 32 := 32#32
  let v1621 : BitVec 32 := Scalar.muli v1607 c32_i32_620
  let c0_i32_688 : BitVec 32 := 0#32
  ![12, v1621.toNat, 0]
def k0_off28 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_691 : BitVec 32 := 0#32
  let c13_i32_690 : BitVec 32 := 13#32
  let c0_i32_692 : BitVec 32 := 0#32
  ![v1608.toNat, 0, 13, 0]
def k0_off29 (i : grid0.Coords) : Fin 3 → Nat :=
  let c13_i32_689 : BitVec 32 := 13#32
  let arg0 : BitVec 32 := BitVec.ofNat 32 (i 0).val
  let c1_i32_606 : BitVec 32 := 1#32
  let v1607 : BitVec 32 := Scalar.addi arg0 c1_i32_606
  let c32_i32_621 : BitVec 32 := 32#32
  let v1622 : BitVec 32 := Scalar.muli v1607 c32_i32_621
  let c0_i32_693 : BitVec 32 := 0#32
  ![13, v1622.toNat, 0]
def k0_off30 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_696 : BitVec 32 := 0#32
  let c14_i32_695 : BitVec 32 := 14#32
  let c0_i32_697 : BitVec 32 := 0#32
  ![v1608.toNat, 0, 14, 0]
def k0_off31 (i : grid0.Coords) : Fin 3 → Nat :=
  let c14_i32_694 : BitVec 32 := 14#32
  let arg0 : BitVec 32 := BitVec.ofNat 32 (i 0).val
  let c1_i32_606 : BitVec 32 := 1#32
  let v1607 : BitVec 32 := Scalar.addi arg0 c1_i32_606
  let c32_i32_622 : BitVec 32 := 32#32
  let v1623 : BitVec 32 := Scalar.muli v1607 c32_i32_622
  let c0_i32_698 : BitVec 32 := 0#32
  ![14, v1623.toNat, 0]
def k0_off32 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_701 : BitVec 32 := 0#32
  let c15_i32_700 : BitVec 32 := 15#32
  let c0_i32_702 : BitVec 32 := 0#32
  ![v1608.toNat, 0, 15, 0]
def k0_off33 (i : grid0.Coords) : Fin 3 → Nat :=
  let c15_i32_699 : BitVec 32 := 15#32
  let arg0 : BitVec 32 := BitVec.ofNat 32 (i 0).val
  let c1_i32_606 : BitVec 32 := 1#32
  let v1607 : BitVec 32 := Scalar.addi arg0 c1_i32_606
  let c32_i32_623 : BitVec 32 := 32#32
  let v1624 : BitVec 32 := Scalar.muli v1607 c32_i32_623
  let c0_i32_703 : BitVec 32 := 0#32
  ![15, v1624.toNat, 0]
def k0_cond3 (i : grid0.Coords) : BitVec 1 :=
  let arg0 : BitVec 32 := BitVec.ofNat 32 (i 0).val
  let c2_i32_2 : BitVec 32 := 2#32
  let v8 : BitVec 1 := Scalar.cmpi .sge arg0 c2_i32_2
  let v9 : BitVec 32 := Scalar.extui v8
  let c0_i32_3 : BitVec 32 := 0#32
  let v10 : BitVec 1 := Scalar.cmpi .ne v9 c0_i32_3
  v10

def k0_off34 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off35 (i : grid0.Coords) : Fin 3 → Nat :=
  let c0_i32_624 : BitVec 32 := 0#32
  let arg0 : BitVec 32 := BitVec.ofNat 32 (i 0).val
  let c2_i32_606 : BitVec 32 := 2#32
  let v1607 : BitVec 32 := Scalar.subi arg0 c2_i32_606
  let c32_i32_607 : BitVec 32 := 32#32
  let v1608 : BitVec 32 := Scalar.muli v1607 c32_i32_607
  let c0_i32_625 : BitVec 32 := 0#32
  ![0, v1608.toNat, 0]
def k0_off36 (i : grid0.Coords) : Fin 4 → Nat :=
  let arg0 : BitVec 32 := BitVec.ofNat 32 (i 0).val
  let c2_i32 : BitVec 32 := 2#32
  let v0 : BitVec 32 := Scalar.remsi arg0 c2_i32
  let c0_i32_626 : BitVec 32 := 0#32
  let c0_i32_623 : BitVec 32 := 0#32
  let c0_i32_627 : BitVec 32 := 0#32
  ![v0.toNat, 0, 0, 0]
def k0_off37 (i : grid0.Coords) : Fin 3 → Nat :=
  let c1_i32_629 : BitVec 32 := 1#32
  let arg0 : BitVec 32 := BitVec.ofNat 32 (i 0).val
  let c2_i32_606 : BitVec 32 := 2#32
  let v1607 : BitVec 32 := Scalar.subi arg0 c2_i32_606
  let c32_i32_608 : BitVec 32 := 32#32
  let v1609 : BitVec 32 := Scalar.muli v1607 c32_i32_608
  let c0_i32_630 : BitVec 32 := 0#32
  ![1, v1609.toNat, 0]
def k0_off38 (i : grid0.Coords) : Fin 4 → Nat :=
  let arg0 : BitVec 32 := BitVec.ofNat 32 (i 0).val
  let c2_i32 : BitVec 32 := 2#32
  let v0 : BitVec 32 := Scalar.remsi arg0 c2_i32
  let c0_i32_631 : BitVec 32 := 0#32
  let c1_i32_628 : BitVec 32 := 1#32
  let c0_i32_632 : BitVec 32 := 0#32
  ![v0.toNat, 0, 1, 0]
def k0_off39 (i : grid0.Coords) : Fin 3 → Nat :=
  let c2_i32_634 : BitVec 32 := 2#32
  let arg0 : BitVec 32 := BitVec.ofNat 32 (i 0).val
  let c2_i32_606 : BitVec 32 := 2#32
  let v1607 : BitVec 32 := Scalar.subi arg0 c2_i32_606
  let c32_i32_609 : BitVec 32 := 32#32
  let v1610 : BitVec 32 := Scalar.muli v1607 c32_i32_609
  let c0_i32_635 : BitVec 32 := 0#32
  ![2, v1610.toNat, 0]
def k0_off40 (i : grid0.Coords) : Fin 4 → Nat :=
  let arg0 : BitVec 32 := BitVec.ofNat 32 (i 0).val
  let c2_i32 : BitVec 32 := 2#32
  let v0 : BitVec 32 := Scalar.remsi arg0 c2_i32
  let c0_i32_636 : BitVec 32 := 0#32
  let c2_i32_633 : BitVec 32 := 2#32
  let c0_i32_637 : BitVec 32 := 0#32
  ![v0.toNat, 0, 2, 0]
def k0_off41 (i : grid0.Coords) : Fin 3 → Nat :=
  let c3_i32_639 : BitVec 32 := 3#32
  let arg0 : BitVec 32 := BitVec.ofNat 32 (i 0).val
  let c2_i32_606 : BitVec 32 := 2#32
  let v1607 : BitVec 32 := Scalar.subi arg0 c2_i32_606
  let c32_i32_610 : BitVec 32 := 32#32
  let v1611 : BitVec 32 := Scalar.muli v1607 c32_i32_610
  let c0_i32_640 : BitVec 32 := 0#32
  ![3, v1611.toNat, 0]
def k0_off42 (i : grid0.Coords) : Fin 4 → Nat :=
  let arg0 : BitVec 32 := BitVec.ofNat 32 (i 0).val
  let c2_i32 : BitVec 32 := 2#32
  let v0 : BitVec 32 := Scalar.remsi arg0 c2_i32
  let c0_i32_641 : BitVec 32 := 0#32
  let c3_i32_638 : BitVec 32 := 3#32
  let c0_i32_642 : BitVec 32 := 0#32
  ![v0.toNat, 0, 3, 0]
def k0_off43 (i : grid0.Coords) : Fin 3 → Nat :=
  let c4_i32_644 : BitVec 32 := 4#32
  let arg0 : BitVec 32 := BitVec.ofNat 32 (i 0).val
  let c2_i32_606 : BitVec 32 := 2#32
  let v1607 : BitVec 32 := Scalar.subi arg0 c2_i32_606
  let c32_i32_611 : BitVec 32 := 32#32
  let v1612 : BitVec 32 := Scalar.muli v1607 c32_i32_611
  let c0_i32_645 : BitVec 32 := 0#32
  ![4, v1612.toNat, 0]
def k0_off44 (i : grid0.Coords) : Fin 4 → Nat :=
  let arg0 : BitVec 32 := BitVec.ofNat 32 (i 0).val
  let c2_i32 : BitVec 32 := 2#32
  let v0 : BitVec 32 := Scalar.remsi arg0 c2_i32
  let c0_i32_646 : BitVec 32 := 0#32
  let c4_i32_643 : BitVec 32 := 4#32
  let c0_i32_647 : BitVec 32 := 0#32
  ![v0.toNat, 0, 4, 0]
def k0_off45 (i : grid0.Coords) : Fin 3 → Nat :=
  let c5_i32_649 : BitVec 32 := 5#32
  let arg0 : BitVec 32 := BitVec.ofNat 32 (i 0).val
  let c2_i32_606 : BitVec 32 := 2#32
  let v1607 : BitVec 32 := Scalar.subi arg0 c2_i32_606
  let c32_i32_612 : BitVec 32 := 32#32
  let v1613 : BitVec 32 := Scalar.muli v1607 c32_i32_612
  let c0_i32_650 : BitVec 32 := 0#32
  ![5, v1613.toNat, 0]
def k0_off46 (i : grid0.Coords) : Fin 4 → Nat :=
  let arg0 : BitVec 32 := BitVec.ofNat 32 (i 0).val
  let c2_i32 : BitVec 32 := 2#32
  let v0 : BitVec 32 := Scalar.remsi arg0 c2_i32
  let c0_i32_651 : BitVec 32 := 0#32
  let c5_i32_648 : BitVec 32 := 5#32
  let c0_i32_652 : BitVec 32 := 0#32
  ![v0.toNat, 0, 5, 0]
def k0_off47 (i : grid0.Coords) : Fin 3 → Nat :=
  let c6_i32_654 : BitVec 32 := 6#32
  let arg0 : BitVec 32 := BitVec.ofNat 32 (i 0).val
  let c2_i32_606 : BitVec 32 := 2#32
  let v1607 : BitVec 32 := Scalar.subi arg0 c2_i32_606
  let c32_i32_613 : BitVec 32 := 32#32
  let v1614 : BitVec 32 := Scalar.muli v1607 c32_i32_613
  let c0_i32_655 : BitVec 32 := 0#32
  ![6, v1614.toNat, 0]
def k0_off48 (i : grid0.Coords) : Fin 4 → Nat :=
  let arg0 : BitVec 32 := BitVec.ofNat 32 (i 0).val
  let c2_i32 : BitVec 32 := 2#32
  let v0 : BitVec 32 := Scalar.remsi arg0 c2_i32
  let c0_i32_656 : BitVec 32 := 0#32
  let c6_i32_653 : BitVec 32 := 6#32
  let c0_i32_657 : BitVec 32 := 0#32
  ![v0.toNat, 0, 6, 0]
def k0_off49 (i : grid0.Coords) : Fin 3 → Nat :=
  let c7_i32_659 : BitVec 32 := 7#32
  let arg0 : BitVec 32 := BitVec.ofNat 32 (i 0).val
  let c2_i32_606 : BitVec 32 := 2#32
  let v1607 : BitVec 32 := Scalar.subi arg0 c2_i32_606
  let c32_i32_614 : BitVec 32 := 32#32
  let v1615 : BitVec 32 := Scalar.muli v1607 c32_i32_614
  let c0_i32_660 : BitVec 32 := 0#32
  ![7, v1615.toNat, 0]
def k0_off50 (i : grid0.Coords) : Fin 4 → Nat :=
  let arg0 : BitVec 32 := BitVec.ofNat 32 (i 0).val
  let c2_i32 : BitVec 32 := 2#32
  let v0 : BitVec 32 := Scalar.remsi arg0 c2_i32
  let c0_i32_661 : BitVec 32 := 0#32
  let c7_i32_658 : BitVec 32 := 7#32
  let c0_i32_662 : BitVec 32 := 0#32
  ![v0.toNat, 0, 7, 0]
def k0_off51 (i : grid0.Coords) : Fin 3 → Nat :=
  let c8_i32_664 : BitVec 32 := 8#32
  let arg0 : BitVec 32 := BitVec.ofNat 32 (i 0).val
  let c2_i32_606 : BitVec 32 := 2#32
  let v1607 : BitVec 32 := Scalar.subi arg0 c2_i32_606
  let c32_i32_615 : BitVec 32 := 32#32
  let v1616 : BitVec 32 := Scalar.muli v1607 c32_i32_615
  let c0_i32_665 : BitVec 32 := 0#32
  ![8, v1616.toNat, 0]
def k0_off52 (i : grid0.Coords) : Fin 4 → Nat :=
  let arg0 : BitVec 32 := BitVec.ofNat 32 (i 0).val
  let c2_i32 : BitVec 32 := 2#32
  let v0 : BitVec 32 := Scalar.remsi arg0 c2_i32
  let c0_i32_666 : BitVec 32 := 0#32
  let c8_i32_663 : BitVec 32 := 8#32
  let c0_i32_667 : BitVec 32 := 0#32
  ![v0.toNat, 0, 8, 0]
def k0_off53 (i : grid0.Coords) : Fin 3 → Nat :=
  let c9_i32_669 : BitVec 32 := 9#32
  let arg0 : BitVec 32 := BitVec.ofNat 32 (i 0).val
  let c2_i32_606 : BitVec 32 := 2#32
  let v1607 : BitVec 32 := Scalar.subi arg0 c2_i32_606
  let c32_i32_616 : BitVec 32 := 32#32
  let v1617 : BitVec 32 := Scalar.muli v1607 c32_i32_616
  let c0_i32_670 : BitVec 32 := 0#32
  ![9, v1617.toNat, 0]
def k0_off54 (i : grid0.Coords) : Fin 4 → Nat :=
  let arg0 : BitVec 32 := BitVec.ofNat 32 (i 0).val
  let c2_i32 : BitVec 32 := 2#32
  let v0 : BitVec 32 := Scalar.remsi arg0 c2_i32
  let c0_i32_671 : BitVec 32 := 0#32
  let c9_i32_668 : BitVec 32 := 9#32
  let c0_i32_672 : BitVec 32 := 0#32
  ![v0.toNat, 0, 9, 0]
def k0_off55 (i : grid0.Coords) : Fin 3 → Nat :=
  let c10_i32_674 : BitVec 32 := 10#32
  let arg0 : BitVec 32 := BitVec.ofNat 32 (i 0).val
  let c2_i32_606 : BitVec 32 := 2#32
  let v1607 : BitVec 32 := Scalar.subi arg0 c2_i32_606
  let c32_i32_617 : BitVec 32 := 32#32
  let v1618 : BitVec 32 := Scalar.muli v1607 c32_i32_617
  let c0_i32_675 : BitVec 32 := 0#32
  ![10, v1618.toNat, 0]
def k0_off56 (i : grid0.Coords) : Fin 4 → Nat :=
  let arg0 : BitVec 32 := BitVec.ofNat 32 (i 0).val
  let c2_i32 : BitVec 32 := 2#32
  let v0 : BitVec 32 := Scalar.remsi arg0 c2_i32
  let c0_i32_676 : BitVec 32 := 0#32
  let c10_i32_673 : BitVec 32 := 10#32
  let c0_i32_677 : BitVec 32 := 0#32
  ![v0.toNat, 0, 10, 0]
def k0_off57 (i : grid0.Coords) : Fin 3 → Nat :=
  let c11_i32_679 : BitVec 32 := 11#32
  let arg0 : BitVec 32 := BitVec.ofNat 32 (i 0).val
  let c2_i32_606 : BitVec 32 := 2#32
  let v1607 : BitVec 32 := Scalar.subi arg0 c2_i32_606
  let c32_i32_618 : BitVec 32 := 32#32
  let v1619 : BitVec 32 := Scalar.muli v1607 c32_i32_618
  let c0_i32_680 : BitVec 32 := 0#32
  ![11, v1619.toNat, 0]
def k0_off58 (i : grid0.Coords) : Fin 4 → Nat :=
  let arg0 : BitVec 32 := BitVec.ofNat 32 (i 0).val
  let c2_i32 : BitVec 32 := 2#32
  let v0 : BitVec 32 := Scalar.remsi arg0 c2_i32
  let c0_i32_681 : BitVec 32 := 0#32
  let c11_i32_678 : BitVec 32 := 11#32
  let c0_i32_682 : BitVec 32 := 0#32
  ![v0.toNat, 0, 11, 0]
def k0_off59 (i : grid0.Coords) : Fin 3 → Nat :=
  let c12_i32_684 : BitVec 32 := 12#32
  let arg0 : BitVec 32 := BitVec.ofNat 32 (i 0).val
  let c2_i32_606 : BitVec 32 := 2#32
  let v1607 : BitVec 32 := Scalar.subi arg0 c2_i32_606
  let c32_i32_619 : BitVec 32 := 32#32
  let v1620 : BitVec 32 := Scalar.muli v1607 c32_i32_619
  let c0_i32_685 : BitVec 32 := 0#32
  ![12, v1620.toNat, 0]
def k0_off60 (i : grid0.Coords) : Fin 4 → Nat :=
  let arg0 : BitVec 32 := BitVec.ofNat 32 (i 0).val
  let c2_i32 : BitVec 32 := 2#32
  let v0 : BitVec 32 := Scalar.remsi arg0 c2_i32
  let c0_i32_686 : BitVec 32 := 0#32
  let c12_i32_683 : BitVec 32 := 12#32
  let c0_i32_687 : BitVec 32 := 0#32
  ![v0.toNat, 0, 12, 0]
def k0_off61 (i : grid0.Coords) : Fin 3 → Nat :=
  let c13_i32_689 : BitVec 32 := 13#32
  let arg0 : BitVec 32 := BitVec.ofNat 32 (i 0).val
  let c2_i32_606 : BitVec 32 := 2#32
  let v1607 : BitVec 32 := Scalar.subi arg0 c2_i32_606
  let c32_i32_620 : BitVec 32 := 32#32
  let v1621 : BitVec 32 := Scalar.muli v1607 c32_i32_620
  let c0_i32_690 : BitVec 32 := 0#32
  ![13, v1621.toNat, 0]
def k0_off62 (i : grid0.Coords) : Fin 4 → Nat :=
  let arg0 : BitVec 32 := BitVec.ofNat 32 (i 0).val
  let c2_i32 : BitVec 32 := 2#32
  let v0 : BitVec 32 := Scalar.remsi arg0 c2_i32
  let c0_i32_691 : BitVec 32 := 0#32
  let c13_i32_688 : BitVec 32 := 13#32
  let c0_i32_692 : BitVec 32 := 0#32
  ![v0.toNat, 0, 13, 0]
def k0_off63 (i : grid0.Coords) : Fin 3 → Nat :=
  let c14_i32_694 : BitVec 32 := 14#32
  let arg0 : BitVec 32 := BitVec.ofNat 32 (i 0).val
  let c2_i32_606 : BitVec 32 := 2#32
  let v1607 : BitVec 32 := Scalar.subi arg0 c2_i32_606
  let c32_i32_621 : BitVec 32 := 32#32
  let v1622 : BitVec 32 := Scalar.muli v1607 c32_i32_621
  let c0_i32_695 : BitVec 32 := 0#32
  ![14, v1622.toNat, 0]
def k0_off64 (i : grid0.Coords) : Fin 4 → Nat :=
  let arg0 : BitVec 32 := BitVec.ofNat 32 (i 0).val
  let c2_i32 : BitVec 32 := 2#32
  let v0 : BitVec 32 := Scalar.remsi arg0 c2_i32
  let c0_i32_696 : BitVec 32 := 0#32
  let c14_i32_693 : BitVec 32 := 14#32
  let c0_i32_697 : BitVec 32 := 0#32
  ![v0.toNat, 0, 14, 0]
def k0_off65 (i : grid0.Coords) : Fin 3 → Nat :=
  let c15_i32_699 : BitVec 32 := 15#32
  let arg0 : BitVec 32 := BitVec.ofNat 32 (i 0).val
  let c2_i32_606 : BitVec 32 := 2#32
  let v1607 : BitVec 32 := Scalar.subi arg0 c2_i32_606
  let c32_i32_622 : BitVec 32 := 32#32
  let v1623 : BitVec 32 := Scalar.muli v1607 c32_i32_622
  let c0_i32_700 : BitVec 32 := 0#32
  ![15, v1623.toNat, 0]
def k0_off66 (i : grid0.Coords) : Fin 4 → Nat :=
  let arg0 : BitVec 32 := BitVec.ofNat 32 (i 0).val
  let c2_i32 : BitVec 32 := 2#32
  let v0 : BitVec 32 := Scalar.remsi arg0 c2_i32
  let c0_i32_701 : BitVec 32 := 0#32
  let c15_i32_698 : BitVec 32 := 15#32
  let c0_i32_702 : BitVec 32 := 0#32
  ![v0.toNat, 0, 15, 0]
def k0_off67 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off68 (i : grid0.Coords) : Fin 4 → Nat :=
  let arg0 : BitVec 32 := BitVec.ofNat 32 (i 0).val
  let c2_i32 : BitVec 32 := 2#32
  let v0 : BitVec 32 := Scalar.remsi arg0 c2_i32
  let c0_i32_21 : BitVec 32 := 0#32
  let c0_i32_20 : BitVec 32 := 0#32
  let c0_i32_22 : BitVec 32 := 0#32
  ![v0.toNat, 0, 0, 0]
def k0_off69 (i : grid0.Coords) : Fin 3 → Nat :=
  let c0_i32_19 : BitVec 32 := 0#32
  let arg0 : BitVec 32 := BitVec.ofNat 32 (i 0).val
  let c32_i32 : BitVec 32 := 32#32
  let v11 : BitVec 32 := Scalar.muli arg0 c32_i32
  let c0_i32_23 : BitVec 32 := 0#32
  ![0, v11.toNat, 0]
def k0_off70 (i : grid0.Coords) : Fin 4 → Nat :=
  let arg0 : BitVec 32 := BitVec.ofNat 32 (i 0).val
  let c2_i32 : BitVec 32 := 2#32
  let v0 : BitVec 32 := Scalar.remsi arg0 c2_i32
  let c0_i32_26 : BitVec 32 := 0#32
  let c1_i32_25 : BitVec 32 := 1#32
  let c0_i32_27 : BitVec 32 := 0#32
  ![v0.toNat, 0, 1, 0]
def k0_off71 (i : grid0.Coords) : Fin 3 → Nat :=
  let c1_i32_24 : BitVec 32 := 1#32
  let arg0 : BitVec 32 := BitVec.ofNat 32 (i 0).val
  let c32_i32_4 : BitVec 32 := 32#32
  let v12 : BitVec 32 := Scalar.muli arg0 c32_i32_4
  let c0_i32_28 : BitVec 32 := 0#32
  ![1, v12.toNat, 0]
def k0_off72 (i : grid0.Coords) : Fin 4 → Nat :=
  let arg0 : BitVec 32 := BitVec.ofNat 32 (i 0).val
  let c2_i32 : BitVec 32 := 2#32
  let v0 : BitVec 32 := Scalar.remsi arg0 c2_i32
  let c0_i32_31 : BitVec 32 := 0#32
  let c2_i32_30 : BitVec 32 := 2#32
  let c0_i32_32 : BitVec 32 := 0#32
  ![v0.toNat, 0, 2, 0]
def k0_off73 (i : grid0.Coords) : Fin 3 → Nat :=
  let c2_i32_29 : BitVec 32 := 2#32
  let arg0 : BitVec 32 := BitVec.ofNat 32 (i 0).val
  let c32_i32_5 : BitVec 32 := 32#32
  let v13 : BitVec 32 := Scalar.muli arg0 c32_i32_5
  let c0_i32_33 : BitVec 32 := 0#32
  ![2, v13.toNat, 0]
def k0_off74 (i : grid0.Coords) : Fin 4 → Nat :=
  let arg0 : BitVec 32 := BitVec.ofNat 32 (i 0).val
  let c2_i32 : BitVec 32 := 2#32
  let v0 : BitVec 32 := Scalar.remsi arg0 c2_i32
  let c0_i32_35 : BitVec 32 := 0#32
  let c3_i32_34 : BitVec 32 := 3#32
  let c0_i32_36 : BitVec 32 := 0#32
  ![v0.toNat, 0, 3, 0]
def k0_off75 (i : grid0.Coords) : Fin 3 → Nat :=
  let c3_i32 : BitVec 32 := 3#32
  let arg0 : BitVec 32 := BitVec.ofNat 32 (i 0).val
  let c32_i32_6 : BitVec 32 := 32#32
  let v14 : BitVec 32 := Scalar.muli arg0 c32_i32_6
  let c0_i32_37 : BitVec 32 := 0#32
  ![3, v14.toNat, 0]
def k0_off76 (i : grid0.Coords) : Fin 4 → Nat :=
  let arg0 : BitVec 32 := BitVec.ofNat 32 (i 0).val
  let c2_i32 : BitVec 32 := 2#32
  let v0 : BitVec 32 := Scalar.remsi arg0 c2_i32
  let c0_i32_39 : BitVec 32 := 0#32
  let c4_i32_38 : BitVec 32 := 4#32
  let c0_i32_40 : BitVec 32 := 0#32
  ![v0.toNat, 0, 4, 0]
def k0_off77 (i : grid0.Coords) : Fin 3 → Nat :=
  let c4_i32 : BitVec 32 := 4#32
  let arg0 : BitVec 32 := BitVec.ofNat 32 (i 0).val
  let c32_i32_7 : BitVec 32 := 32#32
  let v15 : BitVec 32 := Scalar.muli arg0 c32_i32_7
  let c0_i32_41 : BitVec 32 := 0#32
  ![4, v15.toNat, 0]
def k0_off78 (i : grid0.Coords) : Fin 4 → Nat :=
  let arg0 : BitVec 32 := BitVec.ofNat 32 (i 0).val
  let c2_i32 : BitVec 32 := 2#32
  let v0 : BitVec 32 := Scalar.remsi arg0 c2_i32
  let c0_i32_43 : BitVec 32 := 0#32
  let c5_i32_42 : BitVec 32 := 5#32
  let c0_i32_44 : BitVec 32 := 0#32
  ![v0.toNat, 0, 5, 0]
def k0_off79 (i : grid0.Coords) : Fin 3 → Nat :=
  let c5_i32 : BitVec 32 := 5#32
  let arg0 : BitVec 32 := BitVec.ofNat 32 (i 0).val
  let c32_i32_8 : BitVec 32 := 32#32
  let v16 : BitVec 32 := Scalar.muli arg0 c32_i32_8
  let c0_i32_45 : BitVec 32 := 0#32
  ![5, v16.toNat, 0]
def k0_off80 (i : grid0.Coords) : Fin 4 → Nat :=
  let arg0 : BitVec 32 := BitVec.ofNat 32 (i 0).val
  let c2_i32 : BitVec 32 := 2#32
  let v0 : BitVec 32 := Scalar.remsi arg0 c2_i32
  let c0_i32_47 : BitVec 32 := 0#32
  let c6_i32_46 : BitVec 32 := 6#32
  let c0_i32_48 : BitVec 32 := 0#32
  ![v0.toNat, 0, 6, 0]
def k0_off81 (i : grid0.Coords) : Fin 3 → Nat :=
  let c6_i32 : BitVec 32 := 6#32
  let arg0 : BitVec 32 := BitVec.ofNat 32 (i 0).val
  let c32_i32_9 : BitVec 32 := 32#32
  let v17 : BitVec 32 := Scalar.muli arg0 c32_i32_9
  let c0_i32_49 : BitVec 32 := 0#32
  ![6, v17.toNat, 0]
def k0_off82 (i : grid0.Coords) : Fin 4 → Nat :=
  let arg0 : BitVec 32 := BitVec.ofNat 32 (i 0).val
  let c2_i32 : BitVec 32 := 2#32
  let v0 : BitVec 32 := Scalar.remsi arg0 c2_i32
  let c0_i32_51 : BitVec 32 := 0#32
  let c7_i32_50 : BitVec 32 := 7#32
  let c0_i32_52 : BitVec 32 := 0#32
  ![v0.toNat, 0, 7, 0]
def k0_off83 (i : grid0.Coords) : Fin 3 → Nat :=
  let c7_i32 : BitVec 32 := 7#32
  let arg0 : BitVec 32 := BitVec.ofNat 32 (i 0).val
  let c32_i32_10 : BitVec 32 := 32#32
  let v18 : BitVec 32 := Scalar.muli arg0 c32_i32_10
  let c0_i32_53 : BitVec 32 := 0#32
  ![7, v18.toNat, 0]
def k0_off84 (i : grid0.Coords) : Fin 4 → Nat :=
  let arg0 : BitVec 32 := BitVec.ofNat 32 (i 0).val
  let c2_i32 : BitVec 32 := 2#32
  let v0 : BitVec 32 := Scalar.remsi arg0 c2_i32
  let c0_i32_55 : BitVec 32 := 0#32
  let c8_i32_54 : BitVec 32 := 8#32
  let c0_i32_56 : BitVec 32 := 0#32
  ![v0.toNat, 0, 8, 0]
def k0_off85 (i : grid0.Coords) : Fin 3 → Nat :=
  let c8_i32 : BitVec 32 := 8#32
  let arg0 : BitVec 32 := BitVec.ofNat 32 (i 0).val
  let c32_i32_11 : BitVec 32 := 32#32
  let v19 : BitVec 32 := Scalar.muli arg0 c32_i32_11
  let c0_i32_57 : BitVec 32 := 0#32
  ![8, v19.toNat, 0]
def k0_off86 (i : grid0.Coords) : Fin 4 → Nat :=
  let arg0 : BitVec 32 := BitVec.ofNat 32 (i 0).val
  let c2_i32 : BitVec 32 := 2#32
  let v0 : BitVec 32 := Scalar.remsi arg0 c2_i32
  let c0_i32_59 : BitVec 32 := 0#32
  let c9_i32_58 : BitVec 32 := 9#32
  let c0_i32_60 : BitVec 32 := 0#32
  ![v0.toNat, 0, 9, 0]
def k0_off87 (i : grid0.Coords) : Fin 3 → Nat :=
  let c9_i32 : BitVec 32 := 9#32
  let arg0 : BitVec 32 := BitVec.ofNat 32 (i 0).val
  let c32_i32_12 : BitVec 32 := 32#32
  let v20 : BitVec 32 := Scalar.muli arg0 c32_i32_12
  let c0_i32_61 : BitVec 32 := 0#32
  ![9, v20.toNat, 0]
def k0_off88 (i : grid0.Coords) : Fin 4 → Nat :=
  let arg0 : BitVec 32 := BitVec.ofNat 32 (i 0).val
  let c2_i32 : BitVec 32 := 2#32
  let v0 : BitVec 32 := Scalar.remsi arg0 c2_i32
  let c0_i32_63 : BitVec 32 := 0#32
  let c10_i32_62 : BitVec 32 := 10#32
  let c0_i32_64 : BitVec 32 := 0#32
  ![v0.toNat, 0, 10, 0]
def k0_off89 (i : grid0.Coords) : Fin 3 → Nat :=
  let c10_i32 : BitVec 32 := 10#32
  let arg0 : BitVec 32 := BitVec.ofNat 32 (i 0).val
  let c32_i32_13 : BitVec 32 := 32#32
  let v21 : BitVec 32 := Scalar.muli arg0 c32_i32_13
  let c0_i32_65 : BitVec 32 := 0#32
  ![10, v21.toNat, 0]
def k0_off90 (i : grid0.Coords) : Fin 4 → Nat :=
  let arg0 : BitVec 32 := BitVec.ofNat 32 (i 0).val
  let c2_i32 : BitVec 32 := 2#32
  let v0 : BitVec 32 := Scalar.remsi arg0 c2_i32
  let c0_i32_67 : BitVec 32 := 0#32
  let c11_i32_66 : BitVec 32 := 11#32
  let c0_i32_68 : BitVec 32 := 0#32
  ![v0.toNat, 0, 11, 0]
def k0_off91 (i : grid0.Coords) : Fin 3 → Nat :=
  let c11_i32 : BitVec 32 := 11#32
  let arg0 : BitVec 32 := BitVec.ofNat 32 (i 0).val
  let c32_i32_14 : BitVec 32 := 32#32
  let v22 : BitVec 32 := Scalar.muli arg0 c32_i32_14
  let c0_i32_69 : BitVec 32 := 0#32
  ![11, v22.toNat, 0]
def k0_off92 (i : grid0.Coords) : Fin 4 → Nat :=
  let arg0 : BitVec 32 := BitVec.ofNat 32 (i 0).val
  let c2_i32 : BitVec 32 := 2#32
  let v0 : BitVec 32 := Scalar.remsi arg0 c2_i32
  let c0_i32_71 : BitVec 32 := 0#32
  let c12_i32_70 : BitVec 32 := 12#32
  let c0_i32_72 : BitVec 32 := 0#32
  ![v0.toNat, 0, 12, 0]
def k0_off93 (i : grid0.Coords) : Fin 3 → Nat :=
  let c12_i32 : BitVec 32 := 12#32
  let arg0 : BitVec 32 := BitVec.ofNat 32 (i 0).val
  let c32_i32_15 : BitVec 32 := 32#32
  let v23 : BitVec 32 := Scalar.muli arg0 c32_i32_15
  let c0_i32_73 : BitVec 32 := 0#32
  ![12, v23.toNat, 0]
def k0_off94 (i : grid0.Coords) : Fin 4 → Nat :=
  let arg0 : BitVec 32 := BitVec.ofNat 32 (i 0).val
  let c2_i32 : BitVec 32 := 2#32
  let v0 : BitVec 32 := Scalar.remsi arg0 c2_i32
  let c0_i32_75 : BitVec 32 := 0#32
  let c13_i32_74 : BitVec 32 := 13#32
  let c0_i32_76 : BitVec 32 := 0#32
  ![v0.toNat, 0, 13, 0]
def k0_off95 (i : grid0.Coords) : Fin 3 → Nat :=
  let c13_i32 : BitVec 32 := 13#32
  let arg0 : BitVec 32 := BitVec.ofNat 32 (i 0).val
  let c32_i32_16 : BitVec 32 := 32#32
  let v24 : BitVec 32 := Scalar.muli arg0 c32_i32_16
  let c0_i32_77 : BitVec 32 := 0#32
  ![13, v24.toNat, 0]
def k0_off96 (i : grid0.Coords) : Fin 4 → Nat :=
  let arg0 : BitVec 32 := BitVec.ofNat 32 (i 0).val
  let c2_i32 : BitVec 32 := 2#32
  let v0 : BitVec 32 := Scalar.remsi arg0 c2_i32
  let c0_i32_79 : BitVec 32 := 0#32
  let c14_i32_78 : BitVec 32 := 14#32
  let c0_i32_80 : BitVec 32 := 0#32
  ![v0.toNat, 0, 14, 0]
def k0_off97 (i : grid0.Coords) : Fin 3 → Nat :=
  let c14_i32 : BitVec 32 := 14#32
  let arg0 : BitVec 32 := BitVec.ofNat 32 (i 0).val
  let c32_i32_17 : BitVec 32 := 32#32
  let v25 : BitVec 32 := Scalar.muli arg0 c32_i32_17
  let c0_i32_81 : BitVec 32 := 0#32
  ![14, v25.toNat, 0]
def k0_off98 (i : grid0.Coords) : Fin 4 → Nat :=
  let arg0 : BitVec 32 := BitVec.ofNat 32 (i 0).val
  let c2_i32 : BitVec 32 := 2#32
  let v0 : BitVec 32 := Scalar.remsi arg0 c2_i32
  let c0_i32_83 : BitVec 32 := 0#32
  let c15_i32_82 : BitVec 32 := 15#32
  let c0_i32_84 : BitVec 32 := 0#32
  ![v0.toNat, 0, 15, 0]
def k0_off99 (i : grid0.Coords) : Fin 3 → Nat :=
  let c15_i32 : BitVec 32 := 15#32
  let arg0 : BitVec 32 := BitVec.ofNat 32 (i 0).val
  let c32_i32_18 : BitVec 32 := 32#32
  let v26 : BitVec 32 := Scalar.muli arg0 c32_i32_18
  let c0_i32_85 : BitVec 32 := 0#32
  ![15, v26.toNat, 0]
def k0_off100 (i : grid0.Coords) : Fin 4 → Nat :=
  let arg0 : BitVec 32 := BitVec.ofNat 32 (i 0).val
  let c2_i32 : BitVec 32 := 2#32
  let v0 : BitVec 32 := Scalar.remsi arg0 c2_i32
  let v123 : Index := Scalar.indexCast v0
  let c0 : Index := 0#32
  let c0_86 : Index := 0#32
  let c0_87 : Index := 0#32
  ![v123.toNat, 0, 0, 0]
def k0_off101 (i : grid0.Coords) : Fin 4 → Nat :=
  let arg0 : BitVec 32 := BitVec.ofNat 32 (i 0).val
  let c2_i32 : BitVec 32 := 2#32
  let v0 : BitVec 32 := Scalar.remsi arg0 c2_i32
  let v1452 : Index := Scalar.indexCast v0
  let c0_468 : Index := 0#32
  let c0_469 : Index := 0#32
  let c0_470 : Index := 0#32
  ![v1452.toNat, 0, 0, 0]
def k0_off102 (i : grid0.Coords) : Fin 4 → Nat :=
  let arg0 : BitVec 32 := BitVec.ofNat 32 (i 0).val
  let c2_i32 : BitVec 32 := 2#32
  let v0 : BitVec 32 := Scalar.remsi arg0 c2_i32
  let v1488 : Index := Scalar.indexCast v0
  let c0_506 : Index := 0#32
  let c0_507 : Index := 0#32
  let c512_508 : Index := 512#32
  ![v1488.toNat, 0, 0, 512]
def k0_cond4 (i : grid0.Coords) : BitVec 1 :=
  let arg0 : BitVec 32 := BitVec.ofNat 32 (i 0).val
  let c63_i32 : BitVec 32 := 63#32
  let v1604 : BitVec 1 := Scalar.cmpi .eq arg0 c63_i32
  let v1605 : BitVec 32 := Scalar.extui v1604
  let c0_i32_605 : BitVec 32 := 0#32
  let v1606 : BitVec 1 := Scalar.cmpi .ne v1605 c0_i32_605
  v1606

def k0_off103 (i : grid0.Coords) : Fin 1 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  ![v1608.toNat]
def k0_off104 (i : grid0.Coords) : Fin 3 → Nat :=
  let c0_i32_625 : BitVec 32 := 0#32
  let arg0 : BitVec 32 := BitVec.ofNat 32 (i 0).val
  let c1_i32_606 : BitVec 32 := 1#32
  let v1607 : BitVec 32 := Scalar.subi arg0 c1_i32_606
  let c32_i32_608 : BitVec 32 := 32#32
  let v1609 : BitVec 32 := Scalar.muli v1607 c32_i32_608
  let c0_i32_626 : BitVec 32 := 0#32
  ![0, v1609.toNat, 0]
def k0_off105 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_627 : BitVec 32 := 0#32
  let c0_i32_624 : BitVec 32 := 0#32
  let c0_i32_628 : BitVec 32 := 0#32
  ![v1608.toNat, 0, 0, 0]
def k0_off106 (i : grid0.Coords) : Fin 3 → Nat :=
  let c1_i32_630 : BitVec 32 := 1#32
  let arg0 : BitVec 32 := BitVec.ofNat 32 (i 0).val
  let c1_i32_606 : BitVec 32 := 1#32
  let v1607 : BitVec 32 := Scalar.subi arg0 c1_i32_606
  let c32_i32_609 : BitVec 32 := 32#32
  let v1610 : BitVec 32 := Scalar.muli v1607 c32_i32_609
  let c0_i32_631 : BitVec 32 := 0#32
  ![1, v1610.toNat, 0]
def k0_off107 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_632 : BitVec 32 := 0#32
  let c1_i32_629 : BitVec 32 := 1#32
  let c0_i32_633 : BitVec 32 := 0#32
  ![v1608.toNat, 0, 1, 0]
def k0_off108 (i : grid0.Coords) : Fin 3 → Nat :=
  let c2_i32_635 : BitVec 32 := 2#32
  let arg0 : BitVec 32 := BitVec.ofNat 32 (i 0).val
  let c1_i32_606 : BitVec 32 := 1#32
  let v1607 : BitVec 32 := Scalar.subi arg0 c1_i32_606
  let c32_i32_610 : BitVec 32 := 32#32
  let v1611 : BitVec 32 := Scalar.muli v1607 c32_i32_610
  let c0_i32_636 : BitVec 32 := 0#32
  ![2, v1611.toNat, 0]
def k0_off109 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_637 : BitVec 32 := 0#32
  let c2_i32_634 : BitVec 32 := 2#32
  let c0_i32_638 : BitVec 32 := 0#32
  ![v1608.toNat, 0, 2, 0]
def k0_off110 (i : grid0.Coords) : Fin 3 → Nat :=
  let c3_i32_640 : BitVec 32 := 3#32
  let arg0 : BitVec 32 := BitVec.ofNat 32 (i 0).val
  let c1_i32_606 : BitVec 32 := 1#32
  let v1607 : BitVec 32 := Scalar.subi arg0 c1_i32_606
  let c32_i32_611 : BitVec 32 := 32#32
  let v1612 : BitVec 32 := Scalar.muli v1607 c32_i32_611
  let c0_i32_641 : BitVec 32 := 0#32
  ![3, v1612.toNat, 0]
def k0_off111 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_642 : BitVec 32 := 0#32
  let c3_i32_639 : BitVec 32 := 3#32
  let c0_i32_643 : BitVec 32 := 0#32
  ![v1608.toNat, 0, 3, 0]
def k0_off112 (i : grid0.Coords) : Fin 3 → Nat :=
  let c4_i32_645 : BitVec 32 := 4#32
  let arg0 : BitVec 32 := BitVec.ofNat 32 (i 0).val
  let c1_i32_606 : BitVec 32 := 1#32
  let v1607 : BitVec 32 := Scalar.subi arg0 c1_i32_606
  let c32_i32_612 : BitVec 32 := 32#32
  let v1613 : BitVec 32 := Scalar.muli v1607 c32_i32_612
  let c0_i32_646 : BitVec 32 := 0#32
  ![4, v1613.toNat, 0]
def k0_off113 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_647 : BitVec 32 := 0#32
  let c4_i32_644 : BitVec 32 := 4#32
  let c0_i32_648 : BitVec 32 := 0#32
  ![v1608.toNat, 0, 4, 0]
def k0_off114 (i : grid0.Coords) : Fin 3 → Nat :=
  let c5_i32_650 : BitVec 32 := 5#32
  let arg0 : BitVec 32 := BitVec.ofNat 32 (i 0).val
  let c1_i32_606 : BitVec 32 := 1#32
  let v1607 : BitVec 32 := Scalar.subi arg0 c1_i32_606
  let c32_i32_613 : BitVec 32 := 32#32
  let v1614 : BitVec 32 := Scalar.muli v1607 c32_i32_613
  let c0_i32_651 : BitVec 32 := 0#32
  ![5, v1614.toNat, 0]
def k0_off115 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_652 : BitVec 32 := 0#32
  let c5_i32_649 : BitVec 32 := 5#32
  let c0_i32_653 : BitVec 32 := 0#32
  ![v1608.toNat, 0, 5, 0]
def k0_off116 (i : grid0.Coords) : Fin 3 → Nat :=
  let c6_i32_655 : BitVec 32 := 6#32
  let arg0 : BitVec 32 := BitVec.ofNat 32 (i 0).val
  let c1_i32_606 : BitVec 32 := 1#32
  let v1607 : BitVec 32 := Scalar.subi arg0 c1_i32_606
  let c32_i32_614 : BitVec 32 := 32#32
  let v1615 : BitVec 32 := Scalar.muli v1607 c32_i32_614
  let c0_i32_656 : BitVec 32 := 0#32
  ![6, v1615.toNat, 0]
def k0_off117 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_657 : BitVec 32 := 0#32
  let c6_i32_654 : BitVec 32 := 6#32
  let c0_i32_658 : BitVec 32 := 0#32
  ![v1608.toNat, 0, 6, 0]
def k0_off118 (i : grid0.Coords) : Fin 3 → Nat :=
  let c7_i32_660 : BitVec 32 := 7#32
  let arg0 : BitVec 32 := BitVec.ofNat 32 (i 0).val
  let c1_i32_606 : BitVec 32 := 1#32
  let v1607 : BitVec 32 := Scalar.subi arg0 c1_i32_606
  let c32_i32_615 : BitVec 32 := 32#32
  let v1616 : BitVec 32 := Scalar.muli v1607 c32_i32_615
  let c0_i32_661 : BitVec 32 := 0#32
  ![7, v1616.toNat, 0]
def k0_off119 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_662 : BitVec 32 := 0#32
  let c7_i32_659 : BitVec 32 := 7#32
  let c0_i32_663 : BitVec 32 := 0#32
  ![v1608.toNat, 0, 7, 0]
def k0_off120 (i : grid0.Coords) : Fin 3 → Nat :=
  let c8_i32_665 : BitVec 32 := 8#32
  let arg0 : BitVec 32 := BitVec.ofNat 32 (i 0).val
  let c1_i32_606 : BitVec 32 := 1#32
  let v1607 : BitVec 32 := Scalar.subi arg0 c1_i32_606
  let c32_i32_616 : BitVec 32 := 32#32
  let v1617 : BitVec 32 := Scalar.muli v1607 c32_i32_616
  let c0_i32_666 : BitVec 32 := 0#32
  ![8, v1617.toNat, 0]
def k0_off121 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_667 : BitVec 32 := 0#32
  let c8_i32_664 : BitVec 32 := 8#32
  let c0_i32_668 : BitVec 32 := 0#32
  ![v1608.toNat, 0, 8, 0]
def k0_off122 (i : grid0.Coords) : Fin 3 → Nat :=
  let c9_i32_670 : BitVec 32 := 9#32
  let arg0 : BitVec 32 := BitVec.ofNat 32 (i 0).val
  let c1_i32_606 : BitVec 32 := 1#32
  let v1607 : BitVec 32 := Scalar.subi arg0 c1_i32_606
  let c32_i32_617 : BitVec 32 := 32#32
  let v1618 : BitVec 32 := Scalar.muli v1607 c32_i32_617
  let c0_i32_671 : BitVec 32 := 0#32
  ![9, v1618.toNat, 0]
def k0_off123 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_672 : BitVec 32 := 0#32
  let c9_i32_669 : BitVec 32 := 9#32
  let c0_i32_673 : BitVec 32 := 0#32
  ![v1608.toNat, 0, 9, 0]
def k0_off124 (i : grid0.Coords) : Fin 3 → Nat :=
  let c10_i32_675 : BitVec 32 := 10#32
  let arg0 : BitVec 32 := BitVec.ofNat 32 (i 0).val
  let c1_i32_606 : BitVec 32 := 1#32
  let v1607 : BitVec 32 := Scalar.subi arg0 c1_i32_606
  let c32_i32_618 : BitVec 32 := 32#32
  let v1619 : BitVec 32 := Scalar.muli v1607 c32_i32_618
  let c0_i32_676 : BitVec 32 := 0#32
  ![10, v1619.toNat, 0]
def k0_off125 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_677 : BitVec 32 := 0#32
  let c10_i32_674 : BitVec 32 := 10#32
  let c0_i32_678 : BitVec 32 := 0#32
  ![v1608.toNat, 0, 10, 0]
def k0_off126 (i : grid0.Coords) : Fin 3 → Nat :=
  let c11_i32_680 : BitVec 32 := 11#32
  let arg0 : BitVec 32 := BitVec.ofNat 32 (i 0).val
  let c1_i32_606 : BitVec 32 := 1#32
  let v1607 : BitVec 32 := Scalar.subi arg0 c1_i32_606
  let c32_i32_619 : BitVec 32 := 32#32
  let v1620 : BitVec 32 := Scalar.muli v1607 c32_i32_619
  let c0_i32_681 : BitVec 32 := 0#32
  ![11, v1620.toNat, 0]
def k0_off127 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_682 : BitVec 32 := 0#32
  let c11_i32_679 : BitVec 32 := 11#32
  let c0_i32_683 : BitVec 32 := 0#32
  ![v1608.toNat, 0, 11, 0]
def k0_off128 (i : grid0.Coords) : Fin 3 → Nat :=
  let c12_i32_685 : BitVec 32 := 12#32
  let arg0 : BitVec 32 := BitVec.ofNat 32 (i 0).val
  let c1_i32_606 : BitVec 32 := 1#32
  let v1607 : BitVec 32 := Scalar.subi arg0 c1_i32_606
  let c32_i32_620 : BitVec 32 := 32#32
  let v1621 : BitVec 32 := Scalar.muli v1607 c32_i32_620
  let c0_i32_686 : BitVec 32 := 0#32
  ![12, v1621.toNat, 0]
def k0_off129 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_687 : BitVec 32 := 0#32
  let c12_i32_684 : BitVec 32 := 12#32
  let c0_i32_688 : BitVec 32 := 0#32
  ![v1608.toNat, 0, 12, 0]
def k0_off130 (i : grid0.Coords) : Fin 3 → Nat :=
  let c13_i32_690 : BitVec 32 := 13#32
  let arg0 : BitVec 32 := BitVec.ofNat 32 (i 0).val
  let c1_i32_606 : BitVec 32 := 1#32
  let v1607 : BitVec 32 := Scalar.subi arg0 c1_i32_606
  let c32_i32_621 : BitVec 32 := 32#32
  let v1622 : BitVec 32 := Scalar.muli v1607 c32_i32_621
  let c0_i32_691 : BitVec 32 := 0#32
  ![13, v1622.toNat, 0]
def k0_off131 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_692 : BitVec 32 := 0#32
  let c13_i32_689 : BitVec 32 := 13#32
  let c0_i32_693 : BitVec 32 := 0#32
  ![v1608.toNat, 0, 13, 0]
def k0_off132 (i : grid0.Coords) : Fin 3 → Nat :=
  let c14_i32_695 : BitVec 32 := 14#32
  let arg0 : BitVec 32 := BitVec.ofNat 32 (i 0).val
  let c1_i32_606 : BitVec 32 := 1#32
  let v1607 : BitVec 32 := Scalar.subi arg0 c1_i32_606
  let c32_i32_622 : BitVec 32 := 32#32
  let v1623 : BitVec 32 := Scalar.muli v1607 c32_i32_622
  let c0_i32_696 : BitVec 32 := 0#32
  ![14, v1623.toNat, 0]
def k0_off133 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_697 : BitVec 32 := 0#32
  let c14_i32_694 : BitVec 32 := 14#32
  let c0_i32_698 : BitVec 32 := 0#32
  ![v1608.toNat, 0, 14, 0]
def k0_off134 (i : grid0.Coords) : Fin 3 → Nat :=
  let c15_i32_700 : BitVec 32 := 15#32
  let arg0 : BitVec 32 := BitVec.ofNat 32 (i 0).val
  let c1_i32_606 : BitVec 32 := 1#32
  let v1607 : BitVec 32 := Scalar.subi arg0 c1_i32_606
  let c32_i32_623 : BitVec 32 := 32#32
  let v1624 : BitVec 32 := Scalar.muli v1607 c32_i32_623
  let c0_i32_701 : BitVec 32 := 0#32
  ![15, v1624.toNat, 0]
def k0_off135 (i : grid0.Coords) : Fin 4 → Nat :=
  let c1_i32_607 : BitVec 32 := 1#32
  let arg0 : BitVec 32 := BitVec.ofNat 32 (i 0).val
  let c2_i32 : BitVec 32 := 2#32
  let v0 : BitVec 32 := Scalar.remsi arg0 c2_i32
  let v1608 : BitVec 32 := Scalar.subi c1_i32_607 v0
  let c0_i32_702 : BitVec 32 := 0#32
  let c15_i32_699 : BitVec 32 := 15#32
  let c0_i32_703 : BitVec 32 := 0#32
  ![v1608.toNat, 0, 15, 0]
def k0_off136 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off137 (i : grid0.Coords) : Fin 3 → Nat :=
  let c0_i32_721 : BitVec 32 := 0#32
  let arg0 : BitVec 32 := BitVec.ofNat 32 (i 0).val
  let c32_i32_704 : BitVec 32 := 32#32
  let v1721 : BitVec 32 := Scalar.muli arg0 c32_i32_704
  let c0_i32_722 : BitVec 32 := 0#32
  ![0, v1721.toNat, 0]
def k0_off138 (i : grid0.Coords) : Fin 4 → Nat :=
  let arg0 : BitVec 32 := BitVec.ofNat 32 (i 0).val
  let c2_i32 : BitVec 32 := 2#32
  let v0 : BitVec 32 := Scalar.remsi arg0 c2_i32
  let c0_i32_723 : BitVec 32 := 0#32
  let c0_i32_720 : BitVec 32 := 0#32
  let c0_i32_724 : BitVec 32 := 0#32
  ![v0.toNat, 0, 0, 0]
def k0_off139 (i : grid0.Coords) : Fin 3 → Nat :=
  let c1_i32_726 : BitVec 32 := 1#32
  let arg0 : BitVec 32 := BitVec.ofNat 32 (i 0).val
  let c32_i32_705 : BitVec 32 := 32#32
  let v1722 : BitVec 32 := Scalar.muli arg0 c32_i32_705
  let c0_i32_727 : BitVec 32 := 0#32
  ![1, v1722.toNat, 0]
def k0_off140 (i : grid0.Coords) : Fin 4 → Nat :=
  let arg0 : BitVec 32 := BitVec.ofNat 32 (i 0).val
  let c2_i32 : BitVec 32 := 2#32
  let v0 : BitVec 32 := Scalar.remsi arg0 c2_i32
  let c0_i32_728 : BitVec 32 := 0#32
  let c1_i32_725 : BitVec 32 := 1#32
  let c0_i32_729 : BitVec 32 := 0#32
  ![v0.toNat, 0, 1, 0]
def k0_off141 (i : grid0.Coords) : Fin 3 → Nat :=
  let c2_i32_731 : BitVec 32 := 2#32
  let arg0 : BitVec 32 := BitVec.ofNat 32 (i 0).val
  let c32_i32_706 : BitVec 32 := 32#32
  let v1723 : BitVec 32 := Scalar.muli arg0 c32_i32_706
  let c0_i32_732 : BitVec 32 := 0#32
  ![2, v1723.toNat, 0]
def k0_off142 (i : grid0.Coords) : Fin 4 → Nat :=
  let arg0 : BitVec 32 := BitVec.ofNat 32 (i 0).val
  let c2_i32 : BitVec 32 := 2#32
  let v0 : BitVec 32 := Scalar.remsi arg0 c2_i32
  let c0_i32_733 : BitVec 32 := 0#32
  let c2_i32_730 : BitVec 32 := 2#32
  let c0_i32_734 : BitVec 32 := 0#32
  ![v0.toNat, 0, 2, 0]
def k0_off143 (i : grid0.Coords) : Fin 3 → Nat :=
  let c3_i32_736 : BitVec 32 := 3#32
  let arg0 : BitVec 32 := BitVec.ofNat 32 (i 0).val
  let c32_i32_707 : BitVec 32 := 32#32
  let v1724 : BitVec 32 := Scalar.muli arg0 c32_i32_707
  let c0_i32_737 : BitVec 32 := 0#32
  ![3, v1724.toNat, 0]
def k0_off144 (i : grid0.Coords) : Fin 4 → Nat :=
  let arg0 : BitVec 32 := BitVec.ofNat 32 (i 0).val
  let c2_i32 : BitVec 32 := 2#32
  let v0 : BitVec 32 := Scalar.remsi arg0 c2_i32
  let c0_i32_738 : BitVec 32 := 0#32
  let c3_i32_735 : BitVec 32 := 3#32
  let c0_i32_739 : BitVec 32 := 0#32
  ![v0.toNat, 0, 3, 0]
def k0_off145 (i : grid0.Coords) : Fin 3 → Nat :=
  let c4_i32_741 : BitVec 32 := 4#32
  let arg0 : BitVec 32 := BitVec.ofNat 32 (i 0).val
  let c32_i32_708 : BitVec 32 := 32#32
  let v1725 : BitVec 32 := Scalar.muli arg0 c32_i32_708
  let c0_i32_742 : BitVec 32 := 0#32
  ![4, v1725.toNat, 0]
def k0_off146 (i : grid0.Coords) : Fin 4 → Nat :=
  let arg0 : BitVec 32 := BitVec.ofNat 32 (i 0).val
  let c2_i32 : BitVec 32 := 2#32
  let v0 : BitVec 32 := Scalar.remsi arg0 c2_i32
  let c0_i32_743 : BitVec 32 := 0#32
  let c4_i32_740 : BitVec 32 := 4#32
  let c0_i32_744 : BitVec 32 := 0#32
  ![v0.toNat, 0, 4, 0]
def k0_off147 (i : grid0.Coords) : Fin 3 → Nat :=
  let c5_i32_746 : BitVec 32 := 5#32
  let arg0 : BitVec 32 := BitVec.ofNat 32 (i 0).val
  let c32_i32_709 : BitVec 32 := 32#32
  let v1726 : BitVec 32 := Scalar.muli arg0 c32_i32_709
  let c0_i32_747 : BitVec 32 := 0#32
  ![5, v1726.toNat, 0]
def k0_off148 (i : grid0.Coords) : Fin 4 → Nat :=
  let arg0 : BitVec 32 := BitVec.ofNat 32 (i 0).val
  let c2_i32 : BitVec 32 := 2#32
  let v0 : BitVec 32 := Scalar.remsi arg0 c2_i32
  let c0_i32_748 : BitVec 32 := 0#32
  let c5_i32_745 : BitVec 32 := 5#32
  let c0_i32_749 : BitVec 32 := 0#32
  ![v0.toNat, 0, 5, 0]
def k0_off149 (i : grid0.Coords) : Fin 3 → Nat :=
  let c6_i32_751 : BitVec 32 := 6#32
  let arg0 : BitVec 32 := BitVec.ofNat 32 (i 0).val
  let c32_i32_710 : BitVec 32 := 32#32
  let v1727 : BitVec 32 := Scalar.muli arg0 c32_i32_710
  let c0_i32_752 : BitVec 32 := 0#32
  ![6, v1727.toNat, 0]
def k0_off150 (i : grid0.Coords) : Fin 4 → Nat :=
  let arg0 : BitVec 32 := BitVec.ofNat 32 (i 0).val
  let c2_i32 : BitVec 32 := 2#32
  let v0 : BitVec 32 := Scalar.remsi arg0 c2_i32
  let c0_i32_753 : BitVec 32 := 0#32
  let c6_i32_750 : BitVec 32 := 6#32
  let c0_i32_754 : BitVec 32 := 0#32
  ![v0.toNat, 0, 6, 0]
def k0_off151 (i : grid0.Coords) : Fin 3 → Nat :=
  let c7_i32_756 : BitVec 32 := 7#32
  let arg0 : BitVec 32 := BitVec.ofNat 32 (i 0).val
  let c32_i32_711 : BitVec 32 := 32#32
  let v1728 : BitVec 32 := Scalar.muli arg0 c32_i32_711
  let c0_i32_757 : BitVec 32 := 0#32
  ![7, v1728.toNat, 0]
def k0_off152 (i : grid0.Coords) : Fin 4 → Nat :=
  let arg0 : BitVec 32 := BitVec.ofNat 32 (i 0).val
  let c2_i32 : BitVec 32 := 2#32
  let v0 : BitVec 32 := Scalar.remsi arg0 c2_i32
  let c0_i32_758 : BitVec 32 := 0#32
  let c7_i32_755 : BitVec 32 := 7#32
  let c0_i32_759 : BitVec 32 := 0#32
  ![v0.toNat, 0, 7, 0]
def k0_off153 (i : grid0.Coords) : Fin 3 → Nat :=
  let c8_i32_761 : BitVec 32 := 8#32
  let arg0 : BitVec 32 := BitVec.ofNat 32 (i 0).val
  let c32_i32_712 : BitVec 32 := 32#32
  let v1729 : BitVec 32 := Scalar.muli arg0 c32_i32_712
  let c0_i32_762 : BitVec 32 := 0#32
  ![8, v1729.toNat, 0]
def k0_off154 (i : grid0.Coords) : Fin 4 → Nat :=
  let arg0 : BitVec 32 := BitVec.ofNat 32 (i 0).val
  let c2_i32 : BitVec 32 := 2#32
  let v0 : BitVec 32 := Scalar.remsi arg0 c2_i32
  let c0_i32_763 : BitVec 32 := 0#32
  let c8_i32_760 : BitVec 32 := 8#32
  let c0_i32_764 : BitVec 32 := 0#32
  ![v0.toNat, 0, 8, 0]
def k0_off155 (i : grid0.Coords) : Fin 3 → Nat :=
  let c9_i32_766 : BitVec 32 := 9#32
  let arg0 : BitVec 32 := BitVec.ofNat 32 (i 0).val
  let c32_i32_713 : BitVec 32 := 32#32
  let v1730 : BitVec 32 := Scalar.muli arg0 c32_i32_713
  let c0_i32_767 : BitVec 32 := 0#32
  ![9, v1730.toNat, 0]
def k0_off156 (i : grid0.Coords) : Fin 4 → Nat :=
  let arg0 : BitVec 32 := BitVec.ofNat 32 (i 0).val
  let c2_i32 : BitVec 32 := 2#32
  let v0 : BitVec 32 := Scalar.remsi arg0 c2_i32
  let c0_i32_768 : BitVec 32 := 0#32
  let c9_i32_765 : BitVec 32 := 9#32
  let c0_i32_769 : BitVec 32 := 0#32
  ![v0.toNat, 0, 9, 0]
def k0_off157 (i : grid0.Coords) : Fin 3 → Nat :=
  let c10_i32_771 : BitVec 32 := 10#32
  let arg0 : BitVec 32 := BitVec.ofNat 32 (i 0).val
  let c32_i32_714 : BitVec 32 := 32#32
  let v1731 : BitVec 32 := Scalar.muli arg0 c32_i32_714
  let c0_i32_772 : BitVec 32 := 0#32
  ![10, v1731.toNat, 0]
def k0_off158 (i : grid0.Coords) : Fin 4 → Nat :=
  let arg0 : BitVec 32 := BitVec.ofNat 32 (i 0).val
  let c2_i32 : BitVec 32 := 2#32
  let v0 : BitVec 32 := Scalar.remsi arg0 c2_i32
  let c0_i32_773 : BitVec 32 := 0#32
  let c10_i32_770 : BitVec 32 := 10#32
  let c0_i32_774 : BitVec 32 := 0#32
  ![v0.toNat, 0, 10, 0]
def k0_off159 (i : grid0.Coords) : Fin 3 → Nat :=
  let c11_i32_776 : BitVec 32 := 11#32
  let arg0 : BitVec 32 := BitVec.ofNat 32 (i 0).val
  let c32_i32_715 : BitVec 32 := 32#32
  let v1732 : BitVec 32 := Scalar.muli arg0 c32_i32_715
  let c0_i32_777 : BitVec 32 := 0#32
  ![11, v1732.toNat, 0]
def k0_off160 (i : grid0.Coords) : Fin 4 → Nat :=
  let arg0 : BitVec 32 := BitVec.ofNat 32 (i 0).val
  let c2_i32 : BitVec 32 := 2#32
  let v0 : BitVec 32 := Scalar.remsi arg0 c2_i32
  let c0_i32_778 : BitVec 32 := 0#32
  let c11_i32_775 : BitVec 32 := 11#32
  let c0_i32_779 : BitVec 32 := 0#32
  ![v0.toNat, 0, 11, 0]
def k0_off161 (i : grid0.Coords) : Fin 3 → Nat :=
  let c12_i32_781 : BitVec 32 := 12#32
  let arg0 : BitVec 32 := BitVec.ofNat 32 (i 0).val
  let c32_i32_716 : BitVec 32 := 32#32
  let v1733 : BitVec 32 := Scalar.muli arg0 c32_i32_716
  let c0_i32_782 : BitVec 32 := 0#32
  ![12, v1733.toNat, 0]
def k0_off162 (i : grid0.Coords) : Fin 4 → Nat :=
  let arg0 : BitVec 32 := BitVec.ofNat 32 (i 0).val
  let c2_i32 : BitVec 32 := 2#32
  let v0 : BitVec 32 := Scalar.remsi arg0 c2_i32
  let c0_i32_783 : BitVec 32 := 0#32
  let c12_i32_780 : BitVec 32 := 12#32
  let c0_i32_784 : BitVec 32 := 0#32
  ![v0.toNat, 0, 12, 0]
def k0_off163 (i : grid0.Coords) : Fin 3 → Nat :=
  let c13_i32_786 : BitVec 32 := 13#32
  let arg0 : BitVec 32 := BitVec.ofNat 32 (i 0).val
  let c32_i32_717 : BitVec 32 := 32#32
  let v1734 : BitVec 32 := Scalar.muli arg0 c32_i32_717
  let c0_i32_787 : BitVec 32 := 0#32
  ![13, v1734.toNat, 0]
def k0_off164 (i : grid0.Coords) : Fin 4 → Nat :=
  let arg0 : BitVec 32 := BitVec.ofNat 32 (i 0).val
  let c2_i32 : BitVec 32 := 2#32
  let v0 : BitVec 32 := Scalar.remsi arg0 c2_i32
  let c0_i32_788 : BitVec 32 := 0#32
  let c13_i32_785 : BitVec 32 := 13#32
  let c0_i32_789 : BitVec 32 := 0#32
  ![v0.toNat, 0, 13, 0]
def k0_off165 (i : grid0.Coords) : Fin 3 → Nat :=
  let c14_i32_791 : BitVec 32 := 14#32
  let arg0 : BitVec 32 := BitVec.ofNat 32 (i 0).val
  let c32_i32_718 : BitVec 32 := 32#32
  let v1735 : BitVec 32 := Scalar.muli arg0 c32_i32_718
  let c0_i32_792 : BitVec 32 := 0#32
  ![14, v1735.toNat, 0]
def k0_off166 (i : grid0.Coords) : Fin 4 → Nat :=
  let arg0 : BitVec 32 := BitVec.ofNat 32 (i 0).val
  let c2_i32 : BitVec 32 := 2#32
  let v0 : BitVec 32 := Scalar.remsi arg0 c2_i32
  let c0_i32_793 : BitVec 32 := 0#32
  let c14_i32_790 : BitVec 32 := 14#32
  let c0_i32_794 : BitVec 32 := 0#32
  ![v0.toNat, 0, 14, 0]
def k0_off167 (i : grid0.Coords) : Fin 3 → Nat :=
  let c15_i32_796 : BitVec 32 := 15#32
  let arg0 : BitVec 32 := BitVec.ofNat 32 (i 0).val
  let c32_i32_719 : BitVec 32 := 32#32
  let v1736 : BitVec 32 := Scalar.muli arg0 c32_i32_719
  let c0_i32_797 : BitVec 32 := 0#32
  ![15, v1736.toNat, 0]
def k0_off168 (i : grid0.Coords) : Fin 4 → Nat :=
  let arg0 : BitVec 32 := BitVec.ofNat 32 (i 0).val
  let c2_i32 : BitVec 32 := 2#32
  let v0 : BitVec 32 := Scalar.remsi arg0 c2_i32
  let c0_i32_798 : BitVec 32 := 0#32
  let c15_i32_795 : BitVec 32 := 15#32
  let c0_i32_799 : BitVec 32 := 0#32
  ![v0.toNat, 0, 15, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S16x2048x1024 : Shape := ⟨3, ![16, 2048, 1024]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S10x128x128 : Shape := ⟨3, ![10, 128, 128]⟩
abbrev S1280x1024 : Shape := ⟨2, ![1280, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2560 : Shape := ⟨3, ![16, 2048, 2560]⟩
abbrev S16x2048x1280 : Shape := ⟨3, ![16, 2048, 1280]⟩
abbrev S16x2051x1280 : Shape := ⟨3, ![16, 2051, 1280]⟩
abbrev S1x1280 : Shape := ⟨2, ![1, 1280]⟩
abbrev S1x1x1280 : Shape := ⟨3, ![1, 1, 1280]⟩
abbrev S16x2048x10x128 : Shape := ⟨4, ![16, 2048, 10, 128]⟩
abbrev S10x128x16x2048 : Shape := ⟨4, ![10, 128, 16, 2048]⟩
abbrev S16x1x1280 : Shape := ⟨3, ![16, 1, 1280]⟩
abbrev S16x1280 : Shape := ⟨2, ![16, 1280]⟩
abbrev S2048x16x1280 : Shape := ⟨3, ![2048, 16, 1280]⟩
abbrev S1x16x1280 : Shape := ⟨3, ![1, 16, 1280]⟩

abbrev nBuf : Space → Nat
  | .hbm => 167
  | .vmem => 0
  | .smem => 0
  | _ => 0

abbrev hbmTy0_0 (i : Nat) : BufTy := match i % 128 with
  | 0 => ⟨S16x2048x1024, .f32⟩
  | 1 => ⟨S1024, .f32⟩
  | 2 => ⟨S1024x2560, .f32⟩
  | 3 => ⟨S4x1280, .f32⟩
  | 4 => ⟨S1280, .f32⟩
  | 5 => ⟨S10x128x128, .f32⟩
  | 6 => ⟨S1280, .f32⟩
  | 7 => ⟨S10x128x128, .f32⟩
  | 8 => ⟨S1280, .f32⟩
  | 9 => ⟨S1280, .f32⟩
  | 10 => ⟨S1280x1024, .f32⟩
  | 11 => ⟨S16x2048x1024, .f32⟩
  | 12 => ⟨S_, .f32⟩
  | 13 => ⟨S16x2048, .f32⟩
  | 14 => ⟨S16x2048x1, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x1, .f32⟩
  | 22 => ⟨S16x2048x1024, .f32⟩
  | 23 => ⟨S16x2048x1024, .f32⟩
  | 24 => ⟨S1x1x1024, .f32⟩
  | 25 => ⟨S16x2048x1024, .f32⟩
  | 26 => ⟨S16x2048x1024, .f32⟩
  | 27 => ⟨S16x2048x2560, .f32⟩
  | 28 => ⟨S16x2048x1280, .f32⟩
  | 29 => ⟨S16x2048x1280, .f32⟩
  | 30 => ⟨S_, .i32⟩
  | 31 => ⟨S_, .f32⟩
  | 32 => ⟨S16x2051x1280, .f32⟩
  | 33 => ⟨S16x2048x1280, .f32⟩
  | 34 => ⟨S1x1280, .f32⟩
  | 35 => ⟨S1280, .f32⟩
  | 36 => ⟨S1x1x1280, .f32⟩
  | 37 => ⟨S16x2048x1280, .f32⟩
  | 38 => ⟨S16x2048x1280, .f32⟩
  | 39 => ⟨S16x2048x1280, .f32⟩
  | 40 => ⟨S1x1280, .f32⟩
  | 41 => ⟨S1280, .f32⟩
  | 42 => ⟨S1x1x1280, .f32⟩
  | 43 => ⟨S16x2048x1280, .f32⟩
  | 44 => ⟨S16x2048x1280, .f32⟩
  | 45 => ⟨S16x2048x1280, .f32⟩
  | 46 => ⟨S16x2048x1280, .f32⟩
  | 47 => ⟨S1x1280, .f32⟩
  | 48 => ⟨S1280, .f32⟩
  | 49 => ⟨S1x1x1280, .f32⟩
  | 50 => ⟨S16x2048x1280, .f32⟩
  | 51 => ⟨S16x2048x1280, .f32⟩
  | 52 => ⟨S16x2048x1280, .f32⟩
  | 53 => ⟨S16x2048x1280, .f32⟩
  | 54 => ⟨S1x1280, .f32⟩
  | 55 => ⟨S1280, .f32⟩
  | 56 => ⟨S1x1x1280, .f32⟩
  | 57 => ⟨S16x2048x1280, .f32⟩
  | 58 => ⟨S16x2048x1280, .f32⟩
  | 59 => ⟨S16x2048x1280, .f32⟩
  | 60 => ⟨S1x1x1280, .f32⟩
  | 61 => ⟨S16x2048x1280, .f32⟩
  | 62 => ⟨S16x2048x1280, .f32⟩
  | 63 => ⟨S16x2048x10x128, .f32⟩
  | 64 => ⟨S10x128x16x2048, .f32⟩
  | 65 => ⟨S16x2048x10x128, .f32⟩
  | 66 => ⟨S16x2048x1280, .f32⟩
  | 67 => ⟨S1x1x1280, .f32⟩
  | 68 => ⟨S16x2048x1280, .f32⟩
  | 69 => ⟨S16x2048x1280, .f32⟩
  | 70 => ⟨S16x2048x1280, .f32⟩
  | 71 => ⟨S16x2048x1280, .f32⟩
  | 72 => ⟨S_, .f32⟩
  | 73 => ⟨S16x2048x1280, .f32⟩
  | 74 => ⟨S16x2048x1280, .f32⟩
  | 75 => ⟨S_, .f32⟩
  | 76 => ⟨S16x2048x1280, .f32⟩
  | 77 => ⟨S16x2048x1280, .f32⟩
  | 78 => ⟨S10x128x16x2048, .f32⟩
  | 79 => ⟨S16x2048x10x128, .f32⟩
  | 80 => ⟨S16x2048x1280, .f32⟩
  | 81 => ⟨S1x1x1280, .f32⟩
  | 82 => ⟨S16x2048x1280, .f32⟩
  | 83 => ⟨S16x2048x1280, .f32⟩
  | 84 => ⟨S16x2048x1280, .f32⟩
  | 85 => ⟨S16x2048x1280, .f32⟩
  | 86 => ⟨S_, .f32⟩
  | 87 => ⟨S16x2048x1280, .f32⟩
  | 88 => ⟨S16x2048x1280, .f32⟩
  | 89 => ⟨S_, .f32⟩
  | 90 => ⟨S16x2048x1280, .f32⟩
  | 91 => ⟨S16x2048x1280, .f32⟩
  | 92 => ⟨S_, .f32⟩
  | 93 => ⟨S16x2048x1280, .f32⟩
  | 94 => ⟨S16x2048x1280, .f32⟩
  | 95 => ⟨S1280, .f32⟩
  | 96 => ⟨S_, .f32⟩
  | 97 => ⟨S1280, .f32⟩
  | 98 => ⟨S1280, .f32⟩
  | 99 => ⟨S1280, .f32⟩
  | 100 => ⟨S1280, .f32⟩
  | 101 => ⟨S1280, .i1⟩
  | 102 => ⟨S1280, .f32⟩
  | 103 => ⟨S1280, .f32⟩
  | 104 => ⟨S1280, .f32⟩
  | 105 => ⟨S1280, .f32⟩
  | 106 => ⟨S1280, .f32⟩
  | 107 => ⟨S1280, .f32⟩
  | 108 => ⟨S1280, .f32⟩
  | 109 => ⟨S1280, .f32⟩
  | 110 => ⟨S1x1x1280, .f32⟩
  | 111 => ⟨S16x2048x1280, .f32⟩
  | 112 => ⟨S16x2048x1280, .f32⟩
  | 113 => ⟨S16x2048x1280, .f32⟩
  | 114 => ⟨S_, .f32⟩
  | 115 => ⟨S16x2048x1280, .f32⟩
  | 116 => ⟨S16x2048x1280, .f32⟩
  | 117 => ⟨S16x2048x1280, .f32⟩
  | 118 => ⟨S16x2048x1280, .f32⟩
  | 119 => ⟨S16x2048x1280, .f32⟩
  | 120 => ⟨S16x2048x1280, .f32⟩
  | 121 => ⟨S16x2048x1280, .f32⟩
  | 122 => ⟨S16x1x1280, .f32⟩
  | 123 => ⟨S16x1280, .f32⟩
  | 124 => ⟨S_, .f32⟩
  | 125 => ⟨S16x1280, .f32⟩
  | 126 => ⟨S2048x16x1280, .f32⟩
  | 127 => ⟨S2048x16x1280, .f32⟩
  | _ => ⟨S16x2048x1024, .f32⟩

abbrev hbmTy0_1 (i : Nat) : BufTy := match i % 128 with
  | 0 => ⟨S_, .f32⟩
  | 1 => ⟨S2048x16x1280, .f32⟩
  | 2 => ⟨S_, .i32⟩
  | 3 => ⟨S2048x16x1280, .f32⟩
  | 4 => ⟨S2048x16x1280, .f32⟩
  | 5 => ⟨S_, .i32⟩
  | 6 => ⟨S16x1280, .f32⟩
  | 7 => ⟨S2048x16x1280, .f32⟩
  | 8 => ⟨S_, .i32⟩
  | 9 => ⟨S_, .i1⟩
  | 10 => ⟨S_, .i32⟩
  | 11 => ⟨S_, .i32⟩
  | 12 => ⟨S1x16x1280, .f32⟩
  | 13 => ⟨S16x1280, .f32⟩
  | 14 => ⟨S_, .i32⟩
  | 15 => ⟨S_, .i32⟩
  | 16 => ⟨S1x16x1280, .f32⟩
  | 17 => ⟨S16x1280, .f32⟩
  | 18 => ⟨S16x1280, .f32⟩
  | 19 => ⟨S16x1280, .f32⟩
  | 20 => ⟨S1x16x1280, .f32⟩
  | 21 => ⟨S_, .i32⟩
  | 22 => ⟨S_, .i32⟩
  | 23 => ⟨S2048x16x1280, .f32⟩
  | 24 => ⟨S_, .i32⟩
  | 25 => ⟨S_, .i32⟩
  | 26 => ⟨S16x2048x1280, .f32⟩
  | 27 => ⟨S16x2048x1280, .f32⟩
  | 28 => ⟨S16x2048x1280, .f32⟩
  | 29 => ⟨S_, .f32⟩
  | 30 => ⟨S16x2048x1280, .f32⟩
  | 31 => ⟨S16x2048x1280, .f32⟩
  | 32 => ⟨S_, .f32⟩
  | 33 => ⟨S16x2048x1280, .f32⟩
  | 34 => ⟨S16x2048x1280, .f32⟩
  | 35 => ⟨S16x2048x1280, .f32⟩
  | 36 => ⟨S16x2048x1280, .f32⟩
  | 37 => ⟨S16x2048x1024, .f32⟩
  | 38 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_2 : Ref sig .tc := ⟨.hbm, 72, rfl⟩
abbrev main_v56 : Ref sig .tc := ⟨.hbm, 73, rfl⟩
abbrev main_v57 : Ref sig .tc := ⟨.hbm, 74, rfl⟩
abbrev main_cst_3 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_4 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_7 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_8 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_9 : Ref sig .tc := ⟨.hbm, 128, rfl⟩
abbrev main_v92 : Ref sig .tc := ⟨.hbm, 129, rfl⟩
abbrev main_c_10 : Ref sig .tc := ⟨.hbm, 130, rfl⟩
abbrev main_v93_0 : Ref sig .tc := ⟨.hbm, 131, rfl⟩
abbrev main_v93_1 : Ref sig .tc := ⟨.hbm, 132, rfl⟩
abbrev main_v93_2 : Ref sig .tc := ⟨.hbm, 133, rfl⟩
abbrev main_v93_3 : Ref sig .tc := ⟨.hbm, 134, rfl⟩
abbrev main_v93_4 : Ref sig .tc := ⟨.hbm, 135, rfl⟩
abbrev main_while0c_c_15 : Ref sig .tc := ⟨.hbm, 136, rfl⟩
abbrev main_while0c_v99 : Ref sig .tc := ⟨.hbm, 137, rfl⟩
abbrev main_while0b_call2_c : Ref sig .tc := ⟨.hbm, 138, rfl⟩
abbrev main_while0b_call2_c_0 : Ref sig .tc := ⟨.hbm, 139, rfl⟩
abbrev main_while0b_call2_v0 : Ref sig .tc := ⟨.hbm, 140, rfl⟩
abbrev main_while0b_v99 : Ref sig .tc := ⟨.hbm, 141, rfl⟩
abbrev main_while0b_call3_c : Ref sig .tc := ⟨.hbm, 142, rfl⟩
abbrev main_while0b_call3_c_0 : Ref sig .tc := ⟨.hbm, 143, rfl⟩
abbrev main_while0b_call3_v0 : Ref sig .tc := ⟨.hbm, 144, rfl⟩
abbrev main_while0b_v100 : Ref sig .tc := ⟨.hbm, 145, rfl⟩
abbrev main_while0b_v101 : Ref sig .tc := ⟨.hbm, 146, rfl⟩
abbrev main_while0b_v102 : Ref sig .tc := ⟨.hbm, 147, rfl⟩
abbrev main_while0b_call4_v0 : Ref sig .tc := ⟨.hbm, 148, rfl⟩
abbrev main_while0b_call4_c : Ref sig .tc := ⟨.hbm, 149, rfl⟩
abbrev main_while0b_call4_c_0 : Ref sig .tc := ⟨.hbm, 150, rfl⟩
abbrev main_while0b_v103 : Ref sig .tc := ⟨.hbm, 151, rfl⟩
abbrev main_while0b_c_15 : Ref sig .tc := ⟨.hbm, 152, rfl⟩
abbrev main_while0b_v104 : Ref sig .tc := ⟨.hbm, 153, rfl⟩
abbrev main_v94 : Ref sig .tc := ⟨.hbm, 154, rfl⟩
abbrev main_call5_v0 : Ref sig .tc := ⟨.hbm, 155, rfl⟩
abbrev main_call5_v1 : Ref sig .tc := ⟨.hbm, 156, rfl⟩
abbrev main_call5_cst : Ref sig .tc := ⟨.hbm, 157, rfl⟩
abbrev main_call5_v2 : Ref sig .tc := ⟨.hbm, 158, rfl⟩
abbrev main_call5_v3 : Ref sig .tc := ⟨.hbm, 159, rfl⟩
abbrev main_call5_cst_0 : Ref sig .tc := ⟨.hbm, 160, rfl⟩
abbrev main_call5_v4 : Ref sig .tc := ⟨.hbm, 161, rfl⟩
abbrev main_call5_v5 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩

abbrev nD : Nat := 1
abbrev τ : Topo := Topo.v7x

variable {F : FTy → Type} [FloatOps F]

abbrev main_while0_count : Scf.Loop 32 := ⟨0#32, 2048#32, 1#32⟩
-- ==== Proof.RnnIdeal.Rules.lean ====
/- Programs over a state they keep: loads and stores of owned buffers whose contents are left open, and the transfers of a
   batch counted on one semaphore. -/
module

public import proofs.«01_k».proof.Proof.Gen.Kernel2Ideal.Frame
public import Idealize.ShloMosaic.Lib.Batch
public import Idealize.ShloMosaic.Lib.Memref
public import Idealize.ShloMosaic.Lib.Writes

@[expose] public section

set_option maxRecDepth 16384

noncomputable section

namespace Cert.Kernel2Ideal.Rnn

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Transfers
open Cert.Kernel2Ideal.Gen

variable {F : FTy → Type} [FloatOps F] [Named F]

local notation "𝕄" => MT nD τ sig Unit (Elt F) ℕ (Pipeline.UD sig nD τ) ℕ

/-- A program of the kernel's core. -/
abbrev TcProg (F : FTy → Type) [FloatOps F] (α : Type) := Prog (TpuEff nD τ sig (Elt F) Λ₀ .tc) α

/-- Where the counters of the batches live. -/
abbrev EC : UEmb Counters 𝕄 := countersEmb (U := Pipeline.UD sig nD τ)

variable (c : Dev nD)

/-- The weakest precondition of a program of the kernel's core. -/
abbrev W {α : Type} (p : TcProg F α) (Q : α → sProp 𝕄) : sProp 𝕄 := wp frame (wpE (defs₀ (F := F)) Variants.none c none) Set.univ p Q

/-- From the state `I` the program runs and ends in the state `J`. -/
def Tr {α : Type} (I : sProp 𝕄) (p : TcProg F α) (J : sProp 𝕄) : Prop := I ⊢ W c p (fun _ => J)

theorem Tr.done {α : Type} {I J : sProp 𝕄} (a : α) (h : I ⊢ J) : Tr c I (pure a : TcProg F α) J := by
  unfold Tr W
  rw [wp_pure]
  iintro H
  imodintro
  iapply h $$ H

theorem Tr.bind {α β : Type} {I J K : sProp 𝕄} {p : TcProg F α} {k : α → TcProg F β} (h : Tr c I p J) (h' : ∀ a, Tr c J (k a) K) :
    Tr c I (p >>= k) K := by
  unfold Tr W
  rw [wp_bind]
  exact Entails.trans h (wp_mono _ _ _ (fun a => h' a))

theorem Tr.pre {α : Type} {I I' J : sProp 𝕄} {p : TcProg F α} (h : I ⊢ I') (h' : Tr c I' p J) : Tr c I p J := Entails.trans h h'

theorem Tr.post {α : Type} {I J J' : sProp 𝕄} {p : TcProg F α} (h' : Tr c I p J) (h : J ⊢ J') : Tr c I p J' :=
  Entails.trans h' (wp_mono _ _ _ (fun _ => h))

theorem Tr.dite {α : Type} {I J : sProp 𝕄} {p : Prop} [Decidable p] {A : p → TcProg F α} {B : ¬ p → TcProg F α}
    (h : ∀ h, Tr c I (A h) J) (h' : ∀ h, Tr c I (B h) J) : Tr c I (dite p A B) J := by
  by_cases hp : p
  · rw [dif_pos hp]; exact h hp
  · rw [dif_neg hp]; exact h' hp

/-- `J` after an update of the ghost state. -/
def Upd (I J : sProp 𝕄) : Prop := I ⊢ iprop(|={(Set.univ : Set ℕ)}=> J)

theorem Tr.upd {α : Type} {I I' J : sProp 𝕄} {p : TcProg F α} (h : Upd I I') (h' : Tr c I' p J) : Tr c I p J := by
  unfold Tr Upd at *
  iintro H
  imod h $$ H with H
  iapply h' $$ H

/-- From the state `I` one operation runs and ends in the state `J`. -/
def Op {α : Type} (I : sProp 𝕄) (p : TcProg F α) (J : sProp 𝕄) : Prop :=
  ∀ {β : Type} (k : α → TcProg F β) (Q : β → sProp 𝕄), (∀ a, J ⊢ W c (k a) Q) → (I ⊢ W c (p >>= k) Q)

theorem Op.tr {α : Type} {I J : sProp 𝕄} {p : TcProg F α} (h : Op c I p J) : Tr c I p J := by
  have := h (fun a => pure a) (fun _ => J) (fun a => Tr.done c a Entails.rfl)
  rwa [bind_pure] at this

/-- A program that keeps the state, then the rest. -/
theorem Tr.keep {α β : Type} {I J : sProp 𝕄} {p : TcProg F α} {k : α → TcProg F β} (h : Tr c I p I) (h' : ∀ a, Tr c I (k a) J) : Tr c I (p >>= k) J :=
  Tr.bind c h h'

/-- An operation that keeps the state, then the rest. -/
theorem Tr.stay {α β : Type} {I J : sProp 𝕄} {p : TcProg F α} {k : α → TcProg F β} (h : Op c I p I) (h' : ∀ a, Tr c I (k a) J) : Tr c I (p >>= k) J :=
  Tr.bind c (Op.tr c h) h'

/-! ## Buffers at some contents -/

/-- The places `S` of a buffer can be read, the state kept. -/
class Reads {sp : Space} {s : Shape} {e : EltTy} (I : sProp 𝕄) (m : Memref sig .tc sp s e) (S : Finset m.view.ty.Idx) : Prop where
  out : I ⊢ iprop(∃ f : m.view.ty.Contents (Elt F), (m.view.loc (c : Thread nD τ) ↦[S]{fullShare} f) ∗ ((m.view.loc (c : Thread nD τ) ↦[S]{fullShare} f) -∗ I))

/-- The places `S` of a buffer can be written, the state kept. -/
class Writes {sp : Space} {s : Shape} {e : EltTy} (I : sProp 𝕄) (m : Memref sig .tc sp s e) (S : Finset m.view.ty.Idx) : Prop where
  out : I ⊢ iprop(∃ f : m.view.ty.Contents (Elt F), (m.view.loc (c : Thread nD τ) ↦[S]{fullShare} f)
    ∗ (∀ g : m.view.ty.Contents (Elt F), (m.view.loc (c : Thread nD τ) ↦[S]{fullShare} g) -∗ I))

/-- The places `S` of a buffer at some contents. -/
def anyOn {sp : Space} {s : Shape} {e : EltTy} (m : Memref sig .tc sp s e) (S : Finset m.view.ty.Idx) : sProp 𝕄 :=
  iprop(∃ f : m.view.ty.Contents (Elt F), m.view.loc (c : Thread nD τ) ↦[S]{fullShare} f)

section Access
variable {sp : Space} {s : Shape} {e : EltTy} (m : Memref sig .tc sp s e) (S : Finset m.view.ty.Idx)

theorem reads_owns (R : sProp 𝕄) (X : s.Idx → Elt F e) : Reads c iprop(owns (c : Thread nD τ) m fullShare X ∗ R) m m.view.set := by
  constructor
  unfold owns
  iintro ⟨⟨%f, %hf, H⟩, HR⟩
  iexists f
  isplitl [H]; · iexact H
  iintro H
  isplitl [H]
  · iexists f
    isplitr; · ipureintro; exact hf
    iexact H
  iexact HR

theorem writes_anyOn (R : sProp 𝕄) : Writes c iprop(anyOn c m S ∗ R) m S := ⟨by
  unfold anyOn
  iintro ⟨⟨%f, H⟩, HR⟩
  iexists f
  isplitl [H]; · iexact H
  iintro %g H
  isplitl [H]
  · iexists g
    iexact H
  iexact HR⟩

theorem reads_anyOn (R : sProp 𝕄) : Reads c iprop(anyOn c m S ∗ R) m S := ⟨by
  unfold anyOn
  iintro ⟨⟨%f, H⟩, HR⟩
  iexists f
  isplitl [H]; · iexact H
  iintro H
  isplitl [H]
  · iexists f
    iexact H
  iexact HR⟩

theorem reads_skip (P R : sProp 𝕄) [h : Reads c R m S] : Reads c iprop(P ∗ R) m S := ⟨by
  iintro ⟨HP, HR⟩
  ihave H := h.out $$ HR
  icases H with ⟨%f, H, Hk⟩
  iexists f
  isplitl [H]; · iexact H
  iintro H
  isplitl [HP]; · iexact HP
  iapply Hk $$ H⟩

theorem writes_skip (P R : sProp 𝕄) [h : Writes c R m S] : Writes c iprop(P ∗ R) m S := ⟨by
  iintro ⟨HP, HR⟩
  ihave H := h.out $$ HR
  icases H with ⟨%f, H, Hk⟩
  iexists f
  isplitl [H]; · iexact H
  iintro %g H
  isplitl [HP]; · iexact HP
  iapply Hk $$ %g H⟩

end Access

attribute [instance] reads_owns writes_anyOn reads_anyOn reads_skip writes_skip

theorem loadOn {s : Shape} {e : EltTy} (m : Memref sig .tc .vmem s e) (r : Rect s) (hl : m.view.LoadsAt r.toLoadRect) (I : sProp 𝕄)
    (S : Finset m.view.ty.Idx) [h : Reads c I m S] (hS : (m.access r).set ⊆ S) :
    Op c I (Prog.lift (.load m r.toLoadRect hl)) I := by
  intro β k Q hk
  refine Entails.trans ?_ (show W c (.op (.load m r.toLoadRect hl) k) Q ⊢ _ from Entails.rfl)
  iintro HI
  ihave H := h.out $$ HI
  icases H with ⟨%f, H, Hb⟩
  ihave Hw := (wp_load_rect (defs := defs₀ (F := F)) Variants.none (c : Thread nD τ) none (Γ := _) Set.univ (Q := Q) (m := m) (r := r) (hl := hl) (k := k) (f := f)
    (S := S) hS) $$ H
  iapply Hw
  iintro H
  iapply (hk _)
  iapply Hb $$ H

theorem load {s : Shape} {e : EltTy} (m : Memref sig .tc .vmem s e) (r : Rect s) (hl : m.view.LoadsAt r.toLoadRect) (I : sProp 𝕄)
    [h : Reads c I m m.view.set] : Op c I (Prog.lift (.load m r.toLoadRect hl)) I :=
  loadOn c m r hl I m.view.set (View.set_slice_subset _ _)

theorem storeOn {s : Shape} {e : EltTy} (m : Memref sig .tc .vmem s e) (r : Rect s) (w : r.shape.Idx → Elt F e)
    (hx : (m.access r).Stores Finset.univ) (hm : (Finset.univ : Finset r.shape.Idx) = Finset.univ ∨ ∀ a, r.stride a = 1) (I : sProp 𝕄)
    (S : Finset m.view.ty.Idx) [h : Writes c I m S] (hS : (m.access r).set ⊆ S) :
    Op c I (Prog.lift (.store m r w Finset.univ hx hm)) I := by
  intro β k Q hk
  refine Entails.trans ?_ (show W c (.op (.store m r w Finset.univ hx hm) k) Q ⊢ _ from Entails.rfl)
  iintro HI
  ihave H := h.out $$ HI
  icases H with ⟨%f, H, Hb⟩
  ihave Hw := (wp_store (defs := defs₀ (F := F)) Variants.none (c : Thread nD τ) none (Γ := _) Set.univ (Q := Q) (m := m) (r := r) (w := w) (Mk := Finset.univ) (hx := hx)
    (hm := hm) (k := k) (f := f) (S := S) (by rw [View.setOn_univ]; exact hS)) $$ H
  iapply Hw
  iintro H
  iapply (hk _)
  iapply Hb $$ H

theorem store {s : Shape} {e : EltTy} (m : Memref sig .tc .vmem s e) (r : Rect s) (w : r.shape.Idx → Elt F e)
    (hx : (m.access r).Stores Finset.univ) (hm : (Finset.univ : Finset r.shape.Idx) = Finset.univ ∨ ∀ a, r.stride a = 1) (I : sProp 𝕄)
    [h : Writes c I m m.view.set] : Op c I (Prog.lift (.store m r w Finset.univ hx hm)) I :=
  storeOn c m r w hx hm I m.view.set (View.set_slice_subset _ _)

/-- A load that keeps the state, then the rest. -/
theorem Tr.loadOn {s : Shape} {e : EltTy} {α β : Type} {I J : sProp 𝕄} {p : TcProg F α} {k : α → TcProg F β} {m : Memref sig .tc .vmem s e} {r : Rect s} {hl : m.view.LoadsAt r.toLoadRect}
    {S : Finset m.view.ty.Idx} (h : HEq p (Prog.lift (.load m r.toLoadRect hl) : TcProg F _)) (hα : α = (r.toLoadRect.shape.Idx → Elt F e)) (hR : Reads c I m S) (hS : (m.access r).set ⊆ S)
    (h' : ∀ a, Tr c I (k a) J) : Tr c I (p >>= k) J := by
  subst hα
  cases h
  exact Tr.stay c (Rnn.loadOn c m r hl I S hS) h'

theorem Tr.load {s : Shape} {e : EltTy} {α β : Type} {I J : sProp 𝕄} {p : TcProg F α} {k : α → TcProg F β} {m : Memref sig .tc .vmem s e} {r : Rect s} {hl : m.view.LoadsAt r.toLoadRect}
    (h : HEq p (Prog.lift (.load m r.toLoadRect hl) : TcProg F _)) (hα : α = (r.toLoadRect.shape.Idx → Elt F e)) (hR : Reads c I m m.view.set) (h' : ∀ a, Tr c I (k a) J) : Tr c I (p >>= k) J :=
  Tr.loadOn c h hα hR (View.set_slice_subset _ _) h'

end Cert.Kernel2Ideal.Rnn
-- ==== Proof.RnnIdeal.Dma.lean ====
/- The sixteen transfers of one block, counted on one semaphore: enqueued one by one, waited for one by one. -/
module

public import proofs.«01_k».proof.Proof.RnnIdeal.Rules

@[expose] public section

set_option maxRecDepth 16384

noncomputable section

namespace Cert.Kernel2Ideal.Rnn

open Idealize.ShloMosaic Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws
open Idealize.ShloMosaic.Transfers
open Cert.Kernel2Ideal.Gen

variable {F : FTy → Type} [FloatOps F] [Named F]

local notation "𝕄" => MT nD τ sig Unit (Elt F) ℕ (Pipeline.UD sig nD τ) ℕ

variable (c : Dev nD)

/-- The core owes nothing, whatever it has waited for. -/
def owing : sProp 𝕄 := iprop(∃ W, owes (c : Thread nD τ) 0 W)

/-- The first `j` of the sixteen transfers are enqueued; what the others take is at hand. -/
def EnqS (g : DmaSem sig) (N : ℕ) (D : Fin 16 → sProp 𝕄) (j : ℕ) : sProp 𝕄 :=
  iprop(Batch EC (c : Thread nD τ) (.dma g) () N D j 0 ∗ bigSep (pending j) D)

/-- All sixteen transfers are enqueued and `k` of them waited for. -/
def WaitS (g : DmaSem sig) (N : ℕ) (D : Fin 16 → sProp 𝕄) (k : ℕ) : sProp 𝕄 :=
  iprop(Batch EC (c : Thread nD τ) (.dma g) () N D 16 (k * N) ∗ owing c)

/-- The sixteen transfers are in flight. -/
def Flight (g : DmaSem sig) (N : ℕ) (D : Fin 16 → sProp 𝕄) : sProp 𝕄 := Batch EC (c : Thread nD τ) (.dma g) () N D 16 0

theorem enq (g : DmaSem sig) (N : ℕ) (D : Fin 16 → sProp 𝕄) (j : ℕ) (hj : j < 16) (R : sProp 𝕄) {sp sp' : Space}
    (src : Memref sig .tc sp S32x1024 .f32) (dst : Memref sig .tc sp' S32x1024 .f32) (sem : DmaSem sig) (hsem : sem = g)
    (hN : dst.view.dmaCredit = N) {h1 : src.view.WordExact} {h2 : dst.view.WordExact} {h3 : DmaTarget.Typed sp (.dma sem) (DmaTarget.here dst : DmaTarget nD τ sig .tc sp' S32x1024 .f32)}
    (h : D ⟨j, hj⟩ ⊢ iprop(∃ fs fd, ⌜∀ fd', iprop((dst.view.loc (c : Thread nD τ) ↦[dst.view.set]{fullShare} fd') ∗ (src.view.loc (c : Thread nD τ) ↦[src.view.set]{fullShare} fs)) ⊢ D ⟨j, hj⟩⌝
      ∗ (src.view.loc (c : Thread nD τ) ↦[src.view.set]{fullShare} fs) ∗ (dst.view.loc (c : Thread nD τ) ↦[dst.view.set]{fullShare} fd))) :
    Op c iprop(EnqS c g N D j ∗ R) (Prog.lift (.enqueueDma src (.here dst) (.dma sem) h1 h2 h3) : TcProg F PUnit) iprop(EnqS c g N D (j + 1) ∗ R) := by
  subst hsem
  intro β k Q hk
  refine Entails.trans ?_ (show W c (.op (.enqueueDma src (.here dst) (.dma sem) h1 h2 h3) k) Q ⊢ _ from Entails.rfl)
  unfold EnqS
  rw [bigSep_pending_step D j hj]
  iintro ⟨⟨HB, HD, HP⟩, HR⟩
  ihave HD := h $$ HD
  icases HD with ⟨%fs, %fd, %hD, Hs, Hd⟩
  iapply (wp_dmaBatch EC (defs := defs₀ (F := F)) Variants.none (c : Thread nD τ) none (Q := Q) (k := k) (src := src) (via := .same) (dst := dst) (sm := .dma sem) (q := fullShare) (fs := fs) (fd := fd)
    (Sd := dst.view.set) (D := D) (j := j) (u := 0) () N hN (Finset.Subset.refl _) hj (Nat.zero_le _) (hD _)) $$ [Hs Hd HB]
  · isplitl [Hs]; · iexact Hs
    isplitl [Hd]; · iexact Hd
    iexact HB
  iintro HB
  iapply (hk _)
  unfold EnqS
  isplitr [HR]
  · isplitl [HB]; · iexact HB
    iexact HP
  iexact HR

theorem wait (g : DmaSem sig) (N : ℕ) (D : Fin 16 → sProp 𝕄) (k : ℕ) (hk : k + 1 < 16) (hN0 : 0 < N) (R : sProp 𝕄) {sp sp' : Space}
    (src : Memref sig .tc sp S32x1024 .f32) (dst : Memref sig .tc sp' S32x1024 .f32) (sem : DmaSem sig) (hsem : sem = g)
    (hN : dst.view.dmaCredit = N) {h1 : src.view.WordExact} {h2 : dst.view.WordExact} :
    Op c iprop(WaitS c g N D k ∗ R) (Prog.lift (.waitDma2 sem src dst h1 h2) : TcProg F PUnit) iprop(WaitS c g N D (k + 1) ∗ R) := by
  subst hsem
  intro β p Q hp
  refine Entails.trans ?_ (show W c (.op (.waitDma2 sem src dst h1 h2) p) Q ⊢ _ from Entails.rfl)
  unfold WaitS owing
  iintro ⟨⟨HB, %W', HW⟩, HR⟩
  iapply (wp_waitBatch EC (defs := defs₀ (F := F)) Variants.none (c : Thread nD τ) none (Q := Q) (k := p) (srcw := src) (dstw := dst) (sem := sem) () hN
    (D := D) (u := k * N) (by have : (k + 1) * N < 16 * N := Nat.mul_lt_mul_of_pos_right hk hN0
                              rw [Nat.add_mul] at this; omega) (W := W')) $$ [HB HW]
  · isplitl [HB]; · iexact HB
    iexact HW
  iintro ⟨HB, HW⟩
  iapply (hp _)
  unfold WaitS owing
  isplitr [HR]
  · isplitl [HB]
    · rw [Nat.add_mul, Nat.one_mul]; iexact HB
    iexists _; iexact HW
  iexact HR

theorem waitLast (g : DmaSem sig) (N : ℕ) (D : Fin 16 → sProp 𝕄) (hN0 : 0 < N) (R : sProp 𝕄) {sp sp' : Space}
    (src : Memref sig .tc sp S32x1024 .f32) (dst : Memref sig .tc sp' S32x1024 .f32) (sem : DmaSem sig) (hsem : sem = g)
    (hN : dst.view.dmaCredit = N) {h1 : src.view.WordExact} {h2 : dst.view.WordExact} :
    Op c iprop(WaitS c g N D 15 ∗ R) (Prog.lift (.waitDma2 sem src dst h1 h2) : TcProg F PUnit)
      iprop((bigSep Finset.univ D ∗ semVal ((c : Thread nD τ), .dma g) 0 ∗ owing c) ∗ R) := by
  subst hsem
  intro β p Q hp
  refine Entails.trans ?_ (show W c (.op (.waitDma2 sem src dst h1 h2) p) Q ⊢ _ from Entails.rfl)
  unfold WaitS owing
  iintro ⟨⟨HB, %W', HW⟩, HR⟩
  iapply (wp_waitBatchLast EC (defs := defs₀ (F := F)) Variants.none (c : Thread nD τ) none (Q := Q) (k := p) (srcw := src) (dstw := dst) (sem := sem) () hN hN0
    (D := D) (u := 15 * N) (by omega) (W := W')) $$ [HB HW]
  · isplitl [HB]; · iexact HB
    iexact HW
  iintro ⟨HD, HS, HW⟩
  iapply (hp _)
  unfold owing
  isplitr [HR]
  · isplitl [HD]; · iexact HD
    isplitl [HS]; · iexact HS
    iexists _; iexact HW
  iexact HR

/-! ## The semaphores and the pieces -/

/-- The semaphore of slot `s`. -/
def semOf (a : DmaSems sig S2) (s : ℕ) : DmaSem sig := a.ix (fun k => ⟨s % 2, by fin_cases k; exact Nat.mod_lt _ (by decide)⟩)

theorem sem_at (a : DmaSems sig S2) (off : Fin 1 → ℕ) (inb : ∀ k, off k + S1.size k ≤ S2.size k) (s : ℕ) (h : off = ![s]) :
    ((a.slice (Rect.unit (s := S2) off S1.size inb)).squeeze S_ squeezes_S1_S_).sem = semOf a s := by
  subst h
  unfold SemArray.sem SemArray.squeeze SemArray.slice semOf
  refine congrArg a.ix (funext fun k => ?_)
  fin_cases k
  have h0 : s + 1 ≤ 2 := inb 0
  refine Fin.ext ?_
  have h1 : ∀ z : Fin 1, s + 1 * z.val = s % 2 := by intro z; have := z.isLt; omega
  exact h1 ((Shape.reshapeEquiv squeezes_S1_S_.numel_eq (fun i => i.elim0)) 0)

/-- The places of batch row `b` of slot `s`. -/
def rs (s b : ℕ) : Finset S2x32x16x1024.Idx := Finset.univ.filter fun y => (y 0).val = s ∧ (y 2).val = b

/-- The places of batch row `b`, time steps `r` to `r + 31`. -/
def rx (b r : ℕ) : Finset S16x2048x1024.Idx := Finset.univ.filter fun y => (y 0).val = b ∧ r ≤ (y 1).val ∧ (y 1).val < r + 32

theorem rs_eq (s b : ℕ) (off : Fin 4 → ℕ) (inb : ∀ a, off a + S1x32x1x1024.size a ≤ S2x32x16x1024.size a) (h : off = ![s, 0, b, 0]) :
    (Rect.unit (s := S2x32x16x1024) off S1x32x1x1024.size inb).set = rs s b := by
  subst h
  ext y
  rw [Rect.mem_set_unit]
  simp only [rs, Finset.mem_filter, Finset.mem_univ, true_and]
  have h1 : (y 1).val < 32 := (y 1).isLt
  have h3 : (y 3).val < 1024 := (y 3).isLt
  constructor
  · intro h
    have a0 := h 0
    have a2 := h 2
    have b0 : s ≤ (y 0).val ∧ (y 0).val < s + 1 := a0
    have b2 : b ≤ (y 2).val ∧ (y 2).val < b + 1 := a2
    omega
  · rintro ⟨e0, e2⟩ a
    fin_cases a
    · show s ≤ (y 0).val ∧ (y 0).val < s + 1; omega
    · show 0 ≤ (y 1).val ∧ (y 1).val < 0 + 32; omega
    · show b ≤ (y 2).val ∧ (y 2).val < b + 1; omega
    · show 0 ≤ (y 3).val ∧ (y 3).val < 0 + 1024; omega

theorem rx_eq (b r : ℕ) (off : Fin 3 → ℕ) (inb : ∀ a, off a + S1x32x1024.size a ≤ S16x2048x1024.size a) (h : off = ![b, r, 0]) :
    (Rect.unit (s := S16x2048x1024) off S1x32x1024.size inb).set = rx b r := by
  subst h
  ext y
  rw [Rect.mem_set_unit]
  simp only [rx, Finset.mem_filter, Finset.mem_univ, true_and]
  have h2 : (y 2).val < 1024 := (y 2).isLt
  constructor
  · intro h
    have b0 : b ≤ (y 0).val ∧ (y 0).val < b + 1 := h 0
    have b1 : r ≤ (y 1).val ∧ (y 1).val < r + 32 := h 1
    omega
  · rintro ⟨e0, e1⟩ a
    fin_cases a
    · show b ≤ (y 0).val ∧ (y 0).val < b + 1; omega
    · show r ≤ (y 1).val ∧ (y 1).val < r + 32; omega
    · show 0 ≤ (y 2).val ∧ (y 2).val < 0 + 1024; omega

/-- The piece of a double buffer, -/
abbrev ps {sp : Space} (m : Memref sig .tc sp S2x32x16x1024 .f32) (s b : ℕ) : Finset m.view.ty.Idx := (rs s b).map m.view.emb
/-- and of an array. -/
abbrev px {sp : Space} (m : Memref sig .tc sp S16x2048x1024 .f32) (b r : ℕ) : Finset m.view.ty.Idx := (rx b r).map m.view.emb

theorem ps_eq {sp : Space} (m : Memref sig .tc sp S2x32x16x1024 .f32) (s b : ℕ) (off : Fin 4 → ℕ)
    (inb : ∀ a, off a + S1x32x1x1024.size a ≤ S2x32x16x1024.size a) (hs) (h : off = ![s, 0, b, 0]) :
    ((m.slice (Rect.unit (s := S2x32x16x1024) off S1x32x1x1024.size inb) hs).squeeze S32x1024 squeezes_S1x32x1x1024_S32x1024).view.set = ps m s b :=
  (View.set_reshape _ _).trans ((View.set_slice _ _).trans (congrArg (Finset.map m.view.emb) (rs_eq s b off inb h)))

theorem px_eq {sp : Space} (m : Memref sig .tc sp S16x2048x1024 .f32) (b r : ℕ) (off : Fin 3 → ℕ)
    (inb : ∀ a, off a + S1x32x1024.size a ≤ S16x2048x1024.size a) (hs) (h : off = ![b, r, 0]) :
    ((m.slice (Rect.unit (s := S16x2048x1024) off S1x32x1024.size inb) hs).squeeze S32x1024 squeezes_S1x32x1024_S32x1024).view.set = px m b r :=
  (View.set_reshape _ _).trans ((View.set_slice _ _).trans (congrArg (Finset.map m.view.emb) (rx_eq b r off inb h)))

/-- The amount a piece's transfer credits. -/
abbrev amt {sp : Space} {s : Shape} (m : Memref sig .tc sp s .f32) : ℕ := sig.dmaCredit .tc (Kind.tc.table sp) m.view.buf S32x1024 .f32

theorem amt_pos {sp : Space} {s : Shape} (m : Memref sig .tc sp s .f32) : 0 < amt m :=
  sig.dmaCredit_pos .tc _ _ _ _ (by decide)

section Blocks
variable {sp sp' : Space}

/-- A piece of the block read: its row of the buffer, and the row of the array it is read from. -/
def Din (ax : Memref sig .tc sp S16x2048x1024 .f32) (X : ax.view.ty.Contents (Elt F)) (ab : Memref sig .tc sp' S2x32x16x1024 .f32) (s r : ℕ) (b : Fin 16) : sProp 𝕄 :=
  iprop(anyOn c ab (ps ab s b.val) ∗ (ax.view.loc (c : Thread nD τ) ↦[px ax b.val r]{fullShare} X))

/-- A piece of the block written. -/
def Dout (ao : Memref sig .tc sp S16x2048x1024 .f32) (ab : Memref sig .tc sp' S2x32x16x1024 .f32) (s r : ℕ) (b : Fin 16) : sProp 𝕄 :=
  iprop(anyOn (F := F) c ao (px ao b.val r) ∗ anyOn (F := F) c ab (ps ab s b.val))

instance Din_storable (ax : Memref sig .tc sp S16x2048x1024 .f32) (X : ax.view.ty.Contents (Elt F)) (ab : Memref sig .tc sp' S2x32x16x1024 .f32) (s r : ℕ) (b : Fin 16) :
    BI.Storable (upEmb : UEmb _ 𝕄) (Din c ax X ab s r b) := by unfold Din anyOn; infer_instance

instance Dout_storable (ao : Memref sig .tc sp S16x2048x1024 .f32) (ab : Memref sig .tc sp' S2x32x16x1024 .f32) (s r : ℕ) (b : Fin 16) :
    BI.Storable (upEmb : UEmb _ 𝕄) (Dout (F := F) c ao ab s r b) := by unfold Dout anyOn; infer_instance

theorem enqIn (ax : Memref sig .tc sp S16x2048x1024 .f32) (X : ax.view.ty.Contents (Elt F)) (ab : Memref sig .tc sp' S2x32x16x1024 .f32) (sa : DmaSems sig S2)
    (s r j : ℕ) (hj : j < 16) (R : sProp 𝕄) {o1 i1 s1 o2 i2 s2 o3 i3 h1 h2 h3} (e1 : o1 = ![j, r, 0]) (e2 : o2 = ![s, 0, j, 0]) (e3 : o3 = ![s]) :
    Op c iprop(EnqS c (semOf sa s) (amt ab) (Din c ax X ab s r) j ∗ R)
      (Prog.lift (.enqueueDma ((ax.slice (Rect.unit (s := S16x2048x1024) o1 S1x32x1024.size i1) s1).squeeze S32x1024 squeezes_S1x32x1024_S32x1024)
        (.here ((ab.slice (Rect.unit (s := S2x32x16x1024) o2 S1x32x1x1024.size i2) s2).squeeze S32x1024 squeezes_S1x32x1x1024_S32x1024))
        (.dma ((sa.slice (Rect.unit (s := S2) o3 S1.size i3)).squeeze S_ squeezes_S1_S_).sem) h1 h2 h3) : TcProg F PUnit)
      iprop(EnqS c (semOf sa s) (amt ab) (Din c ax X ab s r) (j + 1) ∗ R) := by
  refine enq c _ _ _ j hj R _ _ _ (sem_at sa o3 i3 s e3) rfl ?_
  rw [ps_eq ab s j o2 i2 s2 e2, px_eq ax j r o1 i1 s1 e1]
  unfold Din anyOn
  iintro ⟨⟨%f, H⟩, HX⟩
  iexists X
  iexists f
  isplitr
  · ipureintro
    intro fd'
    iintro ⟨H, HX⟩
    isplitl [H]
    · iexists fd'
      iexact H
    iexact HX
  isplitl [HX]; · iexact HX
  iexact H

theorem enqOut (ao : Memref sig .tc sp S16x2048x1024 .f32) (ab : Memref sig .tc sp' S2x32x16x1024 .f32) (sa : DmaSems sig S2)
    (s r j : ℕ) (hj : j < 16) (R : sProp 𝕄) {o1 i1 s1 o2 i2 s2 o3 i3 h1 h2 h3} (e1 : o1 = ![j, r, 0]) (e2 : o2 = ![s, 0, j, 0]) (e3 : o3 = ![s]) :
    Op c iprop(EnqS c (semOf sa s) (amt ao) (Dout c ao ab s r) j ∗ R)
      (Prog.lift (.enqueueDma ((ab.slice (Rect.unit (s := S2x32x16x1024) o2 S1x32x1x1024.size i2) s2).squeeze S32x1024 squeezes_S1x32x1x1024_S32x1024)
        (.here ((ao.slice (Rect.unit (s := S16x2048x1024) o1 S1x32x1024.size i1) s1).squeeze S32x1024 squeezes_S1x32x1024_S32x1024))
        (.dma ((sa.slice (Rect.unit (s := S2) o3 S1.size i3)).squeeze S_ squeezes_S1_S_).sem) h1 h2 h3) : TcProg F PUnit)
      iprop(EnqS c (semOf sa s) (amt ao) (Dout c ao ab s r) (j + 1) ∗ R) := by
  refine enq c _ _ _ j hj R _ _ _ (sem_at sa o3 i3 s e3) rfl ?_
  rw [ps_eq ab s j o2 i2 s2 e2, px_eq ao j r o1 i1 s1 e1]
  unfold Dout anyOn
  iintro ⟨⟨%f, H⟩, %g, HX⟩
  iexists g
  iexists f
  isplitr
  · ipureintro
    intro fd'
    iintro ⟨H, HX⟩
    isplitl [H]
    · iexists fd'
      iexact H
    iexists g
    iexact HX
  isplitl [HX]; · iexact HX
  iexact H

theorem waitIn (D : Fin 16 → sProp 𝕄) (ax : Memref sig .tc sp S16x2048x1024 .f32) (ab : Memref sig .tc sp' S2x32x16x1024 .f32) (sa : DmaSems sig S2)
    (s k : ℕ) (hk : k + 1 < 16) (R : sProp 𝕄) {o1 i1 s1 o2 i2 s2 o3 i3 h1 h2} (e3 : o3 = ![s]) :
    Op c iprop(WaitS c (semOf sa s) (amt ab) D k ∗ R)
      (Prog.lift (.waitDma2 ((sa.slice (Rect.unit (s := S2) o3 S1.size i3)).squeeze S_ squeezes_S1_S_).sem
        ((ax.slice (Rect.unit (s := S16x2048x1024) o1 S1x32x1024.size i1) s1).squeeze S32x1024 squeezes_S1x32x1024_S32x1024)
        ((ab.slice (Rect.unit (s := S2x32x16x1024) o2 S1x32x1x1024.size i2) s2).squeeze S32x1024 squeezes_S1x32x1x1024_S32x1024) h1 h2) : TcProg F PUnit)
      iprop(WaitS c (semOf sa s) (amt ab) D (k + 1) ∗ R) :=
  wait c _ _ _ k hk (amt_pos ab) R _ _ _ (sem_at sa o3 i3 s e3) rfl

theorem waitInLast (D : Fin 16 → sProp 𝕄) (ax : Memref sig .tc sp S16x2048x1024 .f32) (ab : Memref sig .tc sp' S2x32x16x1024 .f32) (sa : DmaSems sig S2)
    (s : ℕ) (R : sProp 𝕄) {o1 i1 s1 o2 i2 s2 o3 i3 h1 h2} (e3 : o3 = ![s]) :
    Op c iprop(WaitS c (semOf sa s) (amt ab) D 15 ∗ R)
      (Prog.lift (.waitDma2 ((sa.slice (Rect.unit (s := S2) o3 S1.size i3)).squeeze S_ squeezes_S1_S_).sem
        ((ax.slice (Rect.unit (s := S16x2048x1024) o1 S1x32x1024.size i1) s1).squeeze S32x1024 squeezes_S1x32x1024_S32x1024)
        ((ab.slice (Rect.unit (s := S2x32x16x1024) o2 S1x32x1x1024.size i2) s2).squeeze S32x1024 squeezes_S1x32x1x1024_S32x1024) h1 h2) : TcProg F PUnit)
      iprop((bigSep Finset.univ D ∗ semVal ((c : Thread nD τ), .dma (semOf sa s)) 0 ∗ owing c) ∗ R) :=
  waitLast c _ _ _ (amt_pos ab) R _ _ _ (sem_at sa o3 i3 s e3) rfl

theorem waitOut (D : Fin 16 → sProp 𝕄) (ao : Memref sig .tc sp S16x2048x1024 .f32) (ab : Memref sig .tc sp' S2x32x16x1024 .f32) (sa : DmaSems sig S2)
    (s k : ℕ) (hk : k + 1 < 16) (R : sProp 𝕄) {o1 i1 s1 o2 i2 s2 o3 i3 h1 h2} (e3 : o3 = ![s]) :
    Op c iprop(WaitS c (semOf sa s) (amt ao) D k ∗ R)
      (Prog.lift (.waitDma2 ((sa.slice (Rect.unit (s := S2) o3 S1.size i3)).squeeze S_ squeezes_S1_S_).sem
        ((ab.slice (Rect.unit (s := S2x32x16x1024) o2 S1x32x1x1024.size i2) s2).squeeze S32x1024 squeezes_S1x32x1x1024_S32x1024)
        ((ao.slice (Rect.unit (s := S16x2048x1024) o1 S1x32x1024.size i1) s1).squeeze S32x1024 squeezes_S1x32x1024_S32x1024) h1 h2) : TcProg F PUnit)
      iprop(WaitS c (semOf sa s) (amt ao) D (k + 1) ∗ R) :=
  wait c _ _ _ k hk (amt_pos ao) R _ _ _ (sem_at sa o3 i3 s e3) rfl

theorem waitOutLast (D : Fin 16 → sProp 𝕄) (ao : Memref sig .tc sp S16x2048x1024 .f32) (ab : Memref sig .tc sp' S2x32x16x1024 .f32) (sa : DmaSems sig S2)
    (s : ℕ) (R : sProp 𝕄) {o1 i1 s1 o2 i2 s2 o3 i3 h1 h2} (e3 : o3 = ![s]) :
    Op c iprop(WaitS c (semOf sa s) (amt ao) D 15 ∗ R)
      (Prog.lift (.waitDma2 ((sa.slice (Rect.unit (s := S2) o3 S1.size i3)).squeeze S_ squeezes_S1_S_).sem
        ((ab.slice (Rect.unit (s := S2x32x16x1024) o2 S1x32x1x1024.size i2) s2).squeeze S32x1024 squeezes_S1x32x1x1024_S32x1024)
        ((ao.slice (Rect.unit (s := S16x2048x1024) o1 S1x32x1024.size i1) s1).squeeze S32x1024 squeezes_S1x32x1024_S32x1024) h1 h2) : TcProg F PUnit)
      iprop((bigSep Finset.univ D ∗ semVal ((c : Thread nD τ), .dma (semOf sa s)) 0 ∗ owing c) ∗ R) :=
  waitLast c _ _ _ (amt_pos ao) R _ _ _ (sem_at sa o3 i3 s e3) rfl

end Blocks

end Cert.Kernel2Ideal.Rnn
-- ==== Proof.RnnIdeal.Moves.lean ====
/- The windows of the kernel that only move blocks: each keeps the count of the transfers it enqueues or waits for. -/
module

public import proofs.«01_k».proof.Proof.RnnIdeal.Dma
public import proofs.«01_k».proof.Proof.Gen.Kernel2Ideal.Skeleton

@[expose] public section

set_option maxRecDepth 16384

noncomputable section

namespace Cert.Kernel2Ideal.Rnn

open Idealize.ShloMosaic Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws
open Idealize.ShloMosaic.Transfers
open Cert.Kernel2Ideal.Gen

variable {F : FTy → Type} [FloatOps F] [Named F]

local notation "𝕄" => MT nD τ sig Unit (Elt F) ℕ (Pipeline.UD sig nD τ) ℕ

/-- The slot of the point's block, -/
def slot (i : grid0.Coords) : ℕ := (Scalar.remsi (BitVec.ofNat 32 (i 0).val) 2#32).toNat
/-- of the next block's; -/
def nslot (i : grid0.Coords) : ℕ := (Scalar.subi 1#32 (Scalar.remsi (BitVec.ofNat 32 (i 0).val) 2#32)).toNat
/-- the first time step of the point's block, -/
def row (i : grid0.Coords) : ℕ := (Scalar.muli (BitVec.ofNat 32 (i 0).val) 32#32).toNat
/-- of the next block. -/
def nrow (i : grid0.Coords) : ℕ := (Scalar.muli (Scalar.addi (BitVec.ofNat 32 (i 0).val) 1#32) 32#32).toNat

/-! The kernel's operands, as it is called with them. -/

variable (c : Dev nD) (i : grid0.Coords) (arg1 : Memref sig .tc .hbm S16x2048x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S5x4x256 .f32) (harg4 : arg4.IsWhole) (arg5 : Memref sig .tc .vmem S5x1x256 .f32) (harg5 : arg5.IsWhole) (arg6 : Memref sig .tc .vmem S10x128x256 .bf16) (harg6 : arg6.IsWhole) (arg7 : Memref sig .tc .vmem S5x1x256 .f32) (harg7 : arg7.IsWhole) (arg8 : Memref sig .tc .vmem S5x1x256 .f32) (harg8 : arg8.IsWhole) (arg9 : Memref sig .tc .vmem S5x1x256 .f32) (harg9 : arg9.IsWhole) (arg10 : Memref sig .tc .vmem S5x256x1024 .bf16) (harg10 : arg10.IsWhole) (arg11 : Memref sig .tc .hbm S16x2048x1024 .f32) (harg11 : arg11.IsWhole) (arg12 : Memref sig .tc .vmem S2x32x16x1024 .f32) (harg12 : arg12.IsWhole) (arg13 : Memref sig .tc .vmem S2x32x16x1024 .f32) (harg13 : arg13.IsWhole) (arg14 : DmaSems sig S2) (arg15 : DmaSems sig S2) (arg16 : Memref sig .tc .vmem S512x1024 .bf16) (harg16 : arg16.IsWhole) (arg17 : Memref sig .tc .vmem S560x256 .f32) (harg17 : arg17.IsWhole) (arg18 : Memref sig .tc .vmem S5x512x256 .bf16) (harg18 : arg18.IsWhole) (arg19 : Memref sig .tc .vmem S5x48x256 .f32) (harg19 : arg19.IsWhole) (arg20 : Memref sig .tc .vmem S5x16x256 .f32) (harg20 : arg20.IsWhole)

theorem part1 (X : arg1.view.ty.Contents (Elt F)) (R : sProp 𝕄) [Reads c R arg19 arg19.view.set] [Reads c R arg20 arg20.view.set] [Writes c R arg19 arg19.view.set] [Writes c R arg20 arg20.view.set] :
    Tr c iprop(EnqS c (semOf arg14 (0)) (amt arg12) (Din c arg1 X arg12 (0) (0)) 0 ∗ R) (k0_part1 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(EnqS c (semOf arg14 (0)) (amt arg12) (Din c arg1 X arg12 (0) (0)) 2 ∗ R) := by
  rw [k0_part1_eq_skeleton]
  unfold k0_part1_skel
  refine Tr.load c HEq.rfl rfl inferInstance fun _ => ?_
  refine Tr.stay c (store c _ _ _ _ _ _) fun _ => ?_
  refine Tr.load c HEq.rfl rfl inferInstance fun _ => ?_
  refine Tr.stay c (store c _ _ _ _ _ _) fun _ => ?_
  iterate 2 refine Tr.bind c (Op.tr c (enqIn c arg1 X arg12 arg14 (0) (0) _ (by decide) R rfl rfl rfl)) fun _ => ?_
  exact Tr.done c _ Entails.rfl

theorem part2 (X : arg1.view.ty.Contents (Elt F)) (R : sProp 𝕄) :
    Tr c iprop(EnqS c (semOf arg14 (0)) (amt arg12) (Din c arg1 X arg12 (0) (0)) 2 ∗ R) (k0_part2 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(EnqS c (semOf arg14 (0)) (amt arg12) (Din c arg1 X arg12 (0) (0)) 6 ∗ R) := by
  rw [k0_part2_eq_skeleton]
  unfold k0_part2_skel
  iterate 4 refine Tr.bind c (Op.tr c (enqIn c arg1 X arg12 arg14 (0) (0) _ (by decide) R rfl rfl rfl)) fun _ => ?_
  exact Tr.done c _ Entails.rfl

theorem part3 (X : arg1.view.ty.Contents (Elt F)) (R : sProp 𝕄) :
    Tr c iprop(EnqS c (semOf arg14 (0)) (amt arg12) (Din c arg1 X arg12 (0) (0)) 6 ∗ R) (k0_part3 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(EnqS c (semOf arg14 (0)) (amt arg12) (Din c arg1 X arg12 (0) (0)) 10 ∗ R) := by
  rw [k0_part3_eq_skeleton]
  unfold k0_part3_skel
  iterate 4 refine Tr.bind c (Op.tr c (enqIn c arg1 X arg12 arg14 (0) (0) _ (by decide) R rfl rfl rfl)) fun _ => ?_
  exact Tr.done c _ Entails.rfl

theorem part4 (X : arg1.view.ty.Contents (Elt F)) (R : sProp 𝕄) :
    Tr c iprop(EnqS c (semOf arg14 (0)) (amt arg12) (Din c arg1 X arg12 (0) (0)) 10 ∗ R) (k0_part4 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(EnqS c (semOf arg14 (0)) (amt arg12) (Din c arg1 X arg12 (0) (0)) 14 ∗ R) := by
  rw [k0_part4_eq_skeleton]
  unfold k0_part4_skel
  iterate 4 refine Tr.bind c (Op.tr c (enqIn c arg1 X arg12 arg14 (0) (0) _ (by decide) R rfl rfl rfl)) fun _ => ?_
  exact Tr.done c _ Entails.rfl

theorem part5 (arg0 : BitVec 32) (v0 : BitVec 32) (k0_h2 : k0_cond2 i = 1#1) (X : arg1.view.ty.Contents (Elt F)) (R : sProp 𝕄) :
    Tr c iprop(EnqS c (semOf arg14 (nslot i)) (amt arg12) (Din c arg1 X arg12 (nslot i) (nrow i)) 0 ∗ R) (k0_part5 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 arg0 v0 k0_h2 : TcProg F _) iprop(EnqS c (semOf arg14 (nslot i)) (amt arg12) (Din c arg1 X arg12 (nslot i) (nrow i)) 2 ∗ R) := by
  rw [k0_part5_eq_skeleton]
  unfold k0_part5_skel
  iterate 2 refine Tr.bind c (Op.tr c (enqIn c arg1 X arg12 arg14 (nslot i) (nrow i) _ (by decide) R rfl rfl rfl)) fun _ => ?_
  exact Tr.done c _ Entails.rfl

theorem part6 (k0_h2 : k0_cond2 i = 1#1) (X : arg1.view.ty.Contents (Elt F)) (R : sProp 𝕄) :
    Tr c iprop(EnqS c (semOf arg14 (nslot i)) (amt arg12) (Din c arg1 X arg12 (nslot i) (nrow i)) 2 ∗ R) (k0_part6 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 k0_h2 : TcProg F _) iprop(EnqS c (semOf arg14 (nslot i)) (amt arg12) (Din c arg1 X arg12 (nslot i) (nrow i)) 7 ∗ R) := by
  rw [k0_part6_eq_skeleton]
  unfold k0_part6_skel
  iterate 5 refine Tr.bind c (Op.tr c (enqIn c arg1 X arg12 arg14 (nslot i) (nrow i) _ (by decide) R rfl rfl rfl)) fun _ => ?_
  exact Tr.done c _ Entails.rfl

theorem part7 (k0_h2 : k0_cond2 i = 1#1) (X : arg1.view.ty.Contents (Elt F)) (R : sProp 𝕄) :
    Tr c iprop(EnqS c (semOf arg14 (nslot i)) (amt arg12) (Din c arg1 X arg12 (nslot i) (nrow i)) 7 ∗ R) (k0_part7 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 k0_h2 : TcProg F _) iprop(EnqS c (semOf arg14 (nslot i)) (amt arg12) (Din c arg1 X arg12 (nslot i) (nrow i)) 12 ∗ R) := by
  rw [k0_part7_eq_skeleton]
  unfold k0_part7_skel
  iterate 5 refine Tr.bind c (Op.tr c (enqIn c arg1 X arg12 arg14 (nslot i) (nrow i) _ (by decide) R rfl rfl rfl)) fun _ => ?_
  exact Tr.done c _ Entails.rfl

theorem part8 (arg0 : BitVec 32) (k0_h3 : k0_cond3 i = 1#1) (D : Fin 16 → sProp 𝕄) (R : sProp 𝕄) :
    Tr c iprop(WaitS c (semOf arg15 (slot i)) (amt arg11) D 0 ∗ R) (k0_part8 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 arg0 k0_h3 : TcProg F _) iprop(WaitS c (semOf arg15 (slot i)) (amt arg11) D 2 ∗ R) := by
  rw [k0_part8_eq_skeleton]
  unfold k0_part8_skel
  iterate 2 refine Tr.bind c (Op.tr c (waitOut c D arg11 arg13 arg15 (slot i) _ (by decide) R rfl)) fun _ => ?_
  exact Tr.done c _ Entails.rfl

theorem part9 (k0_h3 : k0_cond3 i = 1#1) (D : Fin 16 → sProp 𝕄) (R : sProp 𝕄) :
    Tr c iprop(WaitS c (semOf arg15 (slot i)) (amt arg11) D 2 ∗ R) (k0_part9 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 k0_h3 : TcProg F _) iprop(WaitS c (semOf arg15 (slot i)) (amt arg11) D 7 ∗ R) := by
  rw [k0_part9_eq_skeleton]
  unfold k0_part9_skel
  iterate 5 refine Tr.bind c (Op.tr c (waitOut c D arg11 arg13 arg15 (slot i) _ (by decide) R rfl)) fun _ => ?_
  exact Tr.done c _ Entails.rfl

theorem part10 (k0_h3 : k0_cond3 i = 1#1) (D : Fin 16 → sProp 𝕄) (R : sProp 𝕄) :
    Tr c iprop(WaitS c (semOf arg15 (slot i)) (amt arg11) D 7 ∗ R) (k0_part10 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 k0_h3 : TcProg F _) iprop(WaitS c (semOf arg15 (slot i)) (amt arg11) D 12 ∗ R) := by
  rw [k0_part10_eq_skeleton]
  unfold k0_part10_skel
  iterate 5 refine Tr.bind c (Op.tr c (waitOut c D arg11 arg13 arg15 (slot i) _ (by decide) R rfl)) fun _ => ?_
  exact Tr.done c _ Entails.rfl

theorem part11 (arg0 : BitVec 32) (v0 : BitVec 32) (k0_h4 : k0_cond4 i = 1#1) (D : Fin 16 → sProp 𝕄) (R : sProp 𝕄) :
    Tr c iprop(WaitS c (semOf arg15 (nslot i)) (amt arg11) D 0 ∗ R) (k0_part11 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 arg0 v0 k0_h4 : TcProg F _) iprop(WaitS c (semOf arg15 (nslot i)) (amt arg11) D 2 ∗ R) := by
  rw [k0_part11_eq_skeleton]
  unfold k0_part11_skel
  iterate 2 refine Tr.bind c (Op.tr c (waitOut c D arg11 arg13 arg15 (nslot i) _ (by decide) R rfl)) fun _ => ?_
  exact Tr.done c _ Entails.rfl

theorem part12 (k0_h4 : k0_cond4 i = 1#1) (D : Fin 16 → sProp 𝕄) (R : sProp 𝕄) :
    Tr c iprop(WaitS c (semOf arg15 (nslot i)) (amt arg11) D 2 ∗ R) (k0_part12 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 k0_h4 : TcProg F _) iprop(WaitS c (semOf arg15 (nslot i)) (amt arg11) D 7 ∗ R) := by
  rw [k0_part12_eq_skeleton]
  unfold k0_part12_skel
  iterate 5 refine Tr.bind c (Op.tr c (waitOut c D arg11 arg13 arg15 (nslot i) _ (by decide) R rfl)) fun _ => ?_
  exact Tr.done c _ Entails.rfl

theorem part13 (k0_h4 : k0_cond4 i = 1#1) (D : Fin 16 → sProp 𝕄) (R : sProp 𝕄) :
    Tr c iprop(WaitS c (semOf arg15 (nslot i)) (amt arg11) D 7 ∗ R) (k0_part13 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 k0_h4 : TcProg F _) iprop(WaitS c (semOf arg15 (nslot i)) (amt arg11) D 12 ∗ R) := by
  rw [k0_part13_eq_skeleton]
  unfold k0_part13_skel
  iterate 5 refine Tr.bind c (Op.tr c (waitOut c D arg11 arg13 arg15 (nslot i) _ (by decide) R rfl)) fun _ => ?_
  exact Tr.done c _ Entails.rfl

theorem part14 (arg0 : BitVec 32) (k0_h4 : k0_cond4 i = 1#1) (D : Fin 16 → sProp 𝕄) (R : sProp 𝕄) :
    Tr c iprop(WaitS c (semOf arg15 (nslot i)) (amt arg11) D 12 ∗ R) (k0_part14 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 arg0 k0_h4 : TcProg F _) iprop((bigSep Finset.univ D ∗ semVal ((c : Thread nD τ), .dma (semOf arg15 (nslot i))) 0 ∗ owing c) ∗ R) := by
  rw [k0_part14_eq_skeleton]
  unfold k0_part14_skel
  iterate 3 refine Tr.bind c (Op.tr c (waitOut c D arg11 arg13 arg15 (nslot i) _ (by decide) R rfl)) fun _ => ?_
  refine Tr.bind c (Op.tr c (waitOutLast c D arg11 arg13 arg15 (nslot i) R rfl)) fun _ => ?_
  exact Tr.done c _ Entails.rfl

theorem part15 (arg0 : BitVec 32) (k0_h4 : k0_cond4 i = 1#1) (D : Fin 16 → sProp 𝕄) (R : sProp 𝕄) :
    Tr c iprop(WaitS c (semOf arg15 (slot i)) (amt arg11) D 0 ∗ R) (k0_part15 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 arg0 k0_h4 : TcProg F _) iprop(WaitS c (semOf arg15 (slot i)) (amt arg11) D 3 ∗ R) := by
  rw [k0_part15_eq_skeleton]
  unfold k0_part15_skel
  iterate 3 refine Tr.bind c (Op.tr c (waitOut c D arg11 arg13 arg15 (slot i) _ (by decide) R rfl)) fun _ => ?_
  exact Tr.done c _ Entails.rfl

theorem part16 (k0_h4 : k0_cond4 i = 1#1) (D : Fin 16 → sProp 𝕄) (R : sProp 𝕄) :
    Tr c iprop(WaitS c (semOf arg15 (slot i)) (amt arg11) D 3 ∗ R) (k0_part16 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 k0_h4 : TcProg F _) iprop(WaitS c (semOf arg15 (slot i)) (amt arg11) D 8 ∗ R) := by
  rw [k0_part16_eq_skeleton]
  unfold k0_part16_skel
  iterate 5 refine Tr.bind c (Op.tr c (waitOut c D arg11 arg13 arg15 (slot i) _ (by decide) R rfl)) fun _ => ?_
  exact Tr.done c _ Entails.rfl

theorem part17 (k0_h4 : k0_cond4 i = 1#1) (D : Fin 16 → sProp 𝕄) (R : sProp 𝕄) :
    Tr c iprop(WaitS c (semOf arg15 (slot i)) (amt arg11) D 8 ∗ R) (k0_part17 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 k0_h4 : TcProg F _) iprop(WaitS c (semOf arg15 (slot i)) (amt arg11) D 13 ∗ R) := by
  rw [k0_part17_eq_skeleton]
  unfold k0_part17_skel
  iterate 5 refine Tr.bind c (Op.tr c (waitOut c D arg11 arg13 arg15 (slot i) _ (by decide) R rfl)) fun _ => ?_
  exact Tr.done c _ Entails.rfl

theorem part19 (D : Fin 16 → sProp 𝕄) (R : sProp 𝕄) :
    Tr c iprop(WaitS c (semOf arg14 (slot i)) (amt arg12) D 0 ∗ R) (k0_part19 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(WaitS c (semOf arg14 (slot i)) (amt arg12) D 5 ∗ R) := by
  rw [k0_part19_eq_skeleton]
  unfold k0_part19_skel
  iterate 5 refine Tr.bind c (Op.tr c (waitIn c D arg1 arg12 arg14 (slot i) _ (by decide) R rfl)) fun _ => ?_
  exact Tr.done c _ Entails.rfl

theorem part20 (D : Fin 16 → sProp 𝕄) (R : sProp 𝕄) :
    Tr c iprop(WaitS c (semOf arg14 (slot i)) (amt arg12) D 5 ∗ R) (k0_part20 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(WaitS c (semOf arg14 (slot i)) (amt arg12) D 10 ∗ R) := by
  rw [k0_part20_eq_skeleton]
  unfold k0_part20_skel
  iterate 5 refine Tr.bind c (Op.tr c (waitIn c D arg1 arg12 arg14 (slot i) _ (by decide) R rfl)) fun _ => ?_
  exact Tr.done c _ Entails.rfl

theorem part21 (D : Fin 16 → sProp 𝕄) (R : sProp 𝕄) :
    Tr c iprop(WaitS c (semOf arg14 (slot i)) (amt arg12) D 10 ∗ R) (k0_part21 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(WaitS c (semOf arg14 (slot i)) (amt arg12) D 15 ∗ R) := by
  rw [k0_part21_eq_skeleton]
  unfold k0_part21_skel
  iterate 5 refine Tr.bind c (Op.tr c (waitIn c D arg1 arg12 arg14 (slot i) _ (by decide) R rfl)) fun _ => ?_
  exact Tr.done c _ Entails.rfl

theorem part53 (arg0 : BitVec 32) (R : sProp 𝕄) :
    Tr c iprop(EnqS c (semOf arg15 (slot i)) (amt arg11) (Dout (F := F) c arg11 arg13 (slot i) (row i)) 0 ∗ R) (k0_part53 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 arg0 : TcProg F _) iprop(EnqS c (semOf arg15 (slot i)) (amt arg11) (Dout (F := F) c arg11 arg13 (slot i) (row i)) 3 ∗ R) := by
  rw [k0_part53_eq_skeleton]
  unfold k0_part53_skel
  iterate 3 refine Tr.bind c (Op.tr c (enqOut c arg11 arg13 arg15 (slot i) (row i) _ (by decide) R rfl rfl rfl)) fun _ => ?_
  exact Tr.done c _ Entails.rfl

theorem part54 (R : sProp 𝕄) :
    Tr c iprop(EnqS c (semOf arg15 (slot i)) (amt arg11) (Dout (F := F) c arg11 arg13 (slot i) (row i)) 3 ∗ R) (k0_part54 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(EnqS c (semOf arg15 (slot i)) (amt arg11) (Dout (F := F) c arg11 arg13 (slot i) (row i)) 8 ∗ R) := by
  rw [k0_part54_eq_skeleton]
  unfold k0_part54_skel
  iterate 5 refine Tr.bind c (Op.tr c (enqOut c arg11 arg13 arg15 (slot i) (row i) _ (by decide) R rfl rfl rfl)) fun _ => ?_
  exact Tr.done c _ Entails.rfl

theorem part55 (R : sProp 𝕄) :
    Tr c iprop(EnqS c (semOf arg15 (slot i)) (amt arg11) (Dout (F := F) c arg11 arg13 (slot i) (row i)) 8 ∗ R) (k0_part55 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(EnqS c (semOf arg15 (slot i)) (amt arg11) (Dout (F := F) c arg11 arg13 (slot i) (row i)) 13 ∗ R) := by
  rw [k0_part55_eq_skeleton]
  unfold k0_part55_skel
  iterate 5 refine Tr.bind c (Op.tr c (enqOut c arg11 arg13 arg15 (slot i) (row i) _ (by decide) R rfl rfl rfl)) fun _ => ?_
  exact Tr.done c _ Entails.rfl

end Cert.Kernel2Ideal.Rnn
-- ==== Proof.RnnIdeal.Opening.lean ====
/- The opening of a point: the first block read in, the next block asked for, the output slot freed. -/
module

public import proofs.«01_k».proof.Proof.RnnIdeal.Moves
public import proofs.«01_k».proof.Proof.Gen.Kernel2Ideal.Skeleton

@[expose] public section

set_option maxRecDepth 16384

noncomputable section

namespace Cert.Kernel2Ideal.Rnn

open Idealize.ShloMosaic Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws
open Idealize.ShloMosaic.Transfers
open Cert.Kernel2Ideal.Gen

variable {F : FTy → Type} [FloatOps F] [Named F]

local notation "𝕄" => MT nD τ sig Unit (Elt F) ℕ (Pipeline.UD sig nD τ) ℕ

/-- Whether the point is the first, as the kernel computes it. -/
def firstPoint (i : grid0.Coords) : BitVec 1 := Scalar.cmpi .ne (Scalar.extui (Scalar.cmpi .eq (BitVec.ofNat 32 (i 0).val) 0#32)) 0#32

/-- What the windows of the kernel read and write besides the blocks: the weights at their contents, the working buffers at some. -/
abbrev Core (c : Dev nD) (arg2 : Memref sig .tc .vmem S1x1024 .f32) (arg3 : Memref sig .tc .vmem S1024x2560 .bf16) (arg4 : Memref sig .tc .vmem S5x4x256 .f32) (arg5 : Memref sig .tc .vmem S5x1x256 .f32) (arg6 : Memref sig .tc .vmem S10x128x256 .bf16) (arg7 : Memref sig .tc .vmem S5x1x256 .f32) (arg8 : Memref sig .tc .vmem S5x1x256 .f32) (arg9 : Memref sig .tc .vmem S5x1x256 .f32) (arg10 : Memref sig .tc .vmem S5x256x1024 .bf16) (arg16 : Memref sig .tc .vmem S512x1024 .bf16) (arg17 : Memref sig .tc .vmem S560x256 .f32) (arg18 : Memref sig .tc .vmem S5x512x256 .bf16) (arg19 : Memref sig .tc .vmem S5x48x256 .f32) (arg20 : Memref sig .tc .vmem S5x16x256 .f32) (X2 : S1x1024.Idx → Elt F .f32) (X3 : S1024x2560.Idx → Elt F .bf16) (X4 : S5x4x256.Idx → Elt F .f32) (X5 : S5x1x256.Idx → Elt F .f32) (X6 : S10x128x256.Idx → Elt F .bf16) (X7 : S5x1x256.Idx → Elt F .f32) (X8 : S5x1x256.Idx → Elt F .f32) (X9 : S5x1x256.Idx → Elt F .f32) (X10 : S5x256x1024.Idx → Elt F .bf16) (R : sProp 𝕄) : sProp 𝕄 :=
  iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ anyOn (F := F) c arg16 arg16.view.set ∗ anyOn (F := F) c arg17 arg17.view.set ∗ anyOn (F := F) c arg18 arg18.view.set ∗ anyOn (F := F) c arg19 arg19.view.set ∗ anyOn (F := F) c arg20 arg20.view.set ∗ R)

/-! The kernel's operands, as it is called with them. -/

variable (c : Dev nD) (i : grid0.Coords) (arg1 : Memref sig .tc .hbm S16x2048x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S5x4x256 .f32) (harg4 : arg4.IsWhole) (arg5 : Memref sig .tc .vmem S5x1x256 .f32) (harg5 : arg5.IsWhole) (arg6 : Memref sig .tc .vmem S10x128x256 .bf16) (harg6 : arg6.IsWhole) (arg7 : Memref sig .tc .vmem S5x1x256 .f32) (harg7 : arg7.IsWhole) (arg8 : Memref sig .tc .vmem S5x1x256 .f32) (harg8 : arg8.IsWhole) (arg9 : Memref sig .tc .vmem S5x1x256 .f32) (harg9 : arg9.IsWhole) (arg10 : Memref sig .tc .vmem S5x256x1024 .bf16) (harg10 : arg10.IsWhole) (arg11 : Memref sig .tc .hbm S16x2048x1024 .f32) (harg11 : arg11.IsWhole) (arg12 : Memref sig .tc .vmem S2x32x16x1024 .f32) (harg12 : arg12.IsWhole) (arg13 : Memref sig .tc .vmem S2x32x16x1024 .f32) (harg13 : arg13.IsWhole) (arg14 : DmaSems sig S2) (arg15 : DmaSems sig S2) (arg16 : Memref sig .tc .vmem S512x1024 .bf16) (harg16 : arg16.IsWhole) (arg17 : Memref sig .tc .vmem S560x256 .f32) (harg17 : arg17.IsWhole) (arg18 : Memref sig .tc .vmem S5x512x256 .bf16) (harg18 : arg18.IsWhole) (arg19 : Memref sig .tc .vmem S5x48x256 .f32) (harg19 : arg19.IsWhole) (arg20 : Memref sig .tc .vmem S5x16x256 .f32) (harg20 : arg20.IsWhole)

set_option maxHeartbeats 4000000 in
theorem part18 (X2 : S1x1024.Idx → Elt F .f32) (X3 : S1024x2560.Idx → Elt F .bf16) (X4 : S5x4x256.Idx → Elt F .f32) (X5 : S5x1x256.Idx → Elt F .f32) (X6 : S10x128x256.Idx → Elt F .bf16) (X7 : S5x1x256.Idx → Elt F .f32) (X8 : S5x1x256.Idx → Elt F .f32) (X9 : S5x1x256.Idx → Elt F .f32) (X10 : S5x256x1024.Idx → Elt F .bf16) (X : arg1.view.ty.Contents (Elt F)) (I0 I1 I2 I3 : sProp 𝕄)
    (H1 : firstPoint i = 1#1 → ∃ R, Upd I0 iprop(EnqS c (semOf arg14 (0)) (amt arg12) (Din c arg1 X arg12 (0) (0)) 0 ∗ Core c arg2 arg3 arg4 arg5 arg6 arg7 arg8 arg9 arg10 arg16 arg17 arg18 arg19 arg20 X2 X3 X4 X5 X6 X7 X8 X9 X10 R) ∧ (iprop(EnqS c (semOf arg14 (0)) (amt arg12) (Din c arg1 X arg12 (0) (0)) 16 ∗ Core c arg2 arg3 arg4 arg5 arg6 arg7 arg8 arg9 arg10 arg16 arg17 arg18 arg19 arg20 X2 X3 X4 X5 X6 X7 X8 X9 X10 R) ⊢ I1)) (H1n : ¬ firstPoint i = 1#1 → I0 ⊢ I1)
    (H2 : k0_cond2 i = 1#1 → ∃ R, Upd I1 iprop(EnqS c (semOf arg14 (nslot i)) (amt arg12) (Din c arg1 X arg12 (nslot i) (nrow i)) 0 ∗ R) ∧ (iprop(EnqS c (semOf arg14 (nslot i)) (amt arg12) (Din c arg1 X arg12 (nslot i) (nrow i)) 16 ∗ R) ⊢ I2)) (H2n : ¬ k0_cond2 i = 1#1 → I1 ⊢ I2)
    (H3 : k0_cond3 i = 1#1 → ∃ D R, (I2 ⊢ iprop(WaitS c (semOf arg15 (slot i)) (amt arg11) D 0 ∗ R)) ∧ (iprop((bigSep Finset.univ D ∗ semVal ((c : Thread nD τ), .dma (semOf arg15 (slot i))) 0 ∗ owing c) ∗ R) ⊢ I3)) (H3n : ¬ k0_cond3 i = 1#1 → I2 ⊢ I3) :
    Tr c I0 (k0_part18 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) I3 := by
  rw [k0_part18_eq_skeleton]
  unfold k0_part18_skel
  dsimp only
  refine Tr.dite c (fun h => ?_) (fun h => ?_)
  · obtain ⟨R, ha, hb⟩ := H1 h
    refine Tr.upd c ha ?_
    refine Tr.bind c (part1 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 X iprop(Core c arg2 arg3 arg4 arg5 arg6 arg7 arg8 arg9 arg10 arg16 arg17 arg18 arg19 arg20 X2 X3 X4 X5 X6 X7 X8 X9 X10 R)) fun _ => ?_
    refine Tr.bind c (part2 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 X iprop(Core c arg2 arg3 arg4 arg5 arg6 arg7 arg8 arg9 arg10 arg16 arg17 arg18 arg19 arg20 X2 X3 X4 X5 X6 X7 X8 X9 X10 R)) fun _ => ?_
    refine Tr.bind c (part3 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 X iprop(Core c arg2 arg3 arg4 arg5 arg6 arg7 arg8 arg9 arg10 arg16 arg17 arg18 arg19 arg20 X2 X3 X4 X5 X6 X7 X8 X9 X10 R)) fun _ => ?_
    refine Tr.bind c (part4 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 X iprop(Core c arg2 arg3 arg4 arg5 arg6 arg7 arg8 arg9 arg10 arg16 arg17 arg18 arg19 arg20 X2 X3 X4 X5 X6 X7 X8 X9 X10 R)) fun _ => ?_
    refine Tr.bind c (Op.tr c (enqIn c arg1 X arg12 arg14 0 0 14 (by decide) iprop(Core c arg2 arg3 arg4 arg5 arg6 arg7 arg8 arg9 arg10 arg16 arg17 arg18 arg19 arg20 X2 X3 X4 X5 X6 X7 X8 X9 X10 R) rfl rfl rfl)) fun _ => ?_
    refine Tr.bind c (Op.tr c (enqIn c arg1 X arg12 arg14 0 0 15 (by decide) iprop(Core c arg2 arg3 arg4 arg5 arg6 arg7 arg8 arg9 arg10 arg16 arg17 arg18 arg19 arg20 X2 X3 X4 X5 X6 X7 X8 X9 X10 R) rfl rfl rfl)) fun _ => ?_
    refine Tr.pre c hb ?_
    try refine Tr.bind c (Tr.done c _ Entails.rfl) fun _ => ?_
    refine Tr.dite c (fun h => ?_) (fun h => ?_)
    · obtain ⟨R, ha, hb⟩ := H2 h
      refine Tr.upd c ha ?_
      refine Tr.bind c (part5 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  _ _ h X R) fun _ => ?_
      refine Tr.bind c (part6 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h X R) fun _ => ?_
      refine Tr.bind c (part7 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h X R) fun _ => ?_
      refine Tr.bind c (Op.tr c (enqIn c arg1 X arg12 arg14 (nslot i) (nrow i) 12 (by decide) R rfl rfl rfl)) fun _ => ?_
      refine Tr.bind c (Op.tr c (enqIn c arg1 X arg12 arg14 (nslot i) (nrow i) 13 (by decide) R rfl rfl rfl)) fun _ => ?_
      refine Tr.bind c (Op.tr c (enqIn c arg1 X arg12 arg14 (nslot i) (nrow i) 14 (by decide) R rfl rfl rfl)) fun _ => ?_
      refine Tr.bind c (Op.tr c (enqIn c arg1 X arg12 arg14 (nslot i) (nrow i) 15 (by decide) R rfl rfl rfl)) fun _ => ?_
      refine Tr.pre c hb ?_
      try refine Tr.bind c (Tr.done c _ Entails.rfl) fun _ => ?_
      refine Tr.dite c (fun h => ?_) (fun h => ?_)
      · obtain ⟨D, R, ha, hb⟩ := H3 h
        refine Tr.pre c ha ?_
        refine Tr.bind c (part8 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  _ h D R) fun _ => ?_
        refine Tr.bind c (part9 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h D R) fun _ => ?_
        refine Tr.bind c (part10 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h D R) fun _ => ?_
        refine Tr.bind c (Op.tr c (waitOut c D arg11 arg13 arg15 (slot i) 12 (by decide) R rfl)) fun _ => ?_
        refine Tr.bind c (Op.tr c (waitOut c D arg11 arg13 arg15 (slot i) 13 (by decide) R rfl)) fun _ => ?_
        refine Tr.bind c (Op.tr c (waitOut c D arg11 arg13 arg15 (slot i) 14 (by decide) R rfl)) fun _ => ?_
        refine Tr.bind c (Op.tr c (waitOutLast c D arg11 arg13 arg15 (slot i) R rfl)) fun _ => ?_
        refine Tr.pre c hb ?_
        try refine Tr.bind c (Tr.done c _ Entails.rfl) fun _ => ?_
        exact Tr.done c _ Entails.rfl
      · refine Tr.pre c (H3n h) ?_
        try refine Tr.bind c (Tr.done c _ Entails.rfl) fun _ => ?_
        exact Tr.done c _ Entails.rfl
    · refine Tr.pre c (H2n h) ?_
      try refine Tr.bind c (Tr.done c _ Entails.rfl) fun _ => ?_
      refine Tr.dite c (fun h => ?_) (fun h => ?_)
      · obtain ⟨D, R, ha, hb⟩ := H3 h
        refine Tr.pre c ha ?_
        refine Tr.bind c (part8 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  _ h D R) fun _ => ?_
        refine Tr.bind c (part9 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h D R) fun _ => ?_
        refine Tr.bind c (part10 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h D R) fun _ => ?_
        refine Tr.bind c (Op.tr c (waitOut c D arg11 arg13 arg15 (slot i) 12 (by decide) R rfl)) fun _ => ?_
        refine Tr.bind c (Op.tr c (waitOut c D arg11 arg13 arg15 (slot i) 13 (by decide) R rfl)) fun _ => ?_
        refine Tr.bind c (Op.tr c (waitOut c D arg11 arg13 arg15 (slot i) 14 (by decide) R rfl)) fun _ => ?_
        refine Tr.bind c (Op.tr c (waitOutLast c D arg11 arg13 arg15 (slot i) R rfl)) fun _ => ?_
        refine Tr.pre c hb ?_
        try refine Tr.bind c (Tr.done c _ Entails.rfl) fun _ => ?_
        exact Tr.done c _ Entails.rfl
      · refine Tr.pre c (H3n h) ?_
        try refine Tr.bind c (Tr.done c _ Entails.rfl) fun _ => ?_
        exact Tr.done c _ Entails.rfl
  · refine Tr.pre c (H1n h) ?_
    try refine Tr.bind c (Tr.done c _ Entails.rfl) fun _ => ?_
    refine Tr.dite c (fun h => ?_) (fun h => ?_)
    · obtain ⟨R, ha, hb⟩ := H2 h
      refine Tr.upd c ha ?_
      refine Tr.bind c (part5 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  _ _ h X R) fun _ => ?_
      refine Tr.bind c (part6 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h X R) fun _ => ?_
      refine Tr.bind c (part7 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h X R) fun _ => ?_
      refine Tr.bind c (Op.tr c (enqIn c arg1 X arg12 arg14 (nslot i) (nrow i) 12 (by decide) R rfl rfl rfl)) fun _ => ?_
      refine Tr.bind c (Op.tr c (enqIn c arg1 X arg12 arg14 (nslot i) (nrow i) 13 (by decide) R rfl rfl rfl)) fun _ => ?_
      refine Tr.bind c (Op.tr c (enqIn c arg1 X arg12 arg14 (nslot i) (nrow i) 14 (by decide) R rfl rfl rfl)) fun _ => ?_
      refine Tr.bind c (Op.tr c (enqIn c arg1 X arg12 arg14 (nslot i) (nrow i) 15 (by decide) R rfl rfl rfl)) fun _ => ?_
      refine Tr.pre c hb ?_
      try refine Tr.bind c (Tr.done c _ Entails.rfl) fun _ => ?_
      refine Tr.dite c (fun h => ?_) (fun h => ?_)
      · obtain ⟨D, R, ha, hb⟩ := H3 h
        refine Tr.pre c ha ?_
        refine Tr.bind c (part8 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  _ h D R) fun _ => ?_
        refine Tr.bind c (part9 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h D R) fun _ => ?_
        refine Tr.bind c (part10 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h D R) fun _ => ?_
        refine Tr.bind c (Op.tr c (waitOut c D arg11 arg13 arg15 (slot i) 12 (by decide) R rfl)) fun _ => ?_
        refine Tr.bind c (Op.tr c (waitOut c D arg11 arg13 arg15 (slot i) 13 (by decide) R rfl)) fun _ => ?_
        refine Tr.bind c (Op.tr c (waitOut c D arg11 arg13 arg15 (slot i) 14 (by decide) R rfl)) fun _ => ?_
        refine Tr.bind c (Op.tr c (waitOutLast c D arg11 arg13 arg15 (slot i) R rfl)) fun _ => ?_
        refine Tr.pre c hb ?_
        try refine Tr.bind c (Tr.done c _ Entails.rfl) fun _ => ?_
        exact Tr.done c _ Entails.rfl
      · refine Tr.pre c (H3n h) ?_
        try refine Tr.bind c (Tr.done c _ Entails.rfl) fun _ => ?_
        exact Tr.done c _ Entails.rfl
    · refine Tr.pre c (H2n h) ?_
      try refine Tr.bind c (Tr.done c _ Entails.rfl) fun _ => ?_
      refine Tr.dite c (fun h => ?_) (fun h => ?_)
      · obtain ⟨D, R, ha, hb⟩ := H3 h
        refine Tr.pre c ha ?_
        refine Tr.bind c (part8 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  _ h D R) fun _ => ?_
        refine Tr.bind c (part9 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h D R) fun _ => ?_
        refine Tr.bind c (part10 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20  h D R) fun _ => ?_
        refine Tr.bind c (Op.tr c (waitOut c D arg11 arg13 arg15 (slot i) 12 (by decide) R rfl)) fun _ => ?_
        refine Tr.bind c (Op.tr c (waitOut c D arg11 arg13 arg15 (slot i) 13 (by decide) R rfl)) fun _ => ?_
        refine Tr.bind c (Op.tr c (waitOut c D arg11 arg13 arg15 (slot i) 14 (by decide) R rfl)) fun _ => ?_
        refine Tr.bind c (Op.tr c (waitOutLast c D arg11 arg13 arg15 (slot i) R rfl)) fun _ => ?_
        refine Tr.pre c hb ?_
        try refine Tr.bind c (Tr.done c _ Entails.rfl) fun _ => ?_
        exact Tr.done c _ Entails.rfl
      · refine Tr.pre c (H3n h) ?_
        try refine Tr.bind c (Tr.done c _ Entails.rfl) fun _ => ?_
        exact Tr.done c _ Entails.rfl

end Cert.Kernel2Ideal.Rnn
-- ==== Proof.RnnIdeal.Body.lean ====
/- One point of the grid, from what it finds to what it leaves. -/
module

public import proofs.«01_k».proof.Proof.RnnIdeal.Opening
public import proofs.«01_k».proof.Proof.Gen.Kernel2Ideal.Skeleton

@[expose] public section

set_option maxRecDepth 16384

noncomputable section

namespace Cert.Kernel2Ideal.Rnn

open Idealize.ShloMosaic Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws
open Idealize.ShloMosaic.Transfers
open Cert.Kernel2Ideal.Gen

variable {F : FTy → Type} [FloatOps F] [Named F]

local notation "𝕄" => MT nD τ sig Unit (Elt F) ℕ (Pipeline.UD sig nD τ) ℕ

/-- The places of slot `s`. -/
def qsI (s : ℕ) : Finset S2x32x16x1024.Idx := Finset.univ.filter fun y => (y 0).val = s
abbrev qs {sp : Space} (m : Memref sig .tc sp S2x32x16x1024 .f32) (s : ℕ) : Finset m.view.ty.Idx := (qsI s).map m.view.emb

theorem qs_sub {sp : Space} (m : Memref sig .tc sp S2x32x16x1024 .f32) (s : ℕ) (off size : Fin 4 → ℕ)
    (inb : ∀ a, off a + size a ≤ S2x32x16x1024.size a) (h1 : size 0 = 1) (h : off 0 = s) (h' : True = True) :
    (m.access (Rect.unit (s := S2x32x16x1024) off size inb)).set ⊆ qs m s := by
  refine (subset_of_eq (View.set_slice m.view _)).trans (Finset.map_subset_map.mpr fun y hy => ?_)
  have := (Rect.mem_set_unit.mp hy) 0
  simp only [qsI, Finset.mem_filter, Finset.mem_univ, true_and]
  omega

/-- The weights can be read and the working buffers read and written, the state kept. -/
class Kept (c : Dev nD) (I : sProp 𝕄) (arg2 : Memref sig .tc .vmem S1x1024 .f32) (arg3 : Memref sig .tc .vmem S1024x2560 .bf16) (arg4 : Memref sig .tc .vmem S5x4x256 .f32) (arg5 : Memref sig .tc .vmem S5x1x256 .f32) (arg6 : Memref sig .tc .vmem S10x128x256 .bf16) (arg7 : Memref sig .tc .vmem S5x1x256 .f32) (arg8 : Memref sig .tc .vmem S5x1x256 .f32) (arg9 : Memref sig .tc .vmem S5x1x256 .f32) (arg10 : Memref sig .tc .vmem S5x256x1024 .bf16) (arg16 : Memref sig .tc .vmem S512x1024 .bf16) (arg17 : Memref sig .tc .vmem S560x256 .f32) (arg18 : Memref sig .tc .vmem S5x512x256 .bf16) (arg19 : Memref sig .tc .vmem S5x48x256 .f32) (arg20 : Memref sig .tc .vmem S5x16x256 .f32) : Prop where
  r2 : Reads c I arg2 arg2.view.set
  r3 : Reads c I arg3 arg3.view.set
  r4 : Reads c I arg4 arg4.view.set
  r5 : Reads c I arg5 arg5.view.set
  r6 : Reads c I arg6 arg6.view.set
  r7 : Reads c I arg7 arg7.view.set
  r8 : Reads c I arg8 arg8.view.set
  r9 : Reads c I arg9 arg9.view.set
  r10 : Reads c I arg10 arg10.view.set
  r16 : Reads c I arg16 arg16.view.set
  r17 : Reads c I arg17 arg17.view.set
  r18 : Reads c I arg18 arg18.view.set
  r19 : Reads c I arg19 arg19.view.set
  r20 : Reads c I arg20 arg20.view.set
  w16 : Writes c I arg16 arg16.view.set
  w17 : Writes c I arg17 arg17.view.set
  w18 : Writes c I arg18 arg18.view.set
  w19 : Writes c I arg19 arg19.view.set
  w20 : Writes c I arg20 arg20.view.set

instance (c : Dev nD) (arg2 : Memref sig .tc .vmem S1x1024 .f32) (arg3 : Memref sig .tc .vmem S1024x2560 .bf16) (arg4 : Memref sig .tc .vmem S5x4x256 .f32) (arg5 : Memref sig .tc .vmem S5x1x256 .f32) (arg6 : Memref sig .tc .vmem S10x128x256 .bf16) (arg7 : Memref sig .tc .vmem S5x1x256 .f32) (arg8 : Memref sig .tc .vmem S5x1x256 .f32) (arg9 : Memref sig .tc .vmem S5x1x256 .f32) (arg10 : Memref sig .tc .vmem S5x256x1024 .bf16) (arg16 : Memref sig .tc .vmem S512x1024 .bf16) (arg17 : Memref sig .tc .vmem S560x256 .f32) (arg18 : Memref sig .tc .vmem S5x512x256 .bf16) (arg19 : Memref sig .tc .vmem S5x48x256 .f32) (arg20 : Memref sig .tc .vmem S5x16x256 .f32) (X2 : S1x1024.Idx → Elt F .f32) (X3 : S1024x2560.Idx → Elt F .bf16) (X4 : S5x4x256.Idx → Elt F .f32) (X5 : S5x1x256.Idx → Elt F .f32) (X6 : S10x128x256.Idx → Elt F .bf16) (X7 : S5x1x256.Idx → Elt F .f32) (X8 : S5x1x256.Idx → Elt F .f32) (X9 : S5x1x256.Idx → Elt F .f32) (X10 : S5x256x1024.Idx → Elt F .bf16) (R : sProp 𝕄) : Kept c (Core c arg2 arg3 arg4 arg5 arg6 arg7 arg8 arg9 arg10 arg16 arg17 arg18 arg19 arg20 X2 X3 X4 X5 X6 X7 X8 X9 X10 R) arg2 arg3 arg4 arg5 arg6 arg7 arg8 arg9 arg10 arg16 arg17 arg18 arg19 arg20 := by
  constructor <;> infer_instance

/-! The kernel's operands, as it is called with them. -/

variable (c : Dev nD) (i : grid0.Coords) (arg1 : Memref sig .tc .hbm S16x2048x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S5x4x256 .f32) (harg4 : arg4.IsWhole) (arg5 : Memref sig .tc .vmem S5x1x256 .f32) (harg5 : arg5.IsWhole) (arg6 : Memref sig .tc .vmem S10x128x256 .bf16) (harg6 : arg6.IsWhole) (arg7 : Memref sig .tc .vmem S5x1x256 .f32) (harg7 : arg7.IsWhole) (arg8 : Memref sig .tc .vmem S5x1x256 .f32) (harg8 : arg8.IsWhole) (arg9 : Memref sig .tc .vmem S5x1x256 .f32) (harg9 : arg9.IsWhole) (arg10 : Memref sig .tc .vmem S5x256x1024 .bf16) (harg10 : arg10.IsWhole) (arg11 : Memref sig .tc .hbm S16x2048x1024 .f32) (harg11 : arg11.IsWhole) (arg12 : Memref sig .tc .vmem S2x32x16x1024 .f32) (harg12 : arg12.IsWhole) (arg13 : Memref sig .tc .vmem S2x32x16x1024 .f32) (harg13 : arg13.IsWhole) (arg14 : DmaSems sig S2) (arg15 : DmaSems sig S2) (arg16 : Memref sig .tc .vmem S512x1024 .bf16) (harg16 : arg16.IsWhole) (arg17 : Memref sig .tc .vmem S560x256 .f32) (harg17 : arg17.IsWhole) (arg18 : Memref sig .tc .vmem S5x512x256 .bf16) (harg18 : arg18.IsWhole) (arg19 : Memref sig .tc .vmem S5x48x256 .f32) (harg19 : arg19.IsWhole) (arg20 : Memref sig .tc .vmem S5x16x256 .f32) (harg20 : arg20.IsWhole)

theorem part22 (v0 : BitVec 32) (D : Fin 16 → sProp 𝕄) (R I : sProp 𝕄) (hI : iprop((bigSep Finset.univ D ∗ semVal ((c : Thread nD τ), .dma (semOf arg14 (slot i))) 0 ∗ owing c) ∗ R) ⊢ I) [K : Kept c I arg2 arg3 arg4 arg5 arg6 arg7 arg8 arg9 arg10 arg16 arg17 arg18 arg19 arg20] [Reads c I arg12 (qs arg12 (slot i))] :
    Tr c iprop(WaitS c (semOf arg14 (slot i)) (amt arg12) D 15 ∗ R) (k0_part22 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 v0 : TcProg F _) I := by
  obtain ⟨_, _, _, _, _, _, _, _, _, _, _, _, _, _, _, _, _, _, _⟩ := K
  rw [k0_part22_eq_skeleton]
  unfold k0_part22_skel
  refine Tr.bind c (Tr.post c (Op.tr c (waitInLast c D arg1 arg12 arg14 (slot i) R rfl)) hI) fun _ => ?_
  refine Tr.loadOn c HEq.rfl rfl (S := qs arg12 (slot i)) inferInstance (qs_sub arg12 _ _ _ _ (by decide) rfl rfl) fun _ => ?_
  iterate 2 refine Tr.load c HEq.rfl rfl inferInstance fun _ => ?_
  refine Tr.stay c (store c _ _ _ _ _ I) fun _ => ?_
  iterate 4 refine Tr.load c HEq.rfl rfl inferInstance fun _ => ?_
  refine Tr.stay c (store c _ _ _ _ _ I) fun _ => ?_
  exact Tr.done c _ Entails.rfl

set_option maxHeartbeats 8000000 in
theorem part56 (X2 : S1x1024.Idx → Elt F .f32) (X3 : S1024x2560.Idx → Elt F .bf16) (X4 : S5x4x256.Idx → Elt F .f32) (X5 : S5x1x256.Idx → Elt F .f32) (X6 : S10x128x256.Idx → Elt F .bf16) (X7 : S5x1x256.Idx → Elt F .f32) (X8 : S5x1x256.Idx → Elt F .f32) (X9 : S5x1x256.Idx → Elt F .f32) (X10 : S5x256x1024.Idx → Elt F .bf16) (X : arg1.view.ty.Contents (Elt F)) (I0 I1 I2 I3 : sProp 𝕄)
    (H1 : firstPoint i = 1#1 → ∃ R, Upd I0 iprop(EnqS c (semOf arg14 (0)) (amt arg12) (Din c arg1 X arg12 (0) (0)) 0 ∗ Core c arg2 arg3 arg4 arg5 arg6 arg7 arg8 arg9 arg10 arg16 arg17 arg18 arg19 arg20 X2 X3 X4 X5 X6 X7 X8 X9 X10 R) ∧ (iprop(EnqS c (semOf arg14 (0)) (amt arg12) (Din c arg1 X arg12 (0) (0)) 16 ∗ Core c arg2 arg3 arg4 arg5 arg6 arg7 arg8 arg9 arg10 arg16 arg17 arg18 arg19 arg20 X2 X3 X4 X5 X6 X7 X8 X9 X10 R) ⊢ I1)) (H1n : ¬ firstPoint i = 1#1 → I0 ⊢ I1)
    (H2 : k0_cond2 i = 1#1 → ∃ R, Upd I1 iprop(EnqS c (semOf arg14 (nslot i)) (amt arg12) (Din c arg1 X arg12 (nslot i) (nrow i)) 0 ∗ R) ∧ (iprop(EnqS c (semOf arg14 (nslot i)) (amt arg12) (Din c arg1 X arg12 (nslot i) (nrow i)) 16 ∗ R) ⊢ I2)) (H2n : ¬ k0_cond2 i = 1#1 → I1 ⊢ I2)
    (H3 : k0_cond3 i = 1#1 → ∃ D R, (I2 ⊢ iprop(WaitS c (semOf arg15 (slot i)) (amt arg11) D 0 ∗ R)) ∧ (iprop((bigSep Finset.univ D ∗ semVal ((c : Thread nD τ), .dma (semOf arg15 (slot i))) 0 ∗ owing c) ∗ R) ⊢ I3)) (H3n : ¬ k0_cond3 i = 1#1 → I2 ⊢ I3)
    (D : Fin 16 → sProp 𝕄) (R I4 R5 : sProp 𝕄) [K : Kept c I4 arg2 arg3 arg4 arg5 arg6 arg7 arg8 arg9 arg10 arg16 arg17 arg18 arg19 arg20] [Reads c I4 arg12 (qs arg12 (slot i))] [Reads c I4 arg13 (qs arg13 (slot i))] [Writes c I4 arg13 (qs arg13 (slot i))] (H4 : I3 ⊢ iprop(WaitS c (semOf arg14 (slot i)) (amt arg12) D 0 ∗ R)) (H4' : iprop((bigSep Finset.univ D ∗ semVal ((c : Thread nD τ), .dma (semOf arg14 (slot i))) 0 ∗ owing c) ∗ R) ⊢ I4)
    (H5 : Upd (I4) iprop(EnqS c (semOf arg15 (slot i)) (amt arg11) (Dout (F := F) c arg11 arg13 (slot i) (row i)) 0 ∗ R5))
    : Tr c I0 (k0_part56 i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) iprop(EnqS c (semOf arg15 (slot i)) (amt arg11) (Dout (F := F) c arg11 arg13 (slot i) (row i)) 15 ∗ R5) := by
  rw [k0_part56_eq_skeleton]
  unfold k0_part56_skel
  refine Tr.bind c (part18 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 X2 X3 X4 X5 X6 X7 X8 X9 X10 X I0 I1 I2 I3 H1 H1n H2 H2n H3 H3n) fun _ => ?_
  refine Tr.pre c H4 ?_
  refine Tr.bind c (part19 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 D R) fun _ => ?_
  refine Tr.bind c (part20 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 D R) fun _ => ?_
  refine Tr.bind c (part21 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 D R) fun _ => ?_
  refine Tr.bind c (part22 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 _ D R _ H4') fun _ => ?_
  have ⟨_, _, _, _, _, _, _, _, _, _, _, _, _, _, _, _, _, _, _⟩ := K
  refine Tr.keep c ?_ fun _ => ?_
  · rw [k0_part23_eq_skeleton]
    unfold k0_part23_skel
    refine Tr.load c HEq.rfl rfl inferInstance fun _ => ?_
    refine Tr.stay c (store c _ _ _ _ _ I4) fun _ => ?_
    refine Tr.load c HEq.rfl rfl inferInstance fun _ => ?_
    refine Tr.stay c (store c _ _ _ _ _ I4) fun _ => ?_
    iterate 6 refine Tr.load c HEq.rfl rfl inferInstance fun _ => ?_
    exact Tr.done c _ Entails.rfl
  refine Tr.keep c ?_ fun _ => ?_
  · rw [k0_part24_eq_skeleton]
    unfold k0_part24_skel
    iterate 4 refine Tr.load c HEq.rfl rfl inferInstance fun _ => ?_
    exact Tr.done c _ Entails.rfl
  refine Tr.keep c ?_ fun _ => ?_
  · rw [k0_part25_eq_skeleton]
    unfold k0_part25_skel
    refine Tr.load c HEq.rfl rfl inferInstance fun _ => ?_
    exact Tr.done c _ Entails.rfl
  refine Tr.keep c ?_ fun _ => ?_
  · rw [k0_part26_eq_skeleton]
    unfold k0_part26_skel
    exact Tr.done c _ Entails.rfl
  refine Tr.keep c ?_ fun _ => ?_
  · rw [k0_part27_eq_skeleton]
    unfold k0_part27_skel
    refine Tr.load c HEq.rfl rfl inferInstance fun _ => ?_
    refine Tr.stay c (store c _ _ _ _ _ I4) fun _ => ?_
    refine Tr.load c HEq.rfl rfl inferInstance fun _ => ?_
    exact Tr.done c _ Entails.rfl
  refine Tr.keep c ?_ fun _ => ?_
  · rw [k0_part28_eq_skeleton]
    unfold k0_part28_skel
    refine Tr.load c HEq.rfl rfl inferInstance fun _ => ?_
    refine Tr.stay c (store c _ _ _ _ _ I4) fun _ => ?_
    iterate 4 refine Tr.load c HEq.rfl rfl inferInstance fun _ => ?_
    refine Tr.stay c (store c _ _ _ _ _ I4) fun _ => ?_
    refine Tr.load c HEq.rfl rfl inferInstance fun _ => ?_
    refine Tr.stay c (store c _ _ _ _ _ I4) fun _ => ?_
    refine Tr.load c HEq.rfl rfl inferInstance fun _ => ?_
    refine Tr.stay c (store c _ _ _ _ _ I4) fun _ => ?_
    iterate 2 refine Tr.load c HEq.rfl rfl inferInstance fun _ => ?_
    exact Tr.done c _ Entails.rfl
  refine Tr.keep c ?_ fun _ => ?_
  · rw [k0_part29_eq_skeleton]
    unfold k0_part29_skel
    iterate 7 refine Tr.load c HEq.rfl rfl inferInstance fun _ => ?_
    exact Tr.done c _ Entails.rfl
  refine Tr.keep c ?_ fun _ => ?_
  · rw [k0_part30_eq_skeleton]
    unfold k0_part30_skel
    refine Tr.load c HEq.rfl rfl inferInstance fun _ => ?_
    exact Tr.done c _ Entails.rfl
  refine Tr.keep c ?_ fun _ => ?_
  · rw [k0_part31_eq_skeleton]
    unfold k0_part31_skel
    refine Tr.load c HEq.rfl rfl inferInstance fun _ => ?_
    exact Tr.done c _ Entails.rfl
  refine Tr.keep c ?_ fun _ => ?_
  · rw [k0_part32_eq_skeleton]
    unfold k0_part32_skel
    exact Tr.done c _ Entails.rfl
  refine Tr.keep c ?_ fun _ => ?_
  · rw [k0_part33_eq_skeleton]
    unfold k0_part33_skel
    refine Tr.load c HEq.rfl rfl inferInstance fun _ => ?_
    refine Tr.stay c (store c _ _ _ _ _ I4) fun _ => ?_
    iterate 2 refine Tr.load c HEq.rfl rfl inferInstance fun _ => ?_
    refine Tr.stay c (store c _ _ _ _ _ I4) fun _ => ?_
    iterate 3 refine Tr.load c HEq.rfl rfl inferInstance fun _ => ?_
    exact Tr.done c _ Entails.rfl
  refine Tr.keep c ?_ fun _ => ?_
  · rw [k0_part34_eq_skeleton]
    unfold k0_part34_skel
    refine Tr.load c HEq.rfl rfl inferInstance fun _ => ?_
    refine Tr.stay c (store c _ _ _ _ _ I4) fun _ => ?_
    refine Tr.load c HEq.rfl rfl inferInstance fun _ => ?_
    refine Tr.stay c (store c _ _ _ _ _ I4) fun _ => ?_
    refine Tr.load c HEq.rfl rfl inferInstance fun _ => ?_
    refine Tr.stay c (store c _ _ _ _ _ I4) fun _ => ?_
    iterate 6 refine Tr.load c HEq.rfl rfl inferInstance fun _ => ?_
    exact Tr.done c _ Entails.rfl
  refine Tr.keep c ?_ fun _ => ?_
  · rw [k0_part35_eq_skeleton]
    unfold k0_part35_skel
    iterate 4 refine Tr.load c HEq.rfl rfl inferInstance fun _ => ?_
    exact Tr.done c _ Entails.rfl
  refine Tr.keep c ?_ fun _ => ?_
  · rw [k0_part36_eq_skeleton]
    unfold k0_part36_skel
    refine Tr.load c HEq.rfl rfl inferInstance fun _ => ?_
    exact Tr.done c _ Entails.rfl
  refine Tr.keep c ?_ fun _ => ?_
  · rw [k0_part37_eq_skeleton]
    unfold k0_part37_skel
    exact Tr.done c _ Entails.rfl
  refine Tr.keep c ?_ fun _ => ?_
  · rw [k0_part38_eq_skeleton]
    unfold k0_part38_skel
    refine Tr.load c HEq.rfl rfl inferInstance fun _ => ?_
    refine Tr.stay c (store c _ _ _ _ _ I4) fun _ => ?_
    refine Tr.load c HEq.rfl rfl inferInstance fun _ => ?_
    exact Tr.done c _ Entails.rfl
  refine Tr.keep c ?_ fun _ => ?_
  · rw [k0_part39_eq_skeleton]
    unfold k0_part39_skel
    refine Tr.load c HEq.rfl rfl inferInstance fun _ => ?_
    refine Tr.stay c (store c _ _ _ _ _ I4) fun _ => ?_
    iterate 4 refine Tr.load c HEq.rfl rfl inferInstance fun _ => ?_
    refine Tr.stay c (store c _ _ _ _ _ I4) fun _ => ?_
    refine Tr.load c HEq.rfl rfl inferInstance fun _ => ?_
    refine Tr.stay c (store c _ _ _ _ _ I4) fun _ => ?_
    refine Tr.load c HEq.rfl rfl inferInstance fun _ => ?_
    refine Tr.stay c (store c _ _ _ _ _ I4) fun _ => ?_
    iterate 2 refine Tr.load c HEq.rfl rfl inferInstance fun _ => ?_
    exact Tr.done c _ Entails.rfl
  refine Tr.keep c ?_ fun _ => ?_
  · rw [k0_part40_eq_skeleton]
    unfold k0_part40_skel
    iterate 7 refine Tr.load c HEq.rfl rfl inferInstance fun _ => ?_
    exact Tr.done c _ Entails.rfl
  refine Tr.keep c ?_ fun _ => ?_
  · rw [k0_part41_eq_skeleton]
    unfold k0_part41_skel
    refine Tr.load c HEq.rfl rfl inferInstance fun _ => ?_
    exact Tr.done c _ Entails.rfl
  refine Tr.keep c ?_ fun _ => ?_
  · rw [k0_part42_eq_skeleton]
    unfold k0_part42_skel
    refine Tr.load c HEq.rfl rfl inferInstance fun _ => ?_
    exact Tr.done c _ Entails.rfl
  refine Tr.keep c ?_ fun _ => ?_
  · rw [k0_part43_eq_skeleton]
    unfold k0_part43_skel
    exact Tr.done c _ Entails.rfl
  refine Tr.keep c ?_ fun _ => ?_
  · rw [k0_part44_eq_skeleton]
    unfold k0_part44_skel
    refine Tr.load c HEq.rfl rfl inferInstance fun _ => ?_
    refine Tr.stay c (store c _ _ _ _ _ I4) fun _ => ?_
    iterate 2 refine Tr.load c HEq.rfl rfl inferInstance fun _ => ?_
    refine Tr.stay c (store c _ _ _ _ _ I4) fun _ => ?_
    iterate 2 refine Tr.load c HEq.rfl rfl inferInstance fun _ => ?_
    exact Tr.done c _ Entails.rfl
  refine Tr.keep c ?_ fun _ => ?_
  · rw [k0_part45_eq_skeleton]
    unfold k0_part45_skel
    iterate 2 refine Tr.load c HEq.rfl rfl inferInstance fun _ => ?_
    refine Tr.stay c (store c _ _ _ _ _ I4) fun _ => ?_
    refine Tr.load c HEq.rfl rfl inferInstance fun _ => ?_
    refine Tr.stay c (store c _ _ _ _ _ I4) fun _ => ?_
    refine Tr.load c HEq.rfl rfl inferInstance fun _ => ?_
    refine Tr.stay c (store c _ _ _ _ _ I4) fun _ => ?_
    iterate 5 refine Tr.load c HEq.rfl rfl inferInstance fun _ => ?_
    exact Tr.done c _ Entails.rfl
  refine Tr.keep c ?_ fun _ => ?_
  · rw [k0_part46_eq_skeleton]
    unfold k0_part46_skel
    iterate 5 refine Tr.load c HEq.rfl rfl inferInstance fun _ => ?_
    exact Tr.done c _ Entails.rfl
  refine Tr.keep c ?_ fun _ => ?_
  · rw [k0_part47_eq_skeleton]
    unfold k0_part47_skel
    refine Tr.load c HEq.rfl rfl inferInstance fun _ => ?_
    exact Tr.done c _ Entails.rfl
  refine Tr.keep c ?_ fun _ => ?_
  · rw [k0_part48_eq_skeleton]
    unfold k0_part48_skel
    exact Tr.done c _ Entails.rfl
  refine Tr.keep c ?_ fun _ => ?_
  · rw [k0_part49_eq_skeleton]
    unfold k0_part49_skel
    refine Tr.load c HEq.rfl rfl inferInstance fun _ => ?_
    refine Tr.stay c (store c _ _ _ _ _ I4) fun _ => ?_
    refine Tr.load c HEq.rfl rfl inferInstance fun _ => ?_
    exact Tr.done c _ Entails.rfl
  refine Tr.keep c ?_ fun _ => ?_
  · rw [k0_part50_eq_skeleton]
    unfold k0_part50_skel
    refine Tr.load c HEq.rfl rfl inferInstance fun _ => ?_
    refine Tr.stay c (store c _ _ _ _ _ I4) fun _ => ?_
    iterate 6 refine Tr.load c HEq.rfl rfl inferInstance fun _ => ?_
    exact Tr.done c _ Entails.rfl
  refine Tr.keep c ?_ fun _ => ?_
  · rw [k0_part51_eq_skeleton]
    unfold k0_part51_skel
    iterate 4 refine Tr.load c HEq.rfl rfl inferInstance fun _ => ?_
    refine Tr.loadOn c HEq.rfl rfl (S := qs arg13 (slot i)) inferInstance (qs_sub arg13 _ _ _ _ (by decide) rfl rfl) fun _ => ?_
    refine Tr.stay c (storeOn c _ _ _ _ _ I4 (qs arg13 (slot i)) (qs_sub arg13 _ _ _ _ (by decide) rfl rfl)) fun _ => ?_
    iterate 4 refine Tr.load c HEq.rfl rfl inferInstance fun _ => ?_
    exact Tr.done c _ Entails.rfl
  refine Tr.keep c ?_ fun _ => ?_
  · rw [k0_part52_eq_skeleton]
    unfold k0_part52_skel
    iterate 6 refine Tr.load c HEq.rfl rfl inferInstance fun _ => ?_
    refine Tr.loadOn c HEq.rfl rfl (S := qs arg13 (slot i)) inferInstance (qs_sub arg13 _ _ _ _ (by decide) rfl rfl) fun _ => ?_
    refine Tr.stay c (storeOn c _ _ _ _ _ I4 (qs arg13 (slot i)) (qs_sub arg13 _ _ _ _ (by decide) rfl rfl)) fun _ => ?_
    exact Tr.done c _ Entails.rfl
  refine Tr.upd c H5 ?_
  refine Tr.bind c (part53 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 _ R5) fun _ => ?_
  refine Tr.bind c (part54 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 R5) fun _ => ?_
  refine Tr.bind c (part55 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 R5) fun _ => ?_
  refine Tr.bind c (Op.tr c (enqOut c arg11 arg13 arg15 (slot i) (row i) 13 (by decide) R5 rfl rfl rfl)) fun _ => ?_
  refine Tr.bind c (Op.tr c (enqOut c arg11 arg13 arg15 (slot i) (row i) 14 (by decide) R5 rfl rfl rfl)) fun _ => ?_
  exact Tr.done c _ Entails.rfl

set_option maxHeartbeats 8000000 in
theorem body (X2 : S1x1024.Idx → Elt F .f32) (X3 : S1024x2560.Idx → Elt F .bf16) (X4 : S5x4x256.Idx → Elt F .f32) (X5 : S5x1x256.Idx → Elt F .f32) (X6 : S10x128x256.Idx → Elt F .bf16) (X7 : S5x1x256.Idx → Elt F .f32) (X8 : S5x1x256.Idx → Elt F .f32) (X9 : S5x1x256.Idx → Elt F .f32) (X10 : S5x256x1024.Idx → Elt F .bf16) (X : arg1.view.ty.Contents (Elt F)) (I0 I1 I2 I3 : sProp 𝕄)
    (H1 : firstPoint i = 1#1 → ∃ R, Upd I0 iprop(EnqS c (semOf arg14 (0)) (amt arg12) (Din c arg1 X arg12 (0) (0)) 0 ∗ Core c arg2 arg3 arg4 arg5 arg6 arg7 arg8 arg9 arg10 arg16 arg17 arg18 arg19 arg20 X2 X3 X4 X5 X6 X7 X8 X9 X10 R) ∧ (iprop(EnqS c (semOf arg14 (0)) (amt arg12) (Din c arg1 X arg12 (0) (0)) 16 ∗ Core c arg2 arg3 arg4 arg5 arg6 arg7 arg8 arg9 arg10 arg16 arg17 arg18 arg19 arg20 X2 X3 X4 X5 X6 X7 X8 X9 X10 R) ⊢ I1)) (H1n : ¬ firstPoint i = 1#1 → I0 ⊢ I1)
    (H2 : k0_cond2 i = 1#1 → ∃ R, Upd I1 iprop(EnqS c (semOf arg14 (nslot i)) (amt arg12) (Din c arg1 X arg12 (nslot i) (nrow i)) 0 ∗ R) ∧ (iprop(EnqS c (semOf arg14 (nslot i)) (amt arg12) (Din c arg1 X arg12 (nslot i) (nrow i)) 16 ∗ R) ⊢ I2)) (H2n : ¬ k0_cond2 i = 1#1 → I1 ⊢ I2)
    (H3 : k0_cond3 i = 1#1 → ∃ D R, (I2 ⊢ iprop(WaitS c (semOf arg15 (slot i)) (amt arg11) D 0 ∗ R)) ∧ (iprop((bigSep Finset.univ D ∗ semVal ((c : Thread nD τ), .dma (semOf arg15 (slot i))) 0 ∗ owing c) ∗ R) ⊢ I3)) (H3n : ¬ k0_cond3 i = 1#1 → I2 ⊢ I3)
    (D : Fin 16 → sProp 𝕄) (R R4 R5 : sProp 𝕄) (H4 : I3 ⊢ iprop(WaitS c (semOf arg14 (slot i)) (amt arg12) D 0 ∗ R)) (H4' : iprop((bigSep Finset.univ D ∗ semVal ((c : Thread nD τ), .dma (semOf arg14 (slot i))) 0 ∗ owing c) ∗ R) ⊢ Core c arg2 arg3 arg4 arg5 arg6 arg7 arg8 arg9 arg10 arg16 arg17 arg18 arg19 arg20 X2 X3 X4 X5 X6 X7 X8 X9 X10 iprop(anyOn (F := F) c arg12 (qs arg12 (slot i)) ∗ anyOn (F := F) c arg13 (qs arg13 (slot i)) ∗ R4))
    (H5 : Upd (Core c arg2 arg3 arg4 arg5 arg6 arg7 arg8 arg9 arg10 arg16 arg17 arg18 arg19 arg20 X2 X3 X4 X5 X6 X7 X8 X9 X10 iprop(anyOn (F := F) c arg12 (qs arg12 (slot i)) ∗ anyOn (F := F) c arg13 (qs arg13 (slot i)) ∗ R4)) iprop(EnqS c (semOf arg15 (slot i)) (amt arg11) (Dout (F := F) c arg11 arg13 (slot i) (row i)) 0 ∗ R5))
    (I6 I7 I8 : sProp 𝕄) (H6 : iprop(EnqS c (semOf arg15 (slot i)) (amt arg11) (Dout (F := F) c arg11 arg13 (slot i) (row i)) 16 ∗ R5) ⊢ I6)
    (H7 : k0_cond4 i = 1#1 → ∃ D R, (I6 ⊢ iprop(WaitS c (semOf arg15 (nslot i)) (amt arg11) D 0 ∗ R)) ∧ (iprop((bigSep Finset.univ D ∗ semVal ((c : Thread nD τ), .dma (semOf arg15 (nslot i))) 0 ∗ owing c) ∗ R) ⊢ I7))
    (H8 : k0_cond4 i = 1#1 → ∃ D R, (I7 ⊢ iprop(WaitS c (semOf arg15 (slot i)) (amt arg11) D 0 ∗ R)) ∧ (iprop((bigSep Finset.univ D ∗ semVal ((c : Thread nD τ), .dma (semOf arg15 (slot i))) 0 ∗ owing c) ∗ R) ⊢ I8)) (H8n : ¬ k0_cond4 i = 1#1 → I6 ⊢ I8)
    : Tr c I0 (cc0_rglru_layer i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _) I8 := by
  rw [cc0_rglru_layer_eq_skeleton]
  unfold cc0_rglru_layer_skel
  dsimp only
  refine Tr.bind c (part56 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 X2 X3 X4 X5 X6 X7 X8 X9 X10 X I0 I1 I2 I3 H1 H1n H2 H2n H3 H3n D R _ R5 H4 H4' H5) fun _ => ?_
  refine Tr.bind c (Op.tr c (enqOut c arg11 arg13 arg15 (slot i) (row i) 15 (by decide) R5 rfl rfl rfl)) fun _ => ?_
  refine Tr.pre c H6 ?_
  refine Tr.dite c (fun h => ?_) (fun h => ?_)
  · obtain ⟨D, R, ha, hb⟩ := H7 h
    refine Tr.pre c ha ?_
    refine Tr.bind c (part11 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 _ _ h D R) fun _ => ?_
    refine Tr.bind c (part12 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 h D R) fun _ => ?_
    refine Tr.bind c (part13 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 h D R) fun _ => ?_
    refine Tr.bind c (part14 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 _ h D R) fun _ => ?_
    refine Tr.pre c hb ?_
    obtain ⟨D, R, ha, hb⟩ := H8 h
    refine Tr.pre c ha ?_
    refine Tr.bind c (part15 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 _ h D R) fun _ => ?_
    refine Tr.bind c (part16 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 h D R) fun _ => ?_
    refine Tr.bind c (part17 c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 h D R) fun _ => ?_
    refine Tr.bind c (Op.tr c (waitOut c D arg11 arg13 arg15 (slot i) 13 (by decide) R rfl)) fun _ => ?_
    refine Tr.bind c (Op.tr c (waitOut c D arg11 arg13 arg15 (slot i) 14 (by decide) R rfl)) fun _ => ?_
    refine Tr.bind c (Op.tr c (waitOutLast c D arg11 arg13 arg15 (slot i) R rfl)) fun _ => ?_
    exact Tr.done c _ hb
  · exact Tr.done c _ (H8n h)

end Cert.Kernel2Ideal.Rnn
-- ==== Proof.RnnIdeal.State.lean ====
/- The blocks of the arrays and of the double buffers, whole and in pieces, at rest and in flight. -/
module

public import proofs.«01_k».proof.Proof.RnnIdeal.Body

@[expose] public section

set_option maxRecDepth 16384

noncomputable section

namespace Cert.Kernel2Ideal.Rnn

open Idealize.ShloMosaic Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws
open Idealize.ShloMosaic.Transfers
open Cert.Kernel2Ideal.Gen

variable {F : FTy → Type} [FloatOps F] [Named F]

local notation "𝕄" => MT nD τ sig Unit (Elt F) ℕ (Pipeline.UD sig nD τ) ℕ

variable (c : Dev nD)

theorem biUnion_map_emb {α β ι : Type} [DecidableEq α] [DecidableEq β] (S : Finset ι) (K : ι → Finset α) (e : α ↪ β) :
    (S.biUnion fun t => (K t).map e) = (S.biUnion K).map e := by
  ext y
  simp only [Finset.mem_biUnion, Finset.mem_map]
  constructor
  · rintro ⟨t, ht, x, hx, rfl⟩
    exact ⟨x, ⟨t, ht, hx⟩, rfl⟩
  · rintro ⟨x, ⟨t, ht, hx⟩, rfl⟩
    exact ⟨t, ht, x, hx, rfl⟩

/-- The places of time steps `32 q` to `32 q + 31`. -/
def pqI (q : ℕ) : Finset S16x2048x1024.Idx := Finset.univ.filter fun y => 32 * q ≤ (y 1).val ∧ (y 1).val < 32 * q + 32
abbrev pq {sp : Space} (m : Memref sig .tc sp S16x2048x1024 .f32) (q : ℕ) : Finset m.view.ty.Idx := (pqI q).map m.view.emb

section Sets
variable {sp : Space}

theorem pq_rows (m : Memref sig .tc sp S16x2048x1024 .f32) (q : ℕ) : (Finset.univ : Finset (Fin 16)).biUnion (fun b => px m b.val (32 * q)) = pq m q := by
  rw [biUnion_map_emb]
  refine congrArg (Finset.map m.view.emb) ?_
  ext y
  simp only [Finset.mem_biUnion, Finset.mem_univ, true_and, rx, pqI, Finset.mem_filter]
  constructor
  · rintro ⟨b, h0, h1, h2⟩
    exact ⟨h1, h2⟩
  · rintro ⟨h1, h2⟩
    exact ⟨⟨(y 0).val, (y 0).isLt⟩, rfl, h1, h2⟩

theorem px_disjoint (m : Memref sig .tc sp S16x2048x1024 .f32) (r : ℕ) (b b' : Fin 16) (h : b ≠ b') : Disjoint (px m b.val r) (px m b'.val r) := by
  refine (Finset.disjoint_map _).mpr (Finset.disjoint_left.mpr fun y hy hy' => h (Fin.ext ?_))
  simp only [rx, Finset.mem_filter, Finset.mem_univ, true_and] at hy hy'
  omega

theorem qs_rows (m : Memref sig .tc sp S2x32x16x1024 .f32) (s : ℕ) : (Finset.univ : Finset (Fin 16)).biUnion (fun b => ps m s b.val) = qs m s := by
  rw [biUnion_map_emb]
  refine congrArg (Finset.map m.view.emb) ?_
  ext y
  simp only [Finset.mem_biUnion, Finset.mem_univ, true_and, rs, qsI, Finset.mem_filter]
  constructor
  · rintro ⟨b, h0, h1⟩
    exact h0
  · intro h
    exact ⟨⟨(y 2).val, (y 2).isLt⟩, h, rfl⟩

theorem ps_disjoint (m : Memref sig .tc sp S2x32x16x1024 .f32) (s : ℕ) (b b' : Fin 16) (h : b ≠ b') : Disjoint (ps m s b.val) (ps m s b'.val) := by
  refine (Finset.disjoint_map _).mpr (Finset.disjoint_left.mpr fun y hy hy' => h (Fin.ext ?_))
  simp only [rs, Finset.mem_filter, Finset.mem_univ, true_and] at hy hy'
  omega

theorem pq_all (m : Memref sig .tc sp S16x2048x1024 .f32) : (Finset.range 64).biUnion (fun q => pq m q) = m.view.set := by
  rw [biUnion_map_emb]
  refine congrArg (Finset.map m.view.emb) ?_
  ext y
  simp only [Finset.mem_biUnion, Finset.mem_range, pqI, Finset.mem_filter, Finset.mem_univ, true_and, iff_true]
  have h : (y 1).val < 2048 := (y 1).isLt
  exact ⟨(y 1).val / 32, by omega, by omega, by omega⟩

theorem pq_disjoint (m : Memref sig .tc sp S16x2048x1024 .f32) (q q' : ℕ) (h : q ≠ q') : Disjoint (pq m q) (pq m q') := by
  refine (Finset.disjoint_map _).mpr (Finset.disjoint_left.mpr fun y hy hy' => h ?_)
  simp only [pqI, Finset.mem_filter, Finset.mem_univ, true_and] at hy hy'
  omega

theorem qs_all (m : Memref sig .tc sp S2x32x16x1024 .f32) : (Finset.univ : Finset (Fin 2)).biUnion (fun s => qs m s.val) = m.view.set := by
  rw [biUnion_map_emb]
  refine congrArg (Finset.map m.view.emb) ?_
  ext y
  simp only [Finset.mem_biUnion, qsI, Finset.mem_filter, Finset.mem_univ, true_and, iff_true]
  exact ⟨⟨(y 0).val, (y 0).isLt⟩, rfl⟩

theorem qs_disjoint (m : Memref sig .tc sp S2x32x16x1024 .f32) (s s' : Fin 2) (h : s ≠ s') : Disjoint (qs m s.val) (qs m s'.val) := by
  refine (Finset.disjoint_map _).mpr (Finset.disjoint_left.mpr fun y hy hy' => h (Fin.ext ?_))
  simp only [qsI, Finset.mem_filter, Finset.mem_univ, true_and] at hy hy'
  omega

end Sets

section Buffers
variable {sp : Space} {s : Shape} {e : EltTy}

/-- A part of a buffer is its pieces. -/
theorem anyOn_split {B : Type} [Fintype B] [DecidableEq B] (m : Memref sig .tc sp s e) (I : B → Finset m.view.ty.Idx) (S : Finset m.view.ty.Idx)
    (hd : ∀ b b', b ≠ b' → Disjoint (I b) (I b')) (hS : Finset.univ.biUnion I = S) :
    (anyOn (F := F) c m S : sProp 𝕄) ⊢ bigSep Finset.univ fun b => anyOn c m (I b) := by
  unfold anyOn
  have h (f : m.view.ty.Contents (Elt F)) : (m.view.loc (c : Thread nD τ) ↦[S]{fullShare} f : sProp 𝕄) ⊢
      bigSep Finset.univ fun b => iprop(∃ f : m.view.ty.Contents (Elt F), m.view.loc (c : Thread nD τ) ↦[I b]{fullShare} f) := by
    rw [Ring.pointsTo_sub_blocks (ℓ := m.view.loc (c : Thread nD τ)) I hd S hS f]
    have g (b : B) : (m.view.loc (c : Thread nD τ) ↦[I b]{fullShare} f : sProp 𝕄) ⊢
        iprop(∃ f : m.view.ty.Contents (Elt F), m.view.loc (c : Thread nD τ) ↦[I b]{fullShare} f) := by
      iintro H
      iexists f
      iexact H
    exact BI.bigSep_mono fun b _ => g b
  iintro ⟨%f, H⟩
  iapply (h f) $$ H

theorem anyOn_join {B : Type} [Fintype B] [DecidableEq B] (m : Memref sig .tc sp s e) (I : B → Finset m.view.ty.Idx) (S : Finset m.view.ty.Idx)
    (hd : ∀ b b', b ≠ b' → Disjoint (I b) (I b')) (hS : Finset.univ.biUnion I = S) :
    (bigSep Finset.univ fun b => anyOn (F := F) c m (I b)) ⊢ (anyOn c m S : sProp 𝕄) := by
  unfold anyOn
  exact Ring.pointsTo_sub_blocks_join_exists (ℓ := m.view.loc (c : Thread nD τ)) I hd S hS (fun _ => default)

end Buffers

/-! ## A block's sixteen transfers -/

section Blocks
variable {sp sp' : Space}

theorem Upd.of {I J K : sProp 𝕄} (h : I ⊢ J) (h' : Upd J K) : Upd I K := Entails.trans h h'

/-- An array block at fixed contents, -/
def XB (m : Memref sig .tc sp S16x2048x1024 .f32) (X : m.view.ty.Contents (Elt F)) (q : ℕ) : sProp 𝕄 :=
  iprop(m.view.loc (c : Thread nD τ) ↦[pq m q]{fullShare} X)
/-- at some contents; -/
def OB (m : Memref sig .tc sp S16x2048x1024 .f32) (q : ℕ) : sProp 𝕄 := anyOn (F := F) c m (pq m q)
/-- a slot at some contents with its semaphore at zero. -/
def Rest (m : Memref sig .tc sp S2x32x16x1024 .f32) (sa : DmaSems sig S2) (s : ℕ) : sProp 𝕄 :=
  iprop(semVal ((c : Thread nD τ), .dma (semOf sa s)) 0 ∗ anyOn (F := F) c m (qs m s))
/-- The block `q` on its way into the slot, -/
def InFly (ax : Memref sig .tc sp S16x2048x1024 .f32) (X : ax.view.ty.Contents (Elt F)) (ab : Memref sig .tc sp' S2x32x16x1024 .f32) (sa : DmaSems sig S2) (s q : ℕ) : sProp 𝕄 :=
  Flight c (semOf sa s) (amt ab) (Din c ax X ab s (32 * q))
/-- and out of it. -/
def OutFly (ao : Memref sig .tc sp S16x2048x1024 .f32) (ab : Memref sig .tc sp' S2x32x16x1024 .f32) (sa : DmaSems sig S2) (s q : ℕ) : sProp 𝕄 :=
  Flight c (semOf sa s) (amt ao) (Dout (F := F) c ao ab s (32 * q))

theorem enqS_start (g : DmaSem sig) (N : ℕ) (D : Fin 16 → sProp 𝕄) [∀ b, BI.Storable (upEmb : UEmb _ 𝕄) (D b)] (R : sProp 𝕄) :
    Upd iprop(semVal ((c : Thread nD τ), .dma g) 0 ∗ bigSep Finset.univ D ∗ R) iprop(EnqS c g N D 0 ∗ R) := by
  unfold Upd EnqS
  rw [bigSep_pending_zero D]
  iintro ⟨HS, HD, HR⟩
  imod (batch_alloc' EC (c := (c : Thread nD τ)) (sm := .dma g) () N D (E := Set.univ)) $$ HS with HB
  imodintro
  isplitr [HR]
  · isplitl [HB]; · iexact HB
    iexact HD
  iexact HR

theorem enqS_done (g : DmaSem sig) (N : ℕ) (D : Fin 16 → sProp 𝕄) : EnqS c g N D 16 ⊢ Flight c g N D := by
  have h : pending (n := 16) 16 = ∅ := by decide
  unfold EnqS Flight
  rw [h, BI.bigSep_empty]
  iintro ⟨H, -⟩
  iexact H

theorem waitS_start (g : DmaSem sig) (N : ℕ) (D : Fin 16 → sProp 𝕄) : iprop(Flight c g N D ∗ owing c) ⊢ WaitS c g N D 0 := by
  unfold WaitS Flight
  rw [Nat.zero_mul]

theorem din_split (ax : Memref sig .tc sp S16x2048x1024 .f32) (X : ax.view.ty.Contents (Elt F)) (ab : Memref sig .tc sp' S2x32x16x1024 .f32) (s q : ℕ) :
    iprop(anyOn c ab (qs ab s) ∗ XB c ax X q) ⊢ (bigSep Finset.univ (Din c ax X ab s (32 * q)) : sProp 𝕄) := by
  refine Entails.trans ?_ (Entails.of_eq (BI.bigSep_sep Finset.univ (fun b : Fin 16 => anyOn c ab (ps ab s b.val))
    (fun b : Fin 16 => iprop(ax.view.loc (c : Thread nD τ) ↦[px ax b.val (32 * q)]{fullShare} X))).symm)
  refine sep_mono (anyOn_split c ab _ _ (ps_disjoint ab s) (qs_rows ab s)) ?_
  exact Entails.of_eq (Ring.pointsTo_sub_blocks (ℓ := ax.view.loc (c : Thread nD τ)) (fun b : Fin 16 => px ax b.val (32 * q)) (px_disjoint ax _) _ (pq_rows ax q) X)

theorem din_join (ax : Memref sig .tc sp S16x2048x1024 .f32) (X : ax.view.ty.Contents (Elt F)) (ab : Memref sig .tc sp' S2x32x16x1024 .f32) (s q : ℕ) :
    (bigSep Finset.univ (Din c ax X ab s (32 * q)) : sProp 𝕄) ⊢ iprop(anyOn c ab (qs ab s) ∗ XB c ax X q) := by
  refine Entails.trans (Entails.of_eq (BI.bigSep_sep Finset.univ (fun b : Fin 16 => anyOn c ab (ps ab s b.val))
    (fun b : Fin 16 => iprop(ax.view.loc (c : Thread nD τ) ↦[px ax b.val (32 * q)]{fullShare} X)))) ?_
  refine sep_mono (anyOn_join c ab _ _ (ps_disjoint ab s) (qs_rows ab s)) ?_
  exact Entails.of_eq (Ring.pointsTo_sub_blocks (ℓ := ax.view.loc (c : Thread nD τ)) (fun b : Fin 16 => px ax b.val (32 * q)) (px_disjoint ax _) _ (pq_rows ax q) X).symm

theorem dout_split (ao : Memref sig .tc sp S16x2048x1024 .f32) (ab : Memref sig .tc sp' S2x32x16x1024 .f32) (s q : ℕ) :
    iprop(OB c ao q ∗ anyOn c ab (qs ab s)) ⊢ (bigSep Finset.univ (Dout (F := F) c ao ab s (32 * q)) : sProp 𝕄) := by
  refine Entails.trans ?_ (Entails.of_eq (BI.bigSep_sep Finset.univ (fun b : Fin 16 => anyOn c ao (px ao b.val (32 * q))) (fun b : Fin 16 => anyOn c ab (ps ab s b.val))).symm)
  exact sep_mono (anyOn_split c ao _ _ (px_disjoint ao _) (pq_rows ao q)) (anyOn_split c ab _ _ (ps_disjoint ab s) (qs_rows ab s))

theorem dout_join (ao : Memref sig .tc sp S16x2048x1024 .f32) (ab : Memref sig .tc sp' S2x32x16x1024 .f32) (s q : ℕ) :
    (bigSep Finset.univ (Dout (F := F) c ao ab s (32 * q)) : sProp 𝕄) ⊢ iprop(OB c ao q ∗ anyOn c ab (qs ab s)) := by
  refine Entails.trans (Entails.of_eq (BI.bigSep_sep Finset.univ (fun b : Fin 16 => anyOn c ao (px ao b.val (32 * q))) (fun b : Fin 16 => anyOn c ab (ps ab s b.val)))) ?_
  exact sep_mono (anyOn_join c ao _ _ (px_disjoint ao _) (pq_rows ao q)) (anyOn_join c ab _ _ (ps_disjoint ab s) (qs_rows ab s))

theorem in_start (ax : Memref sig .tc sp S16x2048x1024 .f32) (X : ax.view.ty.Contents (Elt F)) (ab : Memref sig .tc sp' S2x32x16x1024 .f32) (sa : DmaSems sig S2) (s q : ℕ) (R : sProp 𝕄) :
    Upd iprop(Rest c ab sa s ∗ XB c ax X q ∗ R) iprop(EnqS c (semOf sa s) (amt ab) (Din c ax X ab s (32 * q)) 0 ∗ R) := by
  refine Upd.of ?_ (enqS_start c (semOf sa s) (amt ab) (Din c ax X ab s (32 * q)) R)
  unfold Rest
  iintro ⟨⟨HS, HA⟩, HX, HR⟩
  isplitl [HS]; · iexact HS
  isplitr [HR]
  · iapply (din_split c ax X ab s q)
    isplitl [HA]; · iexact HA
    iexact HX
  iexact HR

theorem in_end (ax : Memref sig .tc sp S16x2048x1024 .f32) (X : ax.view.ty.Contents (Elt F)) (ab : Memref sig .tc sp' S2x32x16x1024 .f32) (sa : DmaSems sig S2) (s q : ℕ) :
    iprop(bigSep Finset.univ (Din c ax X ab s (32 * q)) ∗ semVal ((c : Thread nD τ), .dma (semOf sa s)) 0 ∗ owing c) ⊢ iprop(Rest c ab sa s ∗ XB c ax X q ∗ owing c) := by
  unfold Rest
  iintro ⟨HD, HS, HO⟩
  ihave HD := (din_join c ax X ab s q) $$ HD
  icases HD with ⟨HA, HX⟩
  isplitl [HS HA]
  · isplitl [HS]; · iexact HS
    iexact HA
  isplitl [HX]; · iexact HX
  iexact HO

theorem out_start (ao : Memref sig .tc sp S16x2048x1024 .f32) (ab : Memref sig .tc sp' S2x32x16x1024 .f32) (sa : DmaSems sig S2) (s q : ℕ) (R : sProp 𝕄) :
    Upd iprop(Rest c ab sa s ∗ OB c ao q ∗ R) iprop(EnqS c (semOf sa s) (amt ao) (Dout (F := F) c ao ab s (32 * q)) 0 ∗ R) := by
  refine Upd.of ?_ (enqS_start c (semOf sa s) (amt ao) (Dout (F := F) c ao ab s (32 * q)) R)
  unfold Rest
  iintro ⟨⟨HS, HA⟩, HX, HR⟩
  isplitl [HS]; · iexact HS
  isplitr [HR]
  · iapply (dout_split c ao ab s q)
    isplitl [HX]; · iexact HX
    iexact HA
  iexact HR

theorem out_end (ao : Memref sig .tc sp S16x2048x1024 .f32) (ab : Memref sig .tc sp' S2x32x16x1024 .f32) (sa : DmaSems sig S2) (s q : ℕ) :
    iprop(bigSep Finset.univ (Dout (F := F) c ao ab s (32 * q)) ∗ semVal ((c : Thread nD τ), .dma (semOf sa s)) 0 ∗ owing c) ⊢ iprop(Rest c ab sa s ∗ OB c ao q ∗ owing c) := by
  unfold Rest
  iintro ⟨HD, HS, HO⟩
  ihave HD := (dout_join c ao ab s q) $$ HD
  icases HD with ⟨HX, HA⟩
  isplitl [HS HA]
  · isplitl [HS]; · iexact HS
    iexact HA
  isplitl [HX]; · iexact HX
  iexact HO

end Blocks

end Cert.Kernel2Ideal.Rnn
-- ==== Proof.RnnIdeal.Cases.lean ====
/- What a point of the grid finds and leaves of the blocks: which are on their way, which are at rest. -/
module

public import proofs.«01_k».proof.Proof.RnnIdeal.State

@[expose] public section

set_option maxRecDepth 16384

noncomputable section

namespace Cert.Kernel2Ideal.Rnn

open Idealize.ShloMosaic Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws
open Idealize.ShloMosaic.Transfers
open Cert.Kernel2Ideal.Gen

variable {F : FTy → Type} [FloatOps F] [Named F]

local notation "𝕄" => MT nD τ sig Unit (Elt F) ℕ (Pipeline.UD sig nD τ) ℕ

variable (c : Dev nD)

/-! ## Rearranging -/

instance sepAssoc : Std.Associative (fun P Q : sProp 𝕄 => iprop(P ∗ Q)) :=
  ⟨fun _ _ _ => BI.Entails.antisymm BI.sep_assoc BI.sep_assoc'⟩
instance sepComm : Std.Commutative (fun P Q : sProp 𝕄 => iprop(P ∗ Q)) :=
  ⟨fun _ _ => BI.Entails.antisymm BI.sep_comm BI.sep_comm⟩

theorem bigSep_at {I : Type} [DecidableEq I] {s : Finset I} {Φ : I → sProp 𝕄} {i : I} (h : i ∈ s) :
    bigSep s Φ = iprop(Φ i ∗ bigSep (s.erase i) Φ) := BI.bigSep_erase h

/-! ## The blocks coming in -/

section In
variable {sp sp' : Space} (ax : Memref sig .tc sp S16x2048x1024 .f32) (X : ax.view.ty.Contents (Elt F)) (ab : Memref sig .tc sp' S2x32x16x1024 .f32) (sa : DmaSems sig S2)

/-- With the point's block on its way: -/
def In1 (t : ℕ) : sProp 𝕄 :=
  iprop(InFly c ax X ab sa (t % 2) t ∗ Rest (F := F) c ab sa ((t + 1) % 2) ∗ bigSep ((Finset.range 64).erase t) (XB c ax X))
/-- between points; -/
def InSt (t : ℕ) : sProp 𝕄 :=
  if 1 ≤ t ∧ t < 64 then In1 c ax X ab sa t else iprop(Rest (F := F) c ab sa 0 ∗ Rest (F := F) c ab sa 1 ∗ bigSep (Finset.range 64) (XB c ax X))
/-- all but the point's block, once the next is on its way. -/
def InO (t : ℕ) : sProp 𝕄 :=
  if t + 1 < 64 then iprop(InFly c ax X ab sa ((t + 1) % 2) (t + 1) ∗ bigSep (((Finset.range 64).erase t).erase (t + 1)) (XB c ax X))
  else iprop(Rest (F := F) c ab sa ((t + 1) % 2) ∗ bigSep ((Finset.range 64).erase t) (XB c ax X))

theorem inSt_zero : InSt c ax X ab sa 0 = iprop(Rest (F := F) c ab sa 0 ∗ XB c ax X 0 ∗ Rest (F := F) c ab sa 1 ∗ bigSep ((Finset.range 64).erase 0) (XB c ax X)) := by
  unfold InSt
  rw [if_neg (by decide), bigSep_at (Finset.mem_range.mpr (show 0 < 64 by decide))]
  ac_rfl

theorem inSt_later (t : ℕ) (h : t ≠ 0) (h' : t < 64) : InSt c ax X ab sa t = In1 c ax X ab sa t := if_pos ⟨by omega, h'⟩

theorem in1_next (t : ℕ) (h : t + 1 < 64) : In1 c ax X ab sa t
    = iprop(Rest (F := F) c ab sa ((t + 1) % 2) ∗ XB c ax X (t + 1) ∗ InFly c ax X ab sa (t % 2) t ∗ bigSep (((Finset.range 64).erase t).erase (t + 1)) (XB c ax X)) := by
  unfold In1
  rw [bigSep_at (show t + 1 ∈ (Finset.range 64).erase t from Finset.mem_erase.mpr ⟨by omega, Finset.mem_range.mpr h⟩)]
  ac_rfl

theorem inO_next (t : ℕ) (h : t + 1 < 64) : InO c ax X ab sa t
    = iprop(InFly c ax X ab sa ((t + 1) % 2) (t + 1) ∗ bigSep (((Finset.range 64).erase t).erase (t + 1)) (XB c ax X)) := if_pos h

theorem inO_last (t : ℕ) (h : ¬ t + 1 < 64) : In1 c ax X ab sa t = iprop(InFly c ax X ab sa (t % 2) t ∗ InO c ax X ab sa t) := by
  unfold InO In1
  rw [if_neg h]

theorem inSt_next (t : ℕ) (ht : t < 64) : iprop(Rest (F := F) c ab sa (t % 2) ∗ XB c ax X t ∗ InO c ax X ab sa t) = InSt c ax X ab sa (t + 1) := by
  unfold InO InSt
  by_cases h : t + 1 < 64
  · rw [if_pos h, if_pos ⟨by omega, h⟩]
    unfold In1
    rw [Finset.erase_right_comm, bigSep_at (show t ∈ (Finset.range 64).erase (t + 1) from Finset.mem_erase.mpr ⟨by omega, Finset.mem_range.mpr ht⟩),
      show (t + 1 + 1) % 2 = t % 2 by omega]
    ac_rfl
  · rw [if_neg h, if_neg (fun k => h k.2), show t = 63 by omega, bigSep_at (Finset.mem_range.mpr (show 63 < 64 by decide))]
    show iprop(Rest (F := F) c ab sa 1 ∗ _ ∗ Rest (F := F) c ab sa 0 ∗ _) = _
    ac_rfl
end In

/-! ## The blocks going out -/

section Out
variable {sp sp' : Space} (ao : Memref sig .tc sp S16x2048x1024 .f32) (ab : Memref sig .tc sp' S2x32x16x1024 .f32) (sa : DmaSems sig S2)

/-- Between points; -/
def OutSt (t : ℕ) : sProp 𝕄 :=
  if t = 0 ∨ 64 ≤ t then iprop(Rest (F := F) c ab sa 0 ∗ Rest (F := F) c ab sa 1 ∗ bigSep (Finset.range 64) (OB (F := F) c ao))
  else if t = 1 then iprop(Rest (F := F) c ab sa 1 ∗ OutFly (F := F) c ao ab sa 0 0 ∗ bigSep ((Finset.range 64).erase 0) (OB (F := F) c ao))
  else iprop(OutFly (F := F) c ao ab sa (t % 2) (t - 2) ∗ OutFly (F := F) c ao ab sa ((t + 1) % 2) (t - 1) ∗ bigSep (((Finset.range 64).erase (t - 1)).erase (t - 2)) (OB (F := F) c ao))
/-- all but the point's slot and block. -/
def OutQ (t : ℕ) : sProp 𝕄 :=
  if t = 0 then iprop(Rest (F := F) c ab sa 1 ∗ bigSep ((Finset.range 64).erase 0) (OB (F := F) c ao))
  else iprop(OutFly (F := F) c ao ab sa ((t + 1) % 2) (t - 1) ∗ bigSep (((Finset.range 64).erase (t - 1)).erase t) (OB (F := F) c ao))

theorem outSt_wait (t : ℕ) (h : 2 ≤ t) (h' : t < 64) : OutSt (F := F) c ao ab sa t
    = iprop(OutFly (F := F) c ao ab sa (t % 2) (t - 2) ∗ OutFly (F := F) c ao ab sa ((t + 1) % 2) (t - 1) ∗ bigSep (((Finset.range 64).erase (t - 1)).erase (t - 2)) (OB (F := F) c ao)) := by
  unfold OutSt
  rw [if_neg (by omega), if_neg (by omega)]

theorem outQ_waited (t : ℕ) (h : 2 ≤ t) (h' : t < 64) :
    iprop(OB (F := F) c ao (t - 2) ∗ OutFly (F := F) c ao ab sa ((t + 1) % 2) (t - 1) ∗ bigSep (((Finset.range 64).erase (t - 1)).erase (t - 2)) (OB (F := F) c ao))
    = iprop(OB (F := F) c ao t ∗ OutQ (F := F) c ao ab sa t) := by
  unfold OutQ
  have e := bigSep_at (Φ := OB (F := F) c ao) (show t - 2 ∈ (Finset.range 64).erase (t - 1) from Finset.mem_erase.mpr ⟨by omega, Finset.mem_range.mpr (by omega)⟩)
  rw [bigSep_at (Φ := OB (F := F) c ao) (show t ∈ (Finset.range 64).erase (t - 1) from Finset.mem_erase.mpr ⟨by omega, Finset.mem_range.mpr h'⟩)] at e
  rw [if_neg (by omega)]
  calc _ = iprop(OutFly (F := F) c ao ab sa ((t + 1) % 2) (t - 1) ∗ (OB (F := F) c ao (t - 2) ∗ bigSep (((Finset.range 64).erase (t - 1)).erase (t - 2)) (OB (F := F) c ao))) := by ac_rfl
    _ = _ := by
      rw [← e]
      ac_rfl

theorem outSt_start (t : ℕ) (h : t < 2) : OutSt (F := F) c ao ab sa t = iprop(Rest (F := F) c ab sa (t % 2) ∗ OB (F := F) c ao t ∗ OutQ (F := F) c ao ab sa t) := by
  unfold OutSt OutQ
  rcases (by omega : t = 0 ∨ t = 1) with rfl | rfl
  · rw [if_pos (Or.inl rfl), if_pos rfl, bigSep_at (Finset.mem_range.mpr (show 0 < 64 by decide))]
    show _ = iprop(Rest (F := F) c ab sa 0 ∗ _)
    ac_rfl
  · rw [if_neg (by decide), if_pos rfl, if_neg (by decide), bigSep_at (show 1 ∈ (Finset.range 64).erase 0 by decide)]
    show _ = iprop(Rest (F := F) c ab sa 1 ∗ _ ∗ OutFly (F := F) c ao ab sa 0 0 ∗ bigSep (((Finset.range 64).erase 0).erase 1) _)
    ac_rfl

theorem outSt_next (t : ℕ) (h : t < 63) : iprop(OutFly (F := F) c ao ab sa (t % 2) t ∗ OutQ (F := F) c ao ab sa t) = OutSt (F := F) c ao ab sa (t + 1) := by
  unfold OutSt OutQ
  by_cases h0 : t = 0
  · subst h0
    rw [if_pos rfl, if_neg (by decide), if_pos (by decide)]
    show iprop(OutFly (F := F) c ao ab sa 0 0 ∗ _) = _
    ac_rfl
  · rw [if_neg h0, if_neg (by omega), if_neg (by omega), show t + 1 - 2 = t - 1 by omega, show t + 1 - 1 = t by omega,
      show (t + 1 + 1) % 2 = t % 2 by omega, Finset.erase_right_comm]
    ac_rfl

/-- The blocks but the last two. -/
def OutZ : sProp 𝕄 := bigSep (((Finset.range 64).erase 62).erase 63) (OB (F := F) c ao)

theorem outQ_last : iprop(OutFly (F := F) c ao ab sa (63 % 2) 63 ∗ OutQ (F := F) c ao ab sa 63)
    = iprop(OutFly (F := F) c ao ab sa 0 62 ∗ OutFly (F := F) c ao ab sa 1 63 ∗ OutZ (F := F) c ao) := by
  unfold OutQ OutZ
  rw [if_neg (by decide)]
  show iprop(OutFly (F := F) c ao ab sa 1 63 ∗ OutFly (F := F) c ao ab sa 0 62 ∗ _) = _
  ac_rfl

theorem outSt_last : iprop(Rest (F := F) c ab sa 1 ∗ OB (F := F) c ao 63 ∗ Rest (F := F) c ab sa 0 ∗ OB (F := F) c ao 62 ∗ OutZ (F := F) c ao) = OutSt (F := F) c ao ab sa 64 := by
  unfold OutSt OutZ
  rw [if_pos (by decide), bigSep_at (Finset.mem_range.mpr (show 62 < 64 by decide)), bigSep_at (show 63 ∈ (Finset.range 64).erase 62 by decide)]
  ac_rfl
end Out

/-! ## A flight's two ends beside the rest -/

section Ends
variable {sp sp' : Space}

theorem in_fly (ax : Memref sig .tc sp S16x2048x1024 .f32) (X : ax.view.ty.Contents (Elt F)) (ab : Memref sig .tc sp' S2x32x16x1024 .f32) (sa : DmaSems sig S2) (s q : ℕ) (R : sProp 𝕄) :
    iprop(EnqS c (semOf sa s) (amt ab) (Din c ax X ab s (32 * q)) 16 ∗ R) ⊢ iprop(InFly c ax X ab sa s q ∗ R) :=
  sep_mono (enqS_done c _ _ _) Entails.rfl

theorem out_fly (ao : Memref sig .tc sp S16x2048x1024 .f32) (ab : Memref sig .tc sp' S2x32x16x1024 .f32) (sa : DmaSems sig S2) (s q : ℕ) (R : sProp 𝕄) :
    iprop(EnqS c (semOf sa s) (amt ao) (Dout (F := F) c ao ab s (32 * q)) 16 ∗ R) ⊢ iprop(OutFly (F := F) c ao ab sa s q ∗ R) :=
  sep_mono (enqS_done c _ _ _) Entails.rfl

theorem in_wait (ax : Memref sig .tc sp S16x2048x1024 .f32) (X : ax.view.ty.Contents (Elt F)) (ab : Memref sig .tc sp' S2x32x16x1024 .f32) (sa : DmaSems sig S2) (s q : ℕ) (R : sProp 𝕄) :
    iprop((InFly c ax X ab sa s q ∗ owing c) ∗ R) ⊢ iprop(WaitS c (semOf sa s) (amt ab) (Din c ax X ab s (32 * q)) 0 ∗ R) :=
  sep_mono (waitS_start c _ _ _) Entails.rfl

theorem out_wait (ao : Memref sig .tc sp S16x2048x1024 .f32) (ab : Memref sig .tc sp' S2x32x16x1024 .f32) (sa : DmaSems sig S2) (s q : ℕ) (R : sProp 𝕄) :
    iprop((OutFly (F := F) c ao ab sa s q ∗ owing c) ∗ R) ⊢ iprop(WaitS c (semOf sa s) (amt ao) (Dout (F := F) c ao ab s (32 * q)) 0 ∗ R) :=
  sep_mono (waitS_start c _ _ _) Entails.rfl
end Ends

end Cert.Kernel2Ideal.Rnn
-- ==== Proof.RnnIdeal.Point.lean ====
/- One point of the grid over the blocks: from what it finds to what it leaves. -/
module

public import proofs.«01_k».proof.Proof.RnnIdeal.Body
public import proofs.«01_k».proof.Proof.RnnIdeal.Cases

@[expose] public section

set_option maxRecDepth 16384

noncomputable section

namespace Cert.Kernel2Ideal.Rnn

open Idealize.ShloMosaic Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws
open Idealize.ShloMosaic.Transfers
open Cert.Kernel2Ideal.Gen

variable {F : FTy → Type} [FloatOps F] [Named F]

local notation "𝕄" => MT nD τ sig Unit (Elt F) ℕ (Pipeline.UD sig nD τ) ℕ

/-- What the kernel holds throughout: its weights, its working buffers. -/
def CoreP (c : Dev nD) (arg2 : Memref sig .tc .vmem S1x1024 .f32) (arg3 : Memref sig .tc .vmem S1024x2560 .bf16) (arg4 : Memref sig .tc .vmem S5x4x256 .f32) (arg5 : Memref sig .tc .vmem S5x1x256 .f32) (arg6 : Memref sig .tc .vmem S10x128x256 .bf16) (arg7 : Memref sig .tc .vmem S5x1x256 .f32) (arg8 : Memref sig .tc .vmem S5x1x256 .f32) (arg9 : Memref sig .tc .vmem S5x1x256 .f32) (arg10 : Memref sig .tc .vmem S5x256x1024 .bf16) (arg16 : Memref sig .tc .vmem S512x1024 .bf16) (arg17 : Memref sig .tc .vmem S560x256 .f32) (arg18 : Memref sig .tc .vmem S5x512x256 .bf16) (arg19 : Memref sig .tc .vmem S5x48x256 .f32) (arg20 : Memref sig .tc .vmem S5x16x256 .f32) (X2 : S1x1024.Idx → Elt F .f32) (X3 : S1024x2560.Idx → Elt F .bf16) (X4 : S5x4x256.Idx → Elt F .f32) (X5 : S5x1x256.Idx → Elt F .f32) (X6 : S10x128x256.Idx → Elt F .bf16) (X7 : S5x1x256.Idx → Elt F .f32) (X8 : S5x1x256.Idx → Elt F .f32) (X9 : S5x1x256.Idx → Elt F .f32) (X10 : S5x256x1024.Idx → Elt F .bf16) : sProp 𝕄 :=
  iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ anyOn (F := F) c arg16 arg16.view.set ∗ anyOn (F := F) c arg17 arg17.view.set ∗ anyOn (F := F) c arg18 arg18.view.set ∗ anyOn (F := F) c arg19 arg19.view.set ∗ anyOn (F := F) c arg20 arg20.view.set)

theorem core_eq (c : Dev nD) (arg2 : Memref sig .tc .vmem S1x1024 .f32) (arg3 : Memref sig .tc .vmem S1024x2560 .bf16) (arg4 : Memref sig .tc .vmem S5x4x256 .f32) (arg5 : Memref sig .tc .vmem S5x1x256 .f32) (arg6 : Memref sig .tc .vmem S10x128x256 .bf16) (arg7 : Memref sig .tc .vmem S5x1x256 .f32) (arg8 : Memref sig .tc .vmem S5x1x256 .f32) (arg9 : Memref sig .tc .vmem S5x1x256 .f32) (arg10 : Memref sig .tc .vmem S5x256x1024 .bf16) (arg16 : Memref sig .tc .vmem S512x1024 .bf16) (arg17 : Memref sig .tc .vmem S560x256 .f32) (arg18 : Memref sig .tc .vmem S5x512x256 .bf16) (arg19 : Memref sig .tc .vmem S5x48x256 .f32) (arg20 : Memref sig .tc .vmem S5x16x256 .f32) (X2 : S1x1024.Idx → Elt F .f32) (X3 : S1024x2560.Idx → Elt F .bf16) (X4 : S5x4x256.Idx → Elt F .f32) (X5 : S5x1x256.Idx → Elt F .f32) (X6 : S10x128x256.Idx → Elt F .bf16) (X7 : S5x1x256.Idx → Elt F .f32) (X8 : S5x1x256.Idx → Elt F .f32) (X9 : S5x1x256.Idx → Elt F .f32) (X10 : S5x256x1024.Idx → Elt F .bf16) (R : sProp 𝕄) : Core c arg2 arg3 arg4 arg5 arg6 arg7 arg8 arg9 arg10 arg16 arg17 arg18 arg19 arg20 X2 X3 X4 X5 X6 X7 X8 X9 X10 R = iprop(CoreP c arg2 arg3 arg4 arg5 arg6 arg7 arg8 arg9 arg10 arg16 arg17 arg18 arg19 arg20 X2 X3 X4 X5 X6 X7 X8 X9 X10 ∗ R) := by
  unfold Core CoreP
  ac_rfl

set_option maxHeartbeats 4000000 in
theorem point (c : Dev nD) (i : grid0.Coords) (arg1 : Memref sig .tc .hbm S16x2048x1024 .f32) (harg1 : arg1.IsWhole) (arg2 : Memref sig .tc .vmem S1x1024 .f32) (harg2 : arg2.IsWhole) (arg3 : Memref sig .tc .vmem S1024x2560 .bf16) (harg3 : arg3.IsWhole) (arg4 : Memref sig .tc .vmem S5x4x256 .f32) (harg4 : arg4.IsWhole) (arg5 : Memref sig .tc .vmem S5x1x256 .f32) (harg5 : arg5.IsWhole) (arg6 : Memref sig .tc .vmem S10x128x256 .bf16) (harg6 : arg6.IsWhole) (arg7 : Memref sig .tc .vmem S5x1x256 .f32) (harg7 : arg7.IsWhole) (arg8 : Memref sig .tc .vmem S5x1x256 .f32) (harg8 : arg8.IsWhole) (arg9 : Memref sig .tc .vmem S5x1x256 .f32) (harg9 : arg9.IsWhole) (arg10 : Memref sig .tc .vmem S5x256x1024 .bf16) (harg10 : arg10.IsWhole) (arg11 : Memref sig .tc .hbm S16x2048x1024 .f32) (harg11 : arg11.IsWhole) (arg12 : Memref sig .tc .vmem S2x32x16x1024 .f32) (harg12 : arg12.IsWhole) (arg13 : Memref sig .tc .vmem S2x32x16x1024 .f32) (harg13 : arg13.IsWhole) (arg14 : DmaSems sig S2) (arg15 : DmaSems sig S2) (arg16 : Memref sig .tc .vmem S512x1024 .bf16) (harg16 : arg16.IsWhole) (arg17 : Memref sig .tc .vmem S560x256 .f32) (harg17 : arg17.IsWhole) (arg18 : Memref sig .tc .vmem S5x512x256 .bf16) (harg18 : arg18.IsWhole) (arg19 : Memref sig .tc .vmem S5x48x256 .f32) (harg19 : arg19.IsWhole) (arg20 : Memref sig .tc .vmem S5x16x256 .f32) (harg20 : arg20.IsWhole) (X2 : S1x1024.Idx → Elt F .f32) (X3 : S1024x2560.Idx → Elt F .bf16) (X4 : S5x4x256.Idx → Elt F .f32) (X5 : S5x1x256.Idx → Elt F .f32) (X6 : S10x128x256.Idx → Elt F .bf16) (X7 : S5x1x256.Idx → Elt F .f32) (X8 : S5x1x256.Idx → Elt F .f32) (X9 : S5x1x256.Idx → Elt F .f32) (X10 : S5x256x1024.Idx → Elt F .bf16) (X : arg1.view.ty.Contents (Elt F)) (t : ℕ) (ht : t < 64) (hs : slot i = t % 2) (hn : nslot i = (t + 1) % 2) (hr : row i = 32 * t) (hnr : t + 1 < 64 → nrow i = 32 * (t + 1))
    (h1 : firstPoint i = 1#1 ↔ t = 0) (h2 : k0_cond2 i = 1#1 ↔ t + 1 < 64) (h3 : k0_cond3 i = 1#1 ↔ 2 ≤ t) (h4 : k0_cond4 i = 1#1 ↔ t = 63) (Z : sProp 𝕄) :
    Tr c iprop(CoreP c arg2 arg3 arg4 arg5 arg6 arg7 arg8 arg9 arg10 arg16 arg17 arg18 arg19 arg20 X2 X3 X4 X5 X6 X7 X8 X9 X10 ∗ owing c ∗ InSt c arg1 X arg12 arg14 t ∗ OutSt (F := F) c arg11 arg13 arg15 t ∗ Z)
      (cc0_rglru_layer i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 : TcProg F _)
      iprop(CoreP c arg2 arg3 arg4 arg5 arg6 arg7 arg8 arg9 arg10 arg16 arg17 arg18 arg19 arg20 X2 X3 X4 X5 X6 X7 X8 X9 X10 ∗ owing c ∗ InSt c arg1 X arg12 arg14 (t + 1) ∗ OutSt (F := F) c arg11 arg13 arg15 (t + 1) ∗ Z) := by
  refine body c i arg1 harg1 arg2 harg2 arg3 harg3 arg4 harg4 arg5 harg5 arg6 harg6 arg7 harg7 arg8 harg8 arg9 harg9 arg10 harg10 arg11 harg11 arg12 harg12 arg13 harg13 arg14 arg15 arg16 harg16 arg17 harg17 arg18 harg18 arg19 harg19 arg20 harg20 X2 X3 X4 X5 X6 X7 X8 X9 X10 X
    _ iprop(CoreP c arg2 arg3 arg4 arg5 arg6 arg7 arg8 arg9 arg10 arg16 arg17 arg18 arg19 arg20 X2 X3 X4 X5 X6 X7 X8 X9 X10 ∗ owing c ∗ In1 c arg1 X arg12 arg14 t ∗ OutSt (F := F) c arg11 arg13 arg15 t ∗ Z)
    iprop(CoreP c arg2 arg3 arg4 arg5 arg6 arg7 arg8 arg9 arg10 arg16 arg17 arg18 arg19 arg20 X2 X3 X4 X5 X6 X7 X8 X9 X10 ∗ owing c ∗ (InFly c arg1 X arg12 arg14 (t % 2) t ∗ InO c arg1 X arg12 arg14 t) ∗ OutSt (F := F) c arg11 arg13 arg15 t ∗ Z)
    iprop(CoreP c arg2 arg3 arg4 arg5 arg6 arg7 arg8 arg9 arg10 arg16 arg17 arg18 arg19 arg20 X2 X3 X4 X5 X6 X7 X8 X9 X10 ∗ owing c ∗ (InFly c arg1 X arg12 arg14 (t % 2) t ∗ InO c arg1 X arg12 arg14 t) ∗ (Rest (F := F) c arg13 arg15 (t % 2) ∗ OB (F := F) c arg11 t ∗ OutQ (F := F) c arg11 arg13 arg15 t) ∗ Z)
    ?H1 ?H1n ?H2 ?H2n ?H3 ?H3n (Din c arg1 X arg12 (t % 2) (32 * t))
    iprop(CoreP c arg2 arg3 arg4 arg5 arg6 arg7 arg8 arg9 arg10 arg16 arg17 arg18 arg19 arg20 X2 X3 X4 X5 X6 X7 X8 X9 X10 ∗ InO c arg1 X arg12 arg14 t ∗ (Rest (F := F) c arg13 arg15 (t % 2) ∗ OB (F := F) c arg11 t ∗ OutQ (F := F) c arg11 arg13 arg15 t) ∗ Z)
    iprop(owing c ∗ semVal ((c : Thread nD τ), .dma (semOf arg14 (t % 2))) 0 ∗ XB c arg1 X t ∗ InO c arg1 X arg12 arg14 t
      ∗ semVal ((c : Thread nD τ), .dma (semOf arg15 (t % 2))) 0 ∗ OB (F := F) c arg11 t ∗ OutQ (F := F) c arg11 arg13 arg15 t ∗ Z)
    iprop(CoreP c arg2 arg3 arg4 arg5 arg6 arg7 arg8 arg9 arg10 arg16 arg17 arg18 arg19 arg20 X2 X3 X4 X5 X6 X7 X8 X9 X10 ∗ owing c ∗ Rest (F := F) c arg12 arg14 (t % 2) ∗ XB c arg1 X t ∗ InO c arg1 X arg12 arg14 t ∗ OutQ (F := F) c arg11 arg13 arg15 t ∗ Z)
    ?H4 ?H4' ?H5
    iprop(CoreP c arg2 arg3 arg4 arg5 arg6 arg7 arg8 arg9 arg10 arg16 arg17 arg18 arg19 arg20 X2 X3 X4 X5 X6 X7 X8 X9 X10 ∗ owing c ∗ InSt c arg1 X arg12 arg14 (t + 1) ∗ (OutFly (F := F) c arg11 arg13 arg15 (t % 2) t ∗ OutQ (F := F) c arg11 arg13 arg15 t) ∗ Z)
    iprop(CoreP c arg2 arg3 arg4 arg5 arg6 arg7 arg8 arg9 arg10 arg16 arg17 arg18 arg19 arg20 X2 X3 X4 X5 X6 X7 X8 X9 X10 ∗ owing c ∗ InSt c arg1 X arg12 arg14 64 ∗ OutFly (F := F) c arg11 arg13 arg15 1 63 ∗ OutZ (F := F) c arg11 ∗ Rest (F := F) c arg13 arg15 0 ∗ OB (F := F) c arg11 62 ∗ Z)
    _ ?H6 ?H7 ?H8 ?H8n
  case H1 =>
    intro h
    obtain rfl := h1.mp h
    refine ⟨iprop(owing c ∗ Rest (F := F) c arg12 arg14 1 ∗ bigSep ((Finset.range 64).erase 0) (XB c arg1 X) ∗ OutSt (F := F) c arg11 arg13 arg15 0 ∗ Z), Upd.of (Entails.of_eq ?_) (in_start c arg1 X arg12 arg14 0 0 _),
      Entails.trans (in_fly c arg1 X arg12 arg14 0 0 _) (Entails.of_eq ?_)⟩
    · rw [core_eq, inSt_zero]
      ac_rfl
    · rw [core_eq]
      show _ = iprop(_ ∗ _ ∗ (InFly c arg1 X arg12 arg14 0 0 ∗ Rest (F := F) c arg12 arg14 1 ∗ _) ∗ _)
      ac_rfl
  case H1n =>
    intro h
    rw [inSt_later c arg1 X arg12 arg14 t (fun k => h (h1.mpr k)) ht]
  case H2 =>
    intro h
    have h' := h2.mp h
    rw [hn, hnr h']
    refine ⟨iprop(CoreP c arg2 arg3 arg4 arg5 arg6 arg7 arg8 arg9 arg10 arg16 arg17 arg18 arg19 arg20 X2 X3 X4 X5 X6 X7 X8 X9 X10 ∗ owing c ∗ (InFly c arg1 X arg12 arg14 (t % 2) t ∗ bigSep (((Finset.range 64).erase t).erase (t + 1)) (XB c arg1 X)) ∗ OutSt (F := F) c arg11 arg13 arg15 t ∗ Z),
      Upd.of (Entails.of_eq ?_) (in_start c arg1 X arg12 arg14 ((t + 1) % 2) (t + 1) _), Entails.trans (in_fly c arg1 X arg12 arg14 ((t + 1) % 2) (t + 1) _) (Entails.of_eq ?_)⟩
    · rw [in1_next c arg1 X arg12 arg14 t h']
      ac_rfl
    · rw [inO_next c arg1 X arg12 arg14 t h']
      ac_rfl
  case H2n =>
    intro h
    rw [inO_last c arg1 X arg12 arg14 t (fun k => h (h2.mpr k))]
  case H3 =>
    intro h
    have h' := h3.mp h
    rw [hs]
    refine ⟨Dout (F := F) c arg11 arg13 (t % 2) (32 * (t - 2)), iprop(CoreP c arg2 arg3 arg4 arg5 arg6 arg7 arg8 arg9 arg10 arg16 arg17 arg18 arg19 arg20 X2 X3 X4 X5 X6 X7 X8 X9 X10 ∗ (InFly c arg1 X arg12 arg14 (t % 2) t ∗ InO c arg1 X arg12 arg14 t)
        ∗ (OutFly (F := F) c arg11 arg13 arg15 ((t + 1) % 2) (t - 1) ∗ bigSep (((Finset.range 64).erase (t - 1)).erase (t - 2)) (OB (F := F) c arg11)) ∗ Z),
      Entails.trans (Entails.of_eq ?_) (out_wait c arg11 arg13 arg15 (t % 2) (t - 2) _), Entails.trans (sep_mono (out_end c arg11 arg13 arg15 (t % 2) (t - 2)) Entails.rfl) (Entails.of_eq ?_)⟩
    · rw [outSt_wait c arg11 arg13 arg15 t h' ht]
      ac_rfl
    · rw [← outQ_waited c arg11 arg13 arg15 t h' ht]
      ac_rfl
  case H3n =>
    intro h
    rw [outSt_start c arg11 arg13 arg15 t (Nat.lt_of_not_le fun k => h (h3.mpr k))]
  case H4 =>
    rw [hs]
    refine Entails.trans (Entails.of_eq ?_) (in_wait c arg1 X arg12 arg14 (t % 2) t _)
    ac_rfl
  case H4' =>
    rw [hs]
    refine Entails.trans (sep_mono (in_end c arg1 X arg12 arg14 (t % 2) t) Entails.rfl) (Entails.of_eq ?_)
    rw [core_eq]
    unfold Rest
    ac_rfl
  case H5 =>
    rw [hs, hr]
    refine Upd.of (Entails.of_eq ?_) (out_start c arg11 arg13 arg15 (t % 2) t _)
    rw [core_eq]
    unfold Rest
    ac_rfl
  case H6 =>
    rw [hs, hr]
    refine Entails.trans (out_fly c arg11 arg13 arg15 (t % 2) t _) (Entails.of_eq ?_)
    rw [← inSt_next c arg1 X arg12 arg14 t ht]
    ac_rfl
  case H7 =>
    intro h
    obtain rfl := h4.mp h
    rw [hn]
    refine ⟨Dout (F := F) c arg11 arg13 0 (32 * 62), iprop(CoreP c arg2 arg3 arg4 arg5 arg6 arg7 arg8 arg9 arg10 arg16 arg17 arg18 arg19 arg20 X2 X3 X4 X5 X6 X7 X8 X9 X10 ∗ InSt c arg1 X arg12 arg14 64 ∗ OutFly (F := F) c arg11 arg13 arg15 1 63 ∗ OutZ (F := F) c arg11 ∗ Z),
      Entails.trans (Entails.of_eq ?_) (out_wait c arg11 arg13 arg15 0 62 _), Entails.trans (sep_mono (out_end c arg11 arg13 arg15 0 62) Entails.rfl) (Entails.of_eq ?_)⟩
    · rw [outQ_last]
      ac_rfl
    · ac_rfl
  case H8 =>
    intro h
    obtain rfl := h4.mp h
    rw [hs]
    refine ⟨Dout (F := F) c arg11 arg13 1 (32 * 63), iprop(CoreP c arg2 arg3 arg4 arg5 arg6 arg7 arg8 arg9 arg10 arg16 arg17 arg18 arg19 arg20 X2 X3 X4 X5 X6 X7 X8 X9 X10 ∗ InSt c arg1 X arg12 arg14 64 ∗ OutZ (F := F) c arg11 ∗ Rest (F := F) c arg13 arg15 0 ∗ OB (F := F) c arg11 62 ∗ Z),
      Entails.trans (Entails.of_eq ?_) (out_wait c arg11 arg13 arg15 1 63 _), Entails.trans (sep_mono (out_end c arg11 arg13 arg15 1 63) Entails.rfl) (Entails.of_eq ?_)⟩
    · ac_rfl
    · show _ = iprop(_ ∗ _ ∗ _ ∗ OutSt (F := F) c arg11 arg13 arg15 64 ∗ _)
      rw [← outSt_last]
      ac_rfl
  case H8n =>
    intro h
    rw [outSt_next c arg11 arg13 arg15 t (Nat.lt_of_le_of_ne (by omega) fun k => h (h4.mpr k))]

end Cert.Kernel2Ideal.Rnn
-- ==== Proof.RnnIdeal.Launch.lean ====
/- The launch: every point run from the blocks at rest to the blocks at rest, and what is left of the arguments. -/
module

public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.RnnIdeal.Point

@[expose] public section

set_option maxRecDepth 16384

noncomputable section

namespace Cert.Kernel2Ideal.Rnn

open Idealize.ShloMosaic Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws
open Idealize.ShloMosaic.Transfers
open Cert.Kernel2Ideal.Gen
open Idealize.ShloMosaic.Pipeline (Dat BodyObligation)

variable {F : FTy → Type} [FloatOps F] [Named F]

local notation "𝕄" => MT nD τ sig Unit (Elt F) ℕ (Pipeline.UD sig nD τ) ℕ

variable (c : Dev nD)

/-! ## The points' coordinates -/

theorem slot_at : ∀ t : Fin cfg0.N, slot (grid0.coords t) = t.val % 2 := by decide
theorem nslot_at : ∀ t : Fin cfg0.N, nslot (grid0.coords t) = (t.val + 1) % 2 := by decide
theorem row_at : ∀ t : Fin cfg0.N, row (grid0.coords t) = 32 * t.val := by decide
theorem nrow_at : ∀ t : Fin cfg0.N, nrow (grid0.coords t) = 32 * (t.val + 1) := by decide
theorem first_at : ∀ t : Fin cfg0.N, firstPoint (grid0.coords t) = 1#1 ↔ t.val = 0 := by decide
theorem cond2_at : ∀ t : Fin cfg0.N, k0_cond2 (grid0.coords t) = 1#1 ↔ t.val + 1 < 64 := by decide
theorem cond3_at : ∀ t : Fin cfg0.N, k0_cond3 (grid0.coords t) = 1#1 ↔ 2 ≤ t.val := by decide
theorem cond4_at : ∀ t : Fin cfg0.N, k0_cond4 (grid0.coords t) = 1#1 ↔ t.val = 63 := by decide

/-! ## The blocks of a whole array, the slots of a whole buffer -/

theorem anyOn_whole (b : Ref sig .tc) : (anyOn (F := F) c (Memref.whole b) (Memref.whole b).view.set : sProp 𝕄)
    = iprop(∃ f : Buf (Elt F) ((c : Thread nD τ).loc b), ((c : Thread nD τ).loc b) ↦{fullShare} f) := by
  unfold anyOn
  rw [View.set_whole]

theorem xb_parts {sp : Space} (m : Memref sig .tc sp S16x2048x1024 .f32) (X : m.view.ty.Contents (Elt F)) (P : Finset ℕ) (S : Finset m.view.ty.Idx)
    (hP : P.biUnion (fun q => pq m q) = S) : (m.view.loc (c : Thread nD τ) ↦[S]{fullShare} X : sProp 𝕄) = bigSep P (XB c m X) := by
  subst hP
  exact pointsTo_biUnion (ℓ := m.view.loc (c : Thread nD τ)) (f := X) (q := fullShare) P (fun q => pq m q) fun q _ q' _ h => pq_disjoint m q q' h

theorem ob_parts {sp : Space} (m : Memref sig .tc sp S16x2048x1024 .f32) (P : Finset ℕ) (S : Finset m.view.ty.Idx)
    (hP : P.biUnion (fun q => pq m q) = S) : (bigSep P (OB (F := F) c m) : sProp 𝕄) ⊢ anyOn (F := F) c m S := by
  subst hP
  have : Nonempty (m.view.ty.Contents (Elt F)) := ⟨fun _ => default⟩
  refine Entails.trans (BI.bigSep_exists_pi P (fun q (f : m.view.ty.Contents (Elt F)) => (m.view.loc (c : Thread nD τ) ↦[pq m q]{fullShare} f : sProp 𝕄))) ?_
  have j (fs : ℕ → m.view.ty.Contents (Elt F)) : (bigSep P fun q => m.view.loc (c : Thread nD τ) ↦[pq m q]{fullShare} fs q : sProp 𝕄)
      ⊢ iprop(∃ g : m.view.ty.Contents (Elt F), m.view.loc (c : Thread nD τ) ↦[P.biUnion fun q => pq m q]{fullShare} g) :=
    Entails.trans (pointsTo_biUnion_join (ℓ := m.view.loc (c : Thread nD τ)) (q := fullShare) P (fun q => pq m q) fs (fun _ => default) fun q _ q' _ h => pq_disjoint m q q' h)
      (by iintro ⟨%g, -, H⟩; iexists g; iexact H)
  unfold anyOn
  iintro ⟨%fs, H⟩
  iapply (j fs) $$ H

theorem xb_all {sp : Space} (m : Memref sig .tc sp S16x2048x1024 .f32) (X : m.view.ty.Contents (Elt F)) :
    (m.view.loc (c : Thread nD τ) ↦[m.view.set]{fullShare} X : sProp 𝕄) = bigSep (Finset.range 64) (XB c m X) :=
  xb_parts c m X _ _ (pq_all m)

theorem ob_split {sp : Space} (m : Memref sig .tc sp S16x2048x1024 .f32) : (anyOn (F := F) c m m.view.set : sProp 𝕄) ⊢ bigSep (Finset.range 64) (OB (F := F) c m) := by
  have h (f : m.view.ty.Contents (Elt F)) : (m.view.loc (c : Thread nD τ) ↦[m.view.set]{fullShare} f : sProp 𝕄) ⊢ bigSep (Finset.range 64) (OB (F := F) c m) := by
    rw [xb_all]
    have g (q : ℕ) : (XB c m f q : sProp 𝕄) ⊢ OB (F := F) c m q := by
      unfold XB OB anyOn
      iintro H
      iexists f
      iexact H
    exact BI.bigSep_mono fun q _ => g q
  unfold anyOn
  iintro ⟨%f, H⟩
  iapply (h f) $$ H

theorem ob_join {sp : Space} (m : Memref sig .tc sp S16x2048x1024 .f32) : (bigSep (Finset.range 64) (OB (F := F) c m) : sProp 𝕄) ⊢ anyOn (F := F) c m m.view.set := by
  exact ob_parts c m _ _ (pq_all m)

theorem rest_split {sp : Space} (m : Memref sig .tc sp S2x32x16x1024 .f32) (sa : DmaSems sig S2) :
    iprop(semVal ((c : Thread nD τ), .dma (semOf sa 0)) 0 ∗ semVal ((c : Thread nD τ), .dma (semOf sa 1)) 0 ∗ anyOn (F := F) c m m.view.set)
      ⊢ iprop(Rest (F := F) c m sa 0 ∗ Rest (F := F) c m sa 1) := by
  have h := anyOn_split (F := F) c m (fun s : Fin 2 => qs m s.val) _ (qs_disjoint m) (qs_all m)
  rw [show (Finset.univ : Finset (Fin 2)) = {0, 1} from rfl, BI.bigSep_insert (by decide), BI.bigSep_singleton] at h
  have h' : anyOn (F := F) c m m.view.set ⊢ iprop(anyOn (F := F) c m (qs m 0) ∗ anyOn c m (qs m 1)) := h
  unfold Rest
  iintro ⟨H0, H1, HA⟩
  ihave HA := h' $$ HA
  icases HA with ⟨HA, HB⟩
  isplitl [H0 HA]
  · isplitl [H0]; · iexact H0
    iexact HA
  isplitl [H1]; · iexact H1
  iexact HB

theorem rest_join {sp : Space} (m : Memref sig .tc sp S2x32x16x1024 .f32) (sa : DmaSems sig S2) :
    iprop(Rest (F := F) c m sa 0 ∗ Rest (F := F) c m sa 1)
      ⊢ iprop(semVal ((c : Thread nD τ), .dma (semOf sa 0)) 0 ∗ semVal ((c : Thread nD τ), .dma (semOf sa 1)) 0 ∗ anyOn (F := F) c m m.view.set) := by
  have h := anyOn_join (F := F) c m (fun s : Fin 2 => qs m s.val) _ (qs_disjoint m) (qs_all m)
  rw [show (Finset.univ : Finset (Fin 2)) = {0, 1} from rfl, BI.bigSep_insert (by decide), BI.bigSep_singleton] at h
  have h' : iprop(anyOn (F := F) c m (qs m 0) ∗ anyOn c m (qs m 1)) ⊢ anyOn (F := F) c m m.view.set := h
  unfold Rest
  iintro ⟨⟨H0, HA⟩, H1, HB⟩
  isplitl [H0]; · iexact H0
  isplitl [H1]; · iexact H1
  iapply h'
  isplitl [HA]; · iexact HA
  iexact HB

/-! ## The launch's data -/

variable (m : (ℓ : Loc nD τ sig) → Buf (Elt F) ℓ) (ρ : Dev nD → PrngReg)

abbrev hX : Memref sig .tc .hbm S16x2048x1024 .f32 := Memref.whole main_arg0
abbrev hY : Memref sig .tc .hbm S16x2048x1024 .f32 := Memref.whole main_v20
abbrev sX : Memref sig .tc .vmem S2x32x16x1024 .f32 := Memref.whole cc0_scratch0
abbrev sY : Memref sig .tc .vmem S2x32x16x1024 .f32 := Memref.whole cc0_scratch1

/-- What the kernel holds of its own before point `t`. -/
def Inv (t : ℕ) : sProp 𝕄 :=
  iprop((anyOn (F := F) c (Memref.whole cc0_scratch4) (Memref.whole cc0_scratch4).view.set ∗ anyOn (F := F) c (Memref.whole cc0_scratch5) (Memref.whole cc0_scratch5).view.set ∗ anyOn (F := F) c (Memref.whole cc0_scratch6) (Memref.whole cc0_scratch6).view.set ∗ anyOn (F := F) c (Memref.whole cc0_scratch7) (Memref.whole cc0_scratch7).view.set ∗ anyOn (F := F) c (Memref.whole cc0_scratch8) (Memref.whole cc0_scratch8).view.set) ∗ InSt c hX (V m c main_arg0) sX cc0_scratch2 t ∗ OutSt (F := F) c hY sY cc0_scratch3 t ∗ ∃ r, prngReg c r)

/-- The semaphores of the slots. -/
abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
theorem ownSems_eq :
    (Pipeline.ownSems0 (Ix := Unit) (Name := ℕ) (U := Pipeline.UD sig nD τ) (Lvl := ℕ) (Val := Elt F) (τ := τ) osem0 c : sProp 𝕄)
      = iprop(semVal ((c : Thread nD τ), .dma (semOf cc0_scratch2 0)) 0 ∗ semVal ((c : Thread nD τ), .dma (semOf cc0_scratch2 1)) 0
          ∗ semVal ((c : Thread nD τ), .dma (semOf cc0_scratch3 0)) 0 ∗ semVal ((c : Thread nD τ), .dma (semOf cc0_scratch3 1)) 0) := by
  rw [Pipeline.ownSems0_eq_of_list c osem0 [0, 1, 2, 3] (by decide) (by decide)]
  rfl

/-- The array read in place, -/
def H0 : Finset (Ref sig .tc) := {main_arg0}
theorem H0_sub : H0 ⊆ Pipeline.restRefs sig spec0 := by decide
/-- and the one written in place. -/
def R0 : Finset (Ref sig .tc) := {main_v20}
theorem R0_sub : R0 ⊆ Pipeline.restRefs sig spec0 \ H0 := by decide

theorem hbm_eq : (bigSep H0 (fun b => ((c : Thread nD τ).loc b) ↦{fullShare} V m c b) : sProp 𝕄) = bigSep (Finset.range 64) (XB c hX (V m c main_arg0)) := by
  unfold H0
  rw [BI.bigSep_singleton, ← xb_all, View.set_whole]

theorem owned_eq : (Pipeline.owned R0 c : sProp 𝕄) = anyOn (F := F) c hY hY.view.set := by
  unfold Pipeline.owned R0
  rw [BI.bigSep_singleton]
  exact (anyOn_whole c main_v20).symm

theorem phi_eq : (Pipeline.ΦDR osem0 spec0 H0 R0 (V m) c : sProp 𝕄)
    = iprop((anyOn (F := F) c sX sX.view.set ∗ anyOn (F := F) c sY sY.view.set ∗ anyOn (F := F) c (Memref.whole cc0_scratch4) (Memref.whole cc0_scratch4).view.set ∗ anyOn (F := F) c (Memref.whole cc0_scratch5) (Memref.whole cc0_scratch5).view.set ∗ anyOn (F := F) c (Memref.whole cc0_scratch6) (Memref.whole cc0_scratch6).view.set ∗ anyOn (F := F) c (Memref.whole cc0_scratch7) (Memref.whole cc0_scratch7).view.set ∗ anyOn (F := F) c (Memref.whole cc0_scratch8) (Memref.whole cc0_scratch8).view.set)
        ∗ (∃ r, prngReg c r)
        ∗ (semVal ((c : Thread nD τ), .dma (semOf cc0_scratch2 0)) 0 ∗ semVal ((c : Thread nD τ), .dma (semOf cc0_scratch2 1)) 0
          ∗ semVal ((c : Thread nD τ), .dma (semOf cc0_scratch3 0)) 0 ∗ semVal ((c : Thread nD τ), .dma (semOf cc0_scratch3 1)) 0)
        ∗ bigSep (Finset.range 64) (XB c hX (V m c main_arg0)) ∗ anyOn (F := F) c hY hY.view.set) := by
  have hs := scopedRest0_eq (Ix := Unit) (Val := Elt F) (Name := ℕ) (U := Pipeline.UD sig nD τ) (Lvl := ℕ) c
  rw [← anyOn_whole c cc0_scratch0, ← anyOn_whole c cc0_scratch1, ← anyOn_whole c cc0_scratch4, ← anyOn_whole c cc0_scratch5,
    ← anyOn_whole c cc0_scratch6, ← anyOn_whole c cc0_scratch7, ← anyOn_whole c cc0_scratch8] at hs
  rw [Pipeline.ΦDR_eq, hs, ownSems_eq, hbm_eq, owned_eq]

theorem inSt_ends (t : ℕ) (h : t = 0 ∨ t = 64) : InSt c hX (V m c main_arg0) sX cc0_scratch2 t
    = iprop(Rest (F := F) c sX cc0_scratch2 0 ∗ Rest (F := F) c sX cc0_scratch2 1 ∗ bigSep (Finset.range 64) (XB c hX (V m c main_arg0))) := by
  unfold InSt
  rw [if_neg (by omega)]

theorem outSt_ends (t : ℕ) (h : t = 0 ∨ t = 64) : OutSt (F := F) c hY sY cc0_scratch3 t
    = iprop(Rest (F := F) c sY cc0_scratch3 0 ∗ Rest (F := F) c sY cc0_scratch3 1 ∗ bigSep (Finset.range 64) (OB (F := F) c hY)) := by
  unfold OutSt
  rw [if_pos (by omega)]

theorem inv_start : (Pipeline.ΦDR osem0 spec0 H0 R0 (V m) c : sProp 𝕄) ⊢ Inv c m 0 := by
  unfold Inv
  rw [phi_eq, inSt_ends c m 0 (Or.inl rfl), outSt_ends c 0 (Or.inl rfl)]
  iintro ⟨⟨HA, HB, HS⟩, Hr, ⟨H0, H1, H2, H3⟩, HX, HY⟩
  isplitl [HS]; · iexact HS
  isplitl [HA H0 H1 HX]
  · ihave HR := (rest_split c sX cc0_scratch2) $$ [H0 H1 HA]
    · isplitl [H0]; · iexact H0
      isplitl [H1]; · iexact H1
      iexact HA
    icases HR with ⟨HR, HR'⟩
    isplitl [HR]; · iexact HR
    isplitl [HR']; · iexact HR'
    iexact HX
  isplitr [Hr]
  · ihave HR := (rest_split c sY cc0_scratch3) $$ [H2 H3 HB]
    · isplitl [H2]; · iexact H2
      isplitl [H3]; · iexact H3
      iexact HB
    icases HR with ⟨HR, HR'⟩
    isplitl [HR]; · iexact HR
    isplitl [HR']; · iexact HR'
    iapply (ob_split c hY) $$ HY
  iexact Hr

theorem inv_end : Inv c m 64 ⊢ (Pipeline.ΦDR osem0 spec0 H0 R0 (V m) c : sProp 𝕄) := by
  unfold Inv
  rw [phi_eq, inSt_ends c m 64 (Or.inr rfl), outSt_ends c 64 (Or.inr rfl)]
  iintro ⟨HS, ⟨HR, HR', HX⟩, ⟨HT, HT', HY⟩, Hr⟩
  ihave HA := (rest_join c sX cc0_scratch2) $$ [HR HR']
  · isplitl [HR]; · iexact HR
    iexact HR'
  ihave HB := (rest_join c sY cc0_scratch3) $$ [HT HT']
  · isplitl [HT]; · iexact HT
    iexact HT'
  icases HA with ⟨H0, H1, HA⟩
  icases HB with ⟨H2, H3, HB⟩
  isplitl [HA HB HS]
  · isplitl [HA]; · iexact HA
    isplitl [HB]; · iexact HB
    iexact HS
  isplitl [Hr]; · iexact Hr
  isplitl [H0 H1 H2 H3]
  · isplitl [H0]; · iexact H0
    isplitl [H1]; · iexact H1
    isplitl [H2]; · iexact H2
    iexact H3
  isplitl [HX]; · iexact HX
  iapply (ob_join c hY) $$ HY

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
  Φ t := Inv c m t.val
  q _ := fullShare
  owed _ := 0

theorem A_eq (c : Dev nD) (w : Fin cfg0.W) : (dats m 0 c).A w = V m c (Pipeline.arrRef spec0 w) := rfl
theorem after_0 (t : Fin cfg0.N) : (dats m 0 c).after 0 t = iblk m c 0 t := by dsimp only [dats]
theorem before_0 (t : Fin cfg0.N) (d) : (dats m 0 c).before 0 t d = iblk m c 0 t :=
  ((dats m 0 c).before_in_eq_fetched 0 rfl (fun _ => rfl) (fun _ _ _ => rfl) (fun t => by rw [show (dats m 0 c).after 0 t = iblk m c 0 t from rfl]; rfl) t d).trans rfl
theorem after_1 (t : Fin cfg0.N) : (dats m 0 c).after 1 t = iblk m c 1 t := by dsimp only [dats]
theorem before_1 (t : Fin cfg0.N) (d) : (dats m 0 c).before 1 t d = iblk m c 1 t :=
  ((dats m 0 c).before_in_eq_fetched 1 rfl (fun _ => rfl) (fun _ _ _ => rfl) (fun t => by rw [show (dats m 0 c).after 1 t = iblk m c 1 t from rfl]; rfl) t d).trans rfl
theorem after_2 (t : Fin cfg0.N) : (dats m 0 c).after 2 t = iblk m c 2 t := by dsimp only [dats]
theorem before_2 (t : Fin cfg0.N) (d) : (dats m 0 c).before 2 t d = iblk m c 2 t :=
  ((dats m 0 c).before_in_eq_fetched 2 rfl (fun _ => rfl) (fun _ _ _ => rfl) (fun t => by rw [show (dats m 0 c).after 2 t = iblk m c 2 t from rfl]; rfl) t d).trans rfl
theorem after_3 (t : Fin cfg0.N) : (dats m 0 c).after 3 t = iblk m c 3 t := by dsimp only [dats]
theorem before_3 (t : Fin cfg0.N) (d) : (dats m 0 c).before 3 t d = iblk m c 3 t :=
  ((dats m 0 c).before_in_eq_fetched 3 rfl (fun _ => rfl) (fun _ _ _ => rfl) (fun t => by rw [show (dats m 0 c).after 3 t = iblk m c 3 t from rfl]; rfl) t d).trans rfl
theorem after_4 (t : Fin cfg0.N) : (dats m 0 c).after 4 t = iblk m c 4 t := by dsimp only [dats]
theorem before_4 (t : Fin cfg0.N) (d) : (dats m 0 c).before 4 t d = iblk m c 4 t :=
  ((dats m 0 c).before_in_eq_fetched 4 rfl (fun _ => rfl) (fun _ _ _ => rfl) (fun t => by rw [show (dats m 0 c).after 4 t = iblk m c 4 t from rfl]; rfl) t d).trans rfl
theorem after_5 (t : Fin cfg0.N) : (dats m 0 c).after 5 t = iblk m c 5 t := by dsimp only [dats]
theorem before_5 (t : Fin cfg0.N) (d) : (dats m 0 c).before 5 t d = iblk m c 5 t :=
  ((dats m 0 c).before_in_eq_fetched 5 rfl (fun _ => rfl) (fun _ _ _ => rfl) (fun t => by rw [show (dats m 0 c).after 5 t = iblk m c 5 t from rfl]; rfl) t d).trans rfl
theorem after_6 (t : Fin cfg0.N) : (dats m 0 c).after 6 t = iblk m c 6 t := by dsimp only [dats]
theorem before_6 (t : Fin cfg0.N) (d) : (dats m 0 c).before 6 t d = iblk m c 6 t :=
  ((dats m 0 c).before_in_eq_fetched 6 rfl (fun _ => rfl) (fun _ _ _ => rfl) (fun t => by rw [show (dats m 0 c).after 6 t = iblk m c 6 t from rfl]; rfl) t d).trans rfl
theorem after_7 (t : Fin cfg0.N) : (dats m 0 c).after 7 t = iblk m c 7 t := by dsimp only [dats]
theorem before_7 (t : Fin cfg0.N) (d) : (dats m 0 c).before 7 t d = iblk m c 7 t :=
  ((dats m 0 c).before_in_eq_fetched 7 rfl (fun _ => rfl) (fun _ _ _ => rfl) (fun t => by rw [show (dats m 0 c).after 7 t = iblk m c 7 t from rfl]; rfl) t d).trans rfl
theorem after_8 (t : Fin cfg0.N) : (dats m 0 c).after 8 t = iblk m c 8 t := by dsimp only [dats]
theorem before_8 (t : Fin cfg0.N) (d) : (dats m 0 c).before 8 t d = iblk m c 8 t :=
  ((dats m 0 c).before_in_eq_fetched 8 rfl (fun _ => rfl) (fun _ _ _ => rfl) (fun t => by rw [show (dats m 0 c).after 8 t = iblk m c 8 t from rfl]; rfl) t d).trans rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

theorem pre_found (t : Fin cfg0.N) : bodyPre m c t ⊢ iprop(CoreP c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (Memref.whole cc0_scratch4) (Memref.whole cc0_scratch5) (Memref.whole cc0_scratch6) (Memref.whole cc0_scratch7) (Memref.whole cc0_scratch8) (iblk m c 0 t) (iblk m c 1 t) (iblk m c 2 t) (iblk m c 3 t) (iblk m c 4 t) (iblk m c 5 t) (iblk m c 6 t) (iblk m c 7 t) (iblk m c 8 t) ∗ owing c ∗ InSt c hX (V m c main_arg0) sX cc0_scratch2 t.val ∗ OutSt (F := F) c hY sY cc0_scratch3 t.val ∗ ∃ r, prngReg c r) := by
  unfold bodyPre
  simp only [before_0, before_1, before_2, before_3, before_4, before_5, before_6, before_7, before_8]
  rw [show (dats m 0 c).Φ t.castSucc = Inv c m t.val from rfl]
  unfold Inv Dat.owesAt Pipeline.owesWithin CoreP owing
  rw [show (dats m 0 c).owed t.castSucc = 0 from rfl]
  iintro ⟨⟨⟨HA0, HA1, HA2, HA3, HA4⟩, HI, HO, Hr⟩, ⟨%W, -, HW⟩, ⟨%d0, HW0⟩, ⟨%d1, HW1⟩, ⟨%d2, HW2⟩, ⟨%d3, HW3⟩, ⟨%d4, HW4⟩, ⟨%d5, HW5⟩, ⟨%d6, HW6⟩, ⟨%d7, HW7⟩, ⟨%d8, HW8⟩⟩
  isplitl [HW0 HW1 HW2 HW3 HW4 HW5 HW6 HW7 HW8 HA0 HA1 HA2 HA3 HA4]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    isplitl [HW7]; · iexact HW7
    isplitl [HW8]; · iexact HW8
    isplitl [HA0]; · iexact HA0
    isplitl [HA1]; · iexact HA1
    isplitl [HA2]; · iexact HA2
    isplitl [HA3]; · iexact HA3
    iexact HA4
  isplitl [HW]; · iexists W; iexact HW
  isplitl [HI]; · iexact HI
  isplitl [HO]; · iexact HO
  iexact Hr

theorem left_post (t : Fin cfg0.N) : iprop(CoreP c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (Memref.whole cc0_scratch4) (Memref.whole cc0_scratch5) (Memref.whole cc0_scratch6) (Memref.whole cc0_scratch7) (Memref.whole cc0_scratch8) (iblk m c 0 t) (iblk m c 1 t) (iblk m c 2 t) (iblk m c 3 t) (iblk m c 4 t) (iblk m c 5 t) (iblk m c 6 t) (iblk m c 7 t) (iblk m c 8 t) ∗ owing c ∗ InSt c hX (V m c main_arg0) sX cc0_scratch2 (t.val + 1) ∗ OutSt (F := F) c hY sY cc0_scratch3 (t.val + 1) ∗ ∃ r, prngReg c r) ⊢ bodyPost m c t := by
  unfold bodyPost
  rw [after_0, after_1, after_2, after_3, after_4, after_5, after_6, after_7, after_8]
  rw [show (dats m 0 c).Φ t.succ = Inv c m (t.val + 1) from rfl]
  unfold Inv Dat.owesAt Pipeline.owesWithin CoreP owing
  rw [show (dats m 0 c).owed t.succ = 0 from rfl]
  iintro ⟨⟨HW0, HW1, HW2, HW3, HW4, HW5, HW6, HW7, HW8, HA0, HA1, HA2, HA3, HA4⟩, ⟨%W, HW⟩, HI, HO, Hr⟩
  isplitl [HA0 HA1 HA2 HA3 HA4 HI HO Hr]
  · isplitl [HA0 HA1 HA2 HA3 HA4]
    · isplitl [HA0]; · iexact HA0
      isplitl [HA1]; · iexact HA1
      isplitl [HA2]; · iexact HA2
      isplitl [HA3]; · iexact HA3
      iexact HA4
    isplitl [HI]; · iexact HI
    isplitl [HO]; · iexact HO
    iexact Hr
  isplitl [HW]
  · iexists W
    isplitr
    · ipureintro
      exact fun _ _ => Or.inl trivial
    iexact HW
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  isplitl [HW7]; · iexact HW7
  iexact HW8

theorem sound_body (t : Fin cfg0.N) :
    bodyPre m c t ⊢ wp frame (wpE (defs₀ (F := F)) Variants.none c none) Set.univ (bodyAt0 t) (fun _ => bodyPost m c t) := by
  have h := point c (grid0.coords t) hX (Memref.isWhole_whole _) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) hY (Memref.isWhole_whole _) sX (Memref.isWhole_whole _) sY (Memref.isWhole_whole _) cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (iblk m c 0 t) (iblk m c 1 t) (iblk m c 2 t) (iblk m c 3 t) (iblk m c 4 t) (iblk m c 5 t) (iblk m c 6 t) (iblk m c 7 t) (iblk m c 8 t) (V m c main_arg0) t.val t.isLt (slot_at t) (nslot_at t) (row_at t) (fun _ => nrow_at t) (first_at t) (cond2_at t) (cond3_at t) (cond4_at t)
    iprop(∃ r, prngReg c r)
  exact Tr.post c (Tr.pre c (pre_found c m t) h) (left_post c m t)

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs₀_row]
  exact triple_restated (sound_body c m t) rfl .rfl fun _ => .rfl

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := fun c => inv_start c m) (hout := fun c => inv_end c m)

/-- The call ends, its arguments unchanged, every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c),
      ((h.1 c).2 main_arg7 (Finset.mem_sdiff.mpr ⟨Pipeline.mem_restRefs_of main_arg7 (by decide) (by decide), by decide⟩)).trans (V_main_arg7 m c),
      ((h.1 c).2 main_arg8 (Finset.mem_sdiff.mpr ⟨Pipeline.mem_restRefs_of main_arg8 (by decide) (by decide), by decide⟩)).trans (V_main_arg8 m c),
      ((h.1 c).2 main_arg9 (Finset.mem_sdiff.mpr ⟨Pipeline.mem_restRefs_of main_arg9 (by decide) (by decide), by decide⟩)).trans (V_main_arg9 m c),
      ((h.1 c).2 main_arg10 (Finset.mem_sdiff.mpr ⟨Pipeline.mem_restRefs_of main_arg10 (by decide) (by decide), by decide⟩)).trans (V_main_arg10 m c)⟩, h.2⟩) (run_main m ρ)

end Cert.Kernel2Ideal.Rnn
-- ==== Proof.RnnReference.Frame.lean ====
/- The reference of the RG-LRU layer leaves its arguments as they were: none of its stretches writes one, before the loop, in
   a trip or after the loop. -/
module

public import proofs.«01_k».proof.Proof.Gen.Reference2Ideal.Run

@[expose] public section

set_option maxRecDepth 16384

noncomputable section

namespace Cert.Reference2Ideal.Rnn

open Idealize.ShloMosaic Idealize.ShloMosaic.TcCoe Idealize.ShloMosaic.StableHlo Idealize.SL.Sem
open Cert.Reference2Ideal.Gen Cert.Reference2Ideal.Value

variable {F : FTy → Type} [FloatOps F]

/-- The arguments. -/
abbrev argRefs : List (Ref sig .tc) :=
  [main_arg0, main_arg1, main_arg2, main_arg3, main_arg4, main_arg5, main_arg6, main_arg7, main_arg8, main_arg9, main_arg10]

abbrev W5 : List (Ref sig .tc) := [main_v94]
theorem writes5 : (hostOps0_5 : List (HloOp τ sig (Elt F))).Forall fun op => op.writes ⊆ (W5.map (Proc.devRef (τ := τ) .tc)).toFinset :=
  StableHlo.forall_writes_sub_of_map rfl
abbrev W6 : List (Ref sig .tc) :=
  [main_call5_v0, main_call5_v1, main_call5_cst, main_call5_v2, main_call5_v3, main_call5_cst_0, main_call5_v4, main_call5_v5, main_v95]
theorem writes6 : (hostOps0_6 : List (HloOp τ sig (Elt F))).Forall fun op => op.writes ⊆ (W6.map (Proc.devRef (τ := τ) .tc)).toFinset :=
  StableHlo.forall_writes_sub_of_map rfl
abbrev W7 : List (Ref sig .tc) := [main_v96, main_v97, main_v98]
theorem writes7 : (hostOps0_7 : List (HloOp τ sig (Elt F))).Forall fun op => op.writes ⊆ (W7.map (Proc.devRef (τ := τ) .tc)).toFinset :=
  StableHlo.forall_writes_sub_of_map rfl

/-- A stretch that writes only `W` keeps an argument outside `W`. -/
theorem keeps {W : List (Ref sig .tc)} (ops : List (HloOp τ sig (Elt F)))
    (hW : ops.Forall fun op => op.writes ⊆ (W.map (Proc.devRef (τ := τ) .tc)).toFinset) (hd : ∀ b ∈ argRefs, b ∉ W)
    (V : Valuation τ sig (Elt F)) (b : Ref sig .tc) (hb : b ∈ argRefs) : after ops V (Proc.devRef .tc b) = V (Proc.devRef .tc b) :=
  after_of_writes_sub ops V hW (hd b hb)

theorem keeps_pre (V : Valuation τ sig (Elt F)) (b : Ref sig .tc) (hb : b ∈ argRefs) : afterL preI V (Proc.devRef .tc b) = V (Proc.devRef .tc b) := by
  simp only [preI, afterL_cons, afterL_nil]
  rw [keeps _ hostOps0_4_writes (by decide) _ b hb, keeps _ hostOps0_3_writes (by decide) _ b hb, keeps _ hostOps0_2_writes (by decide) _ b hb,
    keeps _ hostOps0_1_writes (by decide) _ b hb, keeps _ hostOps0_writes (by decide) _ b hb]

theorem keeps_cond (V : Valuation τ sig (Elt F)) (b : Ref sig .tc) (hb : b ∈ argRefs) : after condOps V (Proc.devRef .tc b) = V (Proc.devRef .tc b) :=
  keeps _ condOps_writes (by decide) V b hb

theorem keeps_body (V : Valuation τ sig (Elt F)) (b : Ref sig .tc) (hb : b ∈ argRefs) : afterL bodyI V (Proc.devRef .tc b) = V (Proc.devRef .tc b) := by
  simp only [bodyI, afterL_cons, afterL_nil]
  rw [keeps _ while0Ops0_4_writes (by decide) _ b hb, keeps _ while0Ops0_3_writes (by decide) _ b hb, keeps _ while0Ops0_2_writes (by decide) _ b hb,
    keeps _ while0Ops0_1_writes (by decide) _ b hb, keeps _ while0Ops0_writes (by decide) _ b hb]

theorem keeps_post (V : Valuation τ sig (Elt F)) (b : Ref sig .tc) (hb : b ∈ argRefs) : afterL postI V (Proc.devRef .tc b) = V (Proc.devRef .tc b) := by
  simp only [postI, afterL_cons, afterL_nil]
  rw [keeps _ writes7 (by decide) _ b hb, keeps _ writes6 (by decide) _ b hb, keeps _ writes5 (by decide) _ b hb]

variable (m : (ℓ : Loc nD τ sig) → Buf (Elt F) ℓ)

theorem keeps_trips (c : Dev nD) (b : Ref sig .tc) (hb : b ∈ argRefs) : ∀ k, atTrip condOps bodyI (entryContents preI m) k c (Proc.devRef .tc b) = m ((c.tc : Thread nD τ).loc b)
  | 0 => keeps_pre _ b hb
  | k + 1 => ((keeps_body _ b hb).trans (keeps_cond _ b hb)).trans (keeps_trips c b hb k)

/-- The program runs to its end with its arguments and the counters as they were. -/
theorem frame_run (ρ : Dev nD → PrngReg) : θ_run (defs (F := F)) (onTc (τ := τ) (main (F := F))) ⟨m, fun _ => 0, ρ⟩
    (fun r => (∀ c : Dev nD, ∀ b ∈ argRefs, r.2.mem ((c.tc : Thread nD τ).loc b) = m ((c.tc : Thread nD τ).loc b)) ∧ r.2.sem = fun _ => 0) :=
  (θ_run defs _ _).mono (fun r h => ⟨fun c b hb => (h c b ((by decide : ∀ b ∈ argRefs, (Proc.devRef .tc b : DevRef τ sig).isScoped = false) b hb)).trans
    (((keeps_post _ b hb).trans (keeps_cond _ b hb)).trans (keeps_trips m c b hb 2048)), sem_eq_zero_of_no_sems (by decide) r.2⟩) (run_fold m ρ)

end Cert.Reference2Ideal.Rnn

end
-- ==== Proof.Values.Model.lean ====
/- One batch's layer as plain formulas over the extended reals: what both programs' results are read as. -/
module

public import Idealize.ShloMosaic.Lib.Pointwise

@[expose] public section

set_option maxRecDepth 16384

noncomputable section

namespace Cert.Model

open Idealize.ShloMosaic

/-- One batch's rows and the layer's weights. -/
structure Inp where
  x : Fin 2048 → Fin 1024 → EReal
  nkv : Fin 1024 → EReal
  wdkv : Fin 1024 → Fin 320 → EReal
  kvn : Fin 256 → EReal
  wuk : Fin 256 → Fin 8 → Fin 128 → EReal
  wuv : Fin 256 → Fin 8 → Fin 128 → EReal
  nb : Fin 1024 → EReal
  win : Fin 1024 → Fin 1408 → EReal
  qn : Fin 384 → EReal
  wuq : Fin 384 → Fin 8 → Fin 192 → EReal
  wout : Fin 1024 → Fin 1024 → EReal
  fn : Fin 1024 → EReal

/-- The small number under the root. -/
abbrev eps : EReal := Ideal.ofBits .f32 0x358637BD#32
abbrev c1024 : EReal := Ideal.ofBits .f32 0x44800000#32
abbrev c256 : EReal := Ideal.ofBits .f32 0x43800000#32
abbrev c384 : EReal := Ideal.ofBits .f32 0x43C00000#32
abbrev c192 : EReal := Ideal.ofBits .f32 0x43400000#32

/-- One over a row's root mean square. -/
def rs {n : ℕ} (c : EReal) (y : Fin n → EReal) : EReal := Ideal.rsqrt (Ideal.div (∑ k, y k * y k) c + eps)

/-- A row over its root mean square, weighed. -/
def rms {n : ℕ} (c : EReal) (y g : Fin n → EReal) (k : Fin n) : EReal := y k * rs c y * g k

/-- A position's angle for a pair of coordinates. -/
def ang (s : Fin 2048) (j : Fin 32) : EReal :=
  (FloatOps.sitofp (F := Ideal) FTy.f32 (BitVec.ofNat 32 s.val) : EReal) *
    Ideal.pow (Ideal.ofBits .f32 0x461C4000#32)
      (Ideal.div (-(Ideal.ofBits .f32 0x40000000#32 * (FloatOps.sitofp (F := Ideal) FTy.f32 (BitVec.ofNat 32 j.val) : EReal)))
        (Ideal.ofBits .f32 0x42800000#32))

/-- The angle's cosine and sine. -/
def cs (s : Fin 2048) (j : Fin 32) : EReal := Ideal.cos (ang s j)
def sn (s : Fin 2048) (j : Fin 32) : EReal := Ideal.sin (ang s j)

/-- Sixty-four coordinates turned by the position's angles, the halves paired. -/
def turn (s : Fin 2048) (y : Fin 64 → EReal) (j : Fin 64) : EReal :=
  if h : j.val < 32 then y j * cs s ⟨j.val, h⟩ - y ⟨32 + j.val, by omega⟩ * sn s ⟨j.val, h⟩
  else y ⟨32 + (j.val - 32), by omega⟩ * cs s ⟨j.val - 32, by omega⟩ + y ⟨j.val - 32, by omega⟩ * sn s ⟨j.val - 32, by omega⟩

namespace Inp

variable (I : Inp)

/-- The keys' normalised rows, and their projection's 320 columns. -/
def hk (s : Fin 2048) : Fin 1024 → EReal := rms c1024 (I.x s) I.nkv
def ckr (s : Fin 2048) (j : Fin 320) : EReal := ∑ e, I.hk s e * I.wdkv e j
/-- The compressed keys and values. -/
def ckv (s : Fin 2048) : Fin 256 → EReal := rms c256 (fun k => I.ckr s ⟨k.val, by omega⟩) I.kvn
def kn (s : Fin 2048) (h : Fin 8) (d : Fin 128) : EReal := ∑ k, I.ckv s k * I.wuk k h d
def vv (s : Fin 2048) (h : Fin 8) (d : Fin 128) : EReal := ∑ k, I.ckv s k * I.wuv k h d
def kr (s : Fin 2048) : Fin 64 → EReal := turn s fun j => I.ckr s ⟨256 + j.val, by omega⟩
/-- The queries' normalised rows, and their projection's 1408 columns. -/
def hq (s : Fin 2048) : Fin 1024 → EReal := rms c1024 (I.x s) I.nb
def u (s : Fin 2048) (j : Fin 1408) : EReal := ∑ e, I.hq s e * I.win e j
def cq (s : Fin 2048) : Fin 384 → EReal := rms c384 (fun k => I.u s ⟨k.val, by omega⟩) I.qn
def gg (s : Fin 2048) (c : Fin 1024) : EReal := I.u s ⟨384 + c.val, by omega⟩
def qq (s : Fin 2048) (h : Fin 8) (d : Fin 192) : EReal := ∑ k, I.cq s k * I.wuq k h d
def qr (s : Fin 2048) (h : Fin 8) : Fin 64 → EReal := turn s fun j => I.qq s h ⟨128 + j.val, by omega⟩
/-- A query's product with a key, before scaling, then scaled, then masked to the past. -/
def dot (h : Fin 8) (q k : Fin 2048) : EReal :=
  ∑ d : Fin 128, I.qq q h ⟨d.val, by omega⟩ * I.kn k h d + ∑ r, I.kr k r * I.qr q h r
def score (h : Fin 8) (q k : Fin 2048) : EReal := I.dot h q k * Ideal.rsqrt c192
def msc (h : Fin 8) (q k : Fin 2048) : EReal := if k.val ≤ q.val then I.score h q k else ⊥
/-- A key's weight, and the weighted mean of the values. -/
def wgt (h : Fin 8) (q k : Fin 2048) : EReal := Ideal.exp (I.msc h q k - Finset.univ.sup (I.msc h q))
def att (h : Fin 8) (q : Fin 2048) (d : Fin 128) : EReal :=
  ∑ k, I.vv k h d * Ideal.div (I.wgt h q k) (∑ k', I.wgt h q k')
/-- The gated heads, projected, added to the row. -/
def y (s : Fin 2048) (c : Fin 1024) : EReal :=
  I.att ⟨c.val / 128, by omega⟩ s ⟨c.val % 128, by omega⟩ * (I.gg s c * Ideal.logistic (I.gg s c))
def out (s : Fin 2048) (e : Fin 1024) : EReal := I.x s e + ∑ c, I.y s c * I.wout c e
/-- The layer's result. -/
def res (s : Fin 2048) : Fin 1024 → EReal := rms c1024 (I.out s) I.fn

/-- A key, and a query, all 192 coordinates: the plain ones, then the turned ones. -/
def kall (s : Fin 2048) (h : Fin 8) (d : Fin 192) : EReal :=
  if hd : d.val < 128 then I.kn s h ⟨d.val, hd⟩ else I.kr s ⟨d.val - 128, by omega⟩
def qall (s : Fin 2048) (h : Fin 8) (d : Fin 192) : EReal :=
  if hd : d.val < 128 then I.qq s h ⟨d.val, by omega⟩ else I.qr s h ⟨d.val - 128, by omega⟩

end Inp

/-- The arrays' batch as rows and weights. -/
def inp (x0 : (⟨3, ![16, 2048, 1024]⟩ : Shape).Idx → EReal) (x1 : (⟨1, ![1024]⟩ : Shape).Idx → EReal)
    (x2 : (⟨2, ![1024, 320]⟩ : Shape).Idx → EReal) (x3 : (⟨1, ![256]⟩ : Shape).Idx → EReal)
    (x4 x5 : (⟨3, ![256, 8, 128]⟩ : Shape).Idx → EReal) (x6 : (⟨1, ![1024]⟩ : Shape).Idx → EReal)
    (x7 : (⟨2, ![1024, 1408]⟩ : Shape).Idx → EReal) (x8 : (⟨1, ![384]⟩ : Shape).Idx → EReal)
    (x9 : (⟨3, ![384, 8, 192]⟩ : Shape).Idx → EReal) (x10 : (⟨2, ![1024, 1024]⟩ : Shape).Idx → EReal)
    (x11 : (⟨1, ![1024]⟩ : Shape).Idx → EReal) (b : Fin 16) : Inp where
  x s e := x0 (ix3 b s e)
  nkv e := x1 (ix1 e)
  wdkv e j := x2 (ix2 e j)
  kvn k := x3 (ix1 k)
  wuk k h d := x4 (ix3 k h d)
  wuv k h d := x5 (ix3 k h d)
  nb e := x6 (ix1 e)
  win e j := x7 (ix2 e j)
  qn k := x8 (ix1 k)
  wuq k h d := x9 (ix3 k h d)
  wout c e := x10 (ix2 c e)
  fn e := x11 (ix1 e)

end Cert.Model

end
-- ==== Proof.Attn.Steps.lean ====
/- The attention kernel as a program over its heads. One head's pass over one block of keys is written ONCE, for any head and
   any block: the first masked pass (512 rows by 256 keys), the masked pass of the lower half of the rows, and the unmasked pass
   of a whole block of 512 keys. The printed kernel is the sequence of these passes. -/
module

public import proofs.«01_k».proof.Proof.Gen.KernelIdeal.Points

@[expose] public section

set_option maxRecDepth 65536

noncomputable section

namespace Cert.KernelIdeal.Attn

open Idealize.ShloMosaic Idealize.ShloMosaic.TcCoe
open Idealize.SL Idealize.SL.Sem
open Cert.KernelIdeal.Gen

variable {F : FTy → Type} [FloatOps F] [Named F]

/-- A program of the attention kernel giving an `α`. -/
abbrev TcProg (F : FTy → Type) (α : Type) := Prog (TpuEff nD τ sig (Elt F) Λ₀ .tc) α

/-- The offsets a pass uses lie in range. -/
theorem inb3 {a b c : ℕ} {A B C A' B' C' : ℕ} (ha : a + A ≤ A') (hb : b + B ≤ B') (hc : c + C ≤ C') :
    ∀ x, (![a, b, c] : Fin 3 → ℕ) x + (⟨3, ![A, B, C]⟩ : Shape).size x ≤ (⟨3, ![A', B', C']⟩ : Shape).size x := by
  intro x; fin_cases x <;> assumption

theorem inb4 {a b c d : ℕ} {A B C D A' B' C' D' : ℕ} (ha : a + A ≤ A') (hb : b + B ≤ B') (hc : c + C ≤ C') (hd : d + D ≤ D') :
    ∀ x, (![a, b, c, d] : Fin 4 → ℕ) x + (⟨4, ![A, B, C, D]⟩ : Shape).size x ≤ (⟨4, ![A', B', C', D']⟩ : Shape).size x := by
  intro x; fin_cases x <;> assumption

section Vectors

/-- The rows' scores against a block of 256 keys, those of later keys masked. -/
def scoreA (q : Vec F S1x1x512x192 .bf16) (k : Vec F S1x1x192x256 .bf16) : FVec F S512x256 .f32 :=
  select (cmpi .sle (iota .tc S512x256 32 [1] iota_S512x256_d1_w32)
      (addi (iota .tc S512x256 32 [0] iota_S512x256_d0_w32) (broadcast S512x256 (0#32))))
    (matmul dot_S512x192_S192x256_S512x256_1_0_0_1_n_n none (shapeCast S512x192 q shapeCasts_S1x1x512x192_S512x192)
      (shapeCast S192x256 k shapeCasts_S1x1x192x256_S192x256) (constant S512x256 .f32 0x00000000#32))
    (broadcast S512x256 (Named.named κ "mask" 0xF149F2CA#32 : F .f32))

/-- The maximum of each row of `scoreA`, along the lanes. -/
def maxA (s : FVec F S512x256 .f32) : FVec F S512x128 .f32 :=
  broadcastTo S512x128 (shapeCast S512x1 (shapeCast S512x1
    (multiReduction .maximumf [1] S512 s 0xFF800000#32 reduces_S512x256_S512 (.inl rfl) rfl)
    shapeCasts_S512_S512x1) shapeCasts_S512x1_S512x1) broadcasts_S512x1_S512x128

/-- The weighted sums of the values and, in the other lanes, of ones. -/
def sumA (s : FVec F S512x256 .f32) (m : FVec F S512x128 .f32) (v : Vec F S1x1x256x128 .bf16) : FVec F S512x256 .f32 :=
  matmul dot_S512x256_S256x256_S512x256_1_0_0_1_n_n none
    (truncf .bf16 (exp2 (subf s (concatenate S512x256 1 [⟨S512x128, m⟩, ⟨S512x128, m⟩] concatenates_S512x128_S512x128_S512x256_d1)))
      bitsLt_bf16_f32)
    (concatenate S256x256 1 [⟨S256x128, shapeCast S256x128 v shapeCasts_S1x1x256x128_S256x128⟩,
      ⟨S256x128, broadcast S256x128 (Scalar.ofBits .bf16 0x3F80#16 : F .bf16)⟩] concatenates_S256x128_S256x128_S256x256_d1)
    (constant S512x256 .f32 0x00000000#32)

/-- The lower half of the rows against their own 256 keys, later keys masked. -/
def scoreB (q : Vec F S1x1x256x192 .bf16) (k : Vec F S1x1x192x256 .bf16) : FVec F S256x256 .f32 :=
  select (cmpi .sle (iota .tc S256x256 32 [1] iota_S256x256_d1_w32)
      (addi (iota .tc S256x256 32 [0] iota_S256x256_d0_w32) (broadcast S256x256 (0#32))))
    (matmul dot_S256x192_S192x256_S256x256_1_0_0_1_n_n none (shapeCast S256x192 q shapeCasts_S1x1x256x192_S256x192)
      (shapeCast S192x256 k shapeCasts_S1x1x192x256_S192x256) (constant S256x256 .f32 0x00000000#32))
    (broadcast S256x256 (Named.named κ "mask" 0xF149F2CA#32 : F .f32))

/-- The running maximum of the lower half after its block. -/
def maxB (s : FVec F S256x256 .f32) (m : Vec F S1x256x128 .f32) : FVec F S256x128 .f32 :=
  maximumf (shapeCast S256x128 m shapeCasts_S1x256x128_S256x128)
    (broadcastTo S256x128 (shapeCast S256x1 (multiReduction .maximumf [1] S256 s 0xFF800000#32 reduces_S256x256_S256 (.inl rfl) rfl)
      shapeCasts_S256_S256x1) broadcasts_S256x1_S256x128)

/-- The running sums of the lower half after its block. -/
def sumB (s : FVec F S256x256 .f32) (m : Vec F S1x256x128 .f32) (m' : FVec F S256x128 .f32) (a : Vec F S1x256x256 .f32)
    (v : Vec F S1x1x256x128 .bf16) : FVec F S256x256 .f32 :=
  addf (mulf (concatenate S256x256 1
        [⟨S256x128, exp2 (subf (shapeCast S256x128 m shapeCasts_S1x256x128_S256x128) m')⟩,
         ⟨S256x128, exp2 (subf (shapeCast S256x128 m shapeCasts_S1x256x128_S256x128) m')⟩] concatenates_S256x128_S256x128_S256x256_d1)
      (shapeCast S256x256 a shapeCasts_S1x256x256_S256x256))
    (matmul dot_S256x256_S256x256_S256x256_1_0_0_1_n_n none
      (truncf .bf16 (exp2 (subf s (concatenate S256x256 1 [⟨S256x128, m'⟩, ⟨S256x128, m'⟩] concatenates_S256x128_S256x128_S256x256_d1)))
        bitsLt_bf16_f32)
      (concatenate S256x256 1 [⟨S256x128, shapeCast S256x128 v shapeCasts_S1x1x256x128_S256x128⟩,
        ⟨S256x128, broadcast S256x128 (Scalar.ofBits .bf16 0x3F80#16 : F .bf16)⟩] concatenates_S256x128_S256x128_S256x256_d1)
      (constant S256x256 .f32 0x00000000#32))

/-- The rows' scores against a whole block of 512 earlier keys. -/
def scoreC (q : Vec F S1x1x512x192 .bf16) (k : Vec F S1x1x192x512 .bf16) : FVec F S512x512 .f32 :=
  matmul dot_S512x192_S192x512_S512x512_1_0_0_1_n_n none (shapeCast S512x192 q shapeCasts_S1x1x512x192_S512x192)
    (shapeCast S192x512 k shapeCasts_S1x1x192x512_S192x512) (constant S512x512 .f32 0x00000000#32)

/-- The running maximum after a whole block. -/
def maxC (s : FVec F S512x512 .f32) (m : Vec F S1x512x128 .f32) : FVec F S512x128 .f32 :=
  maximumf (shapeCast S512x128 m shapeCasts_S1x512x128_S512x128)
    (broadcastTo S512x128 (shapeCast S512x1 (multiReduction .maximumf [1] S512 s 0xFF800000#32 reduces_S512x512_S512 (.inl rfl) rfl)
      shapeCasts_S512_S512x1) broadcasts_S512x1_S512x128)

/-- The running sums after a whole block. -/
def sumC (s : FVec F S512x512 .f32) (m : Vec F S1x512x128 .f32) (m' : FVec F S512x128 .f32) (a : Vec F S1x512x256 .f32)
    (v : Vec F S1x1x512x128 .bf16) : FVec F S512x256 .f32 :=
  addf (mulf (concatenate S512x256 1
        [⟨S512x128, exp2 (subf (shapeCast S512x128 m shapeCasts_S1x512x128_S512x128) m')⟩,
         ⟨S512x128, exp2 (subf (shapeCast S512x128 m shapeCasts_S1x512x128_S512x128) m')⟩] concatenates_S512x128_S512x128_S512x256_d1)
      (shapeCast S512x256 a shapeCasts_S1x512x256_S512x256))
    (matmul dot_S512x512_S512x256_S512x256_1_0_0_1_n_n none
      (truncf .bf16 (exp2 (subf s (concatenate S512x512 1 [⟨S512x128, m'⟩, ⟨S512x128, m'⟩, ⟨S512x128, m'⟩, ⟨S512x128, m'⟩]
        concatenates_S512x128_S512x128_S512x128_S512x128_S512x512_d1))) bitsLt_bf16_f32)
      (concatenate S512x256 1 [⟨S512x128, shapeCast S512x128 v shapeCasts_S1x1x512x128_S512x128⟩,
        ⟨S512x128, broadcast S512x128 (Scalar.ofBits .bf16 0x3F80#16 : F .bf16)⟩] concatenates_S512x128_S512x128_S512x256_d1)
      (constant S512x256 .f32 0x00000000#32))

end Vectors

section Programs

variable (arg2 : Memref sig .tc .vmem S1x8x512x192 .bf16) (arg3 : Memref sig .tc .vmem S1x8x192x2048 .bf16)
  (arg4 : Memref sig .tc .vmem S1x8x2048x128 .bf16) (arg10 : Memref sig .tc .vmem S8x512x128 .f32)
  (arg11 : Memref sig .tc .vmem S8x512x256 .f32)

/-- The rectangle of head `h` in the running maxima, rows from `r`. -/
abbrev rectM (h r n : ℕ) (hh : h + 1 ≤ 8) (hr : r + n ≤ 512) : Rect S8x512x128 :=
  Rect.unit (s := S8x512x128) ![h, r, 0] (⟨3, ![1, n, 128]⟩ : Shape).size (inb3 hh hr (le_refl 128))
/-- The rectangle of head `h` in the running sums, rows from `r`. -/
abbrev rectS (h r n : ℕ) (hh : h + 1 ≤ 8) (hr : r + n ≤ 512) : Rect S8x512x256 :=
  Rect.unit (s := S8x512x256) ![h, r, 0] (⟨3, ![1, n, 256]⟩ : Shape).size (inb3 hh hr (le_refl 256))
/-- Head `h`'s queries, rows from `r`. -/
abbrev rectQ (h r n : ℕ) (hh : h + 1 ≤ 8) (hr : r + n ≤ 512) : Rect S1x8x512x192 :=
  Rect.unit (s := S1x8x512x192) ![0, h, r, 0] (⟨4, ![1, 1, n, 192]⟩ : Shape).size (inb4 (le_refl 1) hh hr (le_refl 192))
/-- Head `h`'s keys from `k`. -/
abbrev rectK (h k n : ℕ) (hh : h + 1 ≤ 8) (hk : k + n ≤ 2048) : Rect S1x8x192x2048 :=
  Rect.unit (s := S1x8x192x2048) ![0, h, 0, k] (⟨4, ![1, 1, 192, n]⟩ : Shape).size (inb4 (le_refl 1) hh (le_refl 192) hk)
/-- Head `h`'s values from `k`. -/
abbrev rectV (h k n : ℕ) (hh : h + 1 ≤ 8) (hk : k + n ≤ 2048) : Rect S1x8x2048x128 :=
  Rect.unit (s := S1x8x2048x128) ![0, h, k, 0] (⟨4, ![1, 1, n, 128]⟩ : Shape).size (inb4 (le_refl 1) hh hk (le_refl 128))

/-- Keep a head's sums and maxima: each buffer's rectangle is loaded (unused) and stored. -/
def keepA (h : ℕ) (hh : h + 1 ≤ 8) (a : FVec F S512x256 .f32) (m : FVec F S512x128 .f32) : TcProg F PUnit := do
  let _ ← Prog.lift (.load arg11 (rectS h 0 512 hh (le_refl _)).toLoadRect (View.loadsAt_vmem h_S1x512x256))
  Prog.lift (.store arg11 (rectS h 0 512 hh (le_refl _)) (shapeCast S1x512x256 a shapeCasts_S512x256_S1x512x256)
    Finset.univ (View.stores_vmem_bits_univ h_S1x512x256 rfl) (.inl rfl))
  let _ ← Prog.lift (.load arg10 (rectM h 0 512 hh (le_refl _)).toLoadRect (View.loadsAt_vmem h_S1x512x128))
  Prog.lift (.store arg10 (rectM h 0 512 hh (le_refl _)) (shapeCast S1x512x128 m shapeCasts_S512x128_S1x512x128)
    Finset.univ (View.stores_vmem_bits_univ h_S1x512x128 rfl) (.inl rfl))

/-- The same for the lower half of the rows. -/
def keepB (h : ℕ) (hh : h + 1 ≤ 8) (a : FVec F S256x256 .f32) (m : FVec F S256x128 .f32) : TcProg F PUnit := do
  let _ ← Prog.lift (.load arg11 (rectS h 256 256 hh (le_refl _)).toLoadRect (View.loadsAt_vmem h_S1x256x256))
  Prog.lift (.store arg11 (rectS h 256 256 hh (le_refl _)) (shapeCast S1x256x256 a shapeCasts_S256x256_S1x256x256)
    Finset.univ (View.stores_vmem_bits_univ h_S1x256x256 rfl) (.inl rfl))
  let _ ← Prog.lift (.load arg10 (rectM h 256 256 hh (le_refl _)).toLoadRect (View.loadsAt_vmem h_S1x256x128))
  Prog.lift (.store arg10 (rectM h 256 256 hh (le_refl _)) (shapeCast S1x256x128 m shapeCasts_S256x128_S1x256x128)
    Finset.univ (View.stores_vmem_bits_univ h_S1x256x128 rfl) (.inl rfl))

/-- Head `h`'s first pass: its 512 rows against the 256 keys from `k`. -/
def stepA (k : ℕ) (hk : k + 256 ≤ 2048) (h : ℕ) (hh : h + 1 ≤ 8) : TcProg F PUnit := do
  let q ← Prog.lift (.load arg2 (rectQ h 0 512 hh (le_refl _)).toLoadRect (View.loadsAt_vmem h_S1x1x512x192))
  let kt ← Prog.lift (.load arg3 (rectK h k 256 hh hk).toLoadRect (View.loadsAt_vmem h_S1x1x192x256))
  let v ← Prog.lift (.load arg4 (rectV h k 256 hh hk).toLoadRect (View.loadsAt_vmem h_S1x1x256x128))
  keepA arg10 arg11 h hh (sumA (scoreA q kt) (maxA (scoreA q kt)) v) (maxA (scoreA q kt))

/-- Head `h`'s second pass: the lower 256 rows against the 256 keys from `k`. -/
def stepB (k : ℕ) (hk : k + 256 ≤ 2048) (h : ℕ) (hh : h + 1 ≤ 8) : TcProg F PUnit := do
  let q ← Prog.lift (.load arg2 (rectQ h 256 256 hh (le_refl _)).toLoadRect (View.loadsAt_vmem h_S1x1x256x192))
  let kt ← Prog.lift (.load arg3 (rectK h k 256 hh hk).toLoadRect (View.loadsAt_vmem h_S1x1x192x256))
  let v ← Prog.lift (.load arg4 (rectV h k 256 hh hk).toLoadRect (View.loadsAt_vmem h_S1x1x256x128))
  let m ← Prog.lift (.load arg10 (rectM h 256 256 hh (le_refl _)).toLoadRect (View.loadsAt_vmem h_S1x256x128))
  let a ← Prog.lift (.load arg11 (rectS h 256 256 hh (le_refl _)).toLoadRect (View.loadsAt_vmem h_S1x256x256))
  keepB arg10 arg11 h hh (sumB (scoreB q kt) m (maxB (scoreB q kt) m) a v) (maxB (scoreB q kt) m)

/-- Head `h`'s pass over a whole block: its 512 rows against the 512 keys from `k`. -/
def stepC (k : ℕ) (hk : k + 512 ≤ 2048) (h : ℕ) (hh : h + 1 ≤ 8) : TcProg F PUnit := do
  let q ← Prog.lift (.load arg2 (rectQ h 0 512 hh (le_refl _)).toLoadRect (View.loadsAt_vmem h_S1x1x512x192))
  let kt ← Prog.lift (.load arg3 (rectK h k 512 hh hk).toLoadRect (View.loadsAt_vmem h_S1x1x192x512))
  let v ← Prog.lift (.load arg4 (rectV h k 512 hh hk).toLoadRect (View.loadsAt_vmem h_S1x1x512x128))
  let m ← Prog.lift (.load arg10 (rectM h 0 512 hh (le_refl _)).toLoadRect (View.loadsAt_vmem h_S1x512x128))
  let a ← Prog.lift (.load arg11 (rectS h 0 512 hh (le_refl _)).toLoadRect (View.loadsAt_vmem h_S1x512x256))
  keepA arg10 arg11 h hh (sumC (scoreC q kt) m (maxC (scoreC q kt) m) a v) (maxC (scoreC q kt) m)

/-- One pass after the other, over the heads from `8 - n`. -/
def heads (f : (h : ℕ) → h + 1 ≤ 8 → TcProg F PUnit) : (n : ℕ) → n ≤ 8 → TcProg F PUnit
  | 0, _ => pure ⟨⟩
  | n + 1, hn => do
    f (8 - (n + 1)) (by omega)
    heads f n (by omega)

/-- The two masked passes over the diagonal block at `k`. -/
def diag (k : ℕ) (hk : k + 512 ≤ 2048) : TcProg F PUnit := do
  heads (stepA arg2 arg3 arg4 arg10 arg11 k (by omega)) 8 (le_refl _)
  heads (stepB arg2 arg3 arg4 arg10 arg11 (k + 256) (by omega)) 8 (le_refl _)

/-- The passes over the `n` whole blocks from block `j`. -/
def blocks : (j n : ℕ) → j + n ≤ 3 → TcProg F PUnit
  | _, 0, _ => pure ⟨⟩
  | j, n + 1, hn => do
    heads (stepC arg2 arg3 arg4 arg10 arg11 (j * 512) (by omega)) 8 (le_refl _)
    blocks (j + 1) n (by omega)

/-- What the kernel does in the row block `n`: the diagonal block, then the earlier ones. -/
def branch (n : ℕ) (hn : n ≤ 3) : TcProg F PUnit := do
  diag arg2 arg3 arg4 arg10 arg11 (n * 512) (by omega)
  blocks arg2 arg3 arg4 arg10 arg11 0 n (by omega)

/-- Head `h`'s result: its sums over its sum of weights. -/
def headOut (h : ℕ) (hh : h + 1 ≤ 8) : TcProg F (FVec F S512x128 .f32) := do
  let a ← Prog.lift (.load arg11 (Rect.unit (s := S8x512x256) ![h, 0, 0] S1x512x128.size
    (inb3 (A := 1) (B := 512) (C := 128) hh (le_refl 512) (by omega : 0 + 128 ≤ 256))).toLoadRect (View.loadsAt_vmem h_S1x512x128))
  let l ← Prog.lift (.load arg11 (Rect.unit (s := S8x512x256) ![h, 0, 128] S1x512x128.size
    (inb3 (A := 1) (B := 512) (C := 128) hh (le_refl 512) (by omega : 128 + 128 ≤ 256))).toLoadRect (View.loadsAt_vmem h_S1x512x128))
  pure (divf (shapeCast S512x128 a shapeCasts_S1x512x128_S512x128) (shapeCast S512x128 l shapeCasts_S1x512x128_S512x128))

end Programs

end Cert.KernelIdeal.Attn

end
-- ==== Proof.Attn.Program.lean ====
/- The printed attention kernel is its passes in sequence, then the heads' quotients and the projection of the row block. -/
module

public import Idealize.ShloMosaic.Lib.Tactic
public import proofs.«01_k».proof.Proof.Attn.Steps

@[expose] public section

set_option maxRecDepth 65536

noncomputable section

namespace Cert.KernelIdeal.Attn

open Idealize.ShloMosaic Idealize.ShloMosaic.TcCoe
open Idealize.SL Idealize.SL.Sem
open Cert.KernelIdeal.Gen
open Idealize.ShloMosaic.Tactic

variable {F : FTy → Type} [FloatOps F] [Named F]

/-- The eight heads' results side by side. -/
def sideBySide (o0 o1 o2 o3 o4 o5 o6 o7 : FVec F S512x128 .f32) : FVec F S512x1024 .f32 :=
  concatenate S512x1024 1 [⟨S512x128, o0⟩, ⟨S512x128, o1⟩, ⟨S512x128, o2⟩, ⟨S512x128, o3⟩, ⟨S512x128, o4⟩, ⟨S512x128, o5⟩,
    ⟨S512x128, o6⟩, ⟨S512x128, o7⟩]
    concatenates_S512x128_S512x128_S512x128_S512x128_S512x128_S512x128_S512x128_S512x128_S512x1024_d1

/-- The residual row: the input row plus the projection of the gated result. -/
def residual (o : FVec F S512x1024 .f32) (g : Vec F S1x512x1024 .bf16) (x : Vec F S1x512x1024 .f32) (w : Vec F S1024x1024 .bf16) :
    FVec F S512x1024 .f32 :=
  addf (shapeCast S512x1024 x shapeCasts_S1x512x1024_S512x1024)
    (matmul dot_S512x1024_S1024x1024_S512x1024_1_0_0_1_n_n none
      (truncf .bf16 (mulf o (extf .f32 (shapeCast S512x1024 g shapeCasts_S1x512x1024_S512x1024) bitsLt_bf16_f32)) bitsLt_bf16_f32)
      (shapeCast S1024x1024 w shapeCasts_S1024x1024_S1024x1024) (constant S512x1024 .f32 0x00000000#32))

/-- The row divided by its root mean square, times the weights. -/
def normed (y : FVec F S512x1024 .f32) (fn : Vec F S1x1024 .f32) : FVec F S512x1024 .f32 :=
  mulf (mulf y (broadcastTo S512x1024 (rsqrt (addf (divf
      (shapeCast S512x1 (multiReduction .add [1] S512 (mulf y y) 0x00000000#32 reduces_S512x1024_S512 (.inl rfl) rfl) shapeCasts_S512_S512x1)
      (broadcast S512x1 (Scalar.ofBits .f32 0x44800000#32 : F .f32))) (broadcast S512x1 (Scalar.ofBits .f32 0x358637BD#32 : F .f32))))
      broadcasts_S512x1_S512x1024))
    (broadcastTo S512x1024 (shapeCast S1x1024 fn shapeCasts_S1x1024_S1x1024) broadcasts_S1x1024_S512x1024)

/-- What one row block's result is, from the heads' results and the four arrays read last. -/
def outVec (o : FVec F S512x1024 .f32) (g : Vec F S1x512x1024 .bf16) (x : Vec F S1x512x1024 .f32) (w : Vec F S1024x1024 .bf16)
    (fn : Vec F S1x1024 .f32) : Vec F S1x512x1024 .f32 :=
  shapeCast S1x512x1024 (normed (residual o g x w) fn) shapeCasts_S512x1024_S1x512x1024

section Bodies

/-- The point is in row block 0. -/
abbrev cond1_0 (i : grid1.Coords) : Prop :=
  (Scalar.cmpi .ne (Scalar.extui (Scalar.cmpi .eq (BitVec.ofNat 32 (i 1).val) 0#32)) 0#32) = 1#1
/-- The point is in row block 1. -/
abbrev cond1_1 (i : grid1.Coords) : Prop :=
  (Scalar.cmpi .ne (Scalar.extui (Scalar.cmpi .eq (BitVec.ofNat 32 (i 1).val) 1#32)) 0#32) = 1#1
/-- The point is in row block 2. -/
abbrev cond1_2 (i : grid1.Coords) : Prop :=
  (Scalar.cmpi .ne (Scalar.extui (Scalar.cmpi .eq (BitVec.ofNat 32 (i 1).val) 2#32)) 0#32) = 1#1
/-- The point is in row block 3. -/
abbrev cond1_3 (i : grid1.Coords) : Prop :=
  (Scalar.cmpi .ne (Scalar.extui (Scalar.cmpi .eq (BitVec.ofNat 32 (i 1).val) 3#32)) 0#32) = 1#1

/-- Head results 3 to 7, side by side with the first three, and the gate. -/
def rest (arg5 : Memref sig .tc .vmem S1x512x1024 .bf16) (arg11 : Memref sig .tc .vmem S8x512x256 .f32)
    (o0 o1 o2 : FVec F S512x128 .f32) : TcProg F (Σ' (_ : FVec F S512x1024 .f32), FVec F S512x1024 .bf16) := do
  let o3 ← headOut arg11 3 (by omega)
  let o4 ← headOut arg11 4 (by omega)
  let o5 ← headOut arg11 5 (by omega)
  let o6 ← headOut arg11 6 (by omega)
  let o7 ← headOut arg11 7 (by omega)
  let g ← Prog.lift (.load arg5 (Rect.unit (s := S1x512x1024) ![0, 0, 0] S1x512x1024.size inb_S1x512x1024_S1x512x1024_0_0_0).toLoadRect
    (View.loadsAt_vmem h_S1x512x1024))
  pure ⟨sideBySide o0 o1 o2 o3 o4 o5 o6 o7, shapeCast S512x1024 g shapeCasts_S1x512x1024_S512x1024⟩

variable (i : grid1.Coords) (arg2 : Memref sig .tc .vmem S1x8x512x192 .bf16) (harg2 : arg2.IsWhole) (arg3 : Memref sig .tc .vmem S1x8x192x2048 .bf16) (harg3 : arg3.IsWhole)
  (arg4 : Memref sig .tc .vmem S1x8x2048x128 .bf16) (harg4 : arg4.IsWhole) (arg5 : Memref sig .tc .vmem S1x512x1024 .bf16) (harg5 : arg5.IsWhole)
  (arg6 : Memref sig .tc .vmem S1x512x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x512x1024 .f32) (harg9 : arg9.IsWhole)
  (arg10 : Memref sig .tc .vmem S8x512x128 .f32) (harg10 : arg10.IsWhole) (arg11 : Memref sig .tc .vmem S8x512x256 .f32) (harg11 : arg11.IsWhole)

theorem part112_eq (o0 o1 o2 : FVec F S512x128 .f32) :
    k1_part112 i arg2 harg2 arg3 harg3 arg4 harg4 arg5 harg5 arg6 harg6 arg7 harg7 arg8 harg8 arg9 harg9 arg10 harg10 arg11 harg11 o0 o1 o2 = rest arg5 arg11 o0 o1 o2 := by
  sl_kernel_rfl

theorem part111_eq :
    k1_part111 (F := F) i arg2 harg2 arg3 harg3 arg4 harg4 arg5 harg5 arg6 harg6 arg7 harg7 arg8 harg8 arg9 harg9 arg10 harg10 arg11 harg11 = (do
      if _h : cond1_0 i then branch arg2 arg3 arg4 arg10 arg11 0 (by omega) else pure ⟨⟩
      if _h : cond1_1 i then branch arg2 arg3 arg4 arg10 arg11 1 (by omega) else pure ⟨⟩
      if _h : cond1_2 i then branch arg2 arg3 arg4 arg10 arg11 2 (by omega) else pure ⟨⟩
      if _h : cond1_3 i then branch arg2 arg3 arg4 arg10 arg11 3 (by omega) else pure ⟨⟩
      let o0 ← headOut arg11 0 (by omega)
      let o1 ← headOut arg11 1 (by omega)
      let o2 ← headOut arg11 2 (by omega)
      pure ⟨o0, o1, o2⟩) := by
  sl_kernel_rfl

end Bodies

end Cert.KernelIdeal.Attn

end
-- ==== Proof.Attn.Hoare.lean ====
/- Loads and stores of owned buffers, in the form the passes use them: a load reads the owned contents at the rectangle's
   places, a store puts its payload there. -/
module

public import proofs.«01_k».proof.Proof.Attn.Program
public import Idealize.ShloMosaic.Lib.Writes
public import Idealize.ShloMosaic.Lib.Memref

@[expose] public section

set_option maxRecDepth 16384

noncomputable section

namespace Cert.KernelIdeal.Attn

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal.Gen

variable {F : FTy → Type} [FloatOps F] [Named F]

local notation "𝕄" => MT nD τ sig Unit (Elt F) ℕ (UR sig nD τ) ℕ

/-- Contents `X` with `w` put at the places of the rectangle `r`. -/
def put {Val : Type} {s : Shape} (r : Rect s) (w : r.shape.Idx → Val) (X : s.Idx → Val) : s.Idx → Val := by
  classical exact fun y => if h : ∃ i, r.emb i = y then w h.choose else X y

theorem put_emb {Val : Type} {s : Shape} (r : Rect s) (w : r.shape.Idx → Val) (X : s.Idx → Val) (i : r.shape.Idx) :
    put r w X (r.emb i) = w i := by
  have h : ∃ j, r.emb j = r.emb i := ⟨i, rfl⟩
  unfold put
  rw [dif_pos h]
  exact congrArg w (r.emb.injective h.choose_spec)

theorem put_miss {Val : Type} {s : Shape} (r : Rect s) (w : r.shape.Idx → Val) (X : s.Idx → Val) (y : s.Idx)
    (hy : ∀ i, r.emb i ≠ y) : put r w X y = X y := by
  unfold put
  rw [dif_neg]
  rintro ⟨i, hi⟩
  exact hy i hi

variable (c : Dev nD) (E : Set ℕ)

/-- The weakest precondition of a program of the kernel's core. -/
abbrev W {α : Type} (p : TcProg F α) (Q : α → sProp 𝕄) : sProp 𝕄 := wp frame (wpE (defs₀ (F := F)) Variants.none c none) E p Q

theorem load_at {s : Shape} {e : EltTy} (m : Memref sig .tc .vmem s e) (r : Rect s) (hl : m.view.LoadsAt r.toLoadRect)
    {α : Type} (k : (r.shape.Idx → Elt F e) → TcProg F α) (Q : α → sProp 𝕄) (f : m.view.ty.Contents (Elt F)) :
    (m.view.loc (c : Thread nD τ) ↦[m.view.set]{fullShare} f : sProp 𝕄)
      ⊢ iprop(((m.view.loc (c : Thread nD τ) ↦[m.view.set]{fullShare} f) -∗ W c E (k ((m.access r).read (Elt F) f)) Q)
        -∗ W c E (.op (.load m r.toLoadRect hl) k) Q) :=
  wp_load_rect (defs := defs₀ (F := F)) Variants.none (c : Thread nD τ) none (Γ := _) E (Q := Q) (m := m) (r := r) (hl := hl) (k := k) (f := f)
    (S := m.view.set) (View.set_slice_subset _ _)

theorem load_owns {s : Shape} {e : EltTy} (m : Memref sig .tc .vmem s e) (r : Rect s) (hl : m.view.LoadsAt r.toLoadRect)
    (X : s.Idx → Elt F e) {α : Type} (k : (r.shape.Idx → Elt F e) → TcProg F α) (Q : α → sProp 𝕄) :
    iprop(owns (c : Thread nD τ) m fullShare X ∗ (owns (c : Thread nD τ) m fullShare X -∗ W c E (k (fun i => X (r.emb i))) Q))
      ⊢ W c E (Prog.lift (.load m r.toLoadRect hl) >>= k) Q := by
  refine Entails.trans ?_ (show W c E (.op (.load m r.toLoadRect hl) k) Q ⊢ _ from Entails.rfl)
  unfold owns
  iintro ⟨⟨%f, %hf, H⟩, Hk⟩
  ihave Hw := load_at c E m r hl k Q f $$ H
  iapply Hw
  iintro H
  have e : (m.access r).read (Elt F) f = fun i => X (r.emb i) := by subst hf; rfl
  rw [e]
  iapply Hk
  iexists f
  isplitr; · ipureintro; exact hf
  iexact H

theorem store_owns {s : Shape} {e : EltTy} (m : Memref sig .tc .vmem s e) (r : Rect s) (w : r.shape.Idx → Elt F e)
    (hx : (m.access r).Stores Finset.univ) (hm : (Finset.univ : Finset r.shape.Idx) = Finset.univ ∨ ∀ a, r.stride a = 1)
    (X : s.Idx → Elt F e) {α : Type} (k : PUnit → TcProg F α) (Q : α → sProp 𝕄) :
    iprop(owns (c : Thread nD τ) m fullShare X ∗ (owns (c : Thread nD τ) m fullShare (put r w X) -∗ W c E (k ⟨⟩) Q))
      ⊢ W c E (Prog.lift (.store m r w Finset.univ hx hm) >>= k) Q := by
  have h : ∀ f : m.view.ty.Contents (Elt F), (m.view.loc (c : Thread nD τ) ↦[m.view.set]{fullShare} f : sProp 𝕄)
      ⊢ iprop(((m.view.loc (c : Thread nD τ) ↦[m.view.set]{fullShare} (m.view.slice r).write (Elt F) f w Finset.univ) -∗ W c E (k ⟨⟩) Q)
        -∗ W c E (.op (.store m r w Finset.univ hx hm) k) Q) := fun f =>
    wp_store (defs := defs₀ (F := F)) Variants.none (c : Thread nD τ) none (Γ := _) E (Q := Q) (m := m) (r := r) (w := w) (Mk := Finset.univ) (hx := hx)
      (hm := hm) (k := k) (f := f) (S := m.view.set) (by rw [View.setOn_univ]; exact View.set_slice_subset _ _)
  show _ ⊢ W c E (.op (.store m r w Finset.univ hx hm) k) Q
  unfold owns
  iintro ⟨⟨%f, %hf, H⟩, Hk⟩
  subst hf
  ihave Hw := h f $$ H
  iapply Hw
  iintro H
  iapply Hk
  iexists _
  isplitr [H]
  rotate_left
  · iexact H
  ipureintro
  funext y
  by_cases hy : ∃ i, r.emb i = y
  · obtain ⟨i, rfl⟩ := hy
    rw [put_emb]
    exact View.read_slice_write_emb r _ w (Finset.mem_univ i)
  · rw [put_miss _ _ _ _ (fun i hi => hy ⟨i, hi⟩)]
    refine View.read_slice_write_of_not_mem r _ _ _ ?_
    rintro hm
    obtain ⟨i, -, hi⟩ := Finset.mem_map.mp hm
    exact hy ⟨i, hi⟩

/-- A store that ends a program. -/
theorem store_owns_last {s : Shape} {e : EltTy} (m : Memref sig .tc .vmem s e) (r : Rect s) (w : r.shape.Idx → Elt F e)
    (hx : (m.access r).Stores Finset.univ) (hm : (Finset.univ : Finset r.shape.Idx) = Finset.univ ∨ ∀ a, r.stride a = 1)
    (X : s.Idx → Elt F e) (Q : PUnit → sProp 𝕄) :
    iprop(owns (c : Thread nD τ) m fullShare X ∗ (owns (c : Thread nD τ) m fullShare (put r w X) -∗ Q ⟨⟩))
      ⊢ W c E (Prog.lift (.store m r w Finset.univ hx hm)) Q := by
  refine Entails.trans ?_ (store_owns c E m r w hx hm X (fun _ => Prog.ret PUnit.unit) Q)
  refine sep_mono_right (wand_mono_right ?_)
  exact le_wp_ret frame (wpE (defs₀ (F := F)) Variants.none (c : Thread nD τ) none) E PUnit.unit Q

variable (arg2 : Memref sig .tc .vmem S1x8x512x192 .bf16) (arg3 : Memref sig .tc .vmem S1x8x192x2048 .bf16)
  (arg4 : Memref sig .tc .vmem S1x8x2048x128 .bf16) (arg10 : Memref sig .tc .vmem S8x512x128 .f32)
  (arg11 : Memref sig .tc .vmem S8x512x256 .f32)

/-- The three arrays a pass reads. -/
def ins (q : Vec F S1x8x512x192 .bf16) (k : Vec F S1x8x192x2048 .bf16) (v : Vec F S1x8x2048x128 .bf16) : sProp 𝕄 :=
  iprop(owns (c : Thread nD τ) arg2 fullShare q ∗ owns (c : Thread nD τ) arg3 fullShare k ∗ owns (c : Thread nD τ) arg4 fullShare v)

/-- The two running buffers, of which `P` holds. -/
def scr (P : Vec F S8x512x128 .f32 → Vec F S8x512x256 .f32 → Prop) : sProp 𝕄 :=
  iprop(∃ m a, ⌜P m a⌝ ∗ owns (c : Thread nD τ) arg10 fullShare m ∗ owns (c : Thread nD τ) arg11 fullShare a)

variable (q : Vec F S1x8x512x192 .bf16) (k : Vec F S1x8x192x2048 .bf16) (v : Vec F S1x8x2048x128 .bf16)
  (P P' : Vec F S8x512x128 .f32 → Vec F S8x512x256 .f32 → Prop)

/-- What the program `p` does to the running buffers: from any of which `P` holds to some of which `P'` holds. -/
def Runs (p : TcProg F PUnit) : Prop :=
  iprop(ins c arg2 arg3 arg4 q k v ∗ scr c arg10 arg11 P)
    ⊢ W c E p (fun _ => iprop(ins c arg2 arg3 arg4 q k v ∗ scr c arg10 arg11 P'))

theorem keepA_runs (h : ℕ) (hh : h + 1 ≤ 8) (a' : FVec F S512x256 .f32) (m' : FVec F S512x128 .f32)
    (m : Vec F S8x512x128 .f32) (a : Vec F S8x512x256 .f32) (Q : PUnit → sProp 𝕄) :
    iprop(owns (c : Thread nD τ) arg10 fullShare m ∗ owns (c : Thread nD τ) arg11 fullShare a
        ∗ (owns (c : Thread nD τ) arg10 fullShare (put (rectM h 0 512 hh (le_refl _)) (shapeCast S1x512x128 m' shapeCasts_S512x128_S1x512x128) m)
          -∗ owns (c : Thread nD τ) arg11 fullShare (put (rectS h 0 512 hh (le_refl _)) (shapeCast S1x512x256 a' shapeCasts_S512x256_S1x512x256) a)
          -∗ Q ⟨⟩))
      ⊢ W c E (keepA arg10 arg11 h hh a' m') Q := by
  unfold keepA
  iintro ⟨Hm, Ha, HQ⟩
  iapply load_owns c E arg11
  isplitl [Ha]; · iexact Ha
  iintro Ha
  iapply store_owns c E arg11
  isplitl [Ha]; · iexact Ha
  iintro Ha
  iapply load_owns c E arg10
  isplitl [Hm]; · iexact Hm
  iintro Hm
  iapply store_owns_last c E arg10
  isplitl [Hm]; · iexact Hm
  iintro Hm
  iapply HQ $$ Hm Ha

theorem keepB_runs (h : ℕ) (hh : h + 1 ≤ 8) (a' : FVec F S256x256 .f32) (m' : FVec F S256x128 .f32)
    (m : Vec F S8x512x128 .f32) (a : Vec F S8x512x256 .f32) (Q : PUnit → sProp 𝕄) :
    iprop(owns (c : Thread nD τ) arg10 fullShare m ∗ owns (c : Thread nD τ) arg11 fullShare a
        ∗ (owns (c : Thread nD τ) arg10 fullShare (put (rectM h 256 256 hh (le_refl _)) (shapeCast S1x256x128 m' shapeCasts_S256x128_S1x256x128) m)
          -∗ owns (c : Thread nD τ) arg11 fullShare (put (rectS h 256 256 hh (le_refl _)) (shapeCast S1x256x256 a' shapeCasts_S256x256_S1x256x256) a)
          -∗ Q ⟨⟩))
      ⊢ W c E (keepB arg10 arg11 h hh a' m') Q := by
  unfold keepB
  iintro ⟨Hm, Ha, HQ⟩
  iapply load_owns c E arg11
  isplitl [Ha]; · iexact Ha
  iintro Ha
  iapply store_owns c E arg11
  isplitl [Ha]; · iexact Ha
  iintro Ha
  iapply load_owns c E arg10
  isplitl [Hm]; · iexact Hm
  iintro Hm
  iapply store_owns_last c E arg10
  isplitl [Hm]; · iexact Hm
  iintro Hm
  iapply HQ $$ Hm Ha

/-- Head `h`'s queries, keys, values and running buffers as a pass reads them. -/
abbrev rdQ (h r n : ℕ) (hh : h + 1 ≤ 8) (hr : r + n ≤ 512) : Vec F (⟨4, ![1, 1, n, 192]⟩ : Shape) .bf16 := fun i => q ((rectQ h r n hh hr).emb i)
abbrev rdK (h s n : ℕ) (hh : h + 1 ≤ 8) (hs : s + n ≤ 2048) : Vec F (⟨4, ![1, 1, 192, n]⟩ : Shape) .bf16 := fun i => k ((rectK h s n hh hs).emb i)
abbrev rdV (h s n : ℕ) (hh : h + 1 ≤ 8) (hs : s + n ≤ 2048) : Vec F (⟨4, ![1, 1, n, 128]⟩ : Shape) .bf16 := fun i => v ((rectV h s n hh hs).emb i)
abbrev rdM (m : Vec F S8x512x128 .f32) (h r n : ℕ) (hh : h + 1 ≤ 8) (hr : r + n ≤ 512) : Vec F (⟨3, ![1, n, 128]⟩ : Shape) .f32 :=
  fun i => m ((rectM h r n hh hr).emb i)
abbrev rdS (a : Vec F S8x512x256 .f32) (h r n : ℕ) (hh : h + 1 ≤ 8) (hr : r + n ≤ 512) : Vec F (⟨3, ![1, n, 256]⟩ : Shape) .f32 :=
  fun i => a ((rectS h r n hh hr).emb i)

theorem stepA_runs (s : ℕ) (hs : s + 256 ≤ 2048) (h : ℕ) (hh : h + 1 ≤ 8)
    (hP : ∀ m a, P m a →
      let sc := scoreA (rdQ q h 0 512 hh (le_refl _)) (rdK k h s 256 hh hs)
      P' (put (rectM h 0 512 hh (le_refl _)) (shapeCast S1x512x128 (maxA sc) shapeCasts_S512x128_S1x512x128) m)
        (put (rectS h 0 512 hh (le_refl _)) (shapeCast S1x512x256 (sumA sc (maxA sc) (rdV v h s 256 hh hs)) shapeCasts_S512x256_S1x512x256) a)) :
    Runs c E arg2 arg3 arg4 arg10 arg11 q k v P P' (stepA arg2 arg3 arg4 arg10 arg11 s hs h hh) := by
  unfold Runs stepA ins scr
  iintro ⟨⟨Hq, Hk, Hv⟩, ⟨%m, %a, %hpm, Hm, Ha⟩⟩
  iapply load_owns c E arg2
  isplitl [Hq]; · iexact Hq
  iintro Hq
  iapply load_owns c E arg3
  isplitl [Hk]; · iexact Hk
  iintro Hk
  iapply load_owns c E arg4
  isplitl [Hv]; · iexact Hv
  iintro Hv
  iapply keepA_runs c E arg10 arg11 h hh
  isplitl [Hm]; · iexact Hm
  isplitl [Ha]; · iexact Ha
  iintro Hm Ha
  isplitl [Hq Hk Hv]
  · isplitl [Hq]; · iexact Hq
    isplitl [Hk]; · iexact Hk
    iexact Hv
  iexists _
  iexists _
  isplitr [Hm Ha]
  rotate_left
  · isplitl [Hm]; · iexact Hm
    iexact Ha
  ipureintro
  exact hP m a hpm

theorem stepB_runs (s : ℕ) (hs : s + 256 ≤ 2048) (h : ℕ) (hh : h + 1 ≤ 8)
    (hP : ∀ m a, P m a →
      let sc := scoreB (rdQ q h 256 256 hh (le_refl _)) (rdK k h s 256 hh hs)
      let m' := maxB sc (rdM m h 256 256 hh (le_refl _))
      P' (put (rectM h 256 256 hh (le_refl _)) (shapeCast S1x256x128 m' shapeCasts_S256x128_S1x256x128) m)
        (put (rectS h 256 256 hh (le_refl _)) (shapeCast S1x256x256 (sumB sc (rdM m h 256 256 hh (le_refl _)) m'
          (rdS a h 256 256 hh (le_refl _)) (rdV v h s 256 hh hs)) shapeCasts_S256x256_S1x256x256) a)) :
    Runs c E arg2 arg3 arg4 arg10 arg11 q k v P P' (stepB arg2 arg3 arg4 arg10 arg11 s hs h hh) := by
  unfold Runs stepB ins scr
  iintro ⟨⟨Hq, Hk, Hv⟩, ⟨%m, %a, %hpm, Hm, Ha⟩⟩
  iapply load_owns c E arg2
  isplitl [Hq]; · iexact Hq
  iintro Hq
  iapply load_owns c E arg3
  isplitl [Hk]; · iexact Hk
  iintro Hk
  iapply load_owns c E arg4
  isplitl [Hv]; · iexact Hv
  iintro Hv
  iapply load_owns c E arg10
  isplitl [Hm]; · iexact Hm
  iintro Hm
  iapply load_owns c E arg11
  isplitl [Ha]; · iexact Ha
  iintro Ha
  iapply keepB_runs c E arg10 arg11 h hh
  isplitl [Hm]; · iexact Hm
  isplitl [Ha]; · iexact Ha
  iintro Hm Ha
  isplitl [Hq Hk Hv]
  · isplitl [Hq]; · iexact Hq
    isplitl [Hk]; · iexact Hk
    iexact Hv
  iexists _
  iexists _
  isplitr [Hm Ha]
  rotate_left
  · isplitl [Hm]; · iexact Hm
    iexact Ha
  ipureintro
  exact hP m a hpm

theorem stepC_runs (s : ℕ) (hs : s + 512 ≤ 2048) (h : ℕ) (hh : h + 1 ≤ 8)
    (hP : ∀ m a, P m a →
      let sc := scoreC (rdQ q h 0 512 hh (le_refl _)) (rdK k h s 512 hh hs)
      let m' := maxC sc (rdM m h 0 512 hh (le_refl _))
      P' (put (rectM h 0 512 hh (le_refl _)) (shapeCast S1x512x128 m' shapeCasts_S512x128_S1x512x128) m)
        (put (rectS h 0 512 hh (le_refl _)) (shapeCast S1x512x256 (sumC sc (rdM m h 0 512 hh (le_refl _)) m'
          (rdS a h 0 512 hh (le_refl _)) (rdV v h s 512 hh hs)) shapeCasts_S512x256_S1x512x256) a)) :
    Runs c E arg2 arg3 arg4 arg10 arg11 q k v P P' (stepC arg2 arg3 arg4 arg10 arg11 s hs h hh) := by
  unfold Runs stepC ins scr
  iintro ⟨⟨Hq, Hk, Hv⟩, ⟨%m, %a, %hpm, Hm, Ha⟩⟩
  iapply load_owns c E arg2
  isplitl [Hq]; · iexact Hq
  iintro Hq
  iapply load_owns c E arg3
  isplitl [Hk]; · iexact Hk
  iintro Hk
  iapply load_owns c E arg4
  isplitl [Hv]; · iexact Hv
  iintro Hv
  iapply load_owns c E arg10
  isplitl [Hm]; · iexact Hm
  iintro Hm
  iapply load_owns c E arg11
  isplitl [Ha]; · iexact Ha
  iintro Ha
  iapply keepA_runs c E arg10 arg11 h hh
  isplitl [Hm]; · iexact Hm
  isplitl [Ha]; · iexact Ha
  iintro Hm Ha
  isplitl [Hq Hk Hv]
  · isplitl [Hq]; · iexact Hq
    isplitl [Hk]; · iexact Hk
    iexact Hv
  iexists _
  iexists _
  isplitr [Hm Ha]
  rotate_left
  · isplitl [Hm]; · iexact Hm
    iexact Ha
  ipureintro
  exact hP m a hpm

theorem Runs.ret (hP : ∀ m a, P m a → P' m a) : Runs c E arg2 arg3 arg4 arg10 arg11 q k v P P' (pure ⟨⟩) := by
  unfold Runs
  refine Entails.trans ?_ (le_wp_ret _ _ _ _ _)
  unfold scr
  iintro ⟨Hi, ⟨%m, %a, %hpm, H⟩⟩
  isplitl [Hi]; · iexact Hi
  iexists m
  iexists a
  isplitr [H]
  · ipureintro; exact hP m a hpm
  iexact H

variable {P P'}

theorem Runs.seq {P'' : Vec F S8x512x128 .f32 → Vec F S8x512x256 .f32 → Prop} {p p' : TcProg F PUnit}
    (h : Runs c E arg2 arg3 arg4 arg10 arg11 q k v P P'' p) (h' : Runs c E arg2 arg3 arg4 arg10 arg11 q k v P'' P' p') :
    Runs c E arg2 arg3 arg4 arg10 arg11 q k v P P' (p >>= fun _ => p') := by
  unfold Runs at *
  show _ ⊢ wp _ _ _ _ _
  rw [wp_bind]
  exact h.trans (wp_mono _ _ _ fun _ => h')

theorem scr_mono {P P' : Vec F S8x512x128 .f32 → Vec F S8x512x256 .f32 → Prop} (hP : ∀ m a, P m a → P' m a) :
    (scr c arg10 arg11 P : sProp 𝕄) ⊢ scr c arg10 arg11 P' := by
  unfold scr
  iintro ⟨%m, %a, %hpm, H⟩
  iexists m
  iexists a
  isplitr [H]
  · ipureintro; exact hP m a hpm
  iexact H

theorem Runs.conseq {P₀ P₀' : Vec F S8x512x128 .f32 → Vec F S8x512x256 .f32 → Prop} {p : TcProg F PUnit}
    (h : Runs c E arg2 arg3 arg4 arg10 arg11 q k v P P' p) (hP : ∀ m a, P₀ m a → P m a) (hP' : ∀ m a, P' m a → P₀' m a) :
    Runs c E arg2 arg3 arg4 arg10 arg11 q k v P₀ P₀' p := by
  unfold Runs at *
  exact (sep_mono_right (scr_mono c arg10 arg11 hP)).trans
    (h.trans (wp_mono _ _ _ fun _ => sep_mono_right (scr_mono c arg10 arg11 hP')))

/-- A pass over all heads, when head `h`'s takes `P h` to `P (h + 1)`. -/
theorem heads_runs (f : (h : ℕ) → h + 1 ≤ 8 → TcProg F PUnit) (P : ℕ → Vec F S8x512x128 .f32 → Vec F S8x512x256 .f32 → Prop)
    (hf : ∀ h (hh : h + 1 ≤ 8), Runs c E arg2 arg3 arg4 arg10 arg11 q k v (P h) (P (h + 1)) (f h hh)) (n : ℕ) (hn : n ≤ 8) :
    Runs c E arg2 arg3 arg4 arg10 arg11 q k v (P (8 - n)) (P 8) (heads f n hn) := by
  induction n with
  | zero => exact Runs.ret c E arg2 arg3 arg4 arg10 arg11 q k v _ _ fun _ _ h => h
  | succ n ih =>
    have e : 8 - (n + 1) + 1 = 8 - n := by omega
    have h1 : Runs c E arg2 arg3 arg4 arg10 arg11 q k v (P (8 - (n + 1))) (P (8 - n)) (f (8 - (n + 1)) (by omega)) :=
      (congrArg P e) ▸ hf (8 - (n + 1)) (by omega)
    exact Runs.seq c E arg2 arg3 arg4 arg10 arg11 q k v h1 (ih (by omega))

end Cert.KernelIdeal.Attn

end
-- ==== Proof.Attn.Pure.lean ====
/- What the passes compute, read at an index: scores, running maxima, running sums. -/
module

public import proofs.«01_k».proof.Proof.Attn.Program
public import Idealize.ShloMosaic.Lib.Pointwise
public import Idealize.ShloMosaic.Lib.WordCmp

@[expose] public section

set_option maxRecDepth 16384

noncomputable section

namespace Cert.KernelIdeal.Attn

open Idealize.ShloMosaic Idealize.ShloMosaic.TcCoe
open Idealize.SL.Sem
open Cert.KernelIdeal.Gen

/-- The mask is minus infinity. -/
theorem mask_eq : (Named.named (F := Ideal) κ "mask" (φ := .f32) 0xF149F2CA#32 : EReal) = ⊥ :=
  IdealRules.named_const.ideal_named_scalar _ _ _ _ rfl

theorem sup_fold {n : ℕ} (f : Fin n → EReal) : Finset.univ.fold max ⊥ f = Finset.univ.sup f := rfl

theorem scoreA_apply (q : Vec Ideal S1x1x512x192 .bf16) (k : Vec Ideal S1x1x192x256 .bf16) (r : Fin 512) (c : Fin 256) :
    scoreA q k (ix2 r c) = if c.val ≤ r.val then ∑ d : Fin 192, (q (ix4 0 0 r d) * k (ix4 0 0 d c) : EReal) else ⊥ := by
  pointwise [scoreA, mask_eq]
  have h : IntOp.cmpi .sle (BitVec.ofNat 32 c.val) (IntOp.addi (BitVec.ofNat 32 r.val) 0#32) = BitVec.ofBool (decide (c.val ≤ r.val)) := by
    simp only [IntOp.addi, BitVec.add_zero]
    exact WordCmp.cmpi_sle_ofNat (by omega) (by omega)
  rw [h]
  by_cases hc : c.val ≤ r.val
  · rw [if_pos hc, decide_eq_true hc]; rfl
  · rw [if_neg hc, decide_eq_false hc]; rfl

theorem scoreB_apply (q : Vec Ideal S1x1x256x192 .bf16) (k : Vec Ideal S1x1x192x256 .bf16) (r : Fin 256) (c : Fin 256) :
    scoreB q k (ix2 r c) = if c.val ≤ r.val then ∑ d : Fin 192, (q (ix4 0 0 r d) * k (ix4 0 0 d c) : EReal) else ⊥ := by
  pointwise [scoreB, mask_eq]
  have h : IntOp.cmpi .sle (BitVec.ofNat 32 c.val) (IntOp.addi (BitVec.ofNat 32 r.val) 0#32) = BitVec.ofBool (decide (c.val ≤ r.val)) := by
    simp only [IntOp.addi, BitVec.add_zero]
    exact WordCmp.cmpi_sle_ofNat (by omega) (by omega)
  rw [h]
  by_cases hc : c.val ≤ r.val
  · rw [if_pos hc, decide_eq_true hc]; rfl
  · rw [if_neg hc, decide_eq_false hc]; rfl

theorem scoreC_apply (q : Vec Ideal S1x1x512x192 .bf16) (k : Vec Ideal S1x1x192x512 .bf16) (r : Fin 512) (c : Fin 512) :
    scoreC q k (ix2 r c) = ∑ d : Fin 192, (q (ix4 0 0 r d) * k (ix4 0 0 d c) : EReal) := by
  pointwise [scoreC]

theorem ofBits_negInf : Ideal.ofBits .f32 0xFF800000#32 = ⊥ := by
  simp [Ideal.ofBits, Ideal.ieee]

theorem maxA_apply (s : FVec Ideal S512x256 .f32) (r : Fin 512) (l : Fin 128) :
    maxA s (ix2 r l) = Finset.univ.sup fun c : Fin 256 => (s (ix2 r c) : EReal) := by
  pointwise [maxA, ofBits_negInf]
  rfl

theorem maxB_apply (s : FVec Ideal S256x256 .f32) (m : Vec Ideal S1x256x128 .f32) (r : Fin 256) (l : Fin 128) :
    maxB s m (ix2 r l) = max (m (ix3 0 r l) : EReal) (Finset.univ.sup fun c : Fin 256 => (s (ix2 r c) : EReal)) := by
  pointwise [maxB, ofBits_negInf]
  rfl

theorem maxC_apply (s : FVec Ideal S512x512 .f32) (m : Vec Ideal S1x512x128 .f32) (r : Fin 512) (l : Fin 128) :
    maxC s m (ix2 r l) = max (m (ix3 0 r l) : EReal) (Finset.univ.sup fun c : Fin 512 => (s (ix2 r c) : EReal)) := by
  pointwise [maxC, ofBits_negInf]
  rfl

theorem sumA_apply (s : FVec Ideal S512x256 .f32) (m : FVec Ideal S512x128 .f32) (M : EReal) (v : Vec Ideal S1x1x256x128 .bf16) (r : Fin 512) (j : Fin 256)
    (hm : ∀ l, m (ix2 r l) = M) :
    sumA s m v (ix2 r j) = ∑ c : Fin 256, Ideal.exp2 ((s (ix2 r c) : EReal) - M)
      * (if h : j.val < 128 then (v (ix4 0 0 c ⟨j.val, h⟩) : EReal) else 1) := by
  rw [Fin.sum_univ_two_halves 128 128 rfl]
  pointwise [sumA]
  simp only [hm]
  rfl

theorem sumB_apply (s : FVec Ideal S256x256 .f32) (m : Vec Ideal S1x256x128 .f32) (m' : FVec Ideal S256x128 .f32) (M M' : EReal)
    (a : Vec Ideal S1x256x256 .f32) (v : Vec Ideal S1x1x256x128 .bf16) (r : Fin 256) (j : Fin 256)
    (hm : ∀ l, m (ix3 0 r l) = M) (hm' : ∀ l, m' (ix2 r l) = M') :
    sumB s m m' a v (ix2 r j) = Ideal.exp2 (M - M') * a (ix3 0 r j) + ∑ c : Fin 256, Ideal.exp2 ((s (ix2 r c) : EReal) - M')
      * (if h : j.val < 128 then (v (ix4 0 0 c ⟨j.val, h⟩) : EReal) else 1) := by
  rw [Fin.sum_univ_two_halves 128 128 rfl]
  pointwise [sumB]
  simp only [hm, hm', dite_eq_ite, ite_self]
  rfl

theorem sumC_apply (s : FVec Ideal S512x512 .f32) (m : Vec Ideal S1x512x128 .f32) (m' : FVec Ideal S512x128 .f32) (M M' : EReal)
    (a : Vec Ideal S1x512x256 .f32) (v : Vec Ideal S1x1x512x128 .bf16) (r : Fin 512) (j : Fin 256)
    (hm : ∀ l, m (ix3 0 r l) = M) (hm' : ∀ l, m' (ix2 r l) = M') :
    sumC s m m' a v (ix2 r j) = Ideal.exp2 (M - M') * a (ix3 0 r j) + ∑ c : Fin 512, Ideal.exp2 ((s (ix2 r c) : EReal) - M')
      * (if h : j.val < 128 then (v (ix4 0 0 c ⟨j.val, h⟩) : EReal) else 1) := by
  pointwise [sumC]
  simp only [hm, hm', dite_eq_ite, ite_self]
  rfl

end Cert.KernelIdeal.Attn

end
-- ==== Proof.Attn.Online.lean ====
/- The running softmax: a row's maximum and weighted sums over a set of keys, and how a further block of keys updates them.
   Scores are `⊥` (masked) or real; the weights are the powers of two of the scores less the maximum. -/
module

public import proofs.«01_k».proof.KernelIdeal
public import Idealize.ShloMosaic.Lib.Pointwise

@[expose] public section

noncomputable section

namespace Cert.KernelIdeal.Attn

open Idealize.ShloMosaic

/-- A real factor `≥ 0` goes into a sum of extended reals. -/
theorem mul_sum_nonneg {ι : Type} (c : EReal) (h0 : 0 ≤ c) (ht : c ≠ ⊤) (S : Finset ι) (f : ι → EReal) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h0 ht, ih]

theorem exp2_coe (r : ℝ) : Ideal.exp2 (r : EReal) = ((2 : ℝ) ^ r : ℝ) := rfl

theorem exp2_nonneg (x : EReal) : 0 ≤ Ideal.exp2 x := by
  induction x with
  | bot => exact le_refl _
  | top => exact le_top
  | coe r => rw [exp2_coe]; exact_mod_cast Real.rpow_nonneg (by norm_num) r

theorem exp2_ne_top {x : EReal} (h : x ≠ ⊤) : Ideal.exp2 x ≠ ⊤ := by
  induction x with
  | bot => exact EReal.zero_ne_top
  | top => exact absurd rfl h
  | coe r => rw [exp2_coe]; exact EReal.coe_ne_top _

/-- Rescaling a weight to a new maximum. -/
theorem exp2_rescale (μ μ' : ℝ) (x : EReal) (hx : x ≠ ⊤) :
    Ideal.exp2 ((μ : EReal) - μ') * Ideal.exp2 (x - μ) = Ideal.exp2 (x - μ') := by
  induction x with
  | bot =>
    rw [EReal.bot_sub, EReal.bot_sub]
    exact mul_zero _
  | top => exact absurd rfl hx
  | coe r =>
    rw [← EReal.coe_sub, ← EReal.coe_sub, ← EReal.coe_sub, exp2_coe, exp2_coe, exp2_coe, ← EReal.coe_mul,
      ← Real.rpow_add (by norm_num)]
    congr 2
    ring

theorem sup_ne_top {ι : Type} (S : Finset ι) (s : ι → EReal) (h : ∀ k, s k ≠ ⊤) : S.sup s ≠ ⊤ := by
  classical
  induction S using Finset.induction_on with
  | empty => simp
  | insert a S ha ih =>
    rw [Finset.sup_insert]
    intro e
    rcases max_choice (s a) (S.sup s) with h' | h'
    · exact h a (h' ▸ e)
    · exact ih (h' ▸ e)

theorem real_of_ne {x : EReal} (h : x ≠ ⊤) (h' : x ≠ ⊥) : ∃ r : ℝ, x = r := ⟨x.toReal, (EReal.coe_toReal h h').symm⟩

section Row

variable {ι : Type} [DecidableEq ι] {J : Type} (s : ι → EReal) (w : ι → J → EReal)

/-- A row's maximum `M` and weighted sums `A` are those over the keys `S`, one of which is not masked. -/
structure RowOk (S : Finset ι) (M : EReal) (A : J → EReal) : Prop where
  pos : S.sup s ≠ ⊥
  max : M = S.sup s
  sum : ∀ j, A j = ∑ k ∈ S, Ideal.exp2 (s k - S.sup s) * w k j

variable {s w}

/-- The first block of keys. -/
theorem RowOk.first {n : ℕ} (T : Fin n ↪ ι) {M : EReal} {A : J → EReal} (x : Fin n) (hx : s (T x) ≠ ⊥)
    (hM : M = Finset.univ.sup fun c => s (T c))
    (hA : ∀ j, A j = ∑ c, Ideal.exp2 (s (T c) - M) * w (T c) j) : RowOk s w (Finset.univ.map T) M A := by
  have e : (Finset.univ.map T).sup s = Finset.univ.sup fun c => s (T c) := Finset.sup_map _ _ _
  refine ⟨?_, hM.trans e.symm, fun j => ?_⟩
  · rw [e]
    intro h
    exact hx (le_bot_iff.mp (h ▸ Finset.le_sup (f := fun c => s (T c)) (Finset.mem_univ x)))
  · rw [hA j, Finset.sum_map, e, hM]

/-- A further block of keys. -/
theorem RowOk.next {n : ℕ} (T : Fin n ↪ ι) {S : Finset ι} {M M' : EReal} {A A' : J → EReal} (hs : ∀ k, s k ≠ ⊤)
    (h : RowOk s w S M A) (hd : Disjoint S (Finset.univ.map T))
    (hM : M' = Max.max M (Finset.univ.sup fun c => s (T c)))
    (hA : ∀ j, A' j = Ideal.exp2 (M - M') * A j + ∑ c, Ideal.exp2 (s (T c) - M') * w (T c) j) :
    RowOk s w (S ∪ Finset.univ.map T) M' A' := by
  have e : (Finset.univ.map T).sup s = Finset.univ.sup fun c => s (T c) := Finset.sup_map _ _ _
  have e' : (S ∪ Finset.univ.map T).sup s = M' := by rw [Finset.sup_union, e, hM, h.max]
  have hb : M' ≠ ⊥ := by
    intro hb
    rw [hM] at hb
    exact h.pos (h.max ▸ (max_eq_bot.mp hb).1)
  refine ⟨e' ▸ hb, e'.symm, fun j => ?_⟩
  obtain ⟨μ, hμ⟩ := real_of_ne (h.max ▸ sup_ne_top S s hs) (h.max ▸ h.pos)
  obtain ⟨μ', hμ'⟩ := real_of_ne (e' ▸ sup_ne_top _ s hs) hb
  rw [hA j, h.sum j, e', Finset.sum_union hd, Finset.sum_map, ← h.max, hμ, hμ',
    mul_sum_nonneg _ (exp2_nonneg _) (exp2_ne_top (by rw [← EReal.coe_sub]; exact EReal.coe_ne_top _))]
  refine congrArg (· + _) (Finset.sum_congr rfl fun k _ => ?_)
  rw [← mul_assoc, exp2_rescale _ _ _ (hs k)]

/-- Keys left out are masked, so the row is the whole row. -/
theorem RowOk.all [Fintype ι] {S : Finset ι} {M : EReal} {A : J → EReal} (hs : ∀ k, s k ≠ ⊤) (h : RowOk s w S M A)
    (hS : ∀ k, k ∉ S → s k = ⊥) : RowOk s w Finset.univ M A := by
  have e : Finset.univ.sup s = S.sup s := by
    refine le_antisymm (Finset.sup_le fun k _ => ?_) (Finset.sup_mono (Finset.subset_univ S))
    by_cases hk : k ∈ S
    · exact Finset.le_sup hk
    · rw [hS k hk]; exact bot_le
  refine ⟨e ▸ h.pos, e ▸ h.max, fun j => ?_⟩
  rw [h.sum j, e]
  refine Finset.sum_subset (Finset.subset_univ S) fun k _ hk => ?_
  rw [hS k hk, EReal.bot_sub]
  exact zero_mul _

end Row

end Cert.KernelIdeal.Attn

end
-- ==== Proof.Attn.Passes.lean ====
/- The attention kernel's passes over the keys, at the ideal values: after the passes of row block `n` each row of each head
   holds its maximum and its weighted sums over all the keys it sees. -/
module

public import proofs.«01_k».proof.Proof.Attn.Hoare
public import proofs.«01_k».proof.Proof.Attn.Pure
public import proofs.«01_k».proof.Proof.Attn.Online

@[expose] public section

set_option maxRecDepth 16384

noncomputable section

namespace Cert.KernelIdeal.Attn

open Idealize.ShloMosaic Idealize.ShloMosaic.TcCoe
open Idealize.SL Idealize.SL.Sem
open Cert.KernelIdeal.Gen

/-- A contiguous block of keys. -/
def keys (s n : ℕ) (hs : s + n ≤ 2048) : Fin n ↪ Fin 2048 :=
  ⟨fun c => ⟨s + c.val, by omega⟩, fun a b h => Fin.ext (by have := congrArg Fin.val h; simp only at this; omega)⟩

theorem mem_keys (s n : ℕ) (hs : s + n ≤ 2048) (x : Fin 2048) :
    x ∈ Finset.univ.map (keys s n hs) ↔ s ≤ x.val ∧ x.val < s + n := by
  simp only [Finset.mem_map, Finset.mem_univ, true_and]
  constructor
  · rintro ⟨c, rfl⟩
    exact ⟨Nat.le_add_right s c.val, Nat.add_lt_add_left c.isLt s⟩
  · rintro ⟨h, h'⟩
    exact ⟨⟨x.val - s, by omega⟩, Fin.ext (show s + (x.val - s) = x.val by omega)⟩

section Score

variable (q : Vec Ideal S1x8x512x192 .bf16) (k : Vec Ideal S1x8x192x2048 .bf16) (v : Vec Ideal S1x8x2048x128 .bf16)

/-- A query's product with a key. -/
def dotQK (h : Fin 8) (r : Fin 512) (x : Fin 2048) : EReal := ∑ d : Fin 192, (q (ix4 0 h r d) * k (ix4 0 h d x) : EReal)

/-- The score of row `r` of row block `n` against key `x`: masked where the key comes later. -/
def sc (n : ℕ) (h : Fin 8) (r : Fin 512) (x : Fin 2048) : EReal := if x.val ≤ n * 512 + r.val then dotQK q k h r x else ⊥

/-- What a key's weight multiplies: its value in the first 128 lanes, one in the others. -/
def wt (h : Fin 8) (x : Fin 2048) (j : Fin 256) : EReal := if hj : j.val < 128 then v (ix4 0 h x ⟨j.val, hj⟩) else 1

/-- Row `r` of head `h` in the running buffers, over the keys `S`. -/
abbrev Row (n : ℕ) (h : Fin 8) (r : Fin 512) (S : Finset (Fin 2048)) (m : Vec Ideal S8x512x128 .f32) (a : Vec Ideal S8x512x256 .f32) : Prop :=
  ∀ l, RowOk (sc q k n h r) (wt v h) S (m (ix3 h r l)) (fun j : Fin 256 => a (ix3 h r j))

/-- Every row holds what it should over its keys `D`; of a row with no keys yet nothing is said. -/
def Inv (n : ℕ) (D : Fin 8 → Fin 512 → Finset (Fin 2048)) (m : Vec Ideal S8x512x128 .f32) (a : Vec Ideal S8x512x256 .f32) : Prop :=
  ∀ h r, (D h r).Nonempty → Row q k v n h r (D h r) m a

theorem rectM_emb (h r0 n : ℕ) (hh : h + 1 ≤ 8) (hr : r0 + n ≤ 512) (r : Fin n) (l : Fin 128) :
    (rectM h r0 n hh hr).emb (ix3 0 r l) = (ix3 (⟨h, hh⟩ : Fin 8) (⟨r0 + r.val, by omega⟩ : Fin 512) l : S8x512x128.Idx) :=
  Rect.emb_eq_of_coords _ _ _ fun a => by
    fin_cases a
    · show h = h + 1 * 0; omega
    · show r0 + r.val = r0 + 1 * r.val; omega
    · show l.val = 0 + 1 * l.val; omega

theorem rectS_emb (h r0 n : ℕ) (hh : h + 1 ≤ 8) (hr : r0 + n ≤ 512) (r : Fin n) (l : Fin 256) :
    (rectS h r0 n hh hr).emb (ix3 0 r l) = (ix3 (⟨h, hh⟩ : Fin 8) (⟨r0 + r.val, by omega⟩ : Fin 512) l : S8x512x256.Idx) :=
  Rect.emb_eq_of_coords _ _ _ fun a => by
    fin_cases a
    · show h = h + 1 * 0; omega
    · show r0 + r.val = r0 + 1 * r.val; omega
    · show l.val = 0 + 1 * l.val; omega

theorem rectQ_emb (h r0 n : ℕ) (hh : h + 1 ≤ 8) (hr : r0 + n ≤ 512) (r : Fin n) (l : Fin 192) :
    (rectQ h r0 n hh hr).emb (ix4 0 0 r l) = (ix4 0 (⟨h, hh⟩ : Fin 8) (⟨r0 + r.val, by omega⟩ : Fin 512) l : S1x8x512x192.Idx) :=
  Rect.emb_eq_of_coords _ _ _ fun a => by
    fin_cases a
    · rfl
    · show h = h + 1 * 0; omega
    · show r0 + r.val = r0 + 1 * r.val; omega
    · show l.val = 0 + 1 * l.val; omega

theorem rectK_emb (h s n : ℕ) (hh : h + 1 ≤ 8) (hs : s + n ≤ 2048) (d : Fin 192) (c : Fin n) :
    (rectK h s n hh hs).emb (ix4 0 0 d c) = (ix4 0 (⟨h, hh⟩ : Fin 8) d (keys s n hs c) : S1x8x192x2048.Idx) :=
  Rect.emb_eq_of_coords _ _ _ fun a => by
    fin_cases a
    · rfl
    · show h = h + 1 * 0; omega
    · show d.val = 0 + 1 * d.val; omega
    · show s + c.val = s + 1 * c.val; omega

theorem rectV_emb (h s n : ℕ) (hh : h + 1 ≤ 8) (hs : s + n ≤ 2048) (c : Fin n) (d : Fin 128) :
    (rectV h s n hh hs).emb (ix4 0 0 c d) = (ix4 0 (⟨h, hh⟩ : Fin 8) (keys s n hs c) d : S1x8x2048x128.Idx) :=
  Rect.emb_eq_of_coords _ _ _ fun a => by
    fin_cases a
    · rfl
    · show h = h + 1 * 0; omega
    · show s + c.val = s + 1 * c.val; omega
    · show d.val = 0 + 1 * d.val; omega

theorem rectM_miss (h r0 n : ℕ) (hh : h + 1 ≤ 8) (hr : r0 + n ≤ 512) (h' : Fin 8) (r : Fin 512) (l : Fin 128)
    (hne : h'.val ≠ h ∨ r.val < r0) (i : (rectM h r0 n hh hr).shape.Idx) :
    (rectM h r0 n hh hr).emb i ≠ (ix3 h' r l : S8x512x128.Idx) := by
  intro e
  have e0 : h + 1 * (i 0).val = h'.val := congrArg Fin.val (congrFun e 0)
  have e1 : r0 + 1 * (i 1).val = r.val := congrArg Fin.val (congrFun e 1)
  have : (i 0).val < 1 := (i 0).isLt
  omega

theorem rectS_miss (h r0 n : ℕ) (hh : h + 1 ≤ 8) (hr : r0 + n ≤ 512) (h' : Fin 8) (r : Fin 512) (l : Fin 256)
    (hne : h'.val ≠ h ∨ r.val < r0) (i : (rectS h r0 n hh hr).shape.Idx) :
    (rectS h r0 n hh hr).emb i ≠ (ix3 h' r l : S8x512x256.Idx) := by
  intro e
  have e0 : h + 1 * (i 0).val = h'.val := congrArg Fin.val (congrFun e 0)
  have e1 : r0 + 1 * (i 1).val = r.val := congrArg Fin.val (congrFun e 1)
  have : (i 0).val < 1 := (i 0).isLt
  omega

variable {q k v}

/-- A pass of head `h` on the rows from `r0`, given what it leaves in each of those rows; the other rows keep theirs. -/
theorem Inv.step {n N : ℕ} {D D' : Fin 8 → Fin 512 → Finset (Fin 2048)} {m : Vec Ideal S8x512x128 .f32} {a : Vec Ideal S8x512x256 .f32}
    (hI : Inv q k v n D m a) (h r0 : ℕ) (hh : h + 1 ≤ 8) (hr : r0 + N = 512)
    (m' : (rectM h r0 N hh hr.le).shape.Idx → Elt Ideal .f32) (a' : (rectS h r0 N hh hr.le).shape.Idx → Elt Ideal .f32)
    (hrow : ∀ (r : Fin N) (l : Fin 128), RowOk (sc q k n ⟨h, hh⟩ ⟨r0 + r.val, by omega⟩) (wt v ⟨h, hh⟩)
      (D' ⟨h, hh⟩ ⟨r0 + r.val, by omega⟩) (m' (ix3 0 r l)) (fun j : Fin 256 => a' (ix3 0 r j)))
    (hD : ∀ h' r, (h'.val ≠ h ∨ r.val < r0) → D' h' r = D h' r) :
    Inv q k v n D' (put (rectM h r0 N hh hr.le) m' m) (put (rectS h r0 N hh hr.le) a' a) := by
  intro h' r hne l
  by_cases hc : h'.val = h ∧ r0 ≤ r.val
  · obtain ⟨rfl, hc⟩ := hc
    have er : r = ⟨r0 + (⟨r.val - r0, by omega⟩ : Fin N).val, by show r0 + (r.val - r0) < 512; omega⟩ :=
      Fin.ext (show r.val = r0 + (r.val - r0) by omega)
    have h1 := hrow ⟨r.val - r0, by omega⟩ l
    rw [← er] at h1
    have e1 := rectM_emb h'.val r0 N hh hr.le ⟨r.val - r0, by omega⟩ l
    rw [← er] at e1
    have e2 : ∀ j, (rectS h'.val r0 N hh hr.le).emb (ix3 0 ⟨r.val - r0, by omega⟩ j) = (ix3 h' r j : S8x512x256.Idx) := fun j => by
      have := rectS_emb h'.val r0 N hh hr.le ⟨r.val - r0, by omega⟩ j
      rwa [← er] at this
    have f1 : put (rectM h'.val r0 N hh hr.le) m' m (ix3 h' r l) = m' (ix3 0 ⟨r.val - r0, by omega⟩ l) := by
      rw [← put_emb (rectM h'.val r0 N hh hr.le) m' m]; exact congrArg _ e1.symm
    have f2 : (fun j : Fin 256 => put (rectS h'.val r0 N hh hr.le) a' a (ix3 h' r j)) = fun j => a' (ix3 0 ⟨r.val - r0, by omega⟩ j) := by
      funext j
      rw [← put_emb (rectS h'.val r0 N hh hr.le) a' a]; exact congrArg _ (e2 j).symm
    rw [f1, f2]
    exact h1
  · have hc' : h'.val ≠ h ∨ r.val < r0 := by omega
    rw [hD h' r hc'] at hne ⊢
    have f1 := put_miss (rectM h r0 N hh hr.le) m' m (ix3 h' r l) (rectM_miss h r0 N hh hr.le h' r l hc')
    have f2 : (fun j : Fin 256 => put (rectS h r0 N hh hr.le) a' a (ix3 h' r j)) = fun j => a (ix3 h' r j) :=
      funext fun j => put_miss (rectS h r0 N hh hr.le) a' a (ix3 h' r j) (rectS_miss h r0 N hh hr.le h' r j hc')
    rw [f1, f2]
    exact hI h' r hne l

variable (c : Dev nD) (E : Set ℕ) (arg2 : Memref sig .tc .vmem S1x8x512x192 .bf16) (arg3 : Memref sig .tc .vmem S1x8x192x2048 .bf16)
  (arg4 : Memref sig .tc .vmem S1x8x2048x128 .bf16) (arg10 : Memref sig .tc .vmem S8x512x128 .f32)
  (arg11 : Memref sig .tc .vmem S8x512x256 .f32)

/-- The keys held while a pass taking each row from `D` to `D'` has done the heads below `h0`. -/
def upto (D D' : Fin 512 → Finset (Fin 2048)) (h0 : ℕ) (h : Fin 8) (r : Fin 512) : Finset (Fin 2048) := if h.val < h0 then D' r else D r

theorem upto_succ (D D' : Fin 512 → Finset (Fin 2048)) (h0 : ℕ) (hh : h0 + 1 ≤ 8) (r0 : ℕ) (hD : ∀ r : Fin 512, r.val < r0 → D' r = D r)
    (h' : Fin 8) (r : Fin 512) (hne : h'.val ≠ h0 ∨ r.val < r0) : upto D D' (h0 + 1) h' r = upto D D' h0 h' r := by
  unfold upto
  by_cases h1 : h'.val < h0
  · rw [if_pos h1, if_pos (by omega)]
  · by_cases h2 : h'.val = h0
    · rw [if_pos (by omega), if_neg h1]
      exact hD r (by omega)
    · rw [if_neg (by omega), if_neg h1]

theorem castM (x : FVec Ideal S512x128 .f32) (r : Fin 512) (l : Fin 128) :
    shapeCast S1x512x128 x shapeCasts_S512x128_S1x512x128 (ix3 0 r l) = x (ix2 r l) := by pointwise
theorem castS (x : FVec Ideal S512x256 .f32) (r : Fin 512) (l : Fin 256) :
    shapeCast S1x512x256 x shapeCasts_S512x256_S1x512x256 (ix3 0 r l) = x (ix2 r l) := by pointwise
theorem castMB (x : FVec Ideal S256x128 .f32) (r : Fin 256) (l : Fin 128) :
    shapeCast S1x256x128 x shapeCasts_S256x128_S1x256x128 (ix3 0 r l) = x (ix2 r l) := by pointwise
theorem castSB (x : FVec Ideal S256x256 .f32) (r : Fin 256) (l : Fin 256) :
    shapeCast S1x256x256 x shapeCasts_S256x256_S1x256x256 (ix3 0 r l) = x (ix2 r l) := by pointwise

/-- The finiteness the passes need: no product of a query with a key is infinite. -/
def Fin2 (q : Vec Ideal S1x8x512x192 .bf16) (k : Vec Ideal S1x8x192x2048 .bf16) : Prop := ∀ h r x, dotQK q k h r x ≠ ⊤ ∧ dotQK q k h r x ≠ ⊥

theorem sc_ne_top (hf : Fin2 q k) (n : ℕ) (h : Fin 8) (r : Fin 512) (x : Fin 2048) : sc q k n h r x ≠ ⊤ := by
  unfold sc; split
  · exact (hf h r x).1
  · exact bot_ne_top

theorem passA (hf : Fin2 q k) (n : ℕ) (hn : n ≤ 3) :
    Runs c E arg2 arg3 arg4 arg10 arg11 q k v (Inv q k v n fun _ _ => ∅)
      (Inv q k v n fun _ _ => Finset.univ.map (keys (n * 512) 256 (by omega)))
      (heads (stepA arg2 arg3 arg4 arg10 arg11 (n * 512) (by omega)) 8 (le_refl _)) := by
  have key := heads_runs c E arg2 arg3 arg4 arg10 arg11 q k v (stepA arg2 arg3 arg4 arg10 arg11 (n * 512) (by omega))
    (fun h0 => Inv q k v n (upto (fun _ => ∅) (fun _ => Finset.univ.map (keys (n * 512) 256 (by omega))) h0)) ?_ 8 (le_refl _)
  · have e0 : upto (fun _ => ∅) (fun _ => Finset.univ.map (keys (n * 512) 256 (by omega))) 0 = fun _ _ => ∅ := by
      funext h r; exact if_neg (Nat.not_lt_zero _)
    have e8 : upto (fun _ => ∅) (fun _ => Finset.univ.map (keys (n * 512) 256 (by omega))) 8
        = fun _ _ => Finset.univ.map (keys (n * 512) 256 (by omega)) := by
      funext h r; exact if_pos h.isLt
    simp only [Nat.sub_self, e0, e8] at key
    exact key
  · intro h hh
    refine stepA_runs c E arg2 arg3 arg4 arg10 arg11 q k v _ _ (n * 512) (by omega) h hh fun m a hI => ?_
    refine hI.step h 0 hh rfl _ _ (fun r l => ?_) (upto_succ _ _ h hh 0 fun r hr => absurd hr (Nat.not_lt_zero _))
    have hs : ∀ x : Fin 256, scoreA (rdQ q h 0 512 hh (le_refl _)) (rdK k h (n * 512) 256 hh (by omega)) (ix2 r x)
        = sc q k n ⟨h, hh⟩ ⟨0 + r.val, by omega⟩ (keys (n * 512) 256 (by omega) x) := fun x => by
      rw [scoreA_apply]
      unfold sc dotQK
      have e : ((keys (n * 512) 256 (by omega) x).val ≤ n * 512 + (⟨0 + r.val, by omega⟩ : Fin 512).val) = (x.val ≤ r.val) := by
        show (n * 512 + x.val ≤ n * 512 + (0 + r.val)) = _
        exact propext ⟨fun _ => by omega, fun _ => by omega⟩
      simp only [e, rdQ, rdK, rectQ_emb, rectK_emb]
    have hD : upto (fun _ => ∅) (fun _ => Finset.univ.map (keys (n * 512) 256 (by omega))) (h + 1) ⟨h, hh⟩ ⟨0 + r.val, by omega⟩
        = Finset.univ.map (keys (n * 512) 256 (by omega)) := if_pos (Nat.lt_succ_self h)
    rw [hD]
    have hm : ∀ l, maxA (scoreA (rdQ q h 0 512 hh (le_refl _)) (rdK k h (n * 512) 256 hh (by omega))) (ix2 r l)
        = Finset.univ.sup fun x => sc q k n ⟨h, hh⟩ ⟨0 + r.val, by omega⟩ (keys (n * 512) 256 (by omega) x) := fun l => by
      rw [maxA_apply]; simp only [hs]
    refine RowOk.first (keys (n * 512) 256 (by omega)) ⟨0, by omega⟩ ?_ ?_ fun j => ?_
    · unfold sc
      rw [if_pos (by show n * 512 + 0 ≤ n * 512 + (0 + r.val); omega)]
      exact (hf _ _ _).2
    · rw [castM]
      exact hm l
    · rw [castS, castM, sumA_apply _ _ _ _ r j hm, hm]
      refine Finset.sum_congr rfl fun x _ => ?_
      rw [hs]
      simp only [wt, rdV, rectV_emb]

theorem upto_first (D D' : Fin 512 → Finset (Fin 2048)) : upto D D' 0 = fun _ r => D r := by
  funext h r; exact if_neg (Nat.not_lt_zero _)

theorem upto_last (D D' : Fin 512 → Finset (Fin 2048)) : upto D D' 8 = fun _ r => D' r := by
  funext h r; exact if_pos h.isLt

/-- The keys each row holds after the two masked passes. -/
def diagKeys (n : ℕ) (hn : n ≤ 3) (r : Fin 512) : Finset (Fin 2048) :=
  if r.val < 256 then Finset.univ.map (keys (n * 512) 256 (by omega))
  else Finset.univ.map (keys (n * 512) 256 (by omega)) ∪ Finset.univ.map (keys (n * 512 + 256) 256 (by omega))

theorem passB (hf : Fin2 q k) (n : ℕ) (hn : n ≤ 3) :
    Runs c E arg2 arg3 arg4 arg10 arg11 q k v (Inv q k v n fun _ _ => Finset.univ.map (keys (n * 512) 256 (by omega)))
      (Inv q k v n fun _ => diagKeys n hn)
      (heads (stepB arg2 arg3 arg4 arg10 arg11 (n * 512 + 256) (by omega)) 8 (le_refl _)) := by
  have key := heads_runs c E arg2 arg3 arg4 arg10 arg11 q k v (stepB arg2 arg3 arg4 arg10 arg11 (n * 512 + 256) (by omega))
    (fun h0 => Inv q k v n (upto (fun _ => Finset.univ.map (keys (n * 512) 256 (by omega))) (diagKeys n hn) h0)) ?_ 8 (le_refl _)
  · simp only [Nat.sub_self, upto_first, upto_last] at key
    exact key
  · intro h hh
    refine stepB_runs c E arg2 arg3 arg4 arg10 arg11 q k v _ _ (n * 512 + 256) (by omega) h hh fun m a hI => ?_
    refine hI.step h 256 hh rfl _ _ (fun r l => ?_) (upto_succ _ _ h hh 256 fun r hr => if_pos hr)
    have hs : ∀ x : Fin 256, scoreB (rdQ q h 256 256 hh (le_refl _)) (rdK k h (n * 512 + 256) 256 hh (by omega)) (ix2 r x)
        = sc q k n ⟨h, hh⟩ ⟨256 + r.val, by omega⟩ (keys (n * 512 + 256) 256 (by omega) x) := fun x => by
      rw [scoreB_apply]
      unfold sc dotQK
      have e : ((keys (n * 512 + 256) 256 (by omega) x).val ≤ n * 512 + (⟨256 + r.val, by omega⟩ : Fin 512).val) = (x.val ≤ r.val) := by
        show (n * 512 + 256 + x.val ≤ n * 512 + (256 + r.val)) = _
        exact propext ⟨fun _ => by omega, fun _ => by omega⟩
      simp only [e, rdQ, rdK, rectQ_emb, rectK_emb]
    have hD : upto (fun _ => Finset.univ.map (keys (n * 512) 256 (by omega))) (diagKeys n hn) (h + 1) ⟨h, hh⟩ ⟨256 + r.val, by omega⟩
        = Finset.univ.map (keys (n * 512) 256 (by omega)) ∪ Finset.univ.map (keys (n * 512 + 256) 256 (by omega)) :=
      (if_pos (Nat.lt_succ_self h)).trans (if_neg (by show ¬(256 + r.val < 256); omega))
    have hD0 : upto (fun _ => Finset.univ.map (keys (n * 512) 256 (by omega))) (diagKeys n hn) h ⟨h, hh⟩ ⟨256 + r.val, by omega⟩
        = Finset.univ.map (keys (n * 512) 256 (by omega)) := if_neg (lt_irrefl h)
    have hrow := hI ⟨h, hh⟩ ⟨256 + r.val, by omega⟩ (by
      rw [hD0]; exact ⟨_, Finset.mem_map_of_mem _ (Finset.mem_univ (⟨0, by omega⟩ : Fin 256))⟩)
    rw [hD0] at hrow
    have hM : ∀ l', rdM m h 256 256 hh (le_refl _) (ix3 0 r l') = m (ix3 (⟨h, hh⟩ : Fin 8) (⟨256 + r.val, by omega⟩ : Fin 512) l) := fun l' => by
      simp only [rdM, rectM_emb]
      rw [(hrow l').max, (hrow l).max]
    have hm : ∀ l', maxB (scoreB (rdQ q h 256 256 hh (le_refl _)) (rdK k h (n * 512 + 256) 256 hh (by omega))) (rdM m h 256 256 hh (le_refl _)) (ix2 r l')
        = max (m (ix3 (⟨h, hh⟩ : Fin 8) (⟨256 + r.val, by omega⟩ : Fin 512) l) : EReal)
          (Finset.univ.sup fun x => sc q k n ⟨h, hh⟩ ⟨256 + r.val, by omega⟩ (keys (n * 512 + 256) 256 (by omega) x)) := fun l' => by
      rw [maxB_apply, hM]; simp only [hs]
    rw [hD]
    refine RowOk.next (keys (n * 512 + 256) 256 (by omega)) (sc_ne_top hf n _ _) (hrow l) ?_ ?_ fun j => ?_
    · rw [Finset.disjoint_left]
      intro x hx hx'
      rw [mem_keys] at hx hx'
      omega
    · rw [castMB]
      exact hm l
    · rw [castSB, castMB, sumB_apply _ _ _ _ _ _ _ r j hM hm, hm]
      refine congrArg₂ (· + ·) ?_ (Finset.sum_congr rfl fun x _ => ?_)
      · simp only [rdS, rectS_emb]
      · rw [hs]
        simp only [wt, rdV, rectV_emb]

theorem passC (hf : Fin2 q k) (n : ℕ) (D : Fin 512 → Finset (Fin 2048)) (s : ℕ) (hs : s + 512 ≤ 2048) (hsn : s + 512 ≤ n * 512)
    (hD0 : ∀ r, (D r).Nonempty) (hdis : ∀ r, Disjoint (D r) (Finset.univ.map (keys s 512 hs))) :
    Runs c E arg2 arg3 arg4 arg10 arg11 q k v (Inv q k v n fun _ => D)
      (Inv q k v n fun _ r => D r ∪ Finset.univ.map (keys s 512 hs))
      (heads (stepC arg2 arg3 arg4 arg10 arg11 s hs) 8 (le_refl _)) := by
  have key := heads_runs c E arg2 arg3 arg4 arg10 arg11 q k v (stepC arg2 arg3 arg4 arg10 arg11 s hs)
    (fun h0 => Inv q k v n (upto D (fun r => D r ∪ Finset.univ.map (keys s 512 hs)) h0)) ?_ 8 (le_refl _)
  · simp only [Nat.sub_self, upto_first, upto_last] at key
    exact key
  · intro h hh
    refine stepC_runs c E arg2 arg3 arg4 arg10 arg11 q k v _ _ s hs h hh fun m a hI => ?_
    refine hI.step h 0 hh rfl _ _ (fun r l => ?_) (upto_succ _ _ h hh 0 fun r hr => absurd hr (Nat.not_lt_zero _))
    have e0 : (⟨0 + r.val, by omega⟩ : Fin 512) = r := Fin.ext (Nat.zero_add _)
    rw [e0]
    have hs' : ∀ x : Fin 512, scoreC (rdQ q h 0 512 hh (le_refl _)) (rdK k h s 512 hh hs) (ix2 r x)
        = sc q k n ⟨h, hh⟩ r (keys s 512 hs x) := fun x => by
      rw [scoreC_apply]
      unfold sc dotQK
      rw [if_pos (by show s + x.val ≤ n * 512 + r.val; omega)]
      simp only [rdQ, rdK, rectQ_emb, rectK_emb, e0]
    have hD : upto D (fun r => D r ∪ Finset.univ.map (keys s 512 hs)) (h + 1) ⟨h, hh⟩ r = D r ∪ Finset.univ.map (keys s 512 hs) :=
      if_pos (Nat.lt_succ_self h)
    have hD0' : upto D (fun r => D r ∪ Finset.univ.map (keys s 512 hs)) h ⟨h, hh⟩ r = D r := if_neg (lt_irrefl h)
    have hrow := hI ⟨h, hh⟩ r (by rw [hD0']; exact hD0 r)
    rw [hD0'] at hrow
    have hM : ∀ l', rdM m h 0 512 hh (le_refl _) (ix3 0 r l') = m (ix3 (⟨h, hh⟩ : Fin 8) r l) := fun l' => by
      simp only [rdM, rectM_emb, e0]
      rw [(hrow l').max, (hrow l).max]
    have hm : ∀ l', maxC (scoreC (rdQ q h 0 512 hh (le_refl _)) (rdK k h s 512 hh hs)) (rdM m h 0 512 hh (le_refl _)) (ix2 r l')
        = max (m (ix3 (⟨h, hh⟩ : Fin 8) r l) : EReal) (Finset.univ.sup fun x => sc q k n ⟨h, hh⟩ r (keys s 512 hs x)) := fun l' => by
      rw [maxC_apply, hM]; simp only [hs']
    rw [hD]
    refine RowOk.next (keys s 512 hs) (sc_ne_top hf n _ _) (hrow l) (hdis r) ?_ fun j => ?_
    · rw [castM]
      exact hm l
    · rw [castS, castM, sumC_apply _ _ _ _ _ _ _ r j hM hm, hm]
      refine congrArg₂ (· + ·) ?_ (Finset.sum_congr rfl fun x _ => ?_)
      · simp only [rdS, rectS_emb, e0]
      · rw [hs']
        simp only [wt, rdV, rectV_emb]

/-- The keys below `x`. -/
def below (x : ℕ) : Finset (Fin 2048) := Finset.univ.filter fun y => y.val < x

theorem passBlocks (hf : Fin2 q k) (n : ℕ) (hn : n ≤ 3) (j t : ℕ) (hjt : j + t = n) :
    Runs c E arg2 arg3 arg4 arg10 arg11 q k v (Inv q k v n fun _ r => diagKeys n hn r ∪ below (j * 512))
      (Inv q k v n fun _ r => diagKeys n hn r ∪ below (n * 512)) (blocks arg2 arg3 arg4 arg10 arg11 j t (by omega)) := by
  induction t generalizing j with
  | zero =>
    obtain rfl : j = n := by omega
    exact Runs.ret c E arg2 arg3 arg4 arg10 arg11 q k v _ _ fun _ _ h => h
  | succ t ih =>
    refine Runs.seq c E arg2 arg3 arg4 arg10 arg11 q k v ?_ (ih (j + 1) (by omega))
    have h := passC (v := v) c E arg2 arg3 arg4 arg10 arg11 hf n (fun r => diagKeys n hn r ∪ below (j * 512)) (j * 512) (by omega) (by omega)
      (fun r => ?_) (fun r => ?_)
    · have e : ∀ r, diagKeys n hn r ∪ below (j * 512) ∪ Finset.univ.map (keys (j * 512) 512 (by omega))
          = diagKeys n hn r ∪ below ((j + 1) * 512) := fun r => by
        rw [Finset.union_assoc]
        refine congrArg _ (Finset.ext fun x => ?_)
        rw [Finset.mem_union, mem_keys]
        simp only [below, Finset.mem_filter, Finset.mem_univ, true_and]
        omega
      simp only [e] at h
      exact h
    · refine Finset.Nonempty.mono Finset.subset_union_left ?_
      have h0 : (keys (n * 512) 256 (by omega) ⟨0, by omega⟩) ∈ Finset.univ.map (keys (n * 512) 256 (by omega)) :=
        Finset.mem_map_of_mem _ (Finset.mem_univ _)
      unfold diagKeys
      split
      · exact ⟨_, h0⟩
      · exact ⟨_, Finset.mem_union_left _ h0⟩
    · rw [Finset.disjoint_left]
      intro x hx hx'
      rw [mem_keys] at hx'
      rcases Finset.mem_union.mp hx with h1 | h1
      · have : n * 512 ≤ x.val := by
          unfold diagKeys at h1
          split at h1
          · exact ((mem_keys _ _ _ _).mp h1).1
          · rcases Finset.mem_union.mp h1 with h2 | h2
            · exact ((mem_keys _ _ _ _).mp h2).1
            · have := ((mem_keys _ _ _ _).mp h2).1; omega
        omega
      · simp only [below, Finset.mem_filter, Finset.mem_univ, true_and] at h1
        omega

/-- Every row of every head holds its maximum and its weighted sums over the whole row. -/
def Done (q : Vec Ideal S1x8x512x192 .bf16) (k : Vec Ideal S1x8x192x2048 .bf16) (v : Vec Ideal S1x8x2048x128 .bf16) (n : ℕ)
    (m : Vec Ideal S8x512x128 .f32) (a : Vec Ideal S8x512x256 .f32) : Prop := ∀ h r, Row q k v n h r Finset.univ m a

theorem branch_runs (hf : Fin2 q k) (n : ℕ) (hn : n ≤ 3) :
    Runs c E arg2 arg3 arg4 arg10 arg11 q k v (fun _ _ => True) (Done q k v n) (branch arg2 arg3 arg4 arg10 arg11 n hn) := by
  have hb : Runs c E arg2 arg3 arg4 arg10 arg11 q k v (fun _ _ => True) (Inv q k v n fun _ r => diagKeys n hn r ∪ below (n * 512))
      (branch arg2 arg3 arg4 arg10 arg11 n hn) := by
    have h1 := passBlocks (v := v) c E arg2 arg3 arg4 arg10 arg11 hf n hn 0 n (Nat.zero_add n)
    have e : ∀ r, diagKeys n hn r ∪ below (0 * 512) = diagKeys n hn r := fun r => by
      have : below (0 * 512) = ∅ := by
        refine Finset.filter_eq_empty_iff.mpr fun x _ => ?_
        omega
      rw [this, Finset.union_empty]
    simp only [e] at h1
    have h2 := Runs.seq c E arg2 arg3 arg4 arg10 arg11 q k v (Runs.seq c E arg2 arg3 arg4 arg10 arg11 q k v
      (passA (v := v) c E arg2 arg3 arg4 arg10 arg11 hf n hn) (passB (v := v) c E arg2 arg3 arg4 arg10 arg11 hf n hn)) h1
    refine Runs.conseq c E arg2 arg3 arg4 arg10 arg11 q k v h2 (fun m a _ => ?_) fun _ _ h => h
    intro h r hne
    exact absurd hne Finset.not_nonempty_empty
  refine Runs.conseq c E arg2 arg3 arg4 arg10 arg11 q k v hb (fun _ _ h => h) fun m a hI h r l => ?_
  refine (hI h r ?_ l).all (sc_ne_top hf n h r) fun x hx => ?_
  · refine ⟨keys (n * 512) 256 (by omega) ⟨0, by omega⟩, Finset.mem_union_left _ ?_⟩
    have h0 : (keys (n * 512) 256 (by omega) ⟨0, by omega⟩) ∈ Finset.univ.map (keys (n * 512) 256 (by omega)) :=
      Finset.mem_map_of_mem _ (Finset.mem_univ _)
    unfold diagKeys
    split
    · exact h0
    · exact Finset.mem_union_left _ h0
  · unfold sc
    refine if_neg fun hle => hx ?_
    by_cases hlow : x.val < n * 512
    · refine Finset.mem_union_right _ ?_
      simp only [below, Finset.mem_filter, Finset.mem_univ, true_and]
      exact hlow
    · refine Finset.mem_union_left _ ?_
      unfold diagKeys
      split
      · rw [mem_keys]; omega
      · rw [Finset.mem_union, mem_keys, mem_keys]; omega

end Score

end Cert.KernelIdeal.Attn

end
-- ==== Proof.Attn.Body.lean ====
/- The attention kernel's body: run on its arrays, it leaves in the result's buffer the row block's attention, gated,
   projected, added to the input row and normed. -/
module

public import proofs.«01_k».proof.Proof.Attn.Passes

@[expose] public section

set_option maxRecDepth 65536

noncomputable section

namespace Cert.KernelIdeal.Attn

open Idealize.ShloMosaic Idealize.ShloMosaic.TcCoe Idealize.ShloMosaic.Tactic
open Idealize.SL Idealize.SL.RA Idealize.SL.Sem Idealize.SL.ProofMode
open Idealize.SL.BI (sProp)
open scoped Idealize.SL.BI
open Idealize.SL.BI.BIBase Idealize.SL.BI.Laws
open Cert.KernelIdeal.Gen

local notation "𝕄" => MT nD τ sig Unit (Elt Ideal) ℕ (UR sig nD τ) ℕ

section Program

variable {F : FTy → Type} [FloatOps F] [Named F]

/-- After the passes: the heads' quotients, and the row block's result. -/
def finish (arg5 : Memref sig .tc .vmem S1x512x1024 .bf16) (arg6 : Memref sig .tc .vmem S1x512x1024 .f32)
    (arg7 : Memref sig .tc .vmem S1024x1024 .bf16) (arg8 : Memref sig .tc .vmem S1x1024 .f32)
    (arg9 : Memref sig .tc .vmem S1x512x1024 .f32) (arg11 : Memref sig .tc .vmem S8x512x256 .f32) : TcProg F PUnit := do
  let o0 ← headOut arg11 0 (by omega)
  let o1 ← headOut arg11 1 (by omega)
  let o2 ← headOut arg11 2 (by omega)
  let o3 ← headOut arg11 3 (by omega)
  let o4 ← headOut arg11 4 (by omega)
  let o5 ← headOut arg11 5 (by omega)
  let o6 ← headOut arg11 6 (by omega)
  let o7 ← headOut arg11 7 (by omega)
  let g ← Prog.lift (.load arg5 (Rect.unit (s := S1x512x1024) ![0, 0, 0] S1x512x1024.size inb_S1x512x1024_S1x512x1024_0_0_0).toLoadRect
    (View.loadsAt_vmem h_S1x512x1024))
  let x ← Prog.lift (.load arg6 (Rect.unit (s := S1x512x1024) ![0, 0, 0] S1x512x1024.size inb_S1x512x1024_S1x512x1024_0_0_0).toLoadRect
    (View.loadsAt_vmem h_S1x512x1024))
  let w ← Prog.lift (.load arg7 (Rect.unit (s := S1024x1024) ![0, 0] S1024x1024.size inb_S1024x1024_S1024x1024_0_0).toLoadRect
    (View.loadsAt_vmem h_S1024x1024))
  let fn ← Prog.lift (.load arg8 (Rect.unit (s := S1x1024) ![0, 0] S1x1024.size inb_S1x1024_S1x1024_0_0).toLoadRect
    (View.loadsAt_vmem h_S1x1024))
  let _ ← Prog.lift (.load arg9 (Rect.unit (s := S1x512x1024) ![0, 0, 0] S1x512x1024.size inb_S1x512x1024_S1x512x1024_0_0_0).toLoadRect
    (View.loadsAt_vmem h_S1x512x1024))
  Prog.lift (.store arg9 (Rect.unit (s := S1x512x1024) ![0, 0, 0] S1x512x1024.size inb_S1x512x1024_S1x512x1024_0_0_0)
    (outVec (sideBySide o0 o1 o2 o3 o4 o5 o6 o7) g x w fn) Finset.univ (View.stores_vmem_bits_univ h_S1x512x1024 rfl) (.inl rfl))

/-- The three head results before the others. -/
def three (arg11 : Memref sig .tc .vmem S8x512x256 .f32) :
    TcProg F (Σ' (v16 : FVec F S512x128 .f32) (v21 : FVec F S512x128 .f32), FVec F S512x128 .f32) := do
  let o0 ← headOut arg11 0 (by omega)
  let o1 ← headOut arg11 1 (by omega)
  let o2 ← headOut arg11 2 (by omega)
  pure ⟨o0, o1, o2⟩

variable (i : grid1.Coords) (arg2 : Memref sig .tc .vmem S1x8x512x192 .bf16) (harg2 : arg2.IsWhole) (arg3 : Memref sig .tc .vmem S1x8x192x2048 .bf16) (harg3 : arg3.IsWhole)
  (arg4 : Memref sig .tc .vmem S1x8x2048x128 .bf16) (harg4 : arg4.IsWhole) (arg5 : Memref sig .tc .vmem S1x512x1024 .bf16) (harg5 : arg5.IsWhole)
  (arg6 : Memref sig .tc .vmem S1x512x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x512x1024 .f32) (harg9 : arg9.IsWhole)
  (arg10 : Memref sig .tc .vmem S8x512x128 .f32) (harg10 : arg10.IsWhole) (arg11 : Memref sig .tc .vmem S8x512x256 .f32) (harg11 : arg11.IsWhole)

/-- The point is in row block `n`, and in no other. -/
def InBlock (i : grid1.Coords) (n : ℕ) : Prop := (cond1_0 i ↔ n = 0) ∧ (cond1_1 i ↔ n = 1) ∧ (cond1_2 i ↔ n = 2) ∧ (cond1_3 i ↔ n = 3)

theorem part111_of (n : ℕ) (hn : n ≤ 3) (hb : InBlock i n) :
    k1_part111 (F := F) i arg2 harg2 arg3 harg3 arg4 harg4 arg5 harg5 arg6 harg6 arg7 harg7 arg8 harg8 arg9 harg9 arg10 harg10 arg11 harg11 = (branch arg2 arg3 arg4 arg10 arg11 n hn >>= fun _ => three arg11) := by
  obtain ⟨h0, h1, h2, h3⟩ := hb
  rw [part111_eq]
  obtain rfl | rfl | rfl | rfl : n = 0 ∨ n = 1 ∨ n = 2 ∨ n = 3 := by omega
  · rw [dif_pos (h0.mpr rfl), dif_neg (fun h => by simpa using h1.mp h), dif_neg (fun h => by simpa using h2.mp h),
      dif_neg (fun h => by simpa using h3.mp h)]
    rfl
  · rw [dif_neg (fun h => by simpa using h0.mp h), dif_pos (h1.mpr rfl), dif_neg (fun h => by simpa using h2.mp h),
      dif_neg (fun h => by simpa using h3.mp h)]
    rfl
  · rw [dif_neg (fun h => by simpa using h0.mp h), dif_neg (fun h => by simpa using h1.mp h), dif_pos (h2.mpr rfl),
      dif_neg (fun h => by simpa using h3.mp h)]
    rfl
  · rw [dif_neg (fun h => by simpa using h0.mp h), dif_neg (fun h => by simpa using h1.mp h),
      dif_neg (fun h => by simpa using h2.mp h), dif_pos (h3.mpr rfl)]
    rfl

/-- What follows the first three heads. -/
def afterThree (arg5 : Memref sig .tc .vmem S1x512x1024 .bf16) (arg6 : Memref sig .tc .vmem S1x512x1024 .f32)
    (arg7 : Memref sig .tc .vmem S1024x1024 .bf16) (arg8 : Memref sig .tc .vmem S1x1024 .f32)
    (arg9 : Memref sig .tc .vmem S1x512x1024 .f32) (arg11 : Memref sig .tc .vmem S8x512x256 .f32) :
    (Σ' (v16 : FVec F S512x128 .f32) (v21 : FVec F S512x128 .f32), FVec F S512x128 .f32) → TcProg F PUnit
      | ⟨v16, v21, v26⟩ => rest arg5 arg11 v16 v21 v26 >>= fun p' => match p' with
        | ⟨v52, v54⟩ => do
          let x ← Prog.lift (.load arg6 (Rect.unit (s := S1x512x1024) ![0, 0, 0] S1x512x1024.size inb_S1x512x1024_S1x512x1024_0_0_0).toLoadRect
            (View.loadsAt_vmem h_S1x512x1024))
          let w ← Prog.lift (.load arg7 (Rect.unit (s := S1024x1024) ![0, 0] S1024x1024.size inb_S1024x1024_S1024x1024_0_0).toLoadRect
            (View.loadsAt_vmem h_S1024x1024))
          let fn ← Prog.lift (.load arg8 (Rect.unit (s := S1x1024) ![0, 0] S1x1024.size inb_S1x1024_S1x1024_0_0).toLoadRect
            (View.loadsAt_vmem h_S1x1024))
          let _ ← Prog.lift (.load arg9 (Rect.unit (s := S1x512x1024) ![0, 0, 0] S1x512x1024.size inb_S1x512x1024_S1x512x1024_0_0_0).toLoadRect
            (View.loadsAt_vmem h_S1x512x1024))
          Prog.lift (.store arg9 (Rect.unit (s := S1x512x1024) ![0, 0, 0] S1x512x1024.size inb_S1x512x1024_S1x512x1024_0_0_0)
            (shapeCast S1x512x1024 (normed (addf (shapeCast S512x1024 x shapeCasts_S1x512x1024_S512x1024)
              (matmul dot_S512x1024_S1024x1024_S512x1024_1_0_0_1_n_n none
                (truncf .bf16 (mulf v52 (extf .f32 v54 bitsLt_bf16_f32)) bitsLt_bf16_f32)
                (shapeCast S1024x1024 w shapeCasts_S1024x1024_S1024x1024) (constant S512x1024 .f32 0x00000000#32))) fn)
              shapeCasts_S512x1024_S1x512x1024) Finset.univ (View.stores_vmem_bits_univ h_S1x512x1024 rfl) (.inl rfl))
          pure ⟨⟩

theorem finish_eq : (three arg11 >>= afterThree arg5 arg6 arg7 arg8 arg9 arg11) = (finish (F := F) arg5 arg6 arg7 arg8 arg9 arg11) := by
  sl_kernel_rfl

theorem cc1_of (n : ℕ) (hn : n ≤ 3) (hb : InBlock i n) :
    cc1_mla_attn (F := F) i arg2 harg2 arg3 harg3 arg4 harg4 arg5 harg5 arg6 harg6 arg7 harg7 arg8 harg8 arg9 harg9 arg10 harg10 arg11 harg11
      = ((branch arg2 arg3 arg4 arg10 arg11 n hn >>= fun _ => three arg11) >>= afterThree arg5 arg6 arg7 arg8 arg9 arg11) := by
  rw [← part111_of i arg2 harg2 arg3 harg3 arg4 harg4 arg5 harg5 arg6 harg6 arg7 harg7 arg8 harg8 arg9 harg9 arg10 harg10 arg11 harg11 n hn hb]
  delta cc1_mla_attn
  simp only [part112_eq]
  sl_kernel_rfl

end Program

/-- The rectangle that is the whole array. -/
theorem unit_emb {s : Shape} (start : Fin s.rank → ℕ) (h0 : ∀ a, start a = 0) (h : ∀ a, start a + s.size a ≤ s.size a) (i : s.Idx) :
    (Rect.unit (s := s) start s.size h).emb i = i :=
  Rect.emb_eq_of_coords _ _ _ fun a => by simp [Rect.unit, h0]

theorem put_unit {Val : Type} {s : Shape} (start : Fin s.rank → ℕ) (h0 : ∀ a, start a = 0) (h : ∀ a, start a + s.size a ≤ s.size a)
    (w X : s.Idx → Val) : put (Rect.unit (s := s) start s.size h) w X = w := funext fun y => by
  have := put_emb (Rect.unit (s := s) start s.size h) w X y
  rwa [unit_emb start h0 h y] at this

section Values

variable (q : Vec Ideal S1x8x512x192 .bf16) (k : Vec Ideal S1x8x192x2048 .bf16) (v : Vec Ideal S1x8x2048x128 .bf16) (n : ℕ)

/-- A key's weight in a row: the power of two of how far its score is below the row's maximum. -/
def pw (h : Fin 8) (r : Fin 512) (x : Fin 2048) : EReal := Ideal.exp2 (sc q k n h r x - Finset.univ.sup (sc q k n h r))

/-- The values' weighted mean in a row. -/
def attnVal (h : Fin 8) (r : Fin 512) (j : Fin 128) : EReal :=
  Ideal.div (∑ x, pw q k n h r x * v (ix4 0 h x j)) (∑ x, pw q k n h r x * 1)

/-- Head `h`'s result for the row block. -/
def attnHead (h : Fin 8) : FVec Ideal S512x128 .f32 := fun i => attnVal q k v n h (i 0) (i 1)

/-- The row block's attention, the heads side by side. -/
def attnVec : FVec Ideal S512x1024 .f32 :=
  sideBySide (attnHead q k v n 0) (attnHead q k v n 1) (attnHead q k v n 2) (attnHead q k v n 3) (attnHead q k v n 4) (attnHead q k v n 5)
    (attnHead q k v n 6) (attnHead q k v n 7)

variable (c : Dev nD) (E : Set ℕ)

theorem headOut_runs (arg11 : Memref sig .tc .vmem S8x512x256 .f32) (h : Fin 8) (hh : h.val + 1 ≤ 8)
    (m : Vec Ideal S8x512x128 .f32) (a : Vec Ideal S8x512x256 .f32) (hd : Done q k v n m a) {α : Type}
    (p : FVec Ideal S512x128 .f32 → TcProg Ideal α) (Q : α → sProp 𝕄) :
    iprop(owns (c : Thread nD τ) arg11 fullShare a ∗ (owns (c : Thread nD τ) arg11 fullShare a -∗ W c E (p (attnHead q k v n h)) Q))
      ⊢ W c E (headOut arg11 h.val hh >>= p) Q := by
  have e : divf (F := Ideal) (φ := .f32) (shapeCast S512x128 (fun i => a ((Rect.unit (s := S8x512x256) ![h.val, 0, 0] S1x512x128.size
        (inb3 (A := 1) (B := 512) (C := 128) hh (le_refl 512) (by omega : 0 + 128 ≤ 256))).emb i)) shapeCasts_S1x512x128_S512x128)
      (shapeCast S512x128 (fun i => a ((Rect.unit (s := S8x512x256) ![h.val, 0, 128] S1x512x128.size
        (inb3 (A := 1) (B := 512) (C := 128) hh (le_refl 512) (by omega : 128 + 128 ≤ 256))).emb i)) shapeCasts_S1x512x128_S512x128)
      = attnHead q k v n h := by
    funext i
    obtain ⟨r, j, rfl⟩ : ∃ (r : Fin 512) (j : Fin 128), i = ix2 r j := ⟨i 0, i 1, funext fun a => by fin_cases a <;> rfl⟩
    have e0 : (Rect.unit (s := S8x512x256) ![h.val, 0, 0] S1x512x128.size
        (inb3 (A := 1) (B := 512) (C := 128) hh (le_refl 512) (by omega : 0 + 128 ≤ 256))).emb (ix3 (0 : Fin 1) r j)
        = ix3 h r (⟨j.val, by omega⟩ : Fin 256) := Rect.emb_eq_of_coords _ _ _ fun a => by fin_cases a <;> simp [Rect.unit]
    have e1 : (Rect.unit (s := S8x512x256) ![h.val, 0, 128] S1x512x128.size
        (inb3 (A := 1) (B := 512) (C := 128) hh (le_refl 512) (by omega : 128 + 128 ≤ 256))).emb (ix3 (0 : Fin 1) r j)
        = ix3 h r (⟨128 + j.val, by omega⟩ : Fin 256) := Rect.emb_eq_of_coords _ _ _ fun a => by fin_cases a <;> simp [Rect.unit]
    pointwise
    simp only [e0, e1]
    rw [(hd h r j).sum, (hd h r j).sum]
    simp only [attnHead, attnVal, wt, pw]
    simp only [dif_pos j.isLt, dif_neg (by omega : ¬ 128 + j.val < 128)]
    rfl
  rw [← e]
  show _ ⊢ W c E (Prog.lift _ >>= fun x => Prog.lift _ >>= fun y => p _) Q
  iintro ⟨Ha, Hk⟩
  iapply load_owns c E arg11
  isplitl [Ha]; · iexact Ha
  iintro Ha
  iapply load_owns c E arg11
  isplitl [Ha]; · iexact Ha
  iexact Hk

variable (g : Vec Ideal S1x512x1024 .bf16) (x : Vec Ideal S1x512x1024 .f32) (w : Vec Ideal S1024x1024 .bf16) (fn : Vec Ideal S1x1024 .f32)
  (arg5 : Memref sig .tc .vmem S1x512x1024 .bf16) (arg6 : Memref sig .tc .vmem S1x512x1024 .f32) (arg7 : Memref sig .tc .vmem S1024x1024 .bf16) (arg8 : Memref sig .tc .vmem S1x1024 .f32) (arg9 : Memref sig .tc .vmem S1x512x1024 .f32) (arg11 : Memref sig .tc .vmem S8x512x256 .f32)

theorem finish_runs (m : Vec Ideal S8x512x128 .f32) (a : Vec Ideal S8x512x256 .f32) (hd : Done q k v n m a) (Q : PUnit → sProp 𝕄) :
    iprop(owns (c : Thread nD τ) arg11 fullShare a ∗ owns (c : Thread nD τ) arg5 fullShare g ∗ owns (c : Thread nD τ) arg6 fullShare x
        ∗ owns (c : Thread nD τ) arg7 fullShare w ∗ owns (c : Thread nD τ) arg8 fullShare fn ∗ (∃ d, owns (c : Thread nD τ) arg9 fullShare d)
        ∗ (owns (c : Thread nD τ) arg11 fullShare a -∗ owns (c : Thread nD τ) arg5 fullShare g -∗ owns (c : Thread nD τ) arg6 fullShare x
          -∗ owns (c : Thread nD τ) arg7 fullShare w -∗ owns (c : Thread nD τ) arg8 fullShare fn
          -∗ owns (c : Thread nD τ) arg9 fullShare (outVec (attnVec q k v n) g x w fn) -∗ Q ⟨⟩))
      ⊢ W c E (finish arg5 arg6 arg7 arg8 arg9 arg11) Q := by
  have z3 : ∀ b : Fin 3, (![0, 0, 0] : Fin 3 → ℕ) b = 0 := fun b => by fin_cases b <;> rfl
  have z2 : ∀ b : Fin 2, (![0, 0] : Fin 2 → ℕ) b = 0 := fun b => by fin_cases b <;> rfl
  have eg : (fun i => g ((Rect.unit (s := S1x512x1024) ![0, 0, 0] S1x512x1024.size inb_S1x512x1024_S1x512x1024_0_0_0).emb i)) = g :=
    funext fun i => congrArg g (unit_emb (s := S1x512x1024) ![0, 0, 0] z3 inb_S1x512x1024_S1x512x1024_0_0_0 i)
  have ex : (fun i => x ((Rect.unit (s := S1x512x1024) ![0, 0, 0] S1x512x1024.size inb_S1x512x1024_S1x512x1024_0_0_0).emb i)) = x :=
    funext fun i => congrArg x (unit_emb (s := S1x512x1024) ![0, 0, 0] z3 inb_S1x512x1024_S1x512x1024_0_0_0 i)
  have ew : (fun i => w ((Rect.unit (s := S1024x1024) ![0, 0] S1024x1024.size inb_S1024x1024_S1024x1024_0_0).emb i)) = w :=
    funext fun i => congrArg w (unit_emb (s := S1024x1024) ![0, 0] z2 inb_S1024x1024_S1024x1024_0_0 i)
  have ef : (fun i => fn ((Rect.unit (s := S1x1024) ![0, 0] S1x1024.size inb_S1x1024_S1x1024_0_0).emb i)) = fn :=
    funext fun i => congrArg fn (unit_emb (s := S1x1024) ![0, 0] z2 inb_S1x1024_S1x1024_0_0 i)
  unfold finish
  iintro ⟨H11, H5, H6, H7, H8, ⟨%d, H9⟩, HQ⟩
  iapply headOut_runs q k v n c E arg11 0 (by decide) m a hd
  isplitl [H11]; · iexact H11
  iintro H11
  iapply headOut_runs q k v n c E arg11 1 (by decide) m a hd
  isplitl [H11]; · iexact H11
  iintro H11
  iapply headOut_runs q k v n c E arg11 2 (by decide) m a hd
  isplitl [H11]; · iexact H11
  iintro H11
  iapply headOut_runs q k v n c E arg11 3 (by decide) m a hd
  isplitl [H11]; · iexact H11
  iintro H11
  iapply headOut_runs q k v n c E arg11 4 (by decide) m a hd
  isplitl [H11]; · iexact H11
  iintro H11
  iapply headOut_runs q k v n c E arg11 5 (by decide) m a hd
  isplitl [H11]; · iexact H11
  iintro H11
  iapply headOut_runs q k v n c E arg11 6 (by decide) m a hd
  isplitl [H11]; · iexact H11
  iintro H11
  iapply headOut_runs q k v n c E arg11 7 (by decide) m a hd
  isplitl [H11]; · iexact H11
  iintro H11
  iapply load_owns c E arg5
  isplitl [H5]; · iexact H5
  iintro H5
  iapply load_owns c E arg6
  isplitl [H6]; · iexact H6
  iintro H6
  iapply load_owns c E arg7
  isplitl [H7]; · iexact H7
  iintro H7
  iapply load_owns c E arg8
  isplitl [H8]; · iexact H8
  iintro H8
  iapply load_owns c E arg9
  isplitl [H9]; · iexact H9
  iintro H9
  iapply store_owns_last c E arg9
  isplitl [H9]; · iexact H9
  iintro H9
  have e : put (Rect.unit (s := S1x512x1024) ![0, 0, 0] S1x512x1024.size inb_S1x512x1024_S1x512x1024_0_0_0)
      (outVec (sideBySide (attnHead q k v n 0) (attnHead q k v n 1) (attnHead q k v n 2) (attnHead q k v n 3) (attnHead q k v n 4)
          (attnHead q k v n 5) (attnHead q k v n 6) (attnHead q k v n 7)) (fun i => g ((Rect.unit (s := S1x512x1024) ![0, 0, 0] S1x512x1024.size inb_S1x512x1024_S1x512x1024_0_0_0).emb i))
        (fun i => x ((Rect.unit (s := S1x512x1024) ![0, 0, 0] S1x512x1024.size inb_S1x512x1024_S1x512x1024_0_0_0).emb i))
        (fun i => w ((Rect.unit (s := S1024x1024) ![0, 0] S1024x1024.size inb_S1024x1024_S1024x1024_0_0).emb i))
        (fun i => fn ((Rect.unit (s := S1x1024) ![0, 0] S1x1024.size inb_S1x1024_S1x1024_0_0).emb i))) d = outVec (attnVec q k v n) g x w fn :=
    (put_unit (s := S1x512x1024) ![0, 0, 0] z3 inb_S1x512x1024_S1x512x1024_0_0_0 _ d).trans
      (congr (congr (congr (congrArg (outVec (attnVec q k v n)) eg) ex) ew) ef)
  rw [← e]
  iapply HQ $$ H11 H5 H6 H7 H8
  iexact H9

end Values

theorem cc1_runs (q : Vec Ideal S1x8x512x192 .bf16) (k : Vec Ideal S1x8x192x2048 .bf16) (v : Vec Ideal S1x8x2048x128 .bf16)
    (g : Vec Ideal S1x512x1024 .bf16) (x : Vec Ideal S1x512x1024 .f32) (w : Vec Ideal S1024x1024 .bf16) (fn : Vec Ideal S1x1024 .f32)
    (c : Dev nD) (E : Set ℕ) (i : grid1.Coords) (arg2 : Memref sig .tc .vmem S1x8x512x192 .bf16) (harg2 : arg2.IsWhole) (arg3 : Memref sig .tc .vmem S1x8x192x2048 .bf16) (harg3 : arg3.IsWhole)
  (arg4 : Memref sig .tc .vmem S1x8x2048x128 .bf16) (harg4 : arg4.IsWhole) (arg5 : Memref sig .tc .vmem S1x512x1024 .bf16) (harg5 : arg5.IsWhole)
  (arg6 : Memref sig .tc .vmem S1x512x1024 .f32) (harg6 : arg6.IsWhole) (arg7 : Memref sig .tc .vmem S1024x1024 .bf16) (harg7 : arg7.IsWhole)
  (arg8 : Memref sig .tc .vmem S1x1024 .f32) (harg8 : arg8.IsWhole) (arg9 : Memref sig .tc .vmem S1x512x1024 .f32) (harg9 : arg9.IsWhole)
  (arg10 : Memref sig .tc .vmem S8x512x128 .f32) (harg10 : arg10.IsWhole) (arg11 : Memref sig .tc .vmem S8x512x256 .f32) (harg11 : arg11.IsWhole)
    (hf : Fin2 q k) (n : ℕ) (hn : n ≤ 3) (hb : InBlock i n) (Q : PUnit → sProp 𝕄) :
    iprop(owns (c : Thread nD τ) arg2 fullShare q ∗ owns (c : Thread nD τ) arg3 fullShare k ∗ owns (c : Thread nD τ) arg4 fullShare v ∗ owns (c : Thread nD τ) arg5 fullShare g ∗ owns (c : Thread nD τ) arg6 fullShare x ∗ owns (c : Thread nD τ) arg7 fullShare w ∗ owns (c : Thread nD τ) arg8 fullShare fn ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg2 fullShare q ∗ owns (c : Thread nD τ) arg3 fullShare k ∗ owns (c : Thread nD τ) arg4 fullShare v ∗ owns (c : Thread nD τ) arg5 fullShare g ∗ owns (c : Thread nD τ) arg6 fullShare x ∗ owns (c : Thread nD τ) arg7 fullShare w ∗ owns (c : Thread nD τ) arg8 fullShare fn ∗ owns (c : Thread nD τ) arg9 fullShare (outVec (attnVec q k v n) g x w fn)
          ∗ (∃ d, owns (c : Thread nD τ) arg10 fullShare d) ∗ (∃ d, owns (c : Thread nD τ) arg11 fullShare d)) -∗ Q ⟨⟩))
      ⊢ W c E (cc1_mla_attn i arg2 harg2 arg3 harg3 arg4 harg4 arg5 harg5 arg6 harg6 arg7 harg7 arg8 harg8 arg9 harg9 arg10 harg10 arg11 harg11) Q := by
  rw [cc1_of i arg2 harg2 arg3 harg3 arg4 harg4 arg5 harg5 arg6 harg6 arg7 harg7 arg8 harg8 arg9 harg9 arg10 harg10 arg11 harg11 n hn hb]
  show _ ⊢ wp _ _ _ _ _
  rw [wp_bind, wp_bind]
  have hr := branch_runs (v := v) c E arg2 arg3 arg4 arg10 arg11 hf n hn
  unfold Runs at hr
  iintro ⟨H2, H3, H4, H5, H6, H7, H8, H9, ⟨%m, H10⟩, ⟨%a, H11⟩, HQ⟩
  ihave Hb := hr $$ [H2 H3 H4 H10 H11]
  · unfold ins scr
    isplitl [H2 H3 H4]
    · isplitl [H2]; · iexact H2
      isplitl [H3]; · iexact H3
      iexact H4
    iexists m; iexists a
    isplitr; · ipureintro; trivial
    isplitl [H10]; · iexact H10
    iexact H11
  iapply (wp_wand frame (wpE (defs₀ (F := Ideal)) Variants.none (c : Thread nD τ) none) E) $$ Hb
  iintro %_ Hb
  unfold ins scr
  icases Hb with ⟨⟨H2, H3, H4⟩, ⟨%m', %a', %hd, H10, H11⟩⟩
  rw [← wp_bind, finish_eq]
  iapply finish_runs q k v n c E g x w fn arg5 arg6 arg7 arg8 arg9 arg11 m' a' hd
  isplitl [H11]; · iexact H11
  isplitl [H5]; · iexact H5
  isplitl [H6]; · iexact H6
  isplitl [H7]; · iexact H7
  isplitl [H8]; · iexact H8
  isplitl [H9]; · iexact H9
  iintro H11 H5 H6 H7 H8 H9
  iapply HQ
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists m'; iexact H10
  iexists a'; iexact H11

end Cert.KernelIdeal.Attn

end
-- ==== Proof.Attn.Region.lean ====
/- The attention call over its grid: what every point leaves in the result's block, and that the call's body does so. -/
module

public import proofs.«01_k».proof.Proof.Attn.Body
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline (Dat Cfg Window BodyObligation cellOf)
open Cert.KernelIdeal.Gen hiding cond1_0 cond1_1 cond1_2 cond1_3

local notation "𝕄" => MT nD τ sig Unit (Elt Ideal) ℕ (UR sig nD τ) ℕ

variable (V : (c : Dev nD) → (b : Ref sig .tc) → Buf (Elt Ideal) ((c : Thread nD τ).loc b))

/-- What the point `t` leaves in the result's block, from the blocks it reads. -/
def outAt (c : Dev nD) (t : Fin cfg1.N) : Vec Ideal S1x512x1024 .f32 :=
  outVec (attnVec (iblk1 V c 0 t) (iblk1 V c 1 t) (iblk1 V c 2 t) (t.val % 4)) (iblk1 V c 3 t) (iblk1 V c 4 t) (iblk1 V c 5 t) (iblk1 V c 6 t)

/-- The attention call's data: its arrays as the call finds them, the inputs' blocks unchanged, the result's block at `outAt`. -/
def dat (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt V c t
  Φ _ := Pipeline.ΦA spec1 c
  q _ := fullShare
  owed _ := 0

theorem dat_A (c : Dev nD) (w : Fin cfg1.W) : (dat V c).A w = V c (Pipeline.arrRef spec1 w) := by
  dsimp only [dat]

theorem dat_after (c : Dev nD) (t : Fin cfg1.N) : (dat V c).after 7 t = outAt V c t := by dsimp only [dat]

theorem inBlock (t : Fin cfg1.N) : InBlock (grid1.coords t) (t.val % 4) := ⟨hcond1_0 t, hcond1_1 t, hcond1_2 t, hcond1_3 t⟩

theorem before_0 (c : Dev nD) (t : Fin cfg1.N) (d) : (dat V c).before 0 t d = iblk1 V c 0 t :=
  before1_0_of V (dat V c) (dat_A V c 0) (fun t => by dsimp only [dat]) t d
theorem before_1 (c : Dev nD) (t : Fin cfg1.N) (d) : (dat V c).before 1 t d = iblk1 V c 1 t :=
  before1_1_of V (dat V c) (dat_A V c 1) (fun t => by dsimp only [dat]) t d
theorem before_2 (c : Dev nD) (t : Fin cfg1.N) (d) : (dat V c).before 2 t d = iblk1 V c 2 t :=
  before1_2_of V (dat V c) (dat_A V c 2) (fun t => by dsimp only [dat]) t d
theorem before_3 (c : Dev nD) (t : Fin cfg1.N) (d) : (dat V c).before 3 t d = iblk1 V c 3 t :=
  before1_3_of V (dat V c) (dat_A V c 3) (fun t => by dsimp only [dat]) t d
theorem before_4 (c : Dev nD) (t : Fin cfg1.N) (d) : (dat V c).before 4 t d = iblk1 V c 4 t :=
  before1_4_of V (dat V c) (dat_A V c 4) (fun t => by dsimp only [dat]) t d
theorem before_5 (c : Dev nD) (t : Fin cfg1.N) (d) : (dat V c).before 5 t d = iblk1 V c 5 t :=
  before1_5_of V (dat V c) (dat_A V c 5) (fun t => by dsimp only [dat]) t d
theorem before_6 (c : Dev nD) (t : Fin cfg1.N) (d) : (dat V c).before 6 t d = iblk1 V c 6 t :=
  before1_6_of V (dat V c) (dat_A V c 6) (fun t => by dsimp only [dat]) t d

theorem body_triple (hV : ∀ c t, Fin2 (iblk1 V c 0 t) (iblk1 V c 1 t)) (c : Dev nD) (t : Fin cfg1.N) :
    iprop((dat V c).Φ t.castSucc ∗ (dat V c).owesAt () t.castSucc
      ∗ (∃ d, owns (c : Thread nD τ) (ms1_0 t) fullShare ((dat V c).before 0 t d))
      ∗ (∃ d, owns (c : Thread nD τ) (ms1_1 t) fullShare ((dat V c).before 1 t d))
      ∗ (∃ d, owns (c : Thread nD τ) (ms1_2 t) fullShare ((dat V c).before 2 t d))
      ∗ (∃ d, owns (c : Thread nD τ) (ms1_3 t) fullShare ((dat V c).before 3 t d))
      ∗ (∃ d, owns (c : Thread nD τ) (ms1_4 t) fullShare ((dat V c).before 4 t d))
      ∗ (∃ d, owns (c : Thread nD τ) (ms1_5 t) fullShare ((dat V c).before 5 t d))
      ∗ (∃ d, owns (c : Thread nD τ) (ms1_6 t) fullShare ((dat V c).before 6 t d))
      ∗ (∃ d, owns (c : Thread nD τ) (ms1_7 t) fullShare ((dat V c).before 7 t d)))
    ⊢ wp frame (wpE (defs₀ (F := Ideal)) Variants.none c none) Set.univ (bodyAt1 t) (fun _ =>
      iprop((dat V c).Φ t.succ ∗ (dat V c).owesAt () t.succ
      ∗ owns (c : Thread nD τ) (ms1_0 t) fullShare ((dat V c).after 0 t)
      ∗ owns (c : Thread nD τ) (ms1_1 t) fullShare ((dat V c).after 1 t)
      ∗ owns (c : Thread nD τ) (ms1_2 t) fullShare ((dat V c).after 2 t)
      ∗ owns (c : Thread nD τ) (ms1_3 t) fullShare ((dat V c).after 3 t)
      ∗ owns (c : Thread nD τ) (ms1_4 t) fullShare ((dat V c).after 4 t)
      ∗ owns (c : Thread nD τ) (ms1_5 t) fullShare ((dat V c).after 5 t)
      ∗ owns (c : Thread nD τ) (ms1_6 t) fullShare ((dat V c).after 6 t)
      ∗ owns (c : Thread nD τ) (ms1_7 t) fullShare ((dat V c).after 7 t))) := by
  unfold bodyAt1
  simp only [before_0, before_1, before_2, before_3, before_4, before_5, before_6]
  rw [show (dat V c).Φ t.succ = (dat V c).Φ t.castSucc from rfl, show (dat V c).owesAt () t.succ = (dat V c).owesAt () t.castSucc from rfl,
    show (dat V c).Φ t.castSucc = Pipeline.ΦA spec1 c from rfl, PhiA1_eq, dat_after]
  iintro ⟨⟨⟨HS0, HS1, HR2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply cc1_runs (iblk1 V c 0 t) (iblk1 V c 1 t) (iblk1 V c 2 t) (iblk1 V c 3 t) (iblk1 V c 4 t) (iblk1 V c 5 t) (iblk1 V c 6 t)
    c Set.univ (grid1.coords t) _ _ _ _ _ _ _ _ _ _ _ _ _ _ _ _ _ _ _ _ (hV c t) (t.val % 4) (by omega) (inBlock t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 HR2 Hg]
  · isplitl [HS0 HS1 HR2]
    · isplitl [HS0]; · iexact HS0
      isplitl [HS1]; · iexact HS1
      iexact HR2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem obligation (hV : ∀ c t, Fin2 (iblk1 V c 0 t) (iblk1 V c 1 t)) (c : Dev nD) :
    BodyObligation (dat V c) (defs₀ (F := Ideal)) Variants.none () Set.univ := fun t => by
  rw [bigSep_W1, bigSep_W1, defs₀_row1]
  exact triple_restated (body_triple V hV c t) rfl .rfl fun _ => .rfl

end Cert.KernelIdeal.Attn

end
-- ==== Proof.Proj.Program.lean ====
/- The projection kernel's program, head by head, and that the printed body is it. -/
module

public import proofs.«01_k».proof.Proof.Attn.Steps
public import Idealize.ShloMosaic.Lib.Tactic

@[expose] public section

set_option maxRecDepth 65536

noncomputable section

namespace Cert.KernelIdeal.Proj

open Idealize.ShloMosaic Idealize.ShloMosaic.TcCoe Idealize.ShloMosaic.Tactic
open Idealize.SL Idealize.SL.Sem
open Cert.KernelIdeal.Gen
open Cert.KernelIdeal.Attn (TcProg inb4)

variable {F : FTy → Type} [FloatOps F] [Named F]

/-! ## The vectors -/

/-- The rows over their root mean squares. -/
def normX (x : Vec F S1x1024x1024 .f32) : FVec F S1024x1024 .f32 :=
  mulf (shapeCast S1024x1024 x shapeCasts_S1x1024x1024_S1024x1024) (broadcastTo S1024x1024 (rsqrt (addf (divf
      (shapeCast S1024x1 (multiReduction .add [1] S1024 (mulf (shapeCast S1024x1024 x shapeCasts_S1x1024x1024_S1024x1024)
        (shapeCast S1024x1024 x shapeCasts_S1x1024x1024_S1024x1024)) 0x00000000#32 reduces_S1024x1024_S1024 (.inl rfl) rfl) shapeCasts_S1024_S1024x1)
      (broadcast S1024x1 (Scalar.ofBits .f32 0x44800000#32 : F .f32))) (broadcast S1024x1 (Scalar.ofBits .f32 0x358637BD#32 : F .f32))))
      broadcasts_S1024x1_S1024x1024)

/-- The normed rows times a weight row. -/
def weigh (xn : FVec F S1024x1024 .f32) (w : Vec F S1x1024 .f32) : FVec F S1024x1024 .bf16 :=
  truncf .bf16 (mulf xn (broadcastTo S1024x1024 (shapeCast S1x1024 w shapeCasts_S1x1024_S1x1024) broadcasts_S1x1024_S1024x1024)) bitsLt_bf16_f32

/-- The rows' shared keys and values before their norm. -/
def ckvRaw (hk : FVec F S1024x1024 .bf16) (w : Vec F S1024x256 .bf16) : FVec F S1024x256 .f32 :=
  matmul dot_S1024x1024_S1024x256_S1024x256_1_0_0_1_n_n none hk (shapeCast S1024x256 w shapeCasts_S1024x256_S1024x256)
    (constant S1024x256 .f32 0x00000000#32)

/-- The same, normed and weighed. -/
def ckv (y : FVec F S1024x256 .f32) (g : Vec F S1x256 .f32) : FVec F S1024x256 .bf16 :=
  truncf .bf16 (mulf (mulf y (broadcastTo S1024x256 (rsqrt (addf (divf
      (shapeCast S1024x1 (multiReduction .add [1] S1024 (mulf y y) 0x00000000#32 reduces_S1024x256_S1024 (.inl rfl) rfl) shapeCasts_S1024_S1024x1)
      (broadcast S1024x1 (Scalar.ofBits .f32 0x43800000#32 : F .f32))) (broadcast S1024x1 (Scalar.ofBits .f32 0x358637BD#32 : F .f32))))
      broadcasts_S1024x1_S1024x256))
    (broadcastTo S1024x256 (shapeCast S1x256 g shapeCasts_S1x256_S1x256) broadcasts_S1x256_S1024x256)) bitsLt_bf16_f32

/-- The keys' turned part, shared by the heads. -/
def keyTurn (hk : FVec F S1024x1024 .bf16) (w : Vec F S128x1024 .bf16) (cst : Vec F S128x1024 .f32) : FVec F S64x1024 .bf16 :=
  let p := mulf (matmul dot_S128x1024_S1024x1024_S128x1024_1_1_0_0_n_n none (shapeCast S128x1024 w shapeCasts_S128x1024_S128x1024) hk
    (constant S128x1024 .f32 0x00000000#32)) (shapeCast S128x1024 cst shapeCasts_S128x1024_S128x1024)
  truncf .bf16 (addf (extractStridedSlice S64x1024 ![0, 0] p slices_S128x1024_o0_0_S64x1024)
    (extractStridedSlice S64x1024 ![64, 0] p slices_S128x1024_o64_0_S64x1024)) bitsLt_bf16_f32

/-- The heads' keys, one below another. -/
def keysAll (ck : FVec F S1024x256 .bf16) (w : Vec F S1024x256 .bf16) : FVec F S1024x1024 .f32 :=
  matmul dot_S1024x256_S1024x256_S1024x1024_1_1_0_0_n_n none (shapeCast S1024x256 w shapeCasts_S1024x256_S1024x256) ck
    (constant S1024x1024 .f32 0x00000000#32)

/-- The heads' values, side by side. -/
def valuesAll (ck : FVec F S1024x256 .bf16) (w : Vec F S256x1024 .bf16) : FVec F S1024x1024 .f32 :=
  matmul dot_S1024x256_S256x1024_S1024x1024_1_0_0_1_n_n none ck (shapeCast S256x1024 w shapeCasts_S256x1024_S256x1024)
    (constant S1024x1024 .f32 0x00000000#32)

/-- The queries' inner rows before their norm. -/
def cqRaw (hq : FVec F S1024x1024 .bf16) (w : Vec F S1024x384 .bf16) : FVec F S1024x384 .f32 :=
  matmul dot_S1024x1024_S1024x384_S1024x384_1_0_0_1_n_n none hq (shapeCast S1024x384 w shapeCasts_S1024x384_S1024x384)
    (constant S1024x384 .f32 0x00000000#32)

/-- The same, normed, weighed and scaled. -/
def cq (y : FVec F S1024x384 .f32) (g : Vec F S1x384 .f32) : FVec F S1024x384 .bf16 :=
  truncf .bf16 (mulf (mulf y (broadcastTo S1024x384 (rsqrt (addf (divf
      (shapeCast S1024x1 (multiReduction .add [1] S1024 (mulf y y) 0x00000000#32 reduces_S1024x384_S1024 (.inl rfl) rfl) shapeCasts_S1024_S1024x1)
      (broadcast S1024x1 (Scalar.ofBits .f32 0x43C00000#32 : F .f32))) (broadcast S1024x1 (Scalar.ofBits .f32 0x358637BD#32 : F .f32))))
      broadcasts_S1024x1_S1024x384))
    (broadcastTo S1024x384 (mulf (shapeCast S1x384 g shapeCasts_S1x384_S1x384)
      (broadcast S1x384 (Named.named κ "q_scale" 0x3DD53B95#32 : F .f32))) broadcasts_S1x384_S1024x384)) bitsLt_bf16_f32

/-- The gate before its nonlinearity. -/
def gateRaw (hq : FVec F S1024x1024 .bf16) (w : Vec F S1024x1024 .bf16) : FVec F S1024x1024 .f32 :=
  matmul dot_S1024x1024_S1024x1024_S1024x1024_1_0_0_1_n_n none hq (shapeCast S1024x1024 w shapeCasts_S1024x1024_S1024x1024)
    (constant S1024x1024 .f32 0x00000000#32)

/-- The gate: its row times its logistic. -/
def gate (y : FVec F S1024x1024 .f32) : Vec F S1x1024x1024 .bf16 :=
  shapeCast S1x1024x1024 (truncf .bf16 (mulf y (divf (broadcast S1024x1024 (Scalar.ofBits .f32 0x3F800000#32 : F .f32))
    (addf (broadcast S1024x1024 (Scalar.ofBits .f32 0x3F800000#32 : F .f32))
      (exp2 (mulf y (broadcast S1024x1024 (Named.named κ "neg_log2e" 0xBFB8AA3B#32 : F .f32))))))) bitsLt_bf16_f32) shapeCasts_S1024x1024_S1x1024x1024

/-- A head's queries before the turn. -/
def qRaw (c : FVec F S1024x384 .bf16) (w : Vec F S384x256 .bf16) : FVec F S1024x256 .f32 :=
  matmul dot_S1024x384_S384x256_S1024x256_1_0_0_1_n_n none c (shapeCast S384x256 w shapeCasts_S384x256_S384x256)
    (constant S1024x256 .f32 0x00000000#32)

/-- The part of a head's queries that is not turned. -/
def qPlain (q : FVec F S1024x256 .f32) : Vec F S1x1x1024x128 .bf16 :=
  shapeCast S1x1x1024x128 (truncf .bf16 (extractStridedSlice S1024x128 ![0, 0] q slices_S1024x256_o0_0_S1024x128) bitsLt_bf16_f32)
    shapeCasts_S1024x128_S1x1x1024x128

/-- The turned part. -/
def qTurn (q : FVec F S1024x256 .f32) (cs : Vec F S1024x128 .f32) : Vec F S1x1x1024x64 .bf16 :=
  let p := mulf (extractStridedSlice S1024x128 ![0, 128] q slices_S1024x256_o0_128_S1024x128) (shapeCast S1024x128 cs shapeCasts_S1024x128_S1024x128)
  shapeCast S1x1x1024x64 (truncf .bf16 (extractStridedSlice S1024x64 ![0, 0] (addf p (dynamicRotate 1 64#32 none p rotates_S1024x128_d1))
    slices_S1024x128_o0_0_S1024x64) bitsLt_bf16_f32) shapeCasts_S1024x64_S1x1x1024x64

theorem slicesK (h : Fin 8) : S1024x1024.Slices ![h.val * 128, 0] S128x1024 := by revert h; decide +kernel
theorem slicesV (h : Fin 8) : S1024x1024.Slices ![0, h.val * 128] S1024x128 := by revert h; decide +kernel

/-- Head `h`'s keys. -/
def keyPlain (k : FVec F S1024x1024 .f32) (h : Fin 8) : Vec F S1x1x128x1024 .bf16 :=
  shapeCast S1x1x128x1024 (truncf .bf16 (extractStridedSlice S128x1024 ![h.val * 128, 0] k (slicesK h)) bitsLt_bf16_f32)
    shapeCasts_S128x1024_S1x1x128x1024

/-- Head `h`'s values. -/
def valueOf (v : FVec F S1024x1024 .f32) (h : Fin 8) : Vec F S1x1x1024x128 .bf16 :=
  shapeCast S1x1x1024x128 (truncf .bf16 (extractStridedSlice S1024x128 ![0, h.val * 128] v (slicesV h)) bitsLt_bf16_f32)
    shapeCasts_S1024x128_S1x1x1024x128

/-! ## The rectangles -/

abbrev rectKN (h : Fin 8) : Rect S1x8x192x1024 :=
  Rect.unit (s := S1x8x192x1024) ![0, h.val, 0, 0] S1x1x128x1024.size
    (inb4 (A := 1) (B := 1) (C := 128) (D := 1024) (le_refl 1) h.isLt (by omega : 0 + 128 ≤ 192) (le_refl 1024))
abbrev rectKR (h : Fin 8) : Rect S1x8x192x1024 :=
  Rect.unit (s := S1x8x192x1024) ![0, h.val, 128, 0] S1x1x64x1024.size
    (inb4 (A := 1) (B := 1) (C := 64) (D := 1024) (le_refl 1) h.isLt (by omega : 128 + 64 ≤ 192) (le_refl 1024))
abbrev rectV (h : Fin 8) : Rect S1x8x1024x128 :=
  Rect.unit (s := S1x8x1024x128) ![0, h.val, 0, 0] S1x1x1024x128.size
    (inb4 (A := 1) (B := 1) (C := 1024) (D := 128) (le_refl 1) h.isLt (le_refl 1024) (le_refl 128))
abbrev rectQN (h : Fin 8) : Rect S1x8x1024x192 :=
  Rect.unit (s := S1x8x1024x192) ![0, h.val, 0, 0] S1x1x1024x128.size
    (inb4 (A := 1) (B := 1) (C := 1024) (D := 128) (le_refl 1) h.isLt (le_refl 1024) (by omega : 0 + 128 ≤ 192))
abbrev rectQR (h : Fin 8) : Rect S1x8x1024x192 :=
  Rect.unit (s := S1x8x1024x192) ![0, h.val, 0, 128] S1x1x1024x64.size
    (inb4 (A := 1) (B := 1) (C := 1024) (D := 64) (le_refl 1) h.isLt (le_refl 1024) (by omega : 128 + 64 ≤ 192))

theorem inbW (h : Fin 8) : ∀ x, (![0, h.val * 256] : Fin 2 → ℕ) x + S384x256.size x ≤ S384x2048.size x := by revert h; decide +kernel
abbrev rectW (h : Fin 8) : Rect S384x2048 := Rect.unit (s := S384x2048) ![0, h.val * 256] S384x256.size (inbW h)

theorem packKN (h : Fin 8) : (rectKN h).PackedRows (EltTy.packing .bf16) := by revert h; decide +kernel
theorem packKR (h : Fin 8) : (rectKR h).PackedRows (EltTy.packing .bf16) := by revert h; decide +kernel
theorem packV (h : Fin 8) : (rectV h).PackedRows (EltTy.packing .bf16) := by revert h; decide +kernel
theorem packQN (h : Fin 8) : (rectQN h).PackedRows (EltTy.packing .bf16) := by revert h; decide +kernel
theorem packQR (h : Fin 8) : (rectQR h).PackedRows (EltTy.packing .bf16) := by revert h; decide +kernel

/-! ## The programs -/

/-- Head `h`'s keys and values are stored. -/
def keepKV (arg17 : Memref sig .tc .vmem S1x8x192x1024 .bf16) (harg17 : arg17.IsWhole) (arg18 : Memref sig .tc .vmem S1x8x1024x128 .bf16)
    (harg18 : arg18.IsWhole) (kr : FVec F S64x1024 .bf16) (k v : FVec F S1024x1024 .f32) (h : Fin 8) : TcProg F PUnit := do
  let _ ← Prog.lift (.load arg17 (rectKN h).toLoadRect (View.loadsAt_vmem h_S1x1x128x1024))
  Prog.lift (.store arg17 (rectKN h) (keyPlain k h) Finset.univ
    (View.stores_vmem h_S1x1x128x1024 (harg17.storeExact_slice rfl _ (packKN h)) (fun _ => rfl)) (.inl rfl))
  let _ ← Prog.lift (.load arg17 (rectKR h).toLoadRect (View.loadsAt_vmem h_S1x1x64x1024))
  Prog.lift (.store arg17 (rectKR h) (shapeCast S1x1x64x1024 kr shapeCasts_S64x1024_S1x1x64x1024) Finset.univ
    (View.stores_vmem h_S1x1x64x1024 (harg17.storeExact_slice rfl _ (packKR h)) (fun _ => rfl)) (.inl rfl))
  let _ ← Prog.lift (.load arg18 (rectV h).toLoadRect (View.loadsAt_vmem h_S1x1x1024x128))
  Prog.lift (.store arg18 (rectV h) (valueOf v h) Finset.univ
    (View.stores_vmem h_S1x1x1024x128 (harg18.storeExact_slice rfl _ (packV h)) (fun _ => rfl)) (.inl rfl))

/-- Head `h`'s queries are computed and stored. -/
def keepQ (arg15 : Memref sig .tc .vmem S384x2048 .bf16) (arg16 : Memref sig .tc .vmem S1x8x1024x192 .bf16) (harg16 : arg16.IsWhole)
    (c : FVec F S1024x384 .bf16) (cs : Vec F S1024x128 .f32) (h : Fin 8) : TcProg F PUnit := do
  let w ← Prog.lift (.load arg15 (rectW h).toLoadRect (View.loadsAt_vmem h_S384x256))
  let _ ← Prog.lift (.load arg16 (rectQN h).toLoadRect (View.loadsAt_vmem h_S1x1x1024x128))
  Prog.lift (.store arg16 (rectQN h) (qPlain (qRaw c w)) Finset.univ
    (View.stores_vmem h_S1x1x1024x128 (harg16.storeExact_slice rfl _ (packQN h)) (fun _ => rfl)) (.inl rfl))
  let _ ← Prog.lift (.load arg16 (rectQR h).toLoadRect (View.loadsAt_vmem h_S1x1x1024x64))
  Prog.lift (.store arg16 (rectQR h) (qTurn (qRaw c w) cs) Finset.univ
    (View.stores_vmem h_S1x1x1024x64 (harg16.storeExact_slice rfl _ (packQR h)) (fun _ => rfl)) (.inl rfl))

/-- Something done for every head in turn. -/
def eight (p : Fin 8 → TcProg F PUnit) : TcProg F PUnit := do
  p 0; p 1; p 2; p 3; p 4; p 5; p 6; p 7

/-- The whole body. -/
def proj (i : grid0.Coords)
  (arg2 : Memref sig .tc .vmem S1x1024x1024 .f32) (harg2 : arg2.IsWhole)
  (arg3 : Memref sig .tc .vmem S1024x128 .f32) (harg3 : arg3.IsWhole)
  (arg4 : Memref sig .tc .vmem S128x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1024x256 .bf16) (harg7 : arg7.IsWhole)
  (arg8 : Memref sig .tc .vmem S128x1024 .bf16) (harg8 : arg8.IsWhole)
  (arg9 : Memref sig .tc .vmem S1x256 .f32) (harg9 : arg9.IsWhole)
  (arg10 : Memref sig .tc .vmem S1024x256 .bf16) (harg10 : arg10.IsWhole)
  (arg11 : Memref sig .tc .vmem S256x1024 .bf16) (harg11 : arg11.IsWhole)
  (arg12 : Memref sig .tc .vmem S1024x384 .bf16) (harg12 : arg12.IsWhole)
  (arg13 : Memref sig .tc .vmem S1024x1024 .bf16) (harg13 : arg13.IsWhole)
  (arg14 : Memref sig .tc .vmem S1x384 .f32) (harg14 : arg14.IsWhole)
  (arg15 : Memref sig .tc .vmem S384x2048 .bf16) (harg15 : arg15.IsWhole)
  (arg16 : Memref sig .tc .vmem S1x8x1024x192 .bf16) (harg16 : arg16.IsWhole)
  (arg17 : Memref sig .tc .vmem S1x8x192x1024 .bf16) (harg17 : arg17.IsWhole)
  (arg18 : Memref sig .tc .vmem S1x8x1024x128 .bf16) (harg18 : arg18.IsWhole)
  (arg19 : Memref sig .tc .vmem S1x1024x1024 .bf16) (harg19 : arg19.IsWhole) : TcProg F PUnit := do
  let x ← Prog.lift (.load arg2 (Rect.unit (s := S1x1024x1024) ![0, 0, 0] S1x1024x1024.size inb_S1x1024x1024_S1x1024x1024_0_0_0).toLoadRect
    (View.loadsAt_vmem h_S1x1024x1024))
  let cs ← Prog.lift (.load arg3 (Rect.unit (s := S1024x128) ![0, 0] S1024x128.size inb_S1024x128_S1024x128_0_0).toLoadRect
    (View.loadsAt_vmem h_S1024x128))
  let nkv ← Prog.lift (.load arg5 (Rect.unit (s := S1x1024) ![0, 0] S1x1024.size inb_S1x1024_S1x1024_0_0).toLoadRect
    (View.loadsAt_vmem h_S1x1024))
  let wdkv ← Prog.lift (.load arg7 (Rect.unit (s := S1024x256) ![0, 0] S1024x256.size inb_S1024x256_S1024x256_0_0).toLoadRect
    (View.loadsAt_vmem h_S1024x256))
  let kvn ← Prog.lift (.load arg9 (Rect.unit (s := S1x256) ![0, 0] S1x256.size inb_S1x256_S1x256_0_0).toLoadRect
    (View.loadsAt_vmem h_S1x256))
  let wr ← Prog.lift (.load arg8 (Rect.unit (s := S128x1024) ![0, 0] S128x1024.size inb_S128x1024_S128x1024_0_0).toLoadRect
    (View.loadsAt_vmem h_S128x1024))
  let cst ← Prog.lift (.load arg4 (Rect.unit (s := S128x1024) ![0, 0] S128x1024.size inb_S128x1024_S128x1024_0_0).toLoadRect
    (View.loadsAt_vmem h_S128x1024))
  let wuk ← Prog.lift (.load arg10 (Rect.unit (s := S1024x256) ![0, 0] S1024x256.size inb_S1024x256_S1024x256_0_0).toLoadRect
    (View.loadsAt_vmem h_S1024x256))
  let wuv ← Prog.lift (.load arg11 (Rect.unit (s := S256x1024) ![0, 0] S256x1024.size inb_S256x1024_S256x1024_0_0).toLoadRect
    (View.loadsAt_vmem h_S256x1024))
  eight (keepKV arg17 harg17 arg18 harg18 (keyTurn (weigh (normX x) nkv) wr cst)
    (keysAll (ckv (ckvRaw (weigh (normX x) nkv) wdkv) kvn) wuk) (valuesAll (ckv (ckvRaw (weigh (normX x) nkv) wdkv) kvn) wuv))
  let nb ← Prog.lift (.load arg6 (Rect.unit (s := S1x1024) ![0, 0] S1x1024.size inb_S1x1024_S1x1024_0_0).toLoadRect
    (View.loadsAt_vmem h_S1x1024))
  let winq ← Prog.lift (.load arg12 (Rect.unit (s := S1024x384) ![0, 0] S1024x384.size inb_S1024x384_S1024x384_0_0).toLoadRect
    (View.loadsAt_vmem h_S1024x384))
  let qn ← Prog.lift (.load arg14 (Rect.unit (s := S1x384) ![0, 0] S1x384.size inb_S1x384_S1x384_0_0).toLoadRect
    (View.loadsAt_vmem h_S1x384))
  let wing ← Prog.lift (.load arg13 (Rect.unit (s := S1024x1024) ![0, 0] S1024x1024.size inb_S1024x1024_S1024x1024_0_0).toLoadRect
    (View.loadsAt_vmem h_S1024x1024))
  let _ ← Prog.lift (.load arg19 (Rect.unit (s := S1x1024x1024) ![0, 0, 0] S1x1024x1024.size inb_S1x1024x1024_S1x1024x1024_0_0_0).toLoadRect
    (View.loadsAt_vmem h_S1x1024x1024))
  Prog.lift (.store arg19 (Rect.unit (s := S1x1024x1024) ![0, 0, 0] S1x1024x1024.size inb_S1x1024x1024_S1x1024x1024_0_0_0)
    (gate (gateRaw (weigh (normX x) nb) wing)) Finset.univ
    (View.stores_vmem h_S1x1024x1024 (harg19.storeExact_slice rfl _ packedbf16_S1x1024x1024_S1x1024x1024_0_0_0) (fun _ => rfl)) (.inl rfl))
  eight (keepQ arg15 arg16 harg16 (cq (cqRaw (weigh (normX x) nb) winq) qn) cs)

theorem cc0_eq (i : grid0.Coords)
  (arg2 : Memref sig .tc .vmem S1x1024x1024 .f32) (harg2 : arg2.IsWhole)
  (arg3 : Memref sig .tc .vmem S1024x128 .f32) (harg3 : arg3.IsWhole)
  (arg4 : Memref sig .tc .vmem S128x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1024x256 .bf16) (harg7 : arg7.IsWhole)
  (arg8 : Memref sig .tc .vmem S128x1024 .bf16) (harg8 : arg8.IsWhole)
  (arg9 : Memref sig .tc .vmem S1x256 .f32) (harg9 : arg9.IsWhole)
  (arg10 : Memref sig .tc .vmem S1024x256 .bf16) (harg10 : arg10.IsWhole)
  (arg11 : Memref sig .tc .vmem S256x1024 .bf16) (harg11 : arg11.IsWhole)
  (arg12 : Memref sig .tc .vmem S1024x384 .bf16) (harg12 : arg12.IsWhole)
  (arg13 : Memref sig .tc .vmem S1024x1024 .bf16) (harg13 : arg13.IsWhole)
  (arg14 : Memref sig .tc .vmem S1x384 .f32) (harg14 : arg14.IsWhole)
  (arg15 : Memref sig .tc .vmem S384x2048 .bf16) (harg15 : arg15.IsWhole)
  (arg16 : Memref sig .tc .vmem S1x8x1024x192 .bf16) (harg16 : arg16.IsWhole)
  (arg17 : Memref sig .tc .vmem S1x8x192x1024 .bf16) (harg17 : arg17.IsWhole)
  (arg18 : Memref sig .tc .vmem S1x8x1024x128 .bf16) (harg18 : arg18.IsWhole)
  (arg19 : Memref sig .tc .vmem S1x1024x1024 .bf16) (harg19 : arg19.IsWhole) :
    cc0_mla_proj (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  sl_kernel_rfl

end Cert.KernelIdeal.Proj

end
-- ==== Proof.Proj.Body.lean ====
/- What the projection's body leaves in its four results. -/
module

public import proofs.«01_k».proof.Proof.Proj.Program
public import proofs.«01_k».proof.Proof.Attn.Body

@[expose] public section

set_option maxRecDepth 16384

noncomputable section

namespace Cert.KernelIdeal.Proj

open Idealize.ShloMosaic Idealize.ShloMosaic.TcCoe Idealize.ShloMosaic.Tactic
open Idealize.SL Idealize.SL.RA Idealize.SL.Sem Idealize.SL.ProofMode
open Idealize.SL.BI (sProp)
open scoped Idealize.SL.BI
open Idealize.SL.BI.BIBase Idealize.SL.BI.Laws
open Cert.KernelIdeal.Gen
open Cert.KernelIdeal.Attn (TcProg W put put_emb put_miss load_owns store_owns store_owns_last unit_emb put_unit)

local notation "𝕄" => MT nD τ sig Unit (Elt Ideal) ℕ (UR sig nD τ) ℕ

/-! ## The results -/

/-- The keys of all heads: below 128 a head's own, then the shared turned part. -/
def kArr (kr : FVec Ideal S64x1024 .bf16) (k : FVec Ideal S1024x1024 .f32) : Vec Ideal S1x8x192x1024 .bf16 := fun i =>
  if h : (i 2).val < 128 then keyPlain k (i 1) (ix4 (0 : Fin 1) (0 : Fin 1) (⟨(i 2).val, h⟩ : Fin 128) (i 3))
  else shapeCast S1x1x64x1024 kr shapeCasts_S64x1024_S1x1x64x1024
    (ix4 (0 : Fin 1) (0 : Fin 1) (⟨(i 2).val - 128, by have : (i 2).val < 192 := (i 2).isLt; omega⟩ : Fin 64) (i 3))

/-- The values of all heads. -/
def vArr (v : FVec Ideal S1024x1024 .f32) : Vec Ideal S1x8x1024x128 .bf16 := fun i =>
  valueOf v (i 1) (ix4 (0 : Fin 1) (0 : Fin 1) (i 2) (i 3))

/-- The queries of all heads: below 128 the plain part, then the turned part. -/
def qArr (c : FVec Ideal S1024x384 .bf16) (w : Vec Ideal S384x2048 .bf16) (cs : Vec Ideal S1024x128 .f32) : Vec Ideal S1x8x1024x192 .bf16 := fun i =>
  if h : (i 3).val < 128 then qPlain (qRaw c (fun y => w ((rectW (i 1)).emb y))) (ix4 (0 : Fin 1) (0 : Fin 1) (i 2) (⟨(i 3).val, h⟩ : Fin 128))
  else qTurn (qRaw c (fun y => w ((rectW (i 1)).emb y))) cs
    (ix4 (0 : Fin 1) (0 : Fin 1) (i 2) (⟨(i 3).val - 128, by have : (i 3).val < 192 := (i 3).isLt; omega⟩ : Fin 64))

theorem kArr_low (kr : FVec Ideal S64x1024 .bf16) (k : FVec Ideal S1024x1024 .f32) (h : Fin 8) (d : Fin 192) (r : Fin 1024) (hd : d.val < 128) :
    kArr kr k (ix4 0 h d r) = keyPlain k h (ix4 (0 : Fin 1) (0 : Fin 1) (⟨d.val, hd⟩ : Fin 128) r) := by
  unfold kArr; exact dif_pos hd
theorem kArr_high (kr : FVec Ideal S64x1024 .bf16) (k : FVec Ideal S1024x1024 .f32) (h : Fin 8) (d : Fin 192) (r : Fin 1024) (hd : ¬ d.val < 128) :
    kArr kr k (ix4 0 h d r) = shapeCast S1x1x64x1024 kr shapeCasts_S64x1024_S1x1x64x1024
      (ix4 (0 : Fin 1) (0 : Fin 1) (⟨d.val - 128, by omega⟩ : Fin 64) r) := by
  unfold kArr; exact dif_neg hd
theorem qArr_low (c : FVec Ideal S1024x384 .bf16) (w : Vec Ideal S384x2048 .bf16) (cs : Vec Ideal S1024x128 .f32) (h : Fin 8) (r : Fin 1024) (d : Fin 192)
    (hd : d.val < 128) : qArr c w cs (ix4 0 h r d)
      = qPlain (qRaw c (fun y => w ((rectW h).emb y))) (ix4 (0 : Fin 1) (0 : Fin 1) r (⟨d.val, hd⟩ : Fin 128)) := by
  unfold qArr; exact dif_pos hd
theorem qArr_high (c : FVec Ideal S1024x384 .bf16) (w : Vec Ideal S384x2048 .bf16) (cs : Vec Ideal S1024x128 .f32) (h : Fin 8) (r : Fin 1024) (d : Fin 192)
    (hd : ¬ d.val < 128) : qArr c w cs (ix4 0 h r d)
      = qTurn (qRaw c (fun y => w ((rectW h).emb y))) cs (ix4 (0 : Fin 1) (0 : Fin 1) r (⟨d.val - 128, by omega⟩ : Fin 64)) := by
  unfold qArr; exact dif_neg hd

/-- `X` and `Y` agree on the heads below `n`. -/
def Upto {B C : ℕ} (n : ℕ) (X Y : (⟨4, ![1, 8, B, C]⟩ : Shape).Idx → EReal) : Prop :=
  ∀ (h : Fin 8) (b : Fin B) (c : Fin C), h.val < n → X (ix4 0 h b c) = Y (ix4 0 h b c)

theorem upto_all {B C : ℕ} {X Y : (⟨4, ![1, 8, B, C]⟩ : Shape).Idx → EReal} (h : Upto 8 X Y) : X = Y := funext fun i => by
  obtain ⟨a, b, c, d, rfl⟩ : ∃ (a : Fin 1) (b : Fin 8) (c : Fin B) (d : Fin C), i = ix4 a b c d :=
    ⟨i 0, i 1, i 2, i 3, funext fun a => by fin_cases a <;> rfl⟩
  rw [Subsingleton.elim a 0]
  exact h b c d b.isLt

theorem put_k (kr : FVec Ideal S64x1024 .bf16) (k : FVec Ideal S1024x1024 .f32) (h : Fin 8) (X : Vec Ideal S1x8x192x1024 .bf16)
    (hX : Upto h.val X (kArr kr k)) :
    Upto (h.val + 1) (put (rectKR h) (shapeCast S1x1x64x1024 kr shapeCasts_S64x1024_S1x1x64x1024) (put (rectKN h) (keyPlain k h) X)) (kArr kr k) := by
  intro h' d r hn
  have missR : (h' ≠ h ∨ d.val < 128) → ∀ i, (rectKR h).emb i ≠ ix4 0 h' d r := fun hc i e => by
    have e1 : h.val + 1 * (i 1).val = h'.val := congrArg Fin.val (congrFun e 1)
    have e2 : 128 + 1 * (i 2).val = d.val := congrArg Fin.val (congrFun e 2)
    have : (i 1).val < 1 := (i 1).isLt
    rcases hc with hc | hc
    · exact hc (Fin.ext (by omega))
    · omega
  have missN : h' ≠ h → ∀ i, (rectKN h).emb i ≠ ix4 0 h' d r := fun hc i e => by
    have e1 : h.val + 1 * (i 1).val = h'.val := congrArg Fin.val (congrFun e 1)
    have : (i 1).val < 1 := (i 1).isLt
    exact hc (Fin.ext (by omega))
  by_cases hh : h' = h
  · subst hh
    by_cases hd : d.val < 128
    · rw [put_miss _ _ _ _ (missR (.inr hd))]
      have e : (rectKN h').emb (ix4 (0 : Fin 1) (0 : Fin 1) (⟨d.val, hd⟩ : Fin 128) r) = ix4 0 h' d r :=
        Rect.emb_eq_of_coords _ _ _ fun a => by fin_cases a <;> simp [Rect.unit]
      rw [← e, put_emb, e]
      exact (kArr_low kr k h' d r hd).symm
    · have e : (rectKR h').emb (ix4 (0 : Fin 1) (0 : Fin 1) (⟨d.val - 128, by omega⟩ : Fin 64) r) = ix4 0 h' d r :=
        Rect.emb_eq_of_coords _ _ _ fun a => by fin_cases a <;> simp [Rect.unit] <;> omega
      rw [← e, put_emb, e]
      exact (kArr_high kr k h' d r hd).symm
  · rw [put_miss _ _ _ _ (missR (.inl hh)), put_miss _ _ _ _ (missN hh)]
    exact hX h' d r (by have : h'.val ≠ h.val := fun e => hh (Fin.ext e); omega)

theorem put_v (v : FVec Ideal S1024x1024 .f32) (h : Fin 8) (X : Vec Ideal S1x8x1024x128 .bf16)
    (hX : Upto h.val X (vArr v)) : Upto (h.val + 1) (put (rectV h) (valueOf v h) X) (vArr v) := by
  intro h' r d hn
  by_cases hh : h' = h
  · subst hh
    have e : (rectV h').emb (ix4 (0 : Fin 1) (0 : Fin 1) r d) = ix4 0 h' r d :=
      Rect.emb_eq_of_coords _ _ _ fun a => by fin_cases a <;> simp [Rect.unit]
    rw [← e, put_emb, e]
    rfl
  · rw [put_miss _ _ _ _ fun i e => hh (Fin.ext (by
      have e1 : h.val + 1 * (i 1).val = h'.val := congrArg Fin.val (congrFun e 1)
      have : (i 1).val < 1 := (i 1).isLt
      omega))]
    exact hX h' r d (by have : h'.val ≠ h.val := fun e => hh (Fin.ext e); omega)

theorem put_q (c : FVec Ideal S1024x384 .bf16) (w : Vec Ideal S384x2048 .bf16) (cs : Vec Ideal S1024x128 .f32) (h : Fin 8)
    (X : Vec Ideal S1x8x1024x192 .bf16) (hX : Upto h.val X (qArr c w cs)) :
    Upto (h.val + 1) (put (rectQR h) (qTurn (qRaw c (fun y => w ((rectW h).emb y))) cs)
      (put (rectQN h) (qPlain (qRaw c (fun y => w ((rectW h).emb y)))) X)) (qArr c w cs) := by
  intro h' r d hn
  have missR : (h' ≠ h ∨ d.val < 128) → ∀ i, (rectQR h).emb i ≠ ix4 0 h' r d := fun hc i e => by
    have e1 : h.val + 1 * (i 1).val = h'.val := congrArg Fin.val (congrFun e 1)
    have e2 : 128 + 1 * (i 3).val = d.val := congrArg Fin.val (congrFun e 3)
    have : (i 1).val < 1 := (i 1).isLt
    rcases hc with hc | hc
    · exact hc (Fin.ext (by omega))
    · omega
  have missN : h' ≠ h → ∀ i, (rectQN h).emb i ≠ ix4 0 h' r d := fun hc i e => by
    have e1 : h.val + 1 * (i 1).val = h'.val := congrArg Fin.val (congrFun e 1)
    have : (i 1).val < 1 := (i 1).isLt
    exact hc (Fin.ext (by omega))
  by_cases hh : h' = h
  · subst hh
    by_cases hd : d.val < 128
    · rw [put_miss _ _ _ _ (missR (.inr hd))]
      have e : (rectQN h').emb (ix4 (0 : Fin 1) (0 : Fin 1) r (⟨d.val, hd⟩ : Fin 128)) = ix4 0 h' r d :=
        Rect.emb_eq_of_coords _ _ _ fun a => by fin_cases a <;> simp [Rect.unit]
      rw [← e, put_emb, e]
      exact (qArr_low c w cs h' r d hd).symm
    · have e : (rectQR h').emb (ix4 (0 : Fin 1) (0 : Fin 1) r (⟨d.val - 128, by omega⟩ : Fin 64)) = ix4 0 h' r d :=
        Rect.emb_eq_of_coords _ _ _ fun a => by fin_cases a <;> simp [Rect.unit] <;> omega
      rw [← e, put_emb, e]
      exact (qArr_high c w cs h' r d hd).symm
  · rw [put_miss _ _ _ _ (missR (.inl hh)), put_miss _ _ _ _ (missN hh)]
    exact hX h' r d (by have : h'.val ≠ h.val := fun e => hh (Fin.ext e); omega)

/-! ## The programs -/

variable (c : Dev nD) (E : Set ℕ)

/-- A load of a whole buffer gives its contents. -/
theorem load_whole {s : Shape} {e : EltTy} (m : Memref sig .tc .vmem s e) (start : Fin s.rank → ℕ) (h : ∀ a, start a + s.size a ≤ s.size a)
    (h0 : ∀ a, start a = 0) (hl : m.view.LoadsAt (Rect.unit (s := s) start s.size h).toLoadRect) (X : s.Idx → Elt Ideal e) {α : Type}
    (k : (s.Idx → Elt Ideal e) → TcProg Ideal α) (Q : α → sProp 𝕄) :
    iprop(owns (c : Thread nD τ) m fullShare X ∗ (owns (c : Thread nD τ) m fullShare X -∗ W c E (k X) Q))
      ⊢ W c E (Prog.lift (.load m (Rect.unit (s := s) start s.size h).toLoadRect hl) >>= k) Q := by
  have e0 : (fun i => X ((Rect.unit (s := s) start s.size h).emb i)) = X := funext fun i => congrArg X (unit_emb start h0 h i)
  have := load_owns c E m (Rect.unit (s := s) start s.size h) hl X k Q
  rw [e0] at this
  exact this

/-- A step before the rest of a program. -/
theorem step_then {α β : Type} {p : TcProg Ideal α} {k : α → TcProg Ideal β} {I : sProp 𝕄} {J : α → sProp 𝕄} (hp : I ⊢ W c E p J) (Q : β → sProp 𝕄) :
    iprop(I ∗ (∀ a, J a -∗ W c E (k a) Q)) ⊢ W c E (p >>= k) Q := by
  show _ ⊢ wp _ _ _ _ _
  rw [wp_bind]
  iintro ⟨HI, Hk⟩
  ihave Hp := hp $$ HI
  iapply (wp_wand frame (wpE (defs₀ (F := Ideal)) Variants.none (c : Thread nD τ) none) E) $$ Hp
  iexact Hk

theorem step_then' {p k : TcProg Ideal PUnit} {I J : sProp 𝕄} (hp : I ⊢ W c E p (fun _ => J)) {K : sProp 𝕄} (hk : J ⊢ W c E k (fun _ => K)) :
    I ⊢ W c E (p >>= fun _ => k) (fun _ => K) := by
  show _ ⊢ wp _ _ _ _ _
  rw [wp_bind]
  refine hp.trans (wp_mono _ _ _ ?_)
  exact fun _ => hk

theorem eight_runs (p : Fin 8 → TcProg Ideal PUnit) (I : ℕ → sProp 𝕄) (hp : ∀ h : Fin 8, I h.val ⊢ W c E (p h) (fun _ => I (h.val + 1))) :
    I 0 ⊢ W c E (eight p) (fun _ => I 8) := by
  unfold eight
  exact step_then' c E (hp 0) (step_then' c E (hp 1) (step_then' c E (hp 2) (step_then' c E (hp 3) (step_then' c E (hp 4)
    (step_then' c E (hp 5) (step_then' c E (hp 6) (hp 7)))))))

theorem keepKV_runs (arg17 : Memref sig .tc .vmem S1x8x192x1024 .bf16) (harg17 : arg17.IsWhole) (arg18 : Memref sig .tc .vmem S1x8x1024x128 .bf16)
    (harg18 : arg18.IsWhole) (kr : FVec Ideal S64x1024 .bf16) (k v : FVec Ideal S1024x1024 .f32) (h : Fin 8) :
    iprop(∃ X Y, ⌜Upto h.val X (kArr kr k) ∧ Upto h.val Y (vArr v)⌝ ∗ owns (c : Thread nD τ) arg17 fullShare X ∗ owns (c : Thread nD τ) arg18 fullShare Y)
      ⊢ W c E (keepKV arg17 harg17 arg18 harg18 kr k v h) (fun _ =>
        iprop(∃ X Y, ⌜Upto (h.val + 1) X (kArr kr k) ∧ Upto (h.val + 1) Y (vArr v)⌝ ∗ owns (c : Thread nD τ) arg17 fullShare X ∗ owns (c : Thread nD τ) arg18 fullShare Y)) := by
  unfold keepKV
  iintro ⟨%X, %Y, %hXY, HX, HY⟩
  iapply load_owns c E arg17
  isplitl [HX]; · iexact HX
  iintro HX
  iapply store_owns c E arg17
  isplitl [HX]; · iexact HX
  iintro HX
  iapply load_owns c E arg17
  isplitl [HX]; · iexact HX
  iintro HX
  iapply store_owns c E arg17
  isplitl [HX]; · iexact HX
  iintro HX
  iapply load_owns c E arg18
  isplitl [HY]; · iexact HY
  iintro HY
  iapply store_owns_last c E arg18
  isplitl [HY]; · iexact HY
  iintro HY
  iexists _; iexists _
  isplitr
  rotate_left
  · isplitl [HX]; · iexact HX
    iexact HY
  ipureintro
  exact ⟨put_k kr k h X hXY.1, put_v v h Y hXY.2⟩

theorem keepQ_runs (arg15 : Memref sig .tc .vmem S384x2048 .bf16) (arg16 : Memref sig .tc .vmem S1x8x1024x192 .bf16) (harg16 : arg16.IsWhole)
    (cc : FVec Ideal S1024x384 .bf16) (cs : Vec Ideal S1024x128 .f32) (w : Vec Ideal S384x2048 .bf16) (h : Fin 8) :
    iprop(∃ X, ⌜Upto h.val X (qArr cc w cs)⌝ ∗ owns (c : Thread nD τ) arg15 fullShare w ∗ owns (c : Thread nD τ) arg16 fullShare X)
      ⊢ W c E (keepQ arg15 arg16 harg16 cc cs h) (fun _ =>
        iprop(∃ X, ⌜Upto (h.val + 1) X (qArr cc w cs)⌝ ∗ owns (c : Thread nD τ) arg15 fullShare w ∗ owns (c : Thread nD τ) arg16 fullShare X)) := by
  unfold keepQ
  iintro ⟨%X, %hX, Hw, HX⟩
  iapply load_owns c E arg15
  isplitl [Hw]; · iexact Hw
  iintro Hw
  iapply load_owns c E arg16
  isplitl [HX]; · iexact HX
  iintro HX
  iapply store_owns c E arg16
  isplitl [HX]; · iexact HX
  iintro HX
  iapply load_owns c E arg16
  isplitl [HX]; · iexact HX
  iintro HX
  iapply store_owns_last c E arg16
  isplitl [HX]; · iexact HX
  iintro HX
  iexists _
  isplitr
  rotate_left
  · isplitl [Hw]; · iexact Hw
    iexact HX
  ipureintro
  exact put_q cc w cs h X hX

theorem z3 : ∀ b : Fin 3, (![0, 0, 0] : Fin 3 → ℕ) b = 0 := fun b => by fin_cases b <;> rfl
theorem z2 : ∀ b : Fin 2, (![0, 0] : Fin 2 → ℕ) b = 0 := fun b => by fin_cases b <;> rfl

theorem cc0_runs (x : Vec Ideal S1x1024x1024 .f32) (cs : Vec Ideal S1024x128 .f32) (cst : Vec Ideal S128x1024 .f32) (nkv : Vec Ideal S1x1024 .f32) (nb : Vec Ideal S1x1024 .f32) (wdkv : Vec Ideal S1024x256 .bf16) (wr : Vec Ideal S128x1024 .bf16) (kvn : Vec Ideal S1x256 .f32) (wuk : Vec Ideal S1024x256 .bf16) (wuv : Vec Ideal S256x1024 .bf16) (winq : Vec Ideal S1024x384 .bf16) (wing : Vec Ideal S1024x1024 .bf16) (qn : Vec Ideal S1x384 .f32) (wuq : Vec Ideal S384x2048 .bf16)
    (i : grid0.Coords)
  (arg2 : Memref sig .tc .vmem S1x1024x1024 .f32) (harg2 : arg2.IsWhole)
  (arg3 : Memref sig .tc .vmem S1024x128 .f32) (harg3 : arg3.IsWhole)
  (arg4 : Memref sig .tc .vmem S128x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1024x256 .bf16) (harg7 : arg7.IsWhole)
  (arg8 : Memref sig .tc .vmem S128x1024 .bf16) (harg8 : arg8.IsWhole)
  (arg9 : Memref sig .tc .vmem S1x256 .f32) (harg9 : arg9.IsWhole)
  (arg10 : Memref sig .tc .vmem S1024x256 .bf16) (harg10 : arg10.IsWhole)
  (arg11 : Memref sig .tc .vmem S256x1024 .bf16) (harg11 : arg11.IsWhole)
  (arg12 : Memref sig .tc .vmem S1024x384 .bf16) (harg12 : arg12.IsWhole)
  (arg13 : Memref sig .tc .vmem S1024x1024 .bf16) (harg13 : arg13.IsWhole)
  (arg14 : Memref sig .tc .vmem S1x384 .f32) (harg14 : arg14.IsWhole)
  (arg15 : Memref sig .tc .vmem S384x2048 .bf16) (harg15 : arg15.IsWhole)
  (arg16 : Memref sig .tc .vmem S1x8x1024x192 .bf16) (harg16 : arg16.IsWhole)
  (arg17 : Memref sig .tc .vmem S1x8x192x1024 .bf16) (harg17 : arg17.IsWhole)
  (arg18 : Memref sig .tc .vmem S1x8x1024x128 .bf16) (harg18 : arg18.IsWhole)
  (arg19 : Memref sig .tc .vmem S1x1024x1024 .bf16) (harg19 : arg19.IsWhole) (Q : PUnit → sProp 𝕄) :
    iprop(owns (c : Thread nD τ) arg2 fullShare x
        ∗ owns (c : Thread nD τ) arg3 fullShare cs
        ∗ owns (c : Thread nD τ) arg4 fullShare cst
        ∗ owns (c : Thread nD τ) arg5 fullShare nkv
        ∗ owns (c : Thread nD τ) arg6 fullShare nb
        ∗ owns (c : Thread nD τ) arg7 fullShare wdkv
        ∗ owns (c : Thread nD τ) arg8 fullShare wr
        ∗ owns (c : Thread nD τ) arg9 fullShare kvn
        ∗ owns (c : Thread nD τ) arg10 fullShare wuk
        ∗ owns (c : Thread nD τ) arg11 fullShare wuv
        ∗ owns (c : Thread nD τ) arg12 fullShare winq
        ∗ owns (c : Thread nD τ) arg13 fullShare wing
        ∗ owns (c : Thread nD τ) arg14 fullShare qn
        ∗ owns (c : Thread nD τ) arg15 fullShare wuq
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (iprop(owns (c : Thread nD τ) arg2 fullShare x
          ∗ owns (c : Thread nD τ) arg3 fullShare cs
          ∗ owns (c : Thread nD τ) arg4 fullShare cst
          ∗ owns (c : Thread nD τ) arg5 fullShare nkv
          ∗ owns (c : Thread nD τ) arg6 fullShare nb
          ∗ owns (c : Thread nD τ) arg7 fullShare wdkv
          ∗ owns (c : Thread nD τ) arg8 fullShare wr
          ∗ owns (c : Thread nD τ) arg9 fullShare kvn
          ∗ owns (c : Thread nD τ) arg10 fullShare wuk
          ∗ owns (c : Thread nD τ) arg11 fullShare wuv
          ∗ owns (c : Thread nD τ) arg12 fullShare winq
          ∗ owns (c : Thread nD τ) arg13 fullShare wing
          ∗ owns (c : Thread nD τ) arg14 fullShare qn
          ∗ owns (c : Thread nD τ) arg15 fullShare wuq
          ∗ owns (c : Thread nD τ) arg16 fullShare (qArr (cq (cqRaw (weigh (normX x) nb) winq) qn) wuq cs)
          ∗ owns (c : Thread nD τ) arg17 fullShare (kArr (keyTurn (weigh (normX x) nkv) wr cst) (keysAll (ckv (ckvRaw (weigh (normX x) nkv) wdkv) kvn) wuk))
          ∗ owns (c : Thread nD τ) arg18 fullShare (vArr (valuesAll (ckv (ckvRaw (weigh (normX x) nkv) wdkv) kvn) wuv))
          ∗ owns (c : Thread nD τ) arg19 fullShare (gate (gateRaw (weigh (normX x) nb) wing))) -∗ Q ⟨⟩))
      ⊢ W c E (cc0_mla_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [cc0_eq]
  unfold proj
  iintro ⟨H2, H3, H4, H5, H6, H7, H8, H9, H10, H11, H12, H13, H14, H15, ⟨%d16, H16⟩, ⟨%d17, H17⟩, ⟨%d18, H18⟩, ⟨%d19, H19⟩, HQ⟩
  iapply load_whole c E arg2 ![0, 0, 0] _ z3
  isplitl [H2]; · iexact H2
  iintro H2
  iapply load_whole c E arg3 ![0, 0] _ z2
  isplitl [H3]; · iexact H3
  iintro H3
  iapply load_whole c E arg5 ![0, 0] _ z2
  isplitl [H5]; · iexact H5
  iintro H5
  iapply load_whole c E arg7 ![0, 0] _ z2
  isplitl [H7]; · iexact H7
  iintro H7
  iapply load_whole c E arg9 ![0, 0] _ z2
  isplitl [H9]; · iexact H9
  iintro H9
  iapply load_whole c E arg8 ![0, 0] _ z2
  isplitl [H8]; · iexact H8
  iintro H8
  iapply load_whole c E arg4 ![0, 0] _ z2
  isplitl [H4]; · iexact H4
  iintro H4
  iapply load_whole c E arg10 ![0, 0] _ z2
  isplitl [H10]; · iexact H10
  iintro H10
  iapply load_whole c E arg11 ![0, 0] _ z2
  isplitl [H11]; · iexact H11
  iintro H11
  iapply step_then c E (eight_runs c E _ (fun n => iprop(∃ X Y, ⌜Upto n X (kArr (keyTurn (weigh (normX x) nkv) wr cst)
      (keysAll (ckv (ckvRaw (weigh (normX x) nkv) wdkv) kvn) wuk)) ∧ Upto n Y (vArr (valuesAll (ckv (ckvRaw (weigh (normX x) nkv) wdkv) kvn) wuv))⌝
      ∗ owns (c : Thread nD τ) arg17 fullShare X ∗ owns (c : Thread nD τ) arg18 fullShare Y)) (fun h => keepKV_runs c E arg17 harg17 arg18 harg18 _ _ _ h))
  isplitl [H17 H18]
  · iexists d17; iexists d18
    isplitr
    · ipureintro; exact ⟨fun h _ _ hn => absurd hn (Nat.not_lt_zero _), fun h _ _ hn => absurd hn (Nat.not_lt_zero _)⟩
    isplitl [H17]; · iexact H17
    iexact H18
  iintro %_ ⟨%X, %Y, %hXY, H17, H18⟩
  rw [upto_all hXY.1, upto_all hXY.2]
  iapply load_whole c E arg6 ![0, 0] _ z2
  isplitl [H6]; · iexact H6
  iintro H6
  iapply load_whole c E arg12 ![0, 0] _ z2
  isplitl [H12]; · iexact H12
  iintro H12
  iapply load_whole c E arg14 ![0, 0] _ z2
  isplitl [H14]; · iexact H14
  iintro H14
  iapply load_whole c E arg13 ![0, 0] _ z2
  isplitl [H13]; · iexact H13
  iintro H13
  iapply load_owns c E arg19
  isplitl [H19]; · iexact H19
  iintro H19
  iapply store_owns c E arg19
  isplitl [H19]; · iexact H19
  iintro H19
  rw [put_unit (s := S1x1024x1024) ![0, 0, 0] z3 inb_S1x1024x1024_S1x1024x1024_0_0_0]
  ihave Hq := eight_runs c E _ (fun n => iprop(∃ X, ⌜Upto n X (qArr (cq (cqRaw (weigh (normX x) nb) winq) qn) wuq cs)⌝
      ∗ owns (c : Thread nD τ) arg15 fullShare wuq ∗ owns (c : Thread nD τ) arg16 fullShare X)) (fun h => keepQ_runs c E arg15 arg16 harg16 _ cs wuq h) $$ [H15 H16]
  · iexists d16
    isplitr
    · ipureintro; exact fun h _ _ hn => absurd hn (Nat.not_lt_zero _)
    isplitl [H15]; · iexact H15
    iexact H16
  iapply (wp_wand frame (wpE (defs₀ (F := Ideal)) Variants.none (c : Thread nD τ) none) E) $$ Hq
  iintro %_ ⟨%Z, %hZ, H15, H16⟩
  rw [upto_all hZ]
  iapply HQ
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

end Cert.KernelIdeal.Proj

end
-- ==== Proof.Proj.Region.lean ====
/- The projection call over its grid: what every point leaves in the four results' blocks, and that the call's body does so. -/
module

public import proofs.«01_k».proof.Proof.Proj.Body
public import proofs.«01_k».proof.Proof.Gen.KernelIdeal.Frame

@[expose] public section

set_option maxRecDepth 16384

noncomputable section

namespace Cert.KernelIdeal.Proj

open Idealize.ShloMosaic Idealize.ShloMosaic.TcCoe Idealize.ShloMosaic.Tactic
open Idealize.SL Idealize.SL.RA Idealize.SL.Sem Idealize.SL.ProofMode
open Idealize.SL.BI (sProp)
open scoped Idealize.SL.BI
open Idealize.SL.BI.BIBase Idealize.SL.BI.Laws
open Idealize.ShloMosaic.Pipeline (Dat Cfg Window BodyObligation cellOf)
open Cert.KernelIdeal.Gen

local notation "𝕄" => MT nD τ sig Unit (Elt Ideal) ℕ (UR sig nD τ) ℕ

variable (V : (c : Dev nD) → (b : Ref sig .tc) → Buf (Elt Ideal) ((c : Thread nD τ).loc b))

/-- What the point `t` leaves in the queries' block, from the blocks it reads. -/
def qAt (c : Dev nD) (t : Fin cfg0.N) : Vec Ideal S1x8x1024x192 .bf16 :=
  qArr (cq (cqRaw (weigh (normX (iblk0 V c 0 t)) (iblk0 V c 4 t)) (iblk0 V c 10 t)) (iblk0 V c 12 t)) (iblk0 V c 13 t) (iblk0 V c 1 t)

/-- What the point `t` leaves in the keys' block, from the blocks it reads. -/
def kAt (c : Dev nD) (t : Fin cfg0.N) : Vec Ideal S1x8x192x1024 .bf16 :=
  kArr (keyTurn (weigh (normX (iblk0 V c 0 t)) (iblk0 V c 3 t)) (iblk0 V c 6 t) (iblk0 V c 2 t)) (keysAll (ckv (ckvRaw (weigh (normX (iblk0 V c 0 t)) (iblk0 V c 3 t)) (iblk0 V c 5 t)) (iblk0 V c 7 t)) (iblk0 V c 8 t))

/-- What the point `t` leaves in the values' block, from the blocks it reads. -/
def vAt (c : Dev nD) (t : Fin cfg0.N) : Vec Ideal S1x8x1024x128 .bf16 :=
  vArr (valuesAll (ckv (ckvRaw (weigh (normX (iblk0 V c 0 t)) (iblk0 V c 3 t)) (iblk0 V c 5 t)) (iblk0 V c 7 t)) (iblk0 V c 9 t))

/-- What the point `t` leaves in the gate' block, from the blocks it reads. -/
def gAt (c : Dev nD) (t : Fin cfg0.N) : Vec Ideal S1x1024x1024 .bf16 :=
  gate (gateRaw (weigh (normX (iblk0 V c 0 t)) (iblk0 V c 4 t)) (iblk0 V c 11 t))

/-- The projection call's data: its arrays as the call finds them, the inputs' blocks unchanged, the results' blocks as above. -/
def dat (c : Dev nD) : Dat τ (Elt Ideal) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => qAt V c t
    | ⟨15, _⟩ => kAt V c t
    | ⟨16, _⟩ => vAt V c t
    | ⟨17, _⟩ => gAt V c t
    | ⟨_ + 18, h⟩ => absurd h (Nat.not_lt.2 (Nat.le_add_left _ _))
  Φ _ := Pipeline.ΦA spec0 c
  q _ := fullShare
  owed _ := 0

theorem dat_A (c : Dev nD) (w : Fin cfg0.W) : (dat V c).A w = V c (Pipeline.arrRef spec0 w) := by
  dsimp only [dat]

theorem after_14 (c : Dev nD) (t : Fin cfg0.N) : (dat V c).after 14 t = qAt V c t := by dsimp only [dat]
theorem after_15 (c : Dev nD) (t : Fin cfg0.N) : (dat V c).after 15 t = kAt V c t := by dsimp only [dat]
theorem after_16 (c : Dev nD) (t : Fin cfg0.N) : (dat V c).after 16 t = vAt V c t := by dsimp only [dat]
theorem after_17 (c : Dev nD) (t : Fin cfg0.N) : (dat V c).after 17 t = gAt V c t := by dsimp only [dat]
theorem before_0 (c : Dev nD) (t : Fin cfg0.N) (d) : (dat V c).before 0 t d = iblk0 V c 0 t :=
  before0_0_of V (dat V c) (dat_A V c 0) (fun t => by dsimp only [dat]) t d
theorem before_1 (c : Dev nD) (t : Fin cfg0.N) (d) : (dat V c).before 1 t d = iblk0 V c 1 t :=
  before0_1_of V (dat V c) (dat_A V c 1) (fun t => by dsimp only [dat]) t d
theorem before_2 (c : Dev nD) (t : Fin cfg0.N) (d) : (dat V c).before 2 t d = iblk0 V c 2 t :=
  before0_2_of V (dat V c) (dat_A V c 2) (fun t => by dsimp only [dat]) t d
theorem before_3 (c : Dev nD) (t : Fin cfg0.N) (d) : (dat V c).before 3 t d = iblk0 V c 3 t :=
  before0_3_of V (dat V c) (dat_A V c 3) (fun t => by dsimp only [dat]) t d
theorem before_4 (c : Dev nD) (t : Fin cfg0.N) (d) : (dat V c).before 4 t d = iblk0 V c 4 t :=
  before0_4_of V (dat V c) (dat_A V c 4) (fun t => by dsimp only [dat]) t d
theorem before_5 (c : Dev nD) (t : Fin cfg0.N) (d) : (dat V c).before 5 t d = iblk0 V c 5 t :=
  before0_5_of V (dat V c) (dat_A V c 5) (fun t => by dsimp only [dat]) t d
theorem before_6 (c : Dev nD) (t : Fin cfg0.N) (d) : (dat V c).before 6 t d = iblk0 V c 6 t :=
  before0_6_of V (dat V c) (dat_A V c 6) (fun t => by dsimp only [dat]) t d
theorem before_7 (c : Dev nD) (t : Fin cfg0.N) (d) : (dat V c).before 7 t d = iblk0 V c 7 t :=
  before0_7_of V (dat V c) (dat_A V c 7) (fun t => by dsimp only [dat]) t d
theorem before_8 (c : Dev nD) (t : Fin cfg0.N) (d) : (dat V c).before 8 t d = iblk0 V c 8 t :=
  before0_8_of V (dat V c) (dat_A V c 8) (fun t => by dsimp only [dat]) t d
theorem before_9 (c : Dev nD) (t : Fin cfg0.N) (d) : (dat V c).before 9 t d = iblk0 V c 9 t :=
  before0_9_of V (dat V c) (dat_A V c 9) (fun t => by dsimp only [dat]) t d
theorem before_10 (c : Dev nD) (t : Fin cfg0.N) (d) : (dat V c).before 10 t d = iblk0 V c 10 t :=
  before0_10_of V (dat V c) (dat_A V c 10) (fun t => by dsimp only [dat]) t d
theorem before_11 (c : Dev nD) (t : Fin cfg0.N) (d) : (dat V c).before 11 t d = iblk0 V c 11 t :=
  before0_11_of V (dat V c) (dat_A V c 11) (fun t => by dsimp only [dat]) t d
theorem before_12 (c : Dev nD) (t : Fin cfg0.N) (d) : (dat V c).before 12 t d = iblk0 V c 12 t :=
  before0_12_of V (dat V c) (dat_A V c 12) (fun t => by dsimp only [dat]) t d
theorem before_13 (c : Dev nD) (t : Fin cfg0.N) (d) : (dat V c).before 13 t d = iblk0 V c 13 t :=
  before0_13_of V (dat V c) (dat_A V c 13) (fun t => by dsimp only [dat]) t d

theorem body_triple (c : Dev nD) (t : Fin cfg0.N) :
    iprop((dat V c).Φ t.castSucc ∗ (dat V c).owesAt () t.castSucc
      ∗ (∃ d, owns (c : Thread nD τ) (ms0_0 t) fullShare ((dat V c).before 0 t d))
      ∗ (∃ d, owns (c : Thread nD τ) (ms0_1 t) fullShare ((dat V c).before 1 t d))
      ∗ (∃ d, owns (c : Thread nD τ) (ms0_2 t) fullShare ((dat V c).before 2 t d))
      ∗ (∃ d, owns (c : Thread nD τ) (ms0_3 t) fullShare ((dat V c).before 3 t d))
      ∗ (∃ d, owns (c : Thread nD τ) (ms0_4 t) fullShare ((dat V c).before 4 t d))
      ∗ (∃ d, owns (c : Thread nD τ) (ms0_5 t) fullShare ((dat V c).before 5 t d))
      ∗ (∃ d, owns (c : Thread nD τ) (ms0_6 t) fullShare ((dat V c).before 6 t d))
      ∗ (∃ d, owns (c : Thread nD τ) (ms0_7 t) fullShare ((dat V c).before 7 t d))
      ∗ (∃ d, owns (c : Thread nD τ) (ms0_8 t) fullShare ((dat V c).before 8 t d))
      ∗ (∃ d, owns (c : Thread nD τ) (ms0_9 t) fullShare ((dat V c).before 9 t d))
      ∗ (∃ d, owns (c : Thread nD τ) (ms0_10 t) fullShare ((dat V c).before 10 t d))
      ∗ (∃ d, owns (c : Thread nD τ) (ms0_11 t) fullShare ((dat V c).before 11 t d))
      ∗ (∃ d, owns (c : Thread nD τ) (ms0_12 t) fullShare ((dat V c).before 12 t d))
      ∗ (∃ d, owns (c : Thread nD τ) (ms0_13 t) fullShare ((dat V c).before 13 t d))
      ∗ (∃ d, owns (c : Thread nD τ) (ms0_14 t) fullShare ((dat V c).before 14 t d))
      ∗ (∃ d, owns (c : Thread nD τ) (ms0_15 t) fullShare ((dat V c).before 15 t d))
      ∗ (∃ d, owns (c : Thread nD τ) (ms0_16 t) fullShare ((dat V c).before 16 t d))
      ∗ (∃ d, owns (c : Thread nD τ) (ms0_17 t) fullShare ((dat V c).before 17 t d)))
    ⊢ wp frame (wpE (defs₀ (F := Ideal)) Variants.none c none) Set.univ (bodyAt0 t) (fun _ =>
      iprop((dat V c).Φ t.succ ∗ (dat V c).owesAt () t.succ
      ∗ owns (c : Thread nD τ) (ms0_0 t) fullShare ((dat V c).after 0 t)
      ∗ owns (c : Thread nD τ) (ms0_1 t) fullShare ((dat V c).after 1 t)
      ∗ owns (c : Thread nD τ) (ms0_2 t) fullShare ((dat V c).after 2 t)
      ∗ owns (c : Thread nD τ) (ms0_3 t) fullShare ((dat V c).after 3 t)
      ∗ owns (c : Thread nD τ) (ms0_4 t) fullShare ((dat V c).after 4 t)
      ∗ owns (c : Thread nD τ) (ms0_5 t) fullShare ((dat V c).after 5 t)
      ∗ owns (c : Thread nD τ) (ms0_6 t) fullShare ((dat V c).after 6 t)
      ∗ owns (c : Thread nD τ) (ms0_7 t) fullShare ((dat V c).after 7 t)
      ∗ owns (c : Thread nD τ) (ms0_8 t) fullShare ((dat V c).after 8 t)
      ∗ owns (c : Thread nD τ) (ms0_9 t) fullShare ((dat V c).after 9 t)
      ∗ owns (c : Thread nD τ) (ms0_10 t) fullShare ((dat V c).after 10 t)
      ∗ owns (c : Thread nD τ) (ms0_11 t) fullShare ((dat V c).after 11 t)
      ∗ owns (c : Thread nD τ) (ms0_12 t) fullShare ((dat V c).after 12 t)
      ∗ owns (c : Thread nD τ) (ms0_13 t) fullShare ((dat V c).after 13 t)
      ∗ owns (c : Thread nD τ) (ms0_14 t) fullShare ((dat V c).after 14 t)
      ∗ owns (c : Thread nD τ) (ms0_15 t) fullShare ((dat V c).after 15 t)
      ∗ owns (c : Thread nD τ) (ms0_16 t) fullShare ((dat V c).after 16 t)
      ∗ owns (c : Thread nD τ) (ms0_17 t) fullShare ((dat V c).after 17 t))) := by
  unfold bodyAt0
  simp only [before_0, before_1, before_2, before_3, before_4, before_5, before_6, before_7, before_8, before_9, before_10, before_11, before_12, before_13]
  rw [show (dat V c).Φ t.succ = (dat V c).Φ t.castSucc from rfl, show (dat V c).owesAt () t.succ = (dat V c).owesAt () t.castSucc from rfl,
    after_14, after_15, after_16, after_17]
  unfold qAt kAt vAt gAt
  iintro ⟨HF, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply cc0_runs c Set.univ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    (grid0.coords t) _ _ _ _ _ _ _ _ _ _ _ _ _ _ _ _ _ _ _ _ _ _ _ _ _ _ _ _ _ _ _ _ _ _ _ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HF]; · iexact HF
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem obligation (c : Dev nD) : BodyObligation (dat V c) (defs₀ (F := Ideal)) Variants.none () Set.univ := fun t => by
  rw [bigSep_W0, bigSep_W0, defs₀_row0]
  exact triple_restated (body_triple V c t) rfl .rfl fun _ => .rfl

end Cert.KernelIdeal.Proj

end
-- ==== Proof.Values.Run.lean ====
/- The two calls' run at their values: from the launch to every buffer at the end. -/
module

public import proofs.«01_k».proof.Proof.Attn.Region
public import proofs.«01_k».proof.Proof.Proj.Region

@[expose] public section

set_option maxRecDepth 16384

noncomputable section

namespace Cert.KernelIdeal.Values

open Idealize.ShloMosaic Idealize.ShloMosaic.TcCoe Idealize.ShloMosaic.Tactic
open Idealize.SL Idealize.SL.RA Idealize.SL.BI Idealize.SL.Sem Idealize.SL.ProofMode
open Idealize.SL.BI (sProp)
open scoped Idealize.SL.BI
open Idealize.SL.BI.BIBase Idealize.SL.BI.Laws
open Idealize.ShloMosaic.Rounds
open Idealize.ShloMosaic.Pipeline (Dat Cfg Window BodyObligation cellOf)
open Cert.KernelIdeal.Gen hiding W2 W2_arr W2_of_ne W2_of W2_args V2 hF0 hrest0 W3 W3_of W3_args V3 W4 W4_arr W4_of_ne W4_of W4_args V4 hF1 hrest1
  pdats Tₙ reg0 reg1 segs main_run
open Cert.KernelIdeal.Attn (Fin2)

local notation "𝕄" => MT nD τ sig Unit (Elt Ideal) ℕ (UR sig nD τ) ℕ

variable (m : (l : Loc nD τ sig) → Buf (Elt Ideal) l) (ρ : Dev nD → PrngReg)

/-- The buffers after the projection call: its four results at what its points leave, every other buffer as before it. -/
def W2 (c : Dev nD) : Valuation τ sig (Elt Ideal) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Proj.dat (V1 m ρ) c).arrAt_in w (h w rfl) _).trans (Proj.dat_A (V1 m ρ) c w))
  · exact W2_of_ne m ρ c r fun w e => hw ⟨w, e⟩
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt Ideal) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers the attention call finds. -/
abbrev W3 : Dev nD → Valuation τ sig (Elt Ideal) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt Ideal) ((c : Thread nD τ).loc b) := fun c b => W3 m ρ c b
/-- The buffers after the attention call. -/
def W4 (c : Dev nD) : Valuation τ sig (Elt Ideal) :=
  Pipeline.withArrays spec1 c (W3 m ρ c) fun w => (Attn.dat (V3 m ρ) c).arrAt w cfg1.N
theorem W4_arr (c : Dev nD) (w : Fin cfg1.W) :
    W4 m ρ c (Proc.devRef .tc (Pipeline.arrRef spec1 w)) = (Attn.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((Attn.dat (V3 m ρ) c).arrAt_in w (h w rfl) _).trans (Attn.dat_A (V3 m ρ) c w))
  · exact W4_of_ne m ρ c r fun w e => hw ⟨w, e⟩
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt Ideal) ((c : Thread nD τ).loc b) := fun c b => W4 m ρ c b
theorem hF1 (c : Dev nD) (w : Fin cfg1.W) : (Attn.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Both calls' data, each at what the call finds. -/
def pdats : (p : Fin 2) → (c : Dev nD) → Dat τ (Elt Ideal) Unit ℕ (UR sig nD τ) ℕ (Pipeline.pin (pcfgs (F := Ideal)) adm p) c
  | ⟨0, _⟩ => fun c => Proj.dat (V1 m ρ) c
  | ⟨1, _⟩ => fun c => Attn.dat (V3 m ρ) c

/-- The thread's state at the end. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The projection call, from the buffers it finds to those it leaves. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V1 m ρ c) (Proj.dat_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call, from the buffers it finds to those it leaves. -/
def reg1 (hV : ∀ c t, Fin2 (iblk1 (V3 m ρ) c 0 t) (iblk1 (V3 m ρ) c 1 t)) : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.obligation (V3 m ρ) hV c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V3 m ρ c) (Attn.dat_A (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

variable (hV : ∀ c t, Fin2 (iblk1 (V3 m ρ) c 0 t) (iblk1 (V3 m ρ) c 1 t))

/-- The launch's segments: host code, projection, host code, attention. -/
abbrev segs : List (Pipeline.Seg (pcfgs (F := Ideal)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ hV) ]
include hV in
theorem main_run (c : Dev nD) : main (F := Ideal) c = Pipeline.Seg.run (segs m ρ hV) := (main_chain c).trans (by chain_rfl)

include hV in
set_option backward.isDefEq.respectTransparency.types false in
/-- Every run ends with every buffer at `W4`. -/
theorem run : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ hV)
    (fun c Q => by rw [main_run m ρ hV c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.KernelIdeal.Values

end
-- ==== Proof.Values.HostCat.lean ====
/- The two operands the host joins from more than two pieces: the angles' table and the queries' weights. -/
module

public import proofs.«01_k».proof.Proof.Values.Model
public import proofs.«01_k».proof.Proof.Values.Run
public import Idealize.ShloMosaic.Lib.Pipeline.ValueKit
public import Idealize.ShloMosaic.Lib.Pointwise

@[expose] public section

set_option maxRecDepth 16384
set_option maxHeartbeats 2000000

noncomputable section

namespace Cert.KernelIdeal.Values

open Idealize.ShloMosaic Idealize.ShloMosaic.TcCoe
open Cert.KernelIdeal.Gen hiding W2 W2_arr W2_of_ne W2_of W2_args V2 hF0 hrest0 W3 W3_of W3_args V3 W4 W4_arr W4_of_ne W4_of W4_args V4 hF1 hrest1
  pdats Tₙ reg0 reg1 segs main_run
open Cert.Model

variable (m : (l : Loc nD τ sig) → Buf (Elt Ideal) l) (ρ : Dev nD → PrngReg) (c : Dev nD)

/-- An argument's contents. -/
abbrev A (a : Ref sig .tc) : Buf (Elt Ideal) ((c : Thread nD τ).loc a) := m ((c : Thread nD τ).loc a)

/-- The batch's rows and weights as the formulas take them. -/
def inpAt (b : Fin 16) : Inp :=
  inp (A m c main_arg0) (A m c main_arg1) (A m c main_arg2) (A m c main_arg3) (A m c main_arg4) (A m c main_arg5) (A m c main_arg6)
    (A m c main_arg7) (A m c main_arg8) (A m c main_arg9) (A m c main_arg10) (A m c main_arg11) b

variable (b : Fin 16)

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- A buffer no later operation writes is read before them. -/
theorem keeps (V : Valuation τ sig (Elt Ideal)) (k : ℕ) (r : Ref sig .tc) (W : List (Ref sig .tc))
    (hW : (Gen.hostOps0 (F := Ideal).drop k).Forall fun op => op.writes ⊆ (W.map (Proc.devRef (τ := τ) .tc)).toFinset)
    (hr : r ∉ W) :
    StableHlo.after Gen.hostOps0 V (Proc.devRef .tc r) = StableHlo.after (Gen.hostOps0.take k) V (Proc.devRef .tc r) := by
  have h := congrArg (fun l => StableHlo.after l V (Proc.devRef .tc r)) (List.take_append_drop k (Gen.hostOps0 (F := Ideal)))
  have h' := congrFun (after_append (Gen.hostOps0.take k) (Gen.hostOps0.drop k) V) (Proc.devRef .tc r)
  exact h.symm.trans (h'.trans (StableHlo.after_of_writes_sub _ _ hW hr))

theorem take19 : Gen.hostOps0 (F := Ideal).take 24 = Gen.hostOps0.take 23 ++ [StableHlo.nary ![main_v16, main_v16, main_v18, main_v17] main_v19 (fun u => concatenate S2048x128 1 [⟨S2048x32, u 0⟩, ⟨S2048x32, u 1⟩, ⟨S2048x32, u 2⟩, ⟨S2048x32, u 3⟩] concatenates_S2048x32_S2048x32_S2048x32_S2048x32_S2048x128_d1)] := rfl

theorem writes23 : (Gen.hostOps0 (F := Ideal).drop 23).Forall fun op => op.writes ⊆ ((Gen.hostOps0_W.drop 23).map (Proc.devRef (τ := τ) .tc)).toFinset :=
  StableHlo.forall_writes_sub_of_map rfl
theorem writes24 : (Gen.hostOps0 (F := Ideal).drop 24).Forall fun op => op.writes ⊆ ((Gen.hostOps0_W.drop 24).map (Proc.devRef (τ := τ) .tc)).toFinset :=
  StableHlo.forall_writes_sub_of_map rfl

theorem read19 (V : Valuation τ sig (Elt Ideal)) : (StableHlo.after Gen.hostOps0 V (Proc.devRef .tc main_v19) : S2048x128.Idx → EReal)
    = concatenate S2048x128 1 [⟨S2048x32, (StableHlo.after Gen.hostOps0 V (Proc.devRef .tc main_v16) : S2048x32.Idx → EReal)⟩,
      ⟨S2048x32, (StableHlo.after Gen.hostOps0 V (Proc.devRef .tc main_v16) : S2048x32.Idx → EReal)⟩,
      ⟨S2048x32, (StableHlo.after Gen.hostOps0 V (Proc.devRef .tc main_v18) : S2048x32.Idx → EReal)⟩,
      ⟨S2048x32, (StableHlo.after Gen.hostOps0 V (Proc.devRef .tc main_v17) : S2048x32.Idx → EReal)⟩] concatenates_S2048x32_S2048x32_S2048x32_S2048x32_S2048x128_d1 := by
  rw [keeps V 24 main_v19 _ writes24 (by decide +kernel), take19, after_append,
    keeps V 23 main_v16 _ writes23 (by decide +kernel), keeps V 23 main_v18 _ writes23 (by decide +kernel), keeps V 23 main_v17 _ writes23 (by decide +kernel)]
  rw [StableHlo.after_cons, StableHlo.after_nil, StableHlo.nary_result]
  rfl

theorem host16 (s : Fin 2048) (j : Fin 32) : (StableHlo.after Gen.hostOps0 (W0 m ρ c) (Proc.devRef .tc main_v16) : S2048x32.Idx → EReal) (ix2 s j) = cs s j := by
  entry_read
  pointwise []
  rfl
theorem host17 (s : Fin 2048) (j : Fin 32) : (StableHlo.after Gen.hostOps0 (W0 m ρ c) (Proc.devRef .tc main_v17) : S2048x32.Idx → EReal) (ix2 s j) = sn s j := by
  entry_read
  pointwise []
  rfl
theorem host18 (s : Fin 2048) (j : Fin 32) : (StableHlo.after Gen.hostOps0 (W0 m ρ c) (Proc.devRef .tc main_v18) : S2048x32.Idx → EReal) (ix2 s j) = -(sn s j) := by
  entry_read
  pointwise []
  rfl

/-- The angles' table: cosines twice, then the sines negated and plain. -/
def table (s : Fin 2048) (j : Fin 128) : EReal :=
  if h : j.val < 32 then cs s ⟨j.val, h⟩
  else if h : j.val - 32 < 32 then cs s ⟨j.val - 32, h⟩
  else if h : j.val - 32 - 32 < 32 then -sn s ⟨j.val - 32 - 32, h⟩ else sn s ⟨j.val - 32 - 32 - 32, by omega⟩

theorem host19 (s : Fin 2048) (j : Fin 128) : (V1 m ρ c main_v19 : S2048x128.Idx → EReal) (ix2 s j) = table s j := by
  refine (congrFun (read19 (W0 m ρ c)) (ix2 s j)).trans ?_
  pointwise [host16 m ρ c, host17 m ρ c, host18 m ρ c]
  rfl

theorem take43 : Gen.hostOps0 (F := Ideal).take 48 = Gen.hostOps0.take 47 ++ [StableHlo.nary ![main_v39, main_v38, main_v42] main_v43 (fun u => concatenate S384x8x256 2 [⟨S384x8x128, u 0⟩, ⟨S384x8x64, u 1⟩, ⟨S384x8x64, u 2⟩] concatenates_S384x8x128_S384x8x64_S384x8x64_S384x8x256_d2)] := rfl
theorem writes47 : (Gen.hostOps0 (F := Ideal).drop 47).Forall fun op => op.writes ⊆ ((Gen.hostOps0_W.drop 47).map (Proc.devRef (τ := τ) .tc)).toFinset :=
  StableHlo.forall_writes_sub_of_map rfl
theorem writes48 : (Gen.hostOps0 (F := Ideal).drop 48).Forall fun op => op.writes ⊆ ((Gen.hostOps0_W.drop 48).map (Proc.devRef (τ := τ) .tc)).toFinset :=
  StableHlo.forall_writes_sub_of_map rfl

theorem read43 (V : Valuation τ sig (Elt Ideal)) : (StableHlo.after Gen.hostOps0 V (Proc.devRef .tc main_v43) : S384x8x256.Idx → EReal)
    = concatenate S384x8x256 2 [⟨S384x8x128, (StableHlo.after Gen.hostOps0 V (Proc.devRef .tc main_v39) : S384x8x128.Idx → EReal)⟩,
      ⟨S384x8x64, (StableHlo.after Gen.hostOps0 V (Proc.devRef .tc main_v38) : S384x8x64.Idx → EReal)⟩,
      ⟨S384x8x64, (StableHlo.after Gen.hostOps0 V (Proc.devRef .tc main_v42) : S384x8x64.Idx → EReal)⟩] concatenates_S384x8x128_S384x8x64_S384x8x64_S384x8x256_d2 := by
  rw [keeps V 48 main_v43 _ writes48 (by decide +kernel), take43, after_append,
    keeps V 47 main_v39 _ writes47 (by decide +kernel), keeps V 47 main_v38 _ writes47 (by decide +kernel), keeps V 47 main_v42 _ writes47 (by decide +kernel)]
  rw [StableHlo.after_cons, StableHlo.after_nil, StableHlo.nary_result]
  rfl

variable (b : Fin 16)

theorem host39 (k : Fin 384) (h : Fin 8) (d : Fin 128) : (StableHlo.after Gen.hostOps0 (W0 m ρ c) (Proc.devRef .tc main_v39) : S384x8x128.Idx → EReal) (ix3 k h d)
    = (inpAt m c b).wuq k h ⟨d.val, by omega⟩ := by
  entry_read
  pointwise []
  rfl
theorem host38 (k : Fin 384) (h : Fin 8) (d : Fin 64) : (StableHlo.after Gen.hostOps0 (W0 m ρ c) (Proc.devRef .tc main_v38) : S384x8x64.Idx → EReal) (ix3 k h d)
    = (inpAt m c b).wuq k h ⟨128 + d.val, by omega⟩ := by
  entry_read
  pointwise []
  rfl
theorem host42 (k : Fin 384) (h : Fin 8) (d : Fin 64) : (StableHlo.after Gen.hostOps0 (W0 m ρ c) (Proc.devRef .tc main_v42) : S384x8x64.Idx → EReal) (ix3 k h d)
    = if h' : d.val < 32 then (inpAt m c b).wuq k h ⟨128 + (32 + d.val), by omega⟩ else (inpAt m c b).wuq k h ⟨128 + (d.val - 32), by omega⟩ := by
  entry_read
  pointwise []
  rfl

/-- The queries' weights: a head's 192 columns, then the last 64 again with the halves exchanged. -/
def wide (y : Fin 192 → EReal) (j : Fin 256) : EReal :=
  if h : j.val < 128 then y ⟨j.val, by omega⟩
  else if h : j.val - 128 < 64 then y ⟨128 + (j.val - 128), by omega⟩
  else if h : j.val - 128 - 64 < 32 then y ⟨128 + (32 + (j.val - 128 - 64)), by omega⟩ else y ⟨128 + (j.val - 128 - 64 - 32), by omega⟩

theorem host43 (k : Fin 384) (h : Fin 8) (j : Fin 256) : (StableHlo.after Gen.hostOps0 (W0 m ρ c) (Proc.devRef .tc main_v43) : S384x8x256.Idx → EReal) (ix3 k h j)
    = wide ((inpAt m c b).wuq k h) j := by
  refine (congrFun (read43 (W0 m ρ c)) (ix3 k h j)).trans ?_
  pointwise [host39 m ρ c b, host38 m ρ c b, host42 m ρ c b]
  rfl

theorem writes49 : (Gen.hostOps0 (F := Ideal).drop 49).Forall fun op => op.writes ⊆ ((Gen.hostOps0_W.drop 49).map (Proc.devRef (τ := τ) .tc)).toFinset :=
  StableHlo.forall_writes_sub_of_map rfl
theorem writes50 : (Gen.hostOps0 (F := Ideal).drop 50).Forall fun op => op.writes ⊆ ((Gen.hostOps0_W.drop 50).map (Proc.devRef (τ := τ) .tc)).toFinset :=
  StableHlo.forall_writes_sub_of_map rfl
theorem writes51 : (Gen.hostOps0 (F := Ideal).drop 51).Forall fun op => op.writes ⊆ ((Gen.hostOps0_W.drop 51).map (Proc.devRef (τ := τ) .tc)).toFinset :=
  StableHlo.forall_writes_sub_of_map rfl
theorem take44 : Gen.hostOps0 (F := Ideal).take 49 = Gen.hostOps0.take 48 ++ [StableHlo.reshape main_v43 main_v44 (rfl : (.f32 : EltTy) = .f32) shapeCasts_S384x8x256_S384x2048] := rfl
theorem take45 : Gen.hostOps0 (F := Ideal).take 50 = Gen.hostOps0.take 49 ++ [StableHlo.unary main_v44 main_v45 (fun x : FVec Ideal S384x2048 .f32 => truncf .bf16 x bitsLt_bf16_f32)] := rfl
theorem take46 : Gen.hostOps0 (F := Ideal).take 51 = Gen.hostOps0.take 50 ++ [StableHlo.unary main_v19 main_v46 ((transpose S128x2048 [1, 0] · transposes_S2048x128_S128x2048_1_0) : (⟨S2048x128, .f32⟩ : BufTy).Contents (Elt Ideal) → (⟨S128x2048, .f32⟩ : BufTy).Contents (Elt Ideal))] := rfl

/-- The two arrays computed from the joined ones. -/
theorem read46 (V : Valuation τ sig (Elt Ideal)) : (StableHlo.after Gen.hostOps0 V (Proc.devRef .tc main_v46) : S128x2048.Idx → EReal)
    = transpose S128x2048 [1, 0] (StableHlo.after Gen.hostOps0 V (Proc.devRef .tc main_v19) : S2048x128.Idx → EReal) transposes_S2048x128_S128x2048_1_0 := by
  rw [keeps V 51 main_v46 _ writes51 (by decide +kernel), take46, after_append, keeps V 50 main_v19 _ writes50 (by decide +kernel)]
  rw [StableHlo.after_cons, StableHlo.after_nil, StableHlo.unary_result]
theorem host46 (s : Fin 2048) (j : Fin 128) : (V1 m ρ c main_v46 : S128x2048.Idx → EReal) (ix2 j s) = table s j := by
  refine (congrFun (read46 (W0 m ρ c)) (ix2 j s)).trans ?_
  pointwise [host19 m ρ c]

theorem read44 (V : Valuation τ sig (Elt Ideal)) : (StableHlo.after Gen.hostOps0 V (Proc.devRef .tc main_v44) : S384x2048.Idx → EReal)
    = shapeCast S384x2048 (StableHlo.after Gen.hostOps0 V (Proc.devRef .tc main_v43) : S384x8x256.Idx → EReal) shapeCasts_S384x8x256_S384x2048 := by
  rw [keeps V 49 main_v44 _ writes49 (by decide +kernel), take44, after_append, keeps V 48 main_v43 _ writes48 (by decide +kernel)]
  rw [StableHlo.after_cons, StableHlo.after_nil, StableHlo.reshape_result]
  rfl
theorem read45 (V : Valuation τ sig (Elt Ideal)) : (StableHlo.after Gen.hostOps0 V (Proc.devRef .tc main_v45) : S384x2048.Idx → EReal)
    = (StableHlo.after Gen.hostOps0 V (Proc.devRef .tc main_v44) : S384x2048.Idx → EReal) := by
  rw [keeps V 50 main_v45 _ writes50 (by decide +kernel), take45, after_append, keeps V 49 main_v44 _ writes49 (by decide +kernel)]
  rw [StableHlo.after_cons, StableHlo.after_nil, StableHlo.unary_result]
  rfl
theorem host45 (k : Fin 384) (h : Fin 8) (j : Fin 256) : (V1 m ρ c main_v45 : S384x2048.Idx → EReal) (ix2 k ⟨h.val * 256 + j.val, by omega⟩)
    = wide ((inpAt m c b).wuq k h) j := by
  refine (congrFun ((read45 (W0 m ρ c)).trans (read44 (W0 m ρ c))) (ix2 k ⟨h.val * 256 + j.val, by omega⟩)).trans ?_
  pointwise []
  exact host43 m ρ c b k h j

end Cert.KernelIdeal.Values

end
-- ==== Proof.Values.Host.lean ====
/- What the calls' operands hold, in the arguments. -/
module

public import proofs.«01_k».proof.Proof.Values.HostCat
public import Idealize.ShloMosaic.Lib.Pipeline.ValueKit
public import Idealize.ShloMosaic.Lib.Pointwise

@[expose] public section

set_option maxRecDepth 16384
set_option maxHeartbeats 2000000

noncomputable section

namespace Cert.KernelIdeal.Values

open Idealize.ShloMosaic Idealize.ShloMosaic.TcCoe
open Cert.KernelIdeal.Gen hiding W2 W2_arr W2_of_ne W2_of W2_args V2 hF0 hrest0 W3 W3_of W3_args V3 W4 W4_arr W4_of_ne W4_of W4_args V4 hF1 hrest1
  pdats Tₙ reg0 reg1 segs main_run
open Cert.Model

variable (m : (l : Loc nD τ sig) → Buf (Elt Ideal) l) (ρ : Dev nD → PrngReg) (c : Dev nD)

variable (b : Fin 16)

/-- Sixty-four coordinates, then the same with the halves exchanged. -/
def swap (y : Fin 64 → EReal) (j : Fin 128) : EReal :=
  if h : j.val < 64 then y ⟨j.val, h⟩
  else if h' : j.val - 64 < 32 then y ⟨32 + (j.val - 64), by omega⟩ else y ⟨j.val - 64 - 32, by omega⟩

theorem host22 (e : Fin 1024) (k : Fin 256) : (V1 m ρ c main_v22 : S1024x256.Idx → EReal) (ix2 e k) = (inpAt m c b).wdkv e ⟨k.val, by omega⟩ := by
  change (StableHlo.after Gen.hostOps0 (W0 m ρ c) (Proc.devRef .tc main_v22) : S1024x256.Idx → EReal) _ = _
  entry_read
  pointwise []
  rfl
theorem host28 (j : Fin 128) (e : Fin 1024) : (V1 m ρ c main_v28 : S128x1024.Idx → EReal) (ix2 j e) = swap (fun i => (inpAt m c b).wdkv e ⟨256 + i.val, by omega⟩) j := by
  change (StableHlo.after Gen.hostOps0 (W0 m ρ c) (Proc.devRef .tc main_v28) : S128x1024.Idx → EReal) _ = _
  entry_read
  pointwise []
  rfl
theorem host31 (j : Fin 1024) (k : Fin 256) : (V1 m ρ c main_v31 : S1024x256.Idx → EReal) (ix2 j k)
    = (inpAt m c b).wuk k ⟨j.val / 128, by omega⟩ ⟨j.val % 128, by omega⟩ := by
  change (StableHlo.after Gen.hostOps0 (W0 m ρ c) (Proc.devRef .tc main_v31) : S1024x256.Idx → EReal) _ = _
  entry_read
  pointwise []
  rfl
theorem host33 (j : Fin 1024) (k : Fin 256) : (V1 m ρ c main_v33 : S256x1024.Idx → EReal) (ix2 k j)
    = (inpAt m c b).wuv k ⟨j.val / 128, by omega⟩ ⟨j.val % 128, by omega⟩ := by
  change (StableHlo.after Gen.hostOps0 (W0 m ρ c) (Proc.devRef .tc main_v33) : S256x1024.Idx → EReal) _ = _
  entry_read
  pointwise []
  rfl
theorem host35 (e : Fin 1024) (k : Fin 384) : (V1 m ρ c main_v35 : S1024x384.Idx → EReal) (ix2 e k)
    = (inpAt m c b).win e ⟨k.val, by omega⟩ := by
  change (StableHlo.after Gen.hostOps0 (W0 m ρ c) (Proc.devRef .tc main_v35) : S1024x384.Idx → EReal) _ = _
  entry_read
  pointwise []
  rfl
theorem host37 (e k : Fin 1024) : (V1 m ρ c main_v37 : S1024x1024.Idx → EReal) (ix2 e k)
    = (inpAt m c b).win e ⟨384 + k.val, by omega⟩ := by
  change (StableHlo.after Gen.hostOps0 (W0 m ρ c) (Proc.devRef .tc main_v37) : S1024x1024.Idx → EReal) _ = _
  entry_read
  pointwise []
  rfl
theorem host47 (e : Fin 1024) : (V1 m ρ c main_v47 : S1x1024.Idx → EReal) (ix2 0 e)
    = (inpAt m c b).nkv e := by
  change (StableHlo.after Gen.hostOps0 (W0 m ρ c) (Proc.devRef .tc main_v47) : S1x1024.Idx → EReal) _ = _
  entry_read
  pointwise []
  rfl
theorem host48 (e : Fin 1024) : (V1 m ρ c main_v48 : S1x1024.Idx → EReal) (ix2 0 e)
    = (inpAt m c b).nb e := by
  change (StableHlo.after Gen.hostOps0 (W0 m ρ c) (Proc.devRef .tc main_v48) : S1x1024.Idx → EReal) _ = _
  entry_read
  pointwise []
  rfl
theorem host49 (e : Fin 256) : (V1 m ρ c main_v49 : S1x256.Idx → EReal) (ix2 0 e)
    = (inpAt m c b).kvn e := by
  change (StableHlo.after Gen.hostOps0 (W0 m ρ c) (Proc.devRef .tc main_v49) : S1x256.Idx → EReal) _ = _
  entry_read
  pointwise []
  rfl
theorem host50 (e : Fin 384) : (V1 m ρ c main_v50 : S1x384.Idx → EReal) (ix2 0 e)
    = (inpAt m c b).qn e := by
  change (StableHlo.after Gen.hostOps0 (W0 m ρ c) (Proc.devRef .tc main_v50) : S1x384.Idx → EReal) _ = _
  entry_read
  pointwise []
  rfl

end Cert.KernelIdeal.Values

end
-- ==== Proof.Proj.Pure.lean ====
/- The projection's vectors at an index, from what the blocks it reads hold at an index. -/
module

public import proofs.«01_k».proof.Proof.Values.Model
public import proofs.«01_k».proof.Proof.Proj.Body
public import Idealize.ShloMosaic.Lib.Pointwise

@[expose] public section

set_option maxRecDepth 16384
set_option maxHeartbeats 2000000

noncomputable section

namespace Cert.KernelIdeal.Proj

open Idealize.ShloMosaic Idealize.ShloMosaic.TcCoe
open Cert.KernelIdeal.Gen
open Cert.Model

theorem weigh_apply (x : Vec Ideal S1x1024x1024 .f32) (w : Vec Ideal S1x1024 .f32) (r e : Fin 1024) (X g : Fin 1024 → EReal)
    (hx : ∀ e, x (ix3 0 r e) = X e) (hw : ∀ e, w (ix2 0 e) = g e) : weigh (normX x) w (ix2 r e) = rms c1024 X g e := by
  pointwise [weigh, normX, hx, hw]
  rfl

theorem ckvRaw_apply (h : FVec Ideal S1024x1024 .bf16) (w : Vec Ideal S1024x256 .bf16) (r : Fin 1024) (k : Fin 256) :
    ckvRaw h w (ix2 r k) = ∑ e : Fin 1024, h (ix2 r e) * w (ix2 e k) := by
  pointwise [ckvRaw]

theorem ckv_apply (y : FVec Ideal S1024x256 .f32) (g : Vec Ideal S1x256 .f32) (r : Fin 1024) (k : Fin 256) (Y G : Fin 256 → EReal)
    (hy : ∀ k, y (ix2 r k) = Y k) (hg : ∀ k, g (ix2 0 k) = G k) : ckv y g (ix2 r k) = rms c256 Y G k := by
  pointwise [ckv, hy, hg]
  rfl

theorem keyTurn_apply (h : FVec Ideal S1024x1024 .bf16) (w : Vec Ideal S128x1024 .bf16) (t : Vec Ideal S128x1024 .f32) (r : Fin 1024) (j : Fin 64) :
    keyTurn h w t (ix2 j r) = (∑ e : Fin 1024, w (ix2 (⟨j.val, by omega⟩ : Fin 128) e) * h (ix2 r e)) * t (ix2 (⟨j.val, by omega⟩ : Fin 128) r)
      + (∑ e : Fin 1024, w (ix2 (⟨64 + j.val, by omega⟩ : Fin 128) e) * h (ix2 r e)) * t (ix2 (⟨64 + j.val, by omega⟩ : Fin 128) r) := by
  pointwise [keyTurn]

theorem keyPlain_apply (k : FVec Ideal S1024x1024 .f32) (h : Fin 8) (d : Fin 128) (r : Fin 1024) :
    keyPlain k h (ix4 0 0 d r) = k (ix2 (⟨h.val * 128 + d.val, by omega⟩ : Fin 1024) r) := by
  pointwise [keyPlain]

theorem valueOf_apply (v : FVec Ideal S1024x1024 .f32) (h : Fin 8) (r : Fin 1024) (d : Fin 128) :
    valueOf v h (ix4 0 0 r d) = v (ix2 r (⟨h.val * 128 + d.val, by omega⟩ : Fin 1024)) := by
  pointwise [valueOf]

theorem keysAll_apply (ck : FVec Ideal S1024x256 .bf16) (w : Vec Ideal S1024x256 .bf16) (j r : Fin 1024) :
    keysAll ck w (ix2 j r) = ∑ k : Fin 256, w (ix2 j k) * ck (ix2 r k) := by
  pointwise [keysAll]

theorem valuesAll_apply (ck : FVec Ideal S1024x256 .bf16) (w : Vec Ideal S256x1024 .bf16) (r j : Fin 1024) :
    valuesAll ck w (ix2 r j) = ∑ k : Fin 256, ck (ix2 r k) * w (ix2 k j) := by
  pointwise [valuesAll]

theorem cqRaw_apply (h : FVec Ideal S1024x1024 .bf16) (w : Vec Ideal S1024x384 .bf16) (r : Fin 1024) (k : Fin 384) :
    cqRaw h w (ix2 r k) = ∑ e : Fin 1024, h (ix2 r e) * w (ix2 e k) := by
  pointwise [cqRaw]

/-- The queries' factor: one over the root of 192, one over the logarithm of 2. -/
abbrev cq0 : ℝ := (Real.sqrt 192)⁻¹ * (Real.log 2)⁻¹

theorem scale_eq : (Named.named (F := Ideal) κ "q_scale" (φ := .f32) 0x3DD53B95#32 : EReal) = (cq0 : ℝ) :=
  IdealRules.named_const.ideal_named_scalar _ _ _ _ rfl
theorem log_eq : (Named.named (F := Ideal) κ "neg_log2e" (φ := .f32) 0xBFB8AA3B#32 : EReal) = ((-((Real.log 2)⁻¹) : ℝ) : EReal) :=
  IdealRules.named_const.ideal_named_scalar _ _ _ _ rfl

theorem cq_apply (y : FVec Ideal S1024x384 .f32) (g : Vec Ideal S1x384 .f32) (r : Fin 1024) (k : Fin 384) (Y G : Fin 384 → EReal)
    (hy : ∀ k, y (ix2 r k) = Y k) (hg : ∀ k, g (ix2 0 k) = G k) : cq y g (ix2 r k) = rms c384 Y G k * (cq0 : ℝ) := by
  pointwise [cq, hy, hg, scale_eq]
  exact (mul_assoc _ _ _).symm

theorem gateRaw_apply (h : FVec Ideal S1024x1024 .bf16) (w : Vec Ideal S1024x1024 .bf16) (r k : Fin 1024) :
    gateRaw h w (ix2 r k) = ∑ e : Fin 1024, h (ix2 r e) * w (ix2 e k) := by
  pointwise [gateRaw]

theorem qRaw_apply (a : FVec Ideal S1024x384 .bf16) (w : Vec Ideal S384x256 .bf16) (r : Fin 1024) (k : Fin 256) :
    qRaw a w (ix2 r k) = ∑ e : Fin 384, a (ix2 r e) * w (ix2 e k) := by
  pointwise [qRaw]

theorem qPlain_apply (q : FVec Ideal S1024x256 .f32) (r : Fin 1024) (d : Fin 128) :
    qPlain q (ix4 0 0 r d) = q (ix2 r (⟨d.val, by omega⟩ : Fin 256)) := by
  pointwise [qPlain]

theorem qTurn_apply (q : FVec Ideal S1024x256 .f32) (t : Vec Ideal S1024x128 .f32) (r : Fin 1024) (j : Fin 64) :
    qTurn q t (ix4 0 0 r j) = q (ix2 r (⟨128 + j.val, by omega⟩ : Fin 256)) * t (ix2 r (⟨j.val, by omega⟩ : Fin 128))
      + q (ix2 r (⟨128 + (64 + j.val), by omega⟩ : Fin 256)) * t (ix2 r (⟨64 + j.val, by omega⟩ : Fin 128)) := by
  pointwise [qTurn]
  have e : (j.val + 128 - 64) % 128 = 64 + j.val := by omega
  simp only [e]

theorem gate_apply (y : FVec Ideal S1024x1024 .f32) (r k : Fin 1024) :
    gate y (ix3 0 r k) = y (ix2 r k) * Ideal.div 1 (1 + Ideal.exp2 (y (ix2 r k) * ((-((Real.log 2)⁻¹) : ℝ) : EReal))) := by
  pointwise [gate, log_eq]
  rfl

end Cert.KernelIdeal.Proj

end
-- ==== Proof.Values.ProjBlocks.lean ====
/- What the projection's points read: each block's entries in the arguments. -/
module

public import proofs.«01_k».proof.Proof.Values.Host
public import proofs.«01_k».proof.Proof.Proj.Pure
public import Idealize.ShloMosaic.Lib.Pipeline.ValueKit
public import Idealize.ShloMosaic.Lib.Pointwise

@[expose] public section

set_option maxRecDepth 16384
set_option maxHeartbeats 2000000

noncomputable section

namespace Cert.KernelIdeal.Values

open Idealize.ShloMosaic Idealize.ShloMosaic.TcCoe
open Cert.KernelIdeal.Gen hiding W2 W2_arr W2_of_ne W2_of W2_args V2 hF0 hrest0 W3 W3_of W3_args V3 W4 W4_arr W4_of_ne W4_of W4_args V4 hF1 hrest1
  pdats Tₙ reg0 reg1 segs main_run
open Cert.Model

variable (m : (l : Loc nD τ sig) → Buf (Elt Ideal) l) (ρ : Dev nD → PrngReg) (c : Dev nD)

/-- The blocks' places at every point. -/
theorem idx0 : ∀ t : Fin cfg0.N, win0_0.index t = ![t.val / 2, t.val % 2, 0] ∧ win0_1.index t = ![t.val % 2, 0] ∧ win0_2.index t = ![0, t.val % 2]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0]
    ∧ win0_14.index t = ![t.val / 2, 0, t.val % 2, 0] ∧ win0_15.index t = ![t.val / 2, 0, 0, t.val % 2]
    ∧ win0_16.index t = ![t.val / 2, 0, t.val % 2, 0] ∧ win0_17.index t = ![t.val / 2, t.val % 2, 0] ∧ t.val < 32 :=
  (by decide +kernel : ∀ t : Fin grid0.N, _)

/-- A point's batch, and its row's position. -/
def bat (t : Fin cfg0.N) : Fin 16 := ⟨t.val / 2, by have : t.val < 32 := t.isLt; omega⟩
def pos (t : Fin cfg0.N) (r : Fin 1024) : Fin 2048 := ⟨t.val % 2 * 1024 + r.val, by have := r.isLt; omega⟩

theorem blk0 (t : Fin cfg0.N) (r e : Fin 1024) : (iblk0 (V1 m ρ) c 0 t : S1x1024x1024.Idx → EReal) (ix3 0 r e) = (inpAt m c (bat t)).x (pos t r) e := by
  refine Eq.trans ?_ (congrFun (W1_args m ρ c main_arg0 (by decide)) (ix3 (bat t) (pos t r) e))
  blk_ext! [iblk0, idx0 t, bat, pos]
theorem blk1 (t : Fin cfg0.N) (r : Fin 1024) (j : Fin 128) : (iblk0 (V1 m ρ) c 1 t : S1024x128.Idx → EReal) (ix2 r j) = table (pos t r) j := by
  refine Eq.trans ?_ (host19 m ρ c (pos t r) j)
  blk_ext! [iblk0, idx0 t, pos]
theorem blk2 (t : Fin cfg0.N) (r : Fin 1024) (j : Fin 128) : (iblk0 (V1 m ρ) c 2 t : S128x1024.Idx → EReal) (ix2 j r) = table (pos t r) j := by
  refine Eq.trans ?_ (host46 m ρ c (pos t r) j)
  blk_ext! [iblk0, idx0 t, pos]
theorem blk3 (t : Fin cfg0.N) : (iblk0 (V1 m ρ) c 3 t : S1x1024.Idx → EReal) = V1 m ρ c main_v47 := by
  blk_ext! [iblk0, idx0 t]
theorem blk4 (t : Fin cfg0.N) : (iblk0 (V1 m ρ) c 4 t : S1x1024.Idx → EReal) = V1 m ρ c main_v48 := by
  blk_ext! [iblk0, idx0 t]
theorem blk5 (t : Fin cfg0.N) : (iblk0 (V1 m ρ) c 5 t : S1024x256.Idx → EReal) = V1 m ρ c main_v22 := by
  blk_ext! [iblk0, idx0 t]
theorem blk6 (t : Fin cfg0.N) : (iblk0 (V1 m ρ) c 6 t : S128x1024.Idx → EReal) = V1 m ρ c main_v28 := by
  blk_ext! [iblk0, idx0 t]
theorem blk7 (t : Fin cfg0.N) : (iblk0 (V1 m ρ) c 7 t : S1x256.Idx → EReal) = V1 m ρ c main_v49 := by
  blk_ext! [iblk0, idx0 t]
theorem blk8 (t : Fin cfg0.N) : (iblk0 (V1 m ρ) c 8 t : S1024x256.Idx → EReal) = V1 m ρ c main_v31 := by
  blk_ext! [iblk0, idx0 t]
theorem blk9 (t : Fin cfg0.N) : (iblk0 (V1 m ρ) c 9 t : S256x1024.Idx → EReal) = V1 m ρ c main_v33 := by
  blk_ext! [iblk0, idx0 t]
theorem blk10 (t : Fin cfg0.N) : (iblk0 (V1 m ρ) c 10 t : S1024x384.Idx → EReal) = V1 m ρ c main_v35 := by
  blk_ext! [iblk0, idx0 t]
theorem blk11 (t : Fin cfg0.N) : (iblk0 (V1 m ρ) c 11 t : S1024x1024.Idx → EReal) = V1 m ρ c main_v37 := by
  blk_ext! [iblk0, idx0 t]
theorem blk12 (t : Fin cfg0.N) : (iblk0 (V1 m ρ) c 12 t : S1x384.Idx → EReal) = V1 m ρ c main_v50 := by
  blk_ext! [iblk0, idx0 t]
theorem blk13 (t : Fin cfg0.N) : (iblk0 (V1 m ρ) c 13 t : S384x2048.Idx → EReal) = V1 m ρ c main_v45 := by
  blk_ext! [iblk0, idx0 t]

end Cert.KernelIdeal.Values

end
-- ==== Proof.Values.ProjPoints.lean ====
/- What the projection's points leave, as the layer's formulas. -/
module

public import proofs.«01_k».proof.Proof.Values.ProjBlocks
public import Idealize.ShloMosaic.Lib.Pipeline.ValueKit
public import Idealize.ShloMosaic.Lib.Pointwise

@[expose] public section

set_option maxRecDepth 16384
set_option maxHeartbeats 2000000

noncomputable section

namespace Cert.KernelIdeal.Values

open Idealize.ShloMosaic Idealize.ShloMosaic.TcCoe
open Cert.KernelIdeal.Gen hiding W2 W2_arr W2_of_ne W2_of W2_args V2 hF0 hrest0 W3 W3_of W3_args V3 W4 W4_arr W4_of_ne W4_of W4_args V4 hF1 hrest1
  pdats Tₙ reg0 reg1 segs main_run
open Cert.Model

open Cert.KernelIdeal.Proj hiding cq ckv
open Cert.KernelIdeal.Attn (mul_sum_nonneg)

theorem cq0_nonneg : (0 : EReal) ≤ (cq0 : ℝ) := by
  have : (0 : ℝ) ≤ cq0 := mul_nonneg (inv_nonneg.mpr (Real.sqrt_nonneg _)) (inv_nonneg.mpr (Real.log_nonneg (by norm_num)))
  exact_mod_cast this

/-- Two products with the table's rows are the turn. -/
theorem turn_eq (s : Fin 2048) (y : Fin 64 → EReal) (j : Fin 64) :
    y j * table s ⟨j.val, by omega⟩ + swap y ⟨64 + j.val, by omega⟩ * table s ⟨64 + j.val, by omega⟩ = turn s y j := by
  have hj := j.isLt
  unfold turn table swap
  by_cases h : j.val < 32
  · have e1 : 64 + j.val - 64 = j.val := by omega
    have e2 : 64 + j.val - 32 - 32 = j.val := by omega
    have n1 : ¬ 64 + j.val < 64 := by omega
    have n2 : ¬ 64 + j.val < 32 := by omega
    have n3 : ¬ 64 + j.val - 32 < 32 := by omega
    simp only [e1, e2, n1, n2, n3, h, dif_pos, dif_neg, not_false_eq_true]
    rw [sub_eq_add_neg, mul_neg]
  · have e1 : 64 + j.val - 64 = j.val := by omega
    have e2 : 64 + j.val - 32 - 32 = j.val := by omega
    have e3 : 64 + j.val - 32 - 32 - 32 = j.val - 32 := by omega
    have e4 : (⟨32 + (j.val - 32), by omega⟩ : Fin 64) = j := Fin.ext (by show 32 + (j.val - 32) = j.val; omega)
    have n1 : ¬ 64 + j.val < 64 := by omega
    have n2 : ¬ 64 + j.val < 32 := by omega
    have n3 : ¬ 64 + j.val - 32 < 32 := by omega
    have p1 : j.val - 32 < 32 := by omega
    simp only [e1, e2, e3, e4, n1, n2, n3, p1, h, dif_pos, dif_neg, not_false_eq_true]

theorem swap_low (y : Fin 64 → EReal) (j : Fin 64) : swap y ⟨j.val, by omega⟩ = y j := by
  unfold swap; exact dif_pos j.isLt

theorem wide_low (q : Fin 192 → EReal) (d : Fin 128) : wide q ⟨d.val, by omega⟩ = q ⟨d.val, by omega⟩ := by
  unfold wide; exact dif_pos d.isLt

theorem wide_high (q : Fin 192 → EReal) (j : Fin 128) : wide q ⟨128 + j.val, by omega⟩ = swap (fun i => q ⟨128 + i.val, by omega⟩) j := by
  have e : 128 + j.val - 128 = j.val := by omega
  have n : ¬ 128 + j.val < 128 := by omega
  unfold wide swap
  simp only [e, n, dif_neg, not_false_eq_true]

theorem sum_wide (I : Inp) (s : Fin 2048) (h : Fin 8) (j : Fin 256) : ∑ k, I.cq s k * wide (I.wuq k h) j = wide (I.qq s h) j := by
  unfold wide; split_ifs <;> rfl

theorem sum_swap (I : Inp) (s : Fin 2048) (j : Fin 128) :
    ∑ e, I.hk s e * swap (fun i => I.wdkv e ⟨256 + i.val, by omega⟩) j = swap (fun i => I.ckr s ⟨256 + i.val, by omega⟩) j := by
  unfold swap; split_ifs <;> rfl

variable (m : (l : Loc nD τ sig) → Buf (Elt Ideal) l) (ρ : Dev nD → PrngReg) (c : Dev nD) (t : Fin cfg0.N)

theorem hkP (r e : Fin 1024) : weigh (normX (iblk0 (V1 m ρ) c 0 t)) (iblk0 (V1 m ρ) c 3 t) (ix2 r e) = (inpAt m c (bat t)).hk (pos t r) e :=
  weigh_apply _ _ r e _ _ (blk0 m ρ c t r) fun e => (congrFun (blk3 m ρ c t) (ix2 0 e)).trans (host47 m ρ c (bat t) e)

theorem hqP (r e : Fin 1024) : weigh (normX (iblk0 (V1 m ρ) c 0 t)) (iblk0 (V1 m ρ) c 4 t) (ix2 r e) = (inpAt m c (bat t)).hq (pos t r) e :=
  weigh_apply _ _ r e _ _ (blk0 m ρ c t r) fun e => (congrFun (blk4 m ρ c t) (ix2 0 e)).trans (host48 m ρ c (bat t) e)

theorem ckrP (r : Fin 1024) (k : Fin 256) :
    ckvRaw (weigh (normX (iblk0 (V1 m ρ) c 0 t)) (iblk0 (V1 m ρ) c 3 t)) (iblk0 (V1 m ρ) c 5 t) (ix2 r k) = (inpAt m c (bat t)).ckr (pos t r) ⟨k.val, by omega⟩ :=
  (ckvRaw_apply _ _ r k).trans (Finset.sum_congr rfl fun e _ => congrArg₂ (fun a b : EReal => a * b) (hkP m ρ c t r e)
    ((congrFun (blk5 m ρ c t) (ix2 e k)).trans (host22 m ρ c (bat t) e k)))

theorem ckvP (r : Fin 1024) (k : Fin 256) :
    Proj.ckv (ckvRaw (weigh (normX (iblk0 (V1 m ρ) c 0 t)) (iblk0 (V1 m ρ) c 3 t)) (iblk0 (V1 m ρ) c 5 t)) (iblk0 (V1 m ρ) c 7 t) (ix2 r k)
      = (inpAt m c (bat t)).ckv (pos t r) k :=
  ckv_apply _ _ r k _ _ (ckrP m ρ c t r) fun k => (congrFun (blk7 m ρ c t) (ix2 0 k)).trans (host49 m ρ c (bat t) k)

theorem headIdx (h : Fin 8) (d : Fin 128) : (⟨(h.val * 128 + d.val) / 128, by omega⟩ : Fin 8) = h ∧ (⟨(h.val * 128 + d.val) % 128, by omega⟩ : Fin 128) = d :=
  ⟨Fin.ext (by show (h.val * 128 + d.val) / 128 = h.val; omega), Fin.ext (by show (h.val * 128 + d.val) % 128 = d.val; omega)⟩

theorem vP (h : Fin 8) (r : Fin 1024) (d : Fin 128) : vAt (V1 m ρ) c t (ix4 0 h r d) = (inpAt m c (bat t)).vv (pos t r) h d := by
  refine (valueOf_apply _ h r d).trans ((valuesAll_apply _ _ r _).trans (Finset.sum_congr rfl fun k _ => congrArg₂ (fun a b : EReal => a * b) (ckvP m ρ c t r k)
    ((congrFun (blk9 m ρ c t) (ix2 k _)).trans ((host33 m ρ c (bat t) _ k).trans ?_))))
  exact congrArg₂ ((inpAt m c (bat t)).wuv k) (headIdx h d).1 (headIdx h d).2

theorem kP (h : Fin 8) (d : Fin 192) (r : Fin 1024) : kAt (V1 m ρ) c t (ix4 0 h d r) = (inpAt m c (bat t)).kall (pos t r) h d := by
  unfold Inp.kall
  by_cases hd : d.val < 128
  · rw [dif_pos hd]
    refine (kArr_low _ _ h d r hd).trans ((keyPlain_apply _ h ⟨d.val, hd⟩ r).trans ((keysAll_apply _ _ _ r).trans (Finset.sum_congr rfl fun k _ => ?_)))
    refine (mul_comm _ _).trans (congrArg₂ (fun a b : EReal => a * b) (ckvP m ρ c t r k)
      ((congrFun (blk8 m ρ c t) (ix2 _ k)).trans ((host31 m ρ c (bat t) _ k).trans ?_)))
    exact congrArg₂ ((inpAt m c (bat t)).wuk k) (headIdx h ⟨d.val, hd⟩).1 (headIdx h ⟨d.val, hd⟩).2
  · rw [dif_neg hd]
    refine (kArr_high _ _ h d r hd).trans ?_
    generalize (⟨d.val - 128, by omega⟩ : Fin 64) = j
    have hs : ∀ i : Fin 128, ∑ e : Fin 1024, (show EReal from (iblk0 (V1 m ρ) c 6 t : S128x1024.Idx → EReal) (ix2 i e)) * (show EReal from weigh (normX (iblk0 (V1 m ρ) c 0 t)) (iblk0 (V1 m ρ) c 3 t) (ix2 r e))
        = swap (fun i => (inpAt m c (bat t)).ckr (pos t r) ⟨256 + i.val, by omega⟩) i := fun i =>
      (Finset.sum_congr rfl fun e _ => (mul_comm _ _).trans (congrArg₂ (fun a b : EReal => a * b) (hkP m ρ c t r e)
        ((congrFun (blk6 m ρ c t) (ix2 i e)).trans (host28 m ρ c (bat t) i e)))).trans (sum_swap (inpAt m c (bat t)) (pos t r) i)
    have hc : ∀ z : FVec Ideal S64x1024 .bf16, shapeCast S1x1x64x1024 z shapeCasts_S64x1024_S1x1x64x1024 (ix4 (0 : Fin 1) (0 : Fin 1) j r) = z (ix2 j r) := by
      intro z; pointwise []
    refine (hc _).trans ((keyTurn_apply _ _ _ r j).trans ?_)
    refine Eq.trans ?_ (turn_eq (pos t r) (fun i => (inpAt m c (bat t)).ckr (pos t r) ⟨256 + i.val, by omega⟩) j)
    exact congrArg₂ (fun a b : EReal => a + b) (congrArg₂ (fun a b : EReal => a * b) ((hs _).trans (swap_low _ j)) (blk2 m ρ c t r _))
      (congrArg₂ (fun a b : EReal => a * b) (hs _) (blk2 m ρ c t r _))

theorem uP (r : Fin 1024) (k : Fin 384) :
    cqRaw (weigh (normX (iblk0 (V1 m ρ) c 0 t)) (iblk0 (V1 m ρ) c 4 t)) (iblk0 (V1 m ρ) c 10 t) (ix2 r k) = (inpAt m c (bat t)).u (pos t r) ⟨k.val, by omega⟩ :=
  (cqRaw_apply _ _ r k).trans (Finset.sum_congr rfl fun e _ => congrArg₂ (fun a b : EReal => a * b) (hqP m ρ c t r e)
    ((congrFun (blk10 m ρ c t) (ix2 e k)).trans (host35 m ρ c (bat t) e k)))

theorem cqP (r : Fin 1024) (k : Fin 384) :
    Proj.cq (cqRaw (weigh (normX (iblk0 (V1 m ρ) c 0 t)) (iblk0 (V1 m ρ) c 4 t)) (iblk0 (V1 m ρ) c 10 t)) (iblk0 (V1 m ρ) c 12 t) (ix2 r k)
      = (inpAt m c (bat t)).cq (pos t r) k * (cq0 : ℝ) :=
  cq_apply _ _ r k _ _ (uP m ρ c t r) fun k => (congrFun (blk12 m ρ c t) (ix2 0 k)).trans (host50 m ρ c (bat t) k)

theorem gP (r k : Fin 1024) : gAt (V1 m ρ) c t (ix3 0 r k) = (inpAt m c (bat t)).gg (pos t r) k
    * Ideal.div 1 (1 + Ideal.exp2 ((inpAt m c (bat t)).gg (pos t r) k * ((-((Real.log 2)⁻¹) : ℝ) : EReal))) := by
  have h : gateRaw (weigh (normX (iblk0 (V1 m ρ) c 0 t)) (iblk0 (V1 m ρ) c 4 t)) (iblk0 (V1 m ρ) c 11 t) (ix2 r k) = (inpAt m c (bat t)).gg (pos t r) k :=
    (gateRaw_apply _ _ r k).trans (Finset.sum_congr rfl fun e _ => congrArg₂ (fun a b : EReal => a * b) (hqP m ρ c t r e)
      ((congrFun (blk11 m ρ c t) (ix2 e k)).trans (host37 m ρ c (bat t) e k)))
  refine (gate_apply _ r k).trans ?_
  rw [h]

/-- A head's queries before the turn, scaled. -/
theorem qRawP (h : Fin 8) (r : Fin 1024) (j : Fin 256) :
    qRaw (Proj.cq (cqRaw (weigh (normX (iblk0 (V1 m ρ) c 0 t)) (iblk0 (V1 m ρ) c 4 t)) (iblk0 (V1 m ρ) c 10 t)) (iblk0 (V1 m ρ) c 12 t))
        (fun y => (iblk0 (V1 m ρ) c 13 t : S384x2048.Idx → EReal) ((rectW h).emb y)) (ix2 r j)
      = (cq0 : ℝ) * wide ((inpAt m c (bat t)).qq (pos t r) h) j := by
  rw [← sum_wide, mul_sum_nonneg _ cq0_nonneg (EReal.coe_ne_top _)]
  refine (qRaw_apply _ _ r j).trans (Finset.sum_congr rfl fun k _ => ?_)
  have e : (rectW h).emb (ix2 k j) = ix2 k ⟨h.val * 256 + j.val, by omega⟩ := Rect.emb_eq_of_coords _ _ _ fun a => by fin_cases a <;> simp [Rect.unit]
  refine (congrArg₂ (fun a b : EReal => a * b) (cqP m ρ c t r k) ((congrArg (iblk0 (V1 m ρ) c 13 t : S384x2048.Idx → EReal) e).trans
    ((congrFun (blk13 m ρ c t) _).trans (host45 m ρ c (bat t) k h j)))).trans ?_
  rw [mul_comm ((inpAt m c (bat t)).cq (pos t r) k), mul_assoc]

theorem qP (h : Fin 8) (r : Fin 1024) (d : Fin 192) : qAt (V1 m ρ) c t (ix4 0 h r d) = (cq0 : ℝ) * (inpAt m c (bat t)).qall (pos t r) h d := by
  unfold Inp.qall
  by_cases hd : d.val < 128
  · rw [dif_pos hd]
    refine (qArr_low _ _ _ h r d hd).trans ((qPlain_apply _ r ⟨d.val, hd⟩).trans ((qRawP m ρ c t h r _).trans ?_))
    exact congrArg _ (wide_low _ ⟨d.val, hd⟩)
  · rw [dif_neg hd]
    refine (qArr_high _ _ _ h r d hd).trans ?_
    generalize (⟨d.val - 128, by omega⟩ : Fin 64) = j
    refine (qTurn_apply _ _ r j).trans ?_
    unfold Inp.qr
    rw [← turn_eq, EReal.left_distrib_of_nonneg_of_ne_top cq0_nonneg (EReal.coe_ne_top _), ← mul_assoc, ← mul_assoc]
    exact congrArg₂ (fun a b : EReal => a + b)
      (congrArg₂ (fun a b : EReal => a * b) ((qRawP m ρ c t h r _).trans (congrArg _ ((wide_high _ ⟨j.val, by omega⟩).trans (swap_low _ j)))) (blk1 m ρ c t r _))
      (congrArg₂ (fun a b : EReal => a * b) ((qRawP m ρ c t h r _).trans (congrArg _ (wide_high _ ⟨64 + j.val, by omega⟩))) (blk1 m ρ c t r _))

end Cert.KernelIdeal.Values

end
-- ==== Proof.Values.ProjArrays.lean ====
/- The projection call's four results as arrays of the layer's formulas. -/
module

public import proofs.«01_k».proof.Proof.Values.ProjPoints
public import Idealize.ShloMosaic.Lib.Pipeline.ValueKit

@[expose] public section

set_option maxRecDepth 16384
set_option maxHeartbeats 2000000

noncomputable section

namespace Cert.KernelIdeal.Values

open Idealize.ShloMosaic Idealize.ShloMosaic.TcCoe
open Cert.KernelIdeal.Gen hiding W2 W2_arr W2_of_ne W2_of W2_args V2 hF0 hrest0 W3 W3_of W3_args V3 W4 W4_arr W4_of_ne W4_of W4_args V4 hF1 hrest1
  pdats Tₙ reg0 reg1 segs main_run
open Cert.Model
open Cert.KernelIdeal.Proj hiding cq ckv

variable (m : (l : Loc nD τ sig) → Buf (Elt Ideal) l) (ρ : Dev nD → PrngReg) (c : Dev nD)

/-- The four results' entries. -/
def arrQ : S16x8x2048x192.Idx → EReal := fun i => (cq0 : ℝ) * (inpAt m c (i 0)).qall (i 2) (i 1) (i 3)
def arrK : S16x8x192x2048.Idx → EReal := fun i => (inpAt m c (i 0)).kall (i 3) (i 1) (i 2)
def arrV : S16x8x2048x128.Idx → EReal := fun i => (inpAt m c (i 0)).vv (i 2) (i 1) (i 3)
def arrG : S16x2048x1024.Idx → EReal := fun i => (inpAt m c (i 0)).gg (i 1) (i 2)
    * Ideal.div 1 (1 + Ideal.exp2 ((inpAt m c (i 0)).gg (i 1) (i 2) * ((-((Real.log 2)⁻¹) : ℝ) : EReal)))

theorem final14 : (Proj.dat (V1 m ρ) c).arrAt 14 cfg0.N = arrQ m c := by
  refine (Proj.dat (V1 m ρ) c).arrAt_eq_of_covers 14 (arrQ m c) (by decide +kernel) fun t _ y => ?_
  blk_simp
  rw [Proj.after_14]
  obtain ⟨z, h, r, d, rfl⟩ : ∃ (z : Fin 1) (h : Fin 8) (r : Fin 1024) (d : Fin 192), y = ix4 z h r d :=
    ⟨y 0, y 1, y 2, y 3, funext fun a => by fin_cases a <;> rfl⟩
  obtain rfl : z = 0 := Subsingleton.elim _ _
  refine (qP m ρ c t h r d).trans ?_
  refine Eq.trans (b := arrQ m c (ix4 (bat t) h (pos t r) d)) rfl ?_
  blk_ext [idx0 t, bat, pos]

theorem final15 : (Proj.dat (V1 m ρ) c).arrAt 15 cfg0.N = arrK m c := by
  refine (Proj.dat (V1 m ρ) c).arrAt_eq_of_covers 15 (arrK m c) (by decide +kernel) fun t _ y => ?_
  blk_simp
  rw [Proj.after_15]
  obtain ⟨z, h, d, r, rfl⟩ : ∃ (z : Fin 1) (h : Fin 8) (d : Fin 192) (r : Fin 1024), y = ix4 z h d r :=
    ⟨y 0, y 1, y 2, y 3, funext fun a => by fin_cases a <;> rfl⟩
  obtain rfl : z = 0 := Subsingleton.elim _ _
  refine (kP m ρ c t h d r).trans ?_
  refine Eq.trans (b := arrK m c (ix4 (bat t) h d (pos t r))) rfl ?_
  blk_ext [idx0 t, bat, pos]

theorem final16 : (Proj.dat (V1 m ρ) c).arrAt 16 cfg0.N = arrV m c := by
  refine (Proj.dat (V1 m ρ) c).arrAt_eq_of_covers 16 (arrV m c) (by decide +kernel) fun t _ y => ?_
  blk_simp
  rw [Proj.after_16]
  obtain ⟨z, h, r, d, rfl⟩ : ∃ (z : Fin 1) (h : Fin 8) (r : Fin 1024) (d : Fin 128), y = ix4 z h r d :=
    ⟨y 0, y 1, y 2, y 3, funext fun a => by fin_cases a <;> rfl⟩
  obtain rfl : z = 0 := Subsingleton.elim _ _
  refine (vP m ρ c t h r d).trans ?_
  refine Eq.trans (b := arrV m c (ix4 (bat t) h (pos t r) d)) rfl ?_
  blk_ext [idx0 t, bat, pos]

theorem final17 : (Proj.dat (V1 m ρ) c).arrAt 17 cfg0.N = arrG m c := by
  refine (Proj.dat (V1 m ρ) c).arrAt_eq_of_covers 17 (arrG m c) (by decide +kernel) fun t _ y => ?_
  blk_simp
  rw [Proj.after_17]
  obtain ⟨z, r, d, rfl⟩ : ∃ (z : Fin 1) (r : Fin 1024) (d : Fin 1024), y = ix3 z r d :=
    ⟨y 0, y 1, y 2, funext fun a => by fin_cases a <;> rfl⟩
  obtain rfl : z = 0 := Subsingleton.elim _ _
  refine (gP m ρ c t r d).trans ?_
  refine Eq.trans (b := arrG m c (ix3 (bat t) (pos t r) d)) rfl ?_
  blk_ext [idx0 t, bat, pos]

theorem entry14 : (V3 m ρ c main_v51_0 : _) = arrQ m c :=
  (W3_of m ρ c main_v51_0 (by decide +kernel)).trans ((W2_arr m ρ c 14).trans (final14 m ρ c))
theorem entry15 : (V3 m ρ c main_v51_1 : _) = arrK m c :=
  (W3_of m ρ c main_v51_1 (by decide +kernel)).trans ((W2_arr m ρ c 15).trans (final15 m ρ c))
theorem entry16 : (V3 m ρ c main_v51_2 : _) = arrV m c :=
  (W3_of m ρ c main_v51_2 (by decide +kernel)).trans ((W2_arr m ρ c 16).trans (final16 m ρ c))
theorem entry17 : (V3 m ρ c main_v51_3 : _) = arrG m c :=
  (W3_of m ρ c main_v51_3 (by decide +kernel)).trans ((W2_arr m ρ c 17).trans (final17 m ρ c))

/-- The other operands of the attention call. -/
theorem entry0 : (V3 m ρ c main_arg0 : S16x2048x1024.Idx → EReal) = m ((c : Thread nD τ).loc main_arg0) := W3_args m ρ c main_arg0 (by decide)
theorem entry52 : (V3 m ρ c main_v52 : S1024x1024.Idx → EReal) = m ((c : Thread nD τ).loc main_arg10) := by
  change (StableHlo.after hostOps1 (W2 m ρ c) (Proc.devRef .tc main_v52) : S1024x1024.Idx → EReal) = _
  entry_read
  exact W2_args m ρ c main_arg10 (by decide)
theorem entry53 (e : Fin 1024) : (V3 m ρ c main_v53 : S1x1024.Idx → EReal) (ix2 0 e) = (m ((c : Thread nD τ).loc main_arg11) : S1024.Idx → EReal) (ix1 e) := by
  change (StableHlo.after hostOps1 (W2 m ρ c) (Proc.devRef .tc main_v53) : S1x1024.Idx → EReal) _ = _
  entry_read
  pointwise []
  exact congrFun (W2_args m ρ c main_arg11 (by decide)) (ix1 e)

end Cert.KernelIdeal.Values

end
-- ==== Proof.Values.AttnBlocks.lean ====
/- What the attention's points read: each block's entries in the layer's formulas. -/
module

public import proofs.«01_k».proof.Proof.Values.ProjArrays

@[expose] public section

set_option maxRecDepth 16384
set_option maxHeartbeats 2000000

noncomputable section

namespace Cert.KernelIdeal.Values

open Idealize.ShloMosaic Idealize.ShloMosaic.TcCoe
open Cert.KernelIdeal.Gen hiding W2 W2_arr W2_of_ne W2_of W2_args V2 hF0 hrest0 W3 W3_of W3_args V3 W4 W4_arr W4_of_ne W4_of W4_args V4 hF1 hrest1
  pdats Tₙ reg0 reg1 segs main_run
open Cert.Model
open Cert.KernelIdeal.Proj (cq0)

variable (m : (l : Loc nD τ sig) → Buf (Elt Ideal) l) (ρ : Dev nD → PrngReg) (c : Dev nD)

/-- The blocks' places at every point. -/
theorem idx1 : ∀ t : Fin cfg1.N, win1_0.index t = ![t.val / 4, 0, t.val % 4, 0] ∧ win1_1.index t = ![t.val / 4, 0, 0, 0]
    ∧ win1_2.index t = ![t.val / 4, 0, 0, 0] ∧ win1_3.index t = ![t.val / 4, t.val % 4, 0] ∧ win1_4.index t = ![t.val / 4, t.val % 4, 0]
    ∧ win1_5.index t = ![0, 0] ∧ win1_6.index t = ![0, 0] ∧ win1_7.index t = ![t.val / 4, t.val % 4, 0] ∧ t.val < 64 :=
  (by decide +kernel : ∀ t : Fin grid1.N, _)

/-- A point's batch, and its row's position. -/
def bat1 (t : Fin cfg1.N) : Fin 16 := ⟨t.val / 4, by have : t.val < 64 := t.isLt; omega⟩
def pos1 (t : Fin cfg1.N) (r : Fin 512) : Fin 2048 := ⟨t.val % 4 * 512 + r.val, by have := r.isLt; omega⟩

variable (t : Fin cfg1.N)

theorem qB (h : Fin 8) (r : Fin 512) (d : Fin 192) :
    (iblk1 (V3 m ρ) c 0 t : S1x8x512x192.Idx → EReal) (ix4 0 h r d) = ((cq0 : ℝ) : EReal) * (inpAt m c (bat1 t)).qall (pos1 t r) h d := by
  refine Eq.trans ?_ (congrFun (entry14 m ρ c) (ix4 (bat1 t) h (pos1 t r) d))
  blk_ext! [iblk1, idx1 t, bat1, pos1]
theorem kB (h : Fin 8) (d : Fin 192) (x : Fin 2048) :
    (iblk1 (V3 m ρ) c 1 t : S1x8x192x2048.Idx → EReal) (ix4 0 h d x) = (inpAt m c (bat1 t)).kall x h d := by
  refine Eq.trans ?_ (congrFun (entry15 m ρ c) (ix4 (bat1 t) h d x))
  blk_ext! [iblk1, idx1 t, bat1]
theorem vB (h : Fin 8) (x : Fin 2048) (d : Fin 128) :
    (iblk1 (V3 m ρ) c 2 t : S1x8x2048x128.Idx → EReal) (ix4 0 h x d) = (inpAt m c (bat1 t)).vv x h d := by
  refine Eq.trans ?_ (congrFun (entry16 m ρ c) (ix4 (bat1 t) h x d))
  blk_ext! [iblk1, idx1 t, bat1]
theorem gB (r : Fin 512) (k : Fin 1024) :
    (iblk1 (V3 m ρ) c 3 t : S1x512x1024.Idx → EReal) (ix3 0 r k) = arrG m c (ix3 (bat1 t) (pos1 t r) k) := by
  refine Eq.trans ?_ (congrFun (entry17 m ρ c) (ix3 (bat1 t) (pos1 t r) k))
  blk_ext! [iblk1, idx1 t, bat1, pos1]
theorem xB (r : Fin 512) (e : Fin 1024) :
    (iblk1 (V3 m ρ) c 4 t : S1x512x1024.Idx → EReal) (ix3 0 r e) = (inpAt m c (bat1 t)).x (pos1 t r) e := by
  refine Eq.trans ?_ (congrFun (entry0 m ρ c) (ix3 (bat1 t) (pos1 t r) e))
  blk_ext! [iblk1, idx1 t, bat1, pos1]
theorem wB (k e : Fin 1024) :
    (iblk1 (V3 m ρ) c 5 t : S1024x1024.Idx → EReal) (ix2 k e) = (inpAt m c (bat1 t)).wout k e := by
  refine Eq.trans ?_ (congrFun (entry52 m ρ c) (ix2 k e))
  blk_ext! [iblk1, idx1 t]
theorem fB (e : Fin 1024) :
    (iblk1 (V3 m ρ) c 6 t : S1x1024.Idx → EReal) (ix2 0 e) = (inpAt m c (bat1 t)).fn e := by
  refine Eq.trans ?_ (entry53 m ρ c e)
  blk_ext! [iblk1, idx1 t]

end Cert.KernelIdeal.Values

end
-- ==== Proof.Values.Finite.lean ====
/- The scores are real where the arrays they are made from are. -/
module

public import proofs.«01_k».proof.Proof.Values.Model

@[expose] public section

noncomputable section

namespace Cert.Model

open Idealize.ShloMosaic

/-- The value is a real number. -/
def Re (x : EReal) : Prop := ∃ r : ℝ, x = r

theorem Re.mul {x y : EReal} : Re x → Re y → Re (x * y) := fun ⟨a, ha⟩ ⟨b, hb⟩ => ⟨a * b, by rw [ha, hb, EReal.coe_mul]⟩
theorem Re.add {x y : EReal} : Re x → Re y → Re (x + y) := fun ⟨a, ha⟩ ⟨b, hb⟩ => ⟨a + b, by rw [ha, hb, EReal.coe_add]⟩
theorem Re.sub {x y : EReal} : Re x → Re y → Re (x - y) := fun ⟨a, ha⟩ ⟨b, hb⟩ => ⟨a - b, by rw [ha, hb, EReal.coe_sub]⟩
theorem coe_sum {n : ℕ} (g : Fin n → ℝ) : ((∑ k, g k : ℝ) : EReal) = ∑ k, (g k : EReal) :=
  map_sum (⟨⟨Real.toEReal, rfl⟩, EReal.coe_add⟩ : ℝ →+ EReal) g Finset.univ
theorem Re.sum {n : ℕ} {f : Fin n → EReal} (h : ∀ k, Re (f k)) : Re (∑ k, f k) := by
  choose g hg using h
  exact ⟨∑ k, g k, by simp only [hg, coe_sum]⟩
theorem Re.ne_top {x : EReal} : Re x → x ≠ ⊤ := fun ⟨a, ha⟩ => ha ▸ EReal.coe_ne_top a
theorem Re.ne_bot {x : EReal} : Re x → x ≠ ⊥ := fun ⟨a, ha⟩ => ha ▸ EReal.coe_ne_bot a

/-- A positive real constant. -/
def Pos (c : EReal) : Prop := ∃ r : ℝ, 0 < r ∧ c = r

theorem eps_pos : Pos eps := by
  refine ⟨?r, ?p, ?e⟩
  case e => simp [Ideal.ofBits, Ideal.ieee]; exact (EReal.coe_mul _ _).symm
  case p => norm_num
theorem c1024_pos : Pos c1024 := ⟨1024, by norm_num, by simp [Ideal.ofBits, Ideal.ieee]; rw [← EReal.coe_mul]; norm_num⟩
theorem c256_pos : Pos c256 := ⟨256, by norm_num, by simp [Ideal.ofBits, Ideal.ieee]; rw [← EReal.coe_mul]; norm_num⟩
theorem c384_pos : Pos c384 := ⟨384, by norm_num, by simp [Ideal.ofBits, Ideal.ieee]; rw [← EReal.coe_mul]; norm_num⟩
theorem c192_eq : c192 = ((192 : ℝ) : EReal) := by simp [Ideal.ofBits, Ideal.ieee]; rw [← EReal.coe_mul]; norm_num

theorem div_coe (a : ℝ) {b : ℝ} (hb : b ≠ 0) : Ideal.div (a : EReal) (b : EReal) = ((a * b⁻¹ : ℝ) : EReal) := by
  unfold Ideal.div
  rw [if_neg (by exact_mod_cast hb), ← EReal.coe_inv, EReal.coe_mul]

/-- One over the root mean square of a real row is real. -/
theorem rs_re {n : ℕ} {c : EReal} (hc : Pos c) {y : Fin n → EReal} (h : ∀ k, Re (y k)) : Re (rs c y) := by
  obtain ⟨c, hc0, rfl⟩ := hc
  obtain ⟨e, he0, he⟩ := eps_pos
  choose g hg using h
  have hs : (∑ k, y k * y k) = ((∑ k, g k * g k : ℝ) : EReal) := by simp only [hg, coe_sum, EReal.coe_mul]
  have h0 : 0 ≤ ∑ k, g k * g k := Finset.sum_nonneg fun k _ => mul_self_nonneg (g k)
  have hp : 0 < (∑ k, g k * g k) * c⁻¹ + e := add_pos_of_nonneg_of_pos (mul_nonneg h0 (inv_nonneg.mpr hc0.le)) he0
  refine ⟨(Real.sqrt ((∑ k, g k * g k) * c⁻¹ + e))⁻¹, ?_⟩
  unfold rs
  rw [hs, div_coe _ hc0.ne', he, ← EReal.coe_add]
  show (if _ < 0 then _ else _) = _
  rw [if_neg hp.not_gt, if_neg hp.ne']

theorem rms_re {n : ℕ} {c : EReal} (hc : Pos c) {y g : Fin n → EReal} (h : ∀ k, Re (y k)) (hg : ∀ k, Re (g k)) (k : Fin n) :
    Re (rms c y g k) := ((h k).mul (rs_re hc h)).mul (hg k)

theorem ang_re (s : Fin 2048) (j : Fin 32) : Re (ang s j) := by
  have h2 : Ideal.ofBits .f32 0x40000000#32 = ((2 : ℝ) : EReal) := by simp [Ideal.ofBits, Ideal.ieee]; rw [← EReal.coe_mul]; norm_num
  have h64 : Ideal.ofBits .f32 0x42800000#32 = ((64 : ℝ) : EReal) := by simp [Ideal.ofBits, Ideal.ieee]; rw [← EReal.coe_mul]; norm_num
  have ht : Ideal.ofBits .f32 0x461C4000#32 = ((10000 : ℝ) : EReal) := by simp [Ideal.ofBits, Ideal.ieee]; rw [← EReal.coe_mul]; norm_num
  unfold ang
  rw [h2, h64, ht]
  change Re ((((BitVec.ofNat 32 s.val).toInt : ℝ) : EReal) * Ideal.pow _ (Ideal.div (-(((2 : ℝ) : EReal) * (((BitVec.ofNat 32 j.val).toInt : ℝ) : EReal))) _))
  rw [← EReal.coe_mul, ← EReal.coe_neg, div_coe _ (by norm_num)]
  exact Re.mul ⟨_, rfl⟩ ⟨_, rfl⟩

theorem cs_re (s : Fin 2048) (j : Fin 32) : Re (cs s j) := by
  obtain ⟨a, ha⟩ := ang_re s j
  exact ⟨Real.cos a, by unfold cs; rw [ha]; rfl⟩
theorem sn_re (s : Fin 2048) (j : Fin 32) : Re (sn s j) := by
  obtain ⟨a, ha⟩ := ang_re s j
  exact ⟨Real.sin a, by unfold sn; rw [ha]; rfl⟩

theorem turn_re (s : Fin 2048) {y : Fin 64 → EReal} (h : ∀ j, Re (y j)) (j : Fin 64) : Re (turn s y j) := by
  unfold turn
  split
  · exact ((h _).mul (cs_re s _)).sub ((h _).mul (sn_re s _))
  · exact ((h _).mul (cs_re s _)).add ((h _).mul (sn_re s _))

/-- The arrays the scores are made from are real. -/
structure Inp.Real (I : Inp) : Prop where
  x : ∀ s e, Re (I.x s e)
  nkv : ∀ e, Re (I.nkv e)
  wdkv : ∀ e j, Re (I.wdkv e j)
  kvn : ∀ k, Re (I.kvn k)
  wuk : ∀ k h d, Re (I.wuk k h d)
  nb : ∀ e, Re (I.nb e)
  win : ∀ e j, Re (I.win e j)
  qn : ∀ k, Re (I.qn k)
  wuq : ∀ k h d, Re (I.wuq k h d)

variable {I : Inp} (R : I.Real)
include R

theorem ckr_re (s : Fin 2048) (j : Fin 320) : Re (I.ckr s j) := Re.sum fun e => (rms_re c1024_pos (R.x s) R.nkv e).mul (R.wdkv e j)
theorem kn_re (s : Fin 2048) (h : Fin 8) (d : Fin 128) : Re (I.kn s h d) :=
  Re.sum fun k => (rms_re c256_pos (fun _ => ckr_re R s _) R.kvn k).mul (R.wuk k h d)
theorem kr_re (s : Fin 2048) (j : Fin 64) : Re (I.kr s j) := turn_re s (fun _ => ckr_re R s _) j
theorem u_re (s : Fin 2048) (j : Fin 1408) : Re (I.u s j) := Re.sum fun e => (rms_re c1024_pos (R.x s) R.nb e).mul (R.win e j)
theorem qq_re (s : Fin 2048) (h : Fin 8) (d : Fin 192) : Re (I.qq s h d) :=
  Re.sum fun k => (rms_re c384_pos (fun _ => u_re R s _) R.qn k).mul (R.wuq k h d)
theorem qr_re (s : Fin 2048) (h : Fin 8) (j : Fin 64) : Re (I.qr s h j) := turn_re s (fun _ => qq_re R s h _) j
theorem dot_re (h : Fin 8) (q k : Fin 2048) : Re (I.dot h q k) :=
  (Re.sum fun d => (qq_re R q h _).mul (kn_re R k h d)).add (Re.sum fun r => (kr_re R k r).mul (qr_re R q h r))

end Cert.Model

end
-- ==== Proof.Values.Scores.lean ====
/- Powers of two of the scores over log 2 are the layer's weights, and dividing the sums once is dividing every weight. -/
module

public import proofs.«01_k».proof.Proof.Values.Finite
public import proofs.«01_k».proof.Proof.Attn.Online
public import proofs.«01_k».proof.Proof.Proj.Pure

@[expose] public section

set_option maxRecDepth 16384
set_option maxHeartbeats 2000000

noncomputable section

namespace Cert.KernelIdeal.Values

open Idealize.ShloMosaic
open Cert.Model
open Cert.KernelIdeal.Proj (cq0)
open Cert.KernelIdeal.Attn (mul_sum_nonneg exp2_coe sup_ne_top)

/-- One over the logarithm of two. -/
abbrev lg : ℝ := (Real.log 2)⁻¹

theorem lg_pos : 0 < lg := inv_pos.mpr (Real.log_pos (by norm_num))
theorem lg_nonneg : (0 : EReal) ≤ (lg : EReal) := by exact_mod_cast lg_pos.le

/-- A power of two of a value over the logarithm of two is the value's exponential. -/
theorem exp2_lg (x : EReal) : Ideal.exp2 ((lg : EReal) * x) = Ideal.exp x := by
  induction x with
  | bot => rw [EReal.coe_mul_bot_of_pos lg_pos]; rfl
  | top => rw [EReal.coe_mul_top_of_pos lg_pos]; rfl
  | coe r =>
    rw [← EReal.coe_mul, exp2_coe, Real.rpow_def_of_pos (by norm_num), ← mul_assoc, mul_inv_cancel₀ (Real.log_pos (by norm_num)).ne', one_mul]
    rfl

/-- A factor over the logarithm of two goes through a difference and a maximum. -/
theorem lg_sub (a b : EReal) : (lg : EReal) * a - (lg : EReal) * b = (lg : EReal) * (a - b) := by
  rw [sub_eq_add_neg, sub_eq_add_neg, EReal.left_distrib_of_nonneg_of_ne_top lg_nonneg (EReal.coe_ne_top _), mul_neg]
theorem lg_sup {n : ℕ} (f : Fin n → EReal) : Finset.univ.sup (fun x => (lg : EReal) * f x) = (lg : EReal) * Finset.univ.sup f :=
  (Finset.comp_sup_eq_sup_comp_of_is_total (fun y : EReal => (lg : EReal) * y) (fun _ _ h => mul_le_mul_of_nonneg_left h lg_nonneg)
    (EReal.coe_mul_bot_of_pos lg_pos)).symm

/-- The gate's power of two is its exponential. -/
theorem gate_eq (x : EReal) : x * Ideal.div 1 (1 + Ideal.exp2 (x * ((-lg : ℝ) : EReal))) = x * Ideal.logistic x := by
  have e : x * ((-lg : ℝ) : EReal) = (lg : EReal) * -x := by rw [EReal.coe_neg, mul_neg, mul_neg, mul_comm]
  rw [e, exp2_lg]
  rfl

theorem cut192 (f : Fin 192 → EReal) : ∑ d, f d = ∑ d : Fin 128, f ⟨d.val, by omega⟩ + ∑ r : Fin 64, f ⟨128 + r.val, by omega⟩ :=
  Fin.sum_univ_add (a := 128) (b := 64) f

section
variable (I : Inp)

theorem dot_all (h : Fin 8) (q k : Fin 2048) : ∑ d : Fin 192, I.qall q h d * I.kall k h d = I.dot h q k := by
  rw [cut192]
  unfold Inp.dot
  refine congrArg₂ _ (Finset.sum_congr rfl fun d _ => ?_) (Finset.sum_congr rfl fun r _ => ?_)
  · unfold Inp.qall Inp.kall
    rw [dif_pos d.isLt, dif_pos d.isLt]
  · unfold Inp.qall Inp.kall
    rw [dif_neg (by simp), dif_neg (by simp), mul_comm]
    have hr : (⟨128 + r.val - 128, by omega⟩ : Fin 64) = r := Fin.ext (by simp)
    rw [hr]

theorem cq0_nn : (0 : EReal) ≤ ((cq0 : ℝ) : EReal) := by
  have := mul_nonneg (inv_nonneg.mpr (Real.sqrt_nonneg 192)) lg_pos.le
  exact_mod_cast this

/-- The scaled query's product with a key is the score over the logarithm of two. -/
theorem scaled (h : Fin 8) (q k : Fin 2048) :
    ∑ d : Fin 192, ((cq0 : ℝ) : EReal) * I.qall q h d * I.kall k h d = (lg : EReal) * I.score h q k := by
  simp only [mul_assoc]
  rw [← mul_sum_nonneg _ cq0_nn (EReal.coe_ne_top _), dot_all]
  have hr : Ideal.rsqrt c192 = (((Real.sqrt 192)⁻¹ : ℝ) : EReal) := by
    rw [c192_eq]
    show (if _ < 0 then _ else _) = _
    rw [if_neg (by norm_num), if_neg (by norm_num)]
  unfold Inp.score
  rw [hr, EReal.coe_mul, mul_comm (I.dot h q k), ← mul_assoc, mul_comm (lg : EReal)]

theorem masked (h : Fin 8) (q k : Fin 2048) :
    (if k.val ≤ q.val then (lg : EReal) * I.score h q k else ⊥) = (lg : EReal) * I.msc h q k := by
  unfold Inp.msc
  split
  · rfl
  · exact (EReal.coe_mul_bot_of_pos lg_pos).symm

theorem weight (h : Fin 8) (q k : Fin 2048) :
    Ideal.exp2 ((lg : EReal) * I.msc h q k - Finset.univ.sup fun x => (lg : EReal) * I.msc h q x) = I.wgt h q k := by
  rw [lg_sup, lg_sub, exp2_lg]
  rfl

end

variable {I : Inp} (R : I.Real)
include R

theorem score_re (h : Fin 8) (q k : Fin 2048) : Re (I.score h q k) := by
  refine (dot_re R h q k).mul ⟨(Real.sqrt 192)⁻¹, ?_⟩
  rw [c192_eq]
  show (if _ < 0 then _ else _) = _
  rw [if_neg (by norm_num), if_neg (by norm_num)]

/-- A row's maximum is real: its own key is not masked, and no score is infinite. -/
theorem max_re (h : Fin 8) (q : Fin 2048) : Re (Finset.univ.sup (I.msc h q)) := by
  have ht : Finset.univ.sup (I.msc h q) ≠ ⊤ := sup_ne_top _ _ fun k => by
    unfold Inp.msc
    split
    · exact (score_re R h q k).ne_top
    · exact bot_ne_top
  have hb : Finset.univ.sup (I.msc h q) ≠ ⊥ := fun e => by
    have hle := Finset.le_sup (f := I.msc h q) (Finset.mem_univ q)
    rw [e, le_bot_iff] at hle
    unfold Inp.msc at hle
    rw [if_pos le_rfl] at hle
    exact (score_re R h q q).ne_bot hle
  exact ⟨_, (EReal.coe_toReal ht hb).symm⟩

/-- The weights are real and not negative, a row's own positive. -/
theorem wgt_re (h : Fin 8) (q k : Fin 2048) : ∃ a : ℝ, I.wgt h q k = a ∧ 0 ≤ a ∧ (k = q → 0 < a) := by
  obtain ⟨μ, hμ⟩ := max_re R h q
  unfold Inp.wgt
  rw [hμ]
  by_cases hk : k.val ≤ q.val
  · obtain ⟨s, hs⟩ := score_re R h q k
    refine ⟨Real.exp (s - μ), ?_, (Real.exp_pos _).le, fun _ => Real.exp_pos _⟩
    unfold Inp.msc
    rw [if_pos hk, hs, ← EReal.coe_sub]
    rfl
  · refine ⟨0, ?_, le_rfl, fun e => absurd (e ▸ le_rfl) hk⟩
    unfold Inp.msc
    rw [if_neg hk, EReal.bot_sub]
    rfl

theorem sum_re (h : Fin 8) (q : Fin 2048) : ∃ a : ℝ, ∑ k, I.wgt h q k = a ∧ 0 < a := by
  choose g hg h0 hp using wgt_re R h q
  refine ⟨∑ k, g k, by simp only [hg, coe_sum], ?_⟩
  exact lt_of_lt_of_le (hp q rfl) (Finset.single_le_sum (f := g) (fun k _ => h0 k) (Finset.mem_univ q))

/-- The weighted sum over the weights' sum is the weighted mean. -/
theorem mean (h : Fin 8) (q : Fin 2048) (d : Fin 128) :
    Ideal.div (∑ k, I.wgt h q k * I.vv k h d) (∑ k, I.wgt h q k * 1) = I.att h q d := by
  obtain ⟨a, ha, hp⟩ := sum_re R h q
  unfold Inp.att
  simp only [mul_one, ha, Ideal.div]
  have hn : ¬ ((a : ℝ) : EReal) = 0 := by exact_mod_cast hp.ne'
  simp only [if_neg hn]
  rw [← EReal.coe_inv, mul_comm, mul_sum_nonneg _ (by exact_mod_cast (inv_pos.mpr hp).le) (EReal.coe_ne_top _)]
  refine Finset.sum_congr rfl fun k _ => ?_
  rw [mul_comm (I.wgt h q k), mul_comm, mul_assoc]

end Cert.KernelIdeal.Values

end
-- ==== Proof.Values.AttnPure.lean ====
/- The attention call's last steps read at an index. -/
module

public import proofs.«01_k».proof.Proof.Attn.Body
public import proofs.«01_k».proof.Proof.Values.Model

@[expose] public section

set_option maxRecDepth 16384
set_option maxHeartbeats 2000000

noncomputable section

namespace Cert.KernelIdeal.Attn

open Idealize.ShloMosaic
open Cert.Model

/-- The heads side by side: a column's head is its number over 128. -/
theorem sideBySide_apply (o : Fin 8 → FVec Ideal S512x128 .f32) (r : Fin 512) (k : Fin 1024) :
    sideBySide (o 0) (o 1) (o 2) (o 3) (o 4) (o 5) (o 6) (o 7) (ix2 r k) = o ⟨k.val / 128, by omega⟩ (ix2 r ⟨k.val % 128, by omega⟩) :=
  concatenate_ofFn_apply (t := S512x1024) (s₁ := S512x128) 1 o _ rfl 128 rfl (ix2 r k) ⟨k.val / 128, by omega⟩ rfl
    (ix2 r ⟨k.val % 128, by omega⟩) rfl (fun b hb => by fin_cases b; · rfl
                                                        · exact absurd rfl hb)

theorem residual_apply (o : FVec Ideal S512x1024 .f32) (g : Vec Ideal S1x512x1024 .bf16) (x : Vec Ideal S1x512x1024 .f32)
    (w : Vec Ideal S1024x1024 .bf16) (r : Fin 512) (e : Fin 1024) :
    residual o g x w (ix2 r e) = ((x (ix3 0 r e) : EReal) + ∑ k : Fin 1024, (o (ix2 r k) : EReal) * (g (ix3 0 r k) : EReal) * (w (ix2 k e) : EReal) : EReal) := by
  pointwise [residual]

theorem normed_apply (y : FVec Ideal S512x1024 .f32) (fn : Vec Ideal S1x1024 .f32) (r : Fin 512) (e : Fin 1024) :
    normed y fn (ix2 r e) = rms c1024 (fun k => (y (ix2 r k) : EReal)) (fun k => (fn (ix2 0 k) : EReal)) e := by
  unfold rms rs
  pointwise [normed]

theorem outVec_apply (o : FVec Ideal S512x1024 .f32) (g : Vec Ideal S1x512x1024 .bf16) (x : Vec Ideal S1x512x1024 .f32)
    (w : Vec Ideal S1024x1024 .bf16) (fn : Vec Ideal S1x1024 .f32) (r : Fin 512) (e : Fin 1024) :
    outVec o g x w fn (ix3 0 r e) = normed (residual o g x w) fn (ix2 r e) := by
  pointwise [outVec]

end Cert.KernelIdeal.Attn

end
-- ==== Proof.Values.AttnPoints.lean ====
/- What the attention call leaves: the layer's result. -/
module

public import proofs.«01_k».proof.Proof.Values.AttnBlocks
public import proofs.«01_k».proof.Proof.Values.Scores
public import proofs.«01_k».proof.Proof.Values.AttnPure

@[expose] public section

set_option maxRecDepth 16384
set_option maxHeartbeats 2000000

noncomputable section

namespace Cert.KernelIdeal.Values

open Idealize.ShloMosaic Idealize.ShloMosaic.TcCoe
open Cert.KernelIdeal.Gen hiding W2 W2_arr W2_of_ne W2_of W2_args V2 hF0 hrest0 W3 W3_of W3_args V3 W4 W4_arr W4_of_ne W4_of W4_args V4 hF1 hrest1
  pdats Tₙ reg0 reg1 segs main_run
open Cert.Model
open Cert.KernelIdeal.Proj (cq0)
open Cert.KernelIdeal.Attn

variable (m : (l : Loc nD τ sig) → Buf (Elt Ideal) l) (ρ : Dev nD → PrngReg) (c : Dev nD) (t : Fin cfg1.N)

/-- A query's product with a key is the score over the logarithm of two. -/
theorem dotB (h : Fin 8) (r : Fin 512) (x : Fin 2048) :
    dotQK (iblk1 (V3 m ρ) c 0 t) (iblk1 (V3 m ρ) c 1 t) h r x = (lg : EReal) * (inpAt m c (bat1 t)).score h (pos1 t r) x := by
  refine Eq.trans ?_ (scaled (inpAt m c (bat1 t)) h (pos1 t r) x)
  exact Finset.sum_congr rfl fun d _ => congrArg₂ (fun a b : EReal => a * b) (qB m ρ c t h r d) (kB m ρ c t h d x)

theorem scB (h : Fin 8) (r : Fin 512) :
    sc (iblk1 (V3 m ρ) c 0 t) (iblk1 (V3 m ρ) c 1 t) (t.val % 4) h r = fun x => (lg : EReal) * (inpAt m c (bat1 t)).msc h (pos1 t r) x := by
  funext x
  refine Eq.trans ?_ (masked (inpAt m c (bat1 t)) h (pos1 t r) x)
  unfold sc
  rw [dotB]
  rfl

theorem pwB (h : Fin 8) (r : Fin 512) (x : Fin 2048) :
    pw (iblk1 (V3 m ρ) c 0 t) (iblk1 (V3 m ρ) c 1 t) (t.val % 4) h r x = (inpAt m c (bat1 t)).wgt h (pos1 t r) x := by
  unfold pw
  rw [scB]
  exact weight (inpAt m c (bat1 t)) h (pos1 t r) x

variable (R : ∀ c b, (inpAt m c b).Real)
include R

/-- The scores are real. -/
theorem fin2 : Fin2 (iblk1 (V3 m ρ) c 0 t) (iblk1 (V3 m ρ) c 1 t) := fun h r x => by
  rw [dotB]
  have e := Re.mul ⟨lg, rfl⟩ (score_re (R c (bat1 t)) h (pos1 t r) x)
  exact ⟨e.ne_top, e.ne_bot⟩

theorem attB (h : Fin 8) (r : Fin 512) (j : Fin 128) :
    attnVal (iblk1 (V3 m ρ) c 0 t) (iblk1 (V3 m ρ) c 1 t) (iblk1 (V3 m ρ) c 2 t) (t.val % 4) h r j
      = (inpAt m c (bat1 t)).att h (pos1 t r) j := by
  refine Eq.trans ?_ (mean (R c (bat1 t)) h (pos1 t r) j)
  unfold attnVal
  refine congrArg₂ Ideal.div (Finset.sum_congr rfl fun x _ => ?_) (Finset.sum_congr rfl fun x _ => ?_)
  · exact congrArg₂ (fun a b : EReal => a * b) (pwB m ρ c t h r x) (vB m ρ c t h x j)
  · exact congrArg (fun a : EReal => a * 1) (pwB m ρ c t h r x)

theorem outB (r : Fin 512) (e : Fin 1024) :
    outAt (V3 m ρ) c t (ix3 0 r e) = (inpAt m c (bat1 t)).res (pos1 t r) e := by
  unfold outAt
  rw [outVec_apply, normed_apply]
  have hy : ∀ k : Fin 1024, residual (attnVec (iblk1 (V3 m ρ) c 0 t) (iblk1 (V3 m ρ) c 1 t) (iblk1 (V3 m ρ) c 2 t) (t.val % 4))
      (iblk1 (V3 m ρ) c 3 t) (iblk1 (V3 m ρ) c 4 t) (iblk1 (V3 m ρ) c 5 t) (ix2 r k) = (inpAt m c (bat1 t)).out (pos1 t r) k := fun k => by
    refine (residual_apply _ _ _ _ r k).trans ?_
    refine congrArg₂ (fun a b : EReal => a + b) (xB m ρ c t r k) (Finset.sum_congr rfl fun j _ => ?_)
    refine congrArg₂ (fun a b : EReal => a * b) (congrArg₂ (fun a b : EReal => a * b) ?_ ?_) (wB m ρ c t j k)
    · exact (sideBySide_apply (attnHead (iblk1 (V3 m ρ) c 0 t) (iblk1 (V3 m ρ) c 1 t) (iblk1 (V3 m ρ) c 2 t) (t.val % 4)) r j).trans
        (attB m ρ c t R _ r _)
    · exact (gB m ρ c t r j).trans (gate_eq _)
  have hf : (fun k => ((iblk1 (V3 m ρ) c 6 t : S1x1024.Idx → EReal) (ix2 0 k) : EReal)) = (inpAt m c (bat1 t)).fn := funext fun k => fB m ρ c t k
  exact congrArg₂ (fun y g : Fin 1024 → EReal => rms c1024 y g e) (funext hy) hf

/-- The layer's result as an array. -/
def arrOut : S16x2048x1024.Idx → EReal := fun i => (inpAt m c (i 0)).res (i 1) (i 2)

omit t in
theorem finalOut : (Attn.dat (V3 m ρ) c).arrAt 7 cfg1.N = arrOut m c := by
  refine (Attn.dat (V3 m ρ) c).arrAt_eq_of_covers 7 (arrOut m c) (by decide +kernel) fun t _ y => ?_
  blk_simp
  rw [dat_after]
  obtain ⟨z, r, e, rfl⟩ : ∃ (z : Fin 1) (r : Fin 512) (e : Fin 1024), y = ix3 z r e :=
    ⟨y 0, y 1, y 2, funext fun a => by fin_cases a <;> rfl⟩
  obtain rfl : z = 0 := Subsingleton.elim _ _
  refine (outB m ρ c t R r e).trans ?_
  refine Eq.trans (b := arrOut m c (ix3 (bat1 t) (pos1 t r) e)) rfl ?_
  blk_ext [idx1 t, bat1, pos1]

omit t in
theorem result : (W4 m ρ c (Proc.devRef .tc main_v54) : S16x2048x1024.Idx → EReal) = arrOut m c :=
  (W4_arr m ρ c 7).trans (finalOut m ρ c R)

end Cert.KernelIdeal.Values

end
-- ==== Proof.Values.Pre.lean ====
/- The precondition read back: the arrays it names hold real numbers. And its stated shape facts. -/
module

public import proofs.«01_k».proof.Proof.Values.Finite
public import proofs.«01_k».proof.Pre_scores_finite
public import Idealize.ShloMosaic.Lib.ReduceAll

@[expose] public section

set_option maxRecDepth 16384
set_option maxHeartbeats 2000000

noncomputable section

namespace Cert.Pre_scores_finite

open Idealize.ShloMosaic
open Cert.Model (Re)

theorem facts : Facts := by
  constructor <;> decide

/-- An array whose absolute values are all below infinity holds real numbers. -/
theorem re_of_all {s : Shape} {axes : List (Fin s.rank)} (x : FVec Ideal s .f32) (hb : S_.BroadcastsInDim s ![]) (init : S_.Idx → BitVec 1)
    (hr : s.ReducesTo axes S_) (hu : 0 < S_.numel) (i : S_.Idx)
    (h : Host.reduce IntOp.andi (cmpf .olt (Host.absf x) (broadcastInDim s ![] hb (constant S_ .f32 0x7F800000#32 : FVec Ideal S_ .f32)))
      init hr hu i = 1#1) (j : s.Idx) : Re (x j) := by
  haveI : Subsingleton S_.Idx := ⟨fun a b => funext fun i => i.elim0⟩
  have e := Host.reduce_andi_all _ init hr hu i h j
  have htop : Ideal.ofBits .f32 0x7F800000#32 = ⊤ := by simp [Ideal.ofBits, Ideal.ieee]
  change BitVec.ofBool (decide (max (x j : EReal) (-(x j : EReal)) < Ideal.ofBits .f32 0x7F800000#32)) = 1#1 at e
  rw [htop] at e
  have hlt : max (x j : EReal) (-(x j : EReal)) < ⊤ := by
    by_contra hn
    rw [decide_eq_false hn] at e
    exact absurd e (by decide)
  obtain ⟨h1, h2⟩ := max_lt_iff.1 hlt
  exact ⟨_, (EReal.coe_toReal h1.ne fun hbot => by rw [hbot] at h2; exact absurd h2 (by simp)).symm⟩

variable [Facts]

theorem reals (x0 : FVec Ideal S16x2048x1024 .f32) (x1 : FVec Ideal S1024 .f32) (x2 : FVec Ideal S1024x320 .f32) (x3 : FVec Ideal S256 .f32)
    (x4 x5 : FVec Ideal S256x8x128 .f32) (x6 : FVec Ideal S1024 .f32) (x7 : FVec Ideal S1024x1408 .f32) (x8 : FVec Ideal S384 .f32)
    (x9 : FVec Ideal S384x8x192 .f32) (x10 : FVec Ideal S1024x1024 .f32) (x11 : FVec Ideal S1024 .f32)
    (h : fn (F := Ideal) x0 x1 x2 x3 x4 x5 x6 x7 x8 x9 x10 x11 = fun _ => 1#1) (b : Fin 16) :
    (Cert.Model.inp x0 x1 x2 x3 x4 x5 x6 x7 x8 x9 x10 x11 b).Real := by
  have e := congrFun h (fun a => a.elim0)
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨fun _ _ => re_of_all x0 _ _ _ _ _ h0 _, fun _ => re_of_all x1 _ _ _ _ _ h1 _, fun _ _ => re_of_all x2 _ _ _ _ _ h2 _,
    fun _ => re_of_all x3 _ _ _ _ _ h3 _, fun _ _ _ => re_of_all x4 _ _ _ _ _ h4 _, fun _ => re_of_all x6 _ _ _ _ _ h6 _,
    fun _ _ => re_of_all x7 _ _ _ _ _ h7 _, fun _ => re_of_all x8 _ _ _ _ _ h8 _, fun _ _ _ => re_of_all x9 _ _ _ _ _ h9 _⟩

end Cert.Pre_scores_finite

end
-- ==== Proof.Values.Reference.lean ====
/- The reference's arrays, read at an index, are the layer's plain formulas. -/
module

public import proofs.«01_k».proof.Proof.Values.Model
public import proofs.«01_k».proof.Proof.Gen.ReferenceIdeal.Read
public import Idealize.ShloMosaic.Lib.Pointwise

@[expose] public section

set_option maxRecDepth 16384
set_option maxHeartbeats 2000000

noncomputable section

namespace Cert.ReferenceIdeal.Read

open Idealize.ShloMosaic Idealize.ShloMosaic.TcCoe
open Cert.ReferenceIdeal Cert.ReferenceIdeal.Gen Cert.Model

/-- An array's contents over the ideal floats. -/
abbrev Arr (S : Shape) : Type := (⟨S, .f32⟩ : BufTy).Contents (Elt Ideal)

theorem cos_apply (s : Fin 2048) (j : Fin 32) : val_main_v16 (F := Ideal) (ix2 s j) = cs s j := by
  pointwise [val_main_v16, val_main_v15, val_main_v14, val_main_v13, val_main_v12, val_main_v11, val_main_v10, val_main_v9, val_main_cst_2, val_main_v8, val_main_v7, val_main_cst_1, val_main_v6, val_main_v5, val_main_v4, val_main_cst_0, val_main_v3, val_main_v2, val_main_cst, val_main_v1, val_main_v0]
  rfl

theorem sin_apply (s : Fin 2048) (j : Fin 32) : val_main_v17 (F := Ideal) (ix2 s j) = sn s j := by
  pointwise [val_main_v17, val_main_v15, val_main_v14, val_main_v13, val_main_v12, val_main_v11, val_main_v10, val_main_v9, val_main_cst_2, val_main_v8, val_main_v7, val_main_cst_1, val_main_v6, val_main_v5, val_main_v4, val_main_cst_0, val_main_v3, val_main_v2, val_main_cst, val_main_v1, val_main_v0]
  rfl

variable (x0 : Arr S16x2048x1024) (x1 : Arr S1024) (x2 : Arr S1024x320) (x3 : Arr S256) (x4 x5 : Arr S256x8x128)
  (x6 : Arr S1024) (x7 : Arr S1024x1408) (x8 : Arr S384) (x9 : Arr S384x8x192) (x10 : Arr S1024x1024) (x11 : Arr S1024)
  (b : Fin 16) (s : Fin 2048)

/-- The keys' rows. -/
theorem hk_apply (e : Fin 1024) : val_main_v30 (F := Ideal) x0 x1 (ix3 b s e) = (inp x0 x1 x2 x3 x4 x5 x6 x7 x8 x9 x10 x11 b).hk s e := by
  pointwise [val_main_v30, val_main_v29, val_main_v28, val_main_v27, val_main_v26, val_main_v25, val_main_v24, val_main_v23, val_main_cst_5, val_main_v22, val_main_v21, val_main_cst_4, val_main_v20, val_main_v19, val_main_cst_3, val_main_v18]
  rfl

/-- Their projection. -/
theorem ckr_apply (j : Fin 320) : val_main_v31 (F := Ideal) x0 x1 x2 (ix3 b s j) = (inp x0 x1 x2 x3 x4 x5 x6 x7 x8 x9 x10 x11 b).ckr s j := by
  pointwise [val_main_v31, hk_apply x0 x1 x2 x3 x4 x5 x6 x7 x8 x9 x10 x11]
  rfl

/-- The compressed keys and values. -/
theorem ckv_apply (k : Fin 256) : val_main_v45 (F := Ideal) x0 x1 x2 x3 (ix3 b s k) = (inp x0 x1 x2 x3 x4 x5 x6 x7 x8 x9 x10 x11 b).ckv s k := by
  pointwise [val_main_v45, val_main_v44, val_main_v43, val_main_v42, val_main_v41, val_main_v40, val_main_v39, val_main_v38, val_main_cst_8, val_main_v37, val_main_v36, val_main_cst_7, val_main_v35, val_main_v34, val_main_cst_6, val_main_v33, val_main_v32, ckr_apply x0 x1 x2 x3 x4 x5 x6 x7 x8 x9 x10 x11]
  rfl

/-- The keys' part without position. -/
theorem kn_apply (h : Fin 8) (d : Fin 128) : val_main_v62 (F := Ideal) x0 x1 x2 x3 x4 (ix4 b s h d) = (inp x0 x1 x2 x3 x4 x5 x6 x7 x8 x9 x10 x11 b).kn s h d := by
  pointwise [val_main_v62, ckv_apply x0 x1 x2 x3 x4 x5 x6 x7 x8 x9 x10 x11]
  rfl

/-- The values. -/
theorem vv_apply (h : Fin 8) (d : Fin 128) : val_main_v63 (F := Ideal) x0 x1 x2 x3 x5 (ix4 b s h d) = (inp x0 x1 x2 x3 x4 x5 x6 x7 x8 x9 x10 x11 b).vv s h d := by
  pointwise [val_main_v63, ckv_apply x0 x1 x2 x3 x4 x5 x6 x7 x8 x9 x10 x11]
  rfl

/-- The keys' turned part. -/
theorem kr_apply (j : Fin 64) : val_main_v61 (F := Ideal) x0 x1 x2 (ix3 b s j) = (inp x0 x1 x2 x3 x4 x5 x6 x7 x8 x9 x10 x11 b).kr s j := by
  pointwise [val_main_v61, val_main_v60, val_main_v59, val_main_v58, val_main_v57, val_main_v56, val_main_v55, val_main_v54, val_main_v53, val_main_v52, val_main_v51, val_main_v50, val_main_v49, val_main_v48, val_main_v47, val_main_v46, cos_apply, sin_apply, ckr_apply x0 x1 x2 x3 x4 x5 x6 x7 x8 x9 x10 x11]
  rfl

/-- The queries' rows. -/
theorem hq_apply (e : Fin 1024) : val_main_v76 (F := Ideal) x0 x6 (ix3 b s e) = (inp x0 x1 x2 x3 x4 x5 x6 x7 x8 x9 x10 x11 b).hq s e := by
  pointwise [val_main_v76, val_main_v75, val_main_v74, val_main_v73, val_main_v72, val_main_v71, val_main_v70, val_main_v69, val_main_cst_11, val_main_v68, val_main_v67, val_main_cst_10, val_main_v66, val_main_v65, val_main_cst_9, val_main_v64]
  rfl

/-- Their projection. -/
theorem u_apply (j : Fin 1408) : val_main_v77 (F := Ideal) x0 x6 x7 (ix3 b s j) = (inp x0 x1 x2 x3 x4 x5 x6 x7 x8 x9 x10 x11 b).u s j := by
  pointwise [val_main_v77, hq_apply x0 x1 x2 x3 x4 x5 x6 x7 x8 x9 x10 x11]
  rfl

/-- The compressed queries. -/
theorem cq_apply (k : Fin 384) : val_main_v91 (F := Ideal) x0 x6 x7 x8 (ix3 b s k) = (inp x0 x1 x2 x3 x4 x5 x6 x7 x8 x9 x10 x11 b).cq s k := by
  pointwise [val_main_v91, val_main_v90, val_main_v89, val_main_v88, val_main_v87, val_main_v86, val_main_v85, val_main_v84, val_main_cst_14, val_main_v83, val_main_v82, val_main_cst_13, val_main_v81, val_main_v80, val_main_cst_12, val_main_v79, val_main_v78, u_apply x0 x1 x2 x3 x4 x5 x6 x7 x8 x9 x10 x11]
  rfl

/-- The gate. -/
theorem gg_apply (c : Fin 1024) : val_main_v92 (F := Ideal) x0 x6 x7 (ix3 b s c) = (inp x0 x1 x2 x3 x4 x5 x6 x7 x8 x9 x10 x11 b).gg s c := by
  pointwise [val_main_v92, u_apply x0 x1 x2 x3 x4 x5 x6 x7 x8 x9 x10 x11]
  rfl

/-- The queries. -/
theorem qq_apply (h : Fin 8) (d : Fin 192) : val_main_v93 (F := Ideal) x0 x6 x7 x8 x9 (ix4 b s h d) = (inp x0 x1 x2 x3 x4 x5 x6 x7 x8 x9 x10 x11 b).qq s h d := by
  pointwise [val_main_v93, cq_apply x0 x1 x2 x3 x4 x5 x6 x7 x8 x9 x10 x11]
  rfl

/-- The queries' turned part. -/
theorem qr_apply (h : Fin 8) (j : Fin 64) : val_main_v110 (F := Ideal) x0 x6 x7 x8 x9 (ix4 b s h j) = (inp x0 x1 x2 x3 x4 x5 x6 x7 x8 x9 x10 x11 b).qr s h j := by
  pointwise [val_main_v110, val_main_v109, val_main_v108, val_main_v107, val_main_v106, val_main_v105, val_main_v104, val_main_v103, val_main_v102, val_main_v101, val_main_v100, val_main_v99, val_main_v98, val_main_v97, val_main_v96, val_main_v95, cos_apply, sin_apply, qq_apply x0 x1 x2 x3 x4 x5 x6 x7 x8 x9 x10 x11]
  rfl

/-- A query's product with a key. -/
theorem dot_apply (h : Fin 8) (k : Fin 2048) : val_main_v114 (F := Ideal) x0 x1 x2 x3 x4 x6 x7 x8 x9 (ix4 b h s k) = (inp x0 x1 x2 x3 x4 x5 x6 x7 x8 x9 x10 x11 b).dot h s k := by
  pointwise [val_main_v114, val_main_v113, val_main_v112, val_main_v111, val_main_v94, qq_apply x0 x1 x2 x3 x4 x5 x6 x7 x8 x9 x10 x11, kn_apply x0 x1 x2 x3 x4 x5 x6 x7 x8 x9 x10 x11, kr_apply x0 x1 x2 x3 x4 x5 x6 x7 x8 x9 x10 x11, qr_apply x0 x1 x2 x3 x4 x5 x6 x7 x8 x9 x10 x11]
  rfl

end Cert.ReferenceIdeal.Read

end
-- ==== Proof.Values.ReferenceScores.lean ====
/- The reference's softmax and its result, read at an index, are the layer's plain formulas. -/
module

public import proofs.«01_k».proof.Proof.Values.Reference
public import Idealize.ShloMosaic.Lib.Pointwise
public import Idealize.ShloMosaic.Lib.WordCmp

@[expose] public section

set_option maxRecDepth 16384
set_option maxHeartbeats 2000000

noncomputable section

namespace Cert.ReferenceIdeal.Read

open Idealize.ShloMosaic Idealize.ShloMosaic.TcCoe
open Cert.ReferenceIdeal Cert.ReferenceIdeal.Gen Cert.Model

theorem negInf : Ideal.ofBits .f32 0xFF800000#32 = ⊥ := by
  simp [Ideal.ofBits, Ideal.ieee]

theorem sup_fold {n : ℕ} (f : Fin n → EReal) : Finset.univ.fold max ⊥ f = Finset.univ.sup f := rfl

variable (x0 : Arr S16x2048x1024) (x1 : Arr S1024) (x2 : Arr S1024x320) (x3 : Arr S256) (x4 x5 : Arr S256x8x128)
  (x6 : Arr S1024) (x7 : Arr S1024x1408) (x8 : Arr S384) (x9 : Arr S384x8x192) (x10 : Arr S1024x1024) (x11 : Arr S1024)
  (b : Fin 16) (s : Fin 2048)

/-- Scaled and masked. -/
theorem msc_apply (h : Fin 8) (k : Fin 2048) : val_main_v125 (F := Ideal) x0 x1 x2 x3 x4 x6 x7 x8 x9 (ix4 b h s k) = (inp x0 x1 x2 x3 x4 x5 x6 x7 x8 x9 x10 x11 b).msc h s k := by
  pointwise [val_main_v125, val_main_call0_v2, val_main_call0_v1, val_main_call0_v0, val_main_cst_16, val_main_v124, val_main_v123, val_main_v122, val_main_v121, val_main_v120, val_main_v119, val_main_v118, val_main_v117, val_main_v116, val_main_v115, val_main_cst_15, dot_apply x0 x1 x2 x3 x4 x5 x6 x7 x8 x9 x10 x11]
  rw [WordCmp.cmpi_sle_ofNat (by omega) (by omega)]
  unfold Inp.msc
  by_cases hk : k.val ≤ s.val
  · rw [if_pos hk, decide_eq_true hk]; rfl
  · rw [if_neg hk, decide_eq_false hk]; exact negInf

/-- A query's greatest score. -/
theorem max_apply (h : Fin 8) : val_main_v126 (F := Ideal) x0 x1 x2 x3 x4 x6 x7 x8 x9 (ix3 b h s) = Finset.univ.sup ((inp x0 x1 x2 x3 x4 x5 x6 x7 x8 x9 x10 x11 b).msc h s) := by
  pointwise [val_main_v126, val_main_cst_17, msc_apply x0 x1 x2 x3 x4 x5 x6 x7 x8 x9 x10 x11]
  rw [negInf]
  exact sup_fold _

end Cert.ReferenceIdeal.Read

end
-- ==== Proof.Values.ReferenceResult.lean ====
/- The reference's softmax and its result, read at an index, are the layer's plain formulas. -/
module

public import proofs.«01_k».proof.Proof.Values.ReferenceScores
public import Idealize.ShloMosaic.Lib.Pointwise
public import Idealize.ShloMosaic.Lib.WordCmp

@[expose] public section

set_option maxRecDepth 16384
set_option maxHeartbeats 2000000

noncomputable section

namespace Cert.ReferenceIdeal.Read

open Idealize.ShloMosaic Idealize.ShloMosaic.TcCoe
open Cert.ReferenceIdeal Cert.ReferenceIdeal.Gen Cert.Model

variable (x0 : Arr S16x2048x1024) (x1 : Arr S1024) (x2 : Arr S1024x320) (x3 : Arr S256) (x4 x5 : Arr S256x8x128)
  (x6 : Arr S1024) (x7 : Arr S1024x1408) (x8 : Arr S384) (x9 : Arr S384x8x192) (x10 : Arr S1024x1024) (x11 : Arr S1024)
  (b : Fin 16) (s : Fin 2048)

/-- A key's weight. -/
theorem wgt_apply (h : Fin 8) (k : Fin 2048) : val_main_v132 (F := Ideal) x0 x1 x2 x3 x4 x6 x7 x8 x9 (ix4 b h s k) = (inp x0 x1 x2 x3 x4 x5 x6 x7 x8 x9 x10 x11 b).wgt h s k := by
  have e : idx_main_v129 (idx_main_v130 (ix4 b h s k)) = ix3 b h s := funext fun a => by fin_cases a <;> rfl
  rw [val_main_v132_apply, val_main_v131_apply, val_main_v130_apply, val_main_v129_apply, val_main_v128_apply, val_main_v127_apply,
    val_main_cst_18_apply, e, max_apply x0 x1 x2 x3 x4 x5 x6 x7 x8 x9 x10 x11 b s h, msc_apply x0 x1 x2 x3 x4 x5 x6 x7 x8 x9 x10 x11 b s h k]
  have h0 : max (Ideal.ofBits .f32 0xFF800000#32) (Finset.univ.sup ((inp x0 x1 x2 x3 x4 x5 x6 x7 x8 x9 x10 x11 b).msc h s)) = Finset.univ.sup ((inp x0 x1 x2 x3 x4 x5 x6 x7 x8 x9 x10 x11 b).msc h s) := by
    rw [negInf, max_eq_right bot_le]
  exact congrArg (fun z => Ideal.exp ((inp x0 x1 x2 x3 x4 x5 x6 x7 x8 x9 x10 x11 b).msc h s k - z)) h0

/-- The weighted mean of the values. -/
theorem att_apply (h : Fin 8) (d : Fin 128) : val_main_v138 (F := Ideal) x0 x1 x2 x3 x4 x5 x6 x7 x8 x9 (ix4 b s h d) = (inp x0 x1 x2 x3 x4 x5 x6 x7 x8 x9 x10 x11 b).att h s d := by
  pointwise [val_main_v138, val_main_v137, val_main_v136, val_main_v135, val_main_v134, val_main_v133, val_main_cst_19, vv_apply x0 x1 x2 x3 x4 x5 x6 x7 x8 x9 x10 x11, wgt_apply x0 x1 x2 x3 x4 x5 x6 x7 x8 x9 x10 x11]
  rfl

/-- The gated heads. -/
theorem y_apply (c : Fin 1024) : val_main_v141 (F := Ideal) x0 x1 x2 x3 x4 x5 x6 x7 x8 x9 (ix3 b s c) = (inp x0 x1 x2 x3 x4 x5 x6 x7 x8 x9 x10 x11 b).y s c := by
  pointwise [val_main_v141, val_main_v140, val_main_call1_v5, val_main_call1_v4, val_main_call1_cst_0, val_main_call1_v3, val_main_call1_v2, val_main_call1_cst, val_main_call1_v1, val_main_call1_v0, val_main_v139, att_apply x0 x1 x2 x3 x4 x5 x6 x7 x8 x9 x10 x11, gg_apply x0 x1 x2 x3 x4 x5 x6 x7 x8 x9 x10 x11]
  rfl

/-- The sum with the row. -/
theorem out_apply (e : Fin 1024) : val_main_v143 (F := Ideal) x0 x1 x2 x3 x4 x5 x6 x7 x8 x9 x10 (ix3 b s e) = (inp x0 x1 x2 x3 x4 x5 x6 x7 x8 x9 x10 x11 b).out s e := by
  pointwise [val_main_v143, val_main_v142, y_apply x0 x1 x2 x3 x4 x5 x6 x7 x8 x9 x10 x11]
  rfl

/-- The layer's result. -/
theorem res_apply (e : Fin 1024) : val_main_v156 (F := Ideal) x0 x1 x2 x3 x4 x5 x6 x7 x8 x9 x10 x11 (ix3 b s e) = (inp x0 x1 x2 x3 x4 x5 x6 x7 x8 x9 x10 x11 b).res s e := by
  pointwise [val_main_v156, val_main_v155, val_main_v154, val_main_v153, val_main_v152, val_main_v151, val_main_v150, val_main_v149, val_main_cst_22, val_main_v148, val_main_v147, val_main_cst_21, val_main_v146, val_main_v145, val_main_cst_20, val_main_v144, out_apply x0 x1 x2 x3 x4 x5 x6 x7 x8 x9 x10 x11]
  rfl

end Cert.ReferenceIdeal.Read

end
-- ==== Proof.lean ====
/- The certificate of `Cert.Claim` (proofs.«01_k».proof.Defs): the programs' frames, the kernels' idealizations, and that the
   ideal attention kernel and the ideal reference compute the same function where the scores' arrays are finite.
   The frames of the RG-LRU call are Proof/Rnn/Launch.lean and Proof/RnnIdeal/Launch.lean, its reference's Proof/RnnReference/Frame.lean.
   The frames of the two attention programs are the generated ones; the ideal kernel's run with its values is Proof/Values/Run.lean,
   its result Proof/Values/AttnPoints.lean, the reference's Proof/Values/ReferenceResult.lean, both in the formulas of
   Proof/Values/Model.lean. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2.Points
public import proofs.«01_k».proof.Proof.Gen.Kernel2.Launch
public import proofs.«01_k».proof.Proof.Gen.Kernel2.Skeleton
public import proofs.«01_k».proof.Proof.Gen.Kernel2Ideal.Frame
public import proofs.«01_k».proof.Proof.Gen.Kernel2Ideal.Points
public import proofs.«01_k».proof.Proof.Gen.Kernel2Ideal.Launch
public import proofs.«01_k».proof.Proof.Gen.Kernel2Ideal.Skeleton
public import proofs.«01_k».proof.Proof.Gen.Reference2Ideal.Run
public import proofs.«01_k».proof.Proof.Rnn.Launch
public import proofs.«01_k».proof.Proof.RnnIdeal.Launch
public import proofs.«01_k».proof.Proof.RnnReference.Frame
public import proofs.«01_k».proof.Proof.Values.AttnPoints
public import proofs.«01_k».proof.Proof.Values.Pre
public import proofs.«01_k».proof.Proof.Values.ReferenceResult

@[expose] public section

set_option maxRecDepth 16384

noncomputable section

namespace Cert.Proof

open Idealize.ShloMosaic Idealize.ShloMosaic.TcCoe Idealize.SL.Sem

/-- The reference declares no semaphore, so its counters stay at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant stands at its value. -/
theorem preserves : Cert.preserves_Kernel_KernelIdeal :=
  ⟨IdealRules.named_const.statement Cert.KernelIdeal.κ "q_scale" .f32 0x3DD53B95#32 _ rfl,
   IdealRules.named_const.statement Cert.KernelIdeal.κ "neg_log2e" .f32 0xBFB8AA3B#32 _ rfl,
   IdealRules.named_const.statement Cert.KernelIdeal.κ "mask" .f32 0xF149F2CA#32 _ rfl⟩

/-- The RG-LRU call's one named constant stands at its value. -/
theorem preserves2 : Cert.preserves_Kernel2_Kernel2Ideal :=
  IdealRules.named_const.statement Cert.Kernel2Ideal.κ "neg_log2e" .f32 0xBFB8AA3B#32 _ rfl

theorem frame_reference2 : Cert.quiescent_Reference2Ideal := fun m ρ _ =>
  (θ_run Cert.Reference2Ideal.defs _ _).mono (fun r h => ⟨fun c => by
    have k := h.1 c
    exact ⟨k _ (by decide), k _ (by decide), k _ (by decide), k _ (by decide), k _ (by decide), k _ (by decide), k _ (by decide),
      k _ (by decide), k _ (by decide), k _ (by decide), k _ (by decide)⟩, h.2⟩) (Cert.Reference2Ideal.Rnn.frame_run (F := Ideal) m ρ)

section
open Cert.KernelIdeal Cert.KernelIdeal.Values

/-- The arrays the scores are made from are real on every device, in every batch. -/
theorem real_of_pre (m : (l : Loc nD τ sig) → Buf (Elt Ideal) l)
    (h : Cert.Pre_KernelIdeal_scores_finite (hPre_scores_finite := Cert.Pre_scores_finite.facts) m) (c : Dev nD) (b : Fin 16) :
    (inpAt m c b).Real :=
  haveI := Cert.Pre_scores_finite.facts
  Cert.Pre_scores_finite.reals _ _ _ _ _ _ _ _ _ _ _ _ (h c) b

/-- Kernel and reference end with equal results. -/
theorem algebraic : Cert.algebraic_KernelIdeal_ReferenceIdeal_pre_scores_finite (hPre_scores_finite := Cert.Pre_scores_finite.facts) := by
  intro m ρ m' ρ' hp hagree
  have R := real_of_pre m hp
  refine ⟨fun c => arrOut m c, ?_, ?_⟩
  · refine (θ_run Cert.KernelIdeal.defs _ _).mono (fun r h c => ?_) (Values.run m ρ fun c t => fin2 m ρ c t R)
    have hk : ∀ a ∈ Gen.argRefs, r.2.mem ((c : Thread nD τ).loc a) = m ((c : Thread nD τ).loc a) := fun a ha =>
      (h c _ (Gen.mem_uc a ((by decide : ∀ a ∈ Gen.argRefs, ¬ (Proc.devRef .tc a : DevRef τ sig).isScoped) a ha))).trans (W4_args m ρ c a ha)
    exact ⟨(h c _ (Gen.mem_uc main_v54 (by decide))).trans (result m ρ c R),
      hk main_arg0 (by decide), hk main_arg1 (by decide), hk main_arg2 (by decide), hk main_arg3 (by decide),
      hk main_arg4 (by decide), hk main_arg5 (by decide), hk main_arg6 (by decide), hk main_arg7 (by decide),
      hk main_arg8 (by decide), hk main_arg9 (by decide), hk main_arg10 (by decide), hk main_arg11 (by decide)⟩
  · refine (θ_run Cert.ReferenceIdeal.defs _ _).mono (fun r h c => ⟨(h c).1.trans ?_, (h c).2⟩) (Cert.ReferenceIdeal.Value.run (F := Ideal) m' ρ')
    refine (Cert.ReferenceIdeal.Read.val_main_v156_eq (F := Ideal) (StableHlo.launchContents m' c)).trans ?_
    obtain ⟨a0, a1, a2, a3, a4, a5, a6, a7, a8, a9, a10, a11⟩ := hagree c
    rw [show StableHlo.launchContents m' c (Proc.devRef .tc Cert.ReferenceIdeal.main_arg0) = m ((c.tc : Thread nD τ).loc main_arg0) from a0,
      show StableHlo.launchContents m' c (Proc.devRef .tc Cert.ReferenceIdeal.main_arg1) = m ((c.tc : Thread nD τ).loc main_arg1) from a1,
      show StableHlo.launchContents m' c (Proc.devRef .tc Cert.ReferenceIdeal.main_arg2) = m ((c.tc : Thread nD τ).loc main_arg2) from a2,
      show StableHlo.launchContents m' c (Proc.devRef .tc Cert.ReferenceIdeal.main_arg3) = m ((c.tc : Thread nD τ).loc main_arg3) from a3,
      show StableHlo.launchContents m' c (Proc.devRef .tc Cert.ReferenceIdeal.main_arg4) = m ((c.tc : Thread nD τ).loc main_arg4) from a4,
      show StableHlo.launchContents m' c (Proc.devRef .tc Cert.ReferenceIdeal.main_arg5) = m ((c.tc : Thread nD τ).loc main_arg5) from a5,
      show StableHlo.launchContents m' c (Proc.devRef .tc Cert.ReferenceIdeal.main_arg6) = m ((c.tc : Thread nD τ).loc main_arg6) from a6,
      show StableHlo.launchContents m' c (Proc.devRef .tc Cert.ReferenceIdeal.main_arg7) = m ((c.tc : Thread nD τ).loc main_arg7) from a7,
      show StableHlo.launchContents m' c (Proc.devRef .tc Cert.ReferenceIdeal.main_arg8) = m ((c.tc : Thread nD τ).loc main_arg8) from a8,
      show StableHlo.launchContents m' c (Proc.devRef .tc Cert.ReferenceIdeal.main_arg9) = m ((c.tc : Thread nD τ).loc main_arg9) from a9,
      show StableHlo.launchContents m' c (Proc.devRef .tc Cert.ReferenceIdeal.main_arg10) = m ((c.tc : Thread nD τ).loc main_arg10) from a10,
      show StableHlo.launchContents m' c (Proc.devRef .tc Cert.ReferenceIdeal.main_arg11) = m ((c.tc : Thread nD τ).loc main_arg11) from a11]
    funext i
    obtain ⟨b, s, e, rfl⟩ : ∃ (b : Fin 16) (s : Fin 2048) (e : Fin 1024), i = ix3 b s e :=
      ⟨i 0, i 1, i 2, funext fun a => by fin_cases a <;> rfl⟩
    exact Cert.ReferenceIdeal.Read.res_apply _ _ _ _ _ _ _ _ _ _ _ _ b s e

end

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_scores_finite.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Rnn.frame_run m ρ, fun m ρ _ => Cert.Kernel2Ideal.Rnn.frame_run m ρ, frame_reference2, preserves, algebraic, preserves2⟩

end Cert.Proof

end
